-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_finite_scores [hPre_finite_scores : Cert.Pre_finite_scores.Facts] (m : (ℓ : Loc Cert.ContextIdeal.nD Cert.ContextIdeal.τ Cert.ContextIdeal.sig) → Buf (Elt Ideal) ℓ) : Prop :=
  ∀ c : Dev Cert.ContextIdeal.nD,
    (Cert.Pre_finite_scores.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4))).1 = (fun _ => 1#1)
    ∧ (Cert.Pre_finite_scores.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4))).2.1 = (fun _ => 1#1)
    ∧ (Cert.Pre_finite_scores.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4))).2.2.1 = (fun _ => 1#1)
    ∧ (Cert.Pre_finite_scores.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4))).2.2.2 = (fun _ => 1#1)

def Pre_ContextRefIdeal (m : (ℓ : Loc Cert.ContextRefIdeal.nD Cert.ContextRefIdeal.τ Cert.ContextRefIdeal.sig) → Buf (Elt Ideal) ℓ) : Prop :=
  True

def Pre_ContextRefIdeal_finite_scores [hPre_finite_scores : Cert.Pre_finite_scores.Facts] (m : (ℓ : Loc Cert.ContextRefIdeal.nD Cert.ContextRefIdeal.τ Cert.ContextRefIdeal.sig) → Buf (Elt Ideal) ℓ) : Prop :=
  ∀ c : Dev Cert.ContextRefIdeal.nD,
    (Cert.Pre_finite_scores.fn (F := Ideal) (m ((c.tc : Thread Cert.ContextRefIdeal.nD Cert.ContextRefIdeal.τ).loc Cert.ContextRefIdeal.main_arg0)) (m ((c.tc : Thread Cert.ContextRefIdeal.nD Cert.ContextRefIdeal.τ).loc Cert.ContextRefIdeal.main_arg1)) (m ((c.tc : Thread Cert.ContextRefIdeal.nD Cert.ContextRefIdeal.τ).loc Cert.ContextRefIdeal.main_arg2)) (m ((c.tc : Thread Cert.ContextRefIdeal.nD Cert.ContextRefIdeal.τ).loc Cert.ContextRefIdeal.main_arg3)) (m ((c.tc : Thread Cert.ContextRefIdeal.nD Cert.ContextRefIdeal.τ).loc Cert.ContextRefIdeal.main_arg4))).1 = (fun _ => 1#1)
    ∧ (Cert.Pre_finite_scores.fn (F := Ideal) (m ((c.tc : Thread Cert.ContextRefIdeal.nD Cert.ContextRefIdeal.τ).loc Cert.ContextRefIdeal.main_arg0)) (m ((c.tc : Thread Cert.ContextRefIdeal.nD Cert.ContextRefIdeal.τ).loc Cert.ContextRefIdeal.main_arg1)) (m ((c.tc : Thread Cert.ContextRefIdeal.nD Cert.ContextRefIdeal.τ).loc Cert.ContextRefIdeal.main_arg2)) (m ((c.tc : Thread Cert.ContextRefIdeal.nD Cert.ContextRefIdeal.τ).loc Cert.ContextRefIdeal.main_arg3)) (m ((c.tc : Thread Cert.ContextRefIdeal.nD Cert.ContextRefIdeal.τ).loc Cert.ContextRefIdeal.main_arg4))).2.1 = (fun _ => 1#1)
    ∧ (Cert.Pre_finite_scores.fn (F := Ideal) (m ((c.tc : Thread Cert.ContextRefIdeal.nD Cert.ContextRefIdeal.τ).loc Cert.ContextRefIdeal.main_arg0)) (m ((c.tc : Thread Cert.ContextRefIdeal.nD Cert.ContextRefIdeal.τ).loc Cert.ContextRefIdeal.main_arg1)) (m ((c.tc : Thread Cert.ContextRefIdeal.nD Cert.ContextRefIdeal.τ).loc Cert.ContextRefIdeal.main_arg2)) (m ((c.tc : Thread Cert.ContextRefIdeal.nD Cert.ContextRefIdeal.τ).loc Cert.ContextRefIdeal.main_arg3)) (m ((c.tc : Thread Cert.ContextRefIdeal.nD Cert.ContextRefIdeal.τ).loc Cert.ContextRefIdeal.main_arg4))).2.2.1 = (fun _ => 1#1)
    ∧ (Cert.Pre_finite_scores.fn (F := Ideal) (m ((c.tc : Thread Cert.ContextRefIdeal.nD Cert.ContextRefIdeal.τ).loc Cert.ContextRefIdeal.main_arg0)) (m ((c.tc : Thread Cert.ContextRefIdeal.nD Cert.ContextRefIdeal.τ).loc Cert.ContextRefIdeal.main_arg1)) (m ((c.tc : Thread Cert.ContextRefIdeal.nD Cert.ContextRefIdeal.τ).loc Cert.ContextRefIdeal.main_arg2)) (m ((c.tc : Thread Cert.ContextRefIdeal.nD Cert.ContextRefIdeal.τ).loc Cert.ContextRefIdeal.main_arg3)) (m ((c.tc : Thread Cert.ContextRefIdeal.nD Cert.ContextRefIdeal.τ).loc Cert.ContextRefIdeal.main_arg4))).2.2.2 = (fun _ => 1#1)

def Pre_MergeLast (m : (ℓ : Loc Cert.MergeLast.nD Cert.MergeLast.τ Cert.MergeLast.sig) → Buf (Elt Bits) ℓ) : Prop :=
  True

def Pre_MergeLastIdeal (m : (ℓ : Loc Cert.MergeLastIdeal.nD Cert.MergeLastIdeal.τ Cert.MergeLastIdeal.sig) → Buf (Elt Ideal) ℓ) : Prop :=
  True

def Pre_MergeLastRefIdeal (m : (ℓ : Loc Cert.MergeLastRefIdeal.nD Cert.MergeLastRefIdeal.τ Cert.MergeLastRefIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextRefIdeal (m : (ℓ : Loc Cert.FfnNextRefIdeal.nD Cert.FfnNextRefIdeal.τ Cert.FfnNextRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ r.2.sem = fun _ => 0)

def quiescent_ContextIdeal_pre_finite_scores [hContextIdeal : Cert.ContextIdeal.Facts] [hPre_finite_scores : Cert.Pre_finite_scores.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_finite_scores m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ r.2.sem = fun _ => 0)

def quiescent_ContextRefIdeal [hContextRefIdeal : Cert.ContextRefIdeal.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1)
      ∧ r.2.mem ((c.tc : Thread Cert.ContextRefIdeal.nD Cert.ContextRefIdeal.τ).loc Cert.ContextRefIdeal.main_arg2) = m ((c.tc : Thread Cert.ContextRefIdeal.nD Cert.ContextRefIdeal.τ).loc Cert.ContextRefIdeal.main_arg2)
      ∧ r.2.mem ((c.tc : Thread Cert.ContextRefIdeal.nD Cert.ContextRefIdeal.τ).loc Cert.ContextRefIdeal.main_arg3) = m ((c.tc : Thread Cert.ContextRefIdeal.nD Cert.ContextRefIdeal.τ).loc Cert.ContextRefIdeal.main_arg3)
      ∧ r.2.mem ((c.tc : Thread Cert.ContextRefIdeal.nD Cert.ContextRefIdeal.τ).loc Cert.ContextRefIdeal.main_arg4) = m ((c.tc : Thread Cert.ContextRefIdeal.nD Cert.ContextRefIdeal.τ).loc Cert.ContextRefIdeal.main_arg4))
      ∧ r.2.sem = fun _ => 0)

def quiescent_ContextRefIdeal_pre_finite_scores [hContextRefIdeal : Cert.ContextRefIdeal.Facts] [hPre_finite_scores : Cert.Pre_finite_scores.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal_finite_scores m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1)
      ∧ r.2.mem ((c.tc : Thread Cert.ContextRefIdeal.nD Cert.ContextRefIdeal.τ).loc Cert.ContextRefIdeal.main_arg2) = m ((c.tc : Thread Cert.ContextRefIdeal.nD Cert.ContextRefIdeal.τ).loc Cert.ContextRefIdeal.main_arg2)
      ∧ r.2.mem ((c.tc : Thread Cert.ContextRefIdeal.nD Cert.ContextRefIdeal.τ).loc Cert.ContextRefIdeal.main_arg3) = m ((c.tc : Thread Cert.ContextRefIdeal.nD Cert.ContextRefIdeal.τ).loc Cert.ContextRefIdeal.main_arg3)
      ∧ r.2.mem ((c.tc : Thread Cert.ContextRefIdeal.nD Cert.ContextRefIdeal.τ).loc Cert.ContextRefIdeal.main_arg4) = m ((c.tc : Thread Cert.ContextRefIdeal.nD Cert.ContextRefIdeal.τ).loc Cert.ContextRefIdeal.main_arg4))
      ∧ r.2.sem = fun _ => 0)

def quiescent_MergeLast [hMergeLast : Cert.MergeLast.Facts] : Prop :=
  ∀ (m : (ℓ : Loc Cert.MergeLast.nD Cert.MergeLast.τ Cert.MergeLast.sig) → Buf (Elt Bits) ℓ) (g : Dev Cert.MergeLast.nD → PrngReg), Pre_MergeLast m →
    θ_run (Cert.MergeLast.defs (F := Bits)) (onTc (τ := Cert.MergeLast.τ) (Cert.MergeLast.main (F := Bits))) ⟨m, fun _ => 0, g⟩ (fun r => (∀ c : Dev Cert.MergeLast.nD,
      r.2.mem ((c.tc : Thread Cert.MergeLast.nD Cert.MergeLast.τ).loc Cert.MergeLast.main_arg0) = m ((c.tc : Thread Cert.MergeLast.nD Cert.MergeLast.τ).loc Cert.MergeLast.main_arg0)
      ∧ r.2.mem ((c.tc : Thread Cert.MergeLast.nD Cert.MergeLast.τ).loc Cert.MergeLast.main_arg1) = m ((c.tc : Thread Cert.MergeLast.nD Cert.MergeLast.τ).loc Cert.MergeLast.main_arg1)
      ∧ r.2.mem ((c.tc : Thread Cert.MergeLast.nD Cert.MergeLast.τ).loc Cert.MergeLast.main_arg2) = m ((c.tc : Thread Cert.MergeLast.nD Cert.MergeLast.τ).loc Cert.MergeLast.main_arg2)
      ∧ r.2.mem ((c.tc : Thread Cert.MergeLast.nD Cert.MergeLast.τ).loc Cert.MergeLast.main_arg3) = m ((c.tc : Thread Cert.MergeLast.nD Cert.MergeLast.τ).loc Cert.MergeLast.main_arg3)
      ∧ r.2.mem ((c.tc : Thread Cert.MergeLast.nD Cert.MergeLast.τ).loc Cert.MergeLast.main_arg4) = m ((c.tc : Thread Cert.MergeLast.nD Cert.MergeLast.τ).loc Cert.MergeLast.main_arg4)
      ∧ r.2.mem ((c.tc : Thread Cert.MergeLast.nD Cert.MergeLast.τ).loc Cert.MergeLast.main_arg5) = m ((c.tc : Thread Cert.MergeLast.nD Cert.MergeLast.τ).loc Cert.MergeLast.main_arg5)
      ∧ r.2.mem ((c.tc : Thread Cert.MergeLast.nD Cert.MergeLast.τ).loc Cert.MergeLast.main_arg6) = m ((c.tc : Thread Cert.MergeLast.nD Cert.MergeLast.τ).loc Cert.MergeLast.main_arg6)
      ∧ r.2.mem ((c.tc : Thread Cert.MergeLast.nD Cert.MergeLast.τ).loc Cert.MergeLast.main_arg7) = m ((c.tc : Thread Cert.MergeLast.nD Cert.MergeLast.τ).loc Cert.MergeLast.main_arg7)
      ∧ r.2.mem ((c.tc : Thread Cert.MergeLast.nD Cert.MergeLast.τ).loc Cert.MergeLast.main_arg8) = m ((c.tc : Thread Cert.MergeLast.nD Cert.MergeLast.τ).loc Cert.MergeLast.main_arg8)
      ∧ r.2.mem ((c.tc : Thread Cert.MergeLast.nD Cert.MergeLast.τ).loc Cert.MergeLast.main_arg9) = m ((c.tc : Thread Cert.MergeLast.nD Cert.MergeLast.τ).loc Cert.MergeLast.main_arg9)
      ∧ r.2.mem ((c.tc : Thread Cert.MergeLast.nD Cert.MergeLast.τ).loc Cert.MergeLast.main_arg10) = m ((c.tc : Thread Cert.MergeLast.nD Cert.MergeLast.τ).loc Cert.MergeLast.main_arg10)
      ∧ r.2.mem ((c.tc : Thread Cert.MergeLast.nD Cert.MergeLast.τ).loc Cert.MergeLast.main_arg11) = m ((c.tc : Thread Cert.MergeLast.nD Cert.MergeLast.τ).loc Cert.MergeLast.main_arg11)
      ∧ r.2.mem ((c.tc : Thread Cert.MergeLast.nD Cert.MergeLast.τ).loc Cert.MergeLast.main_arg12) = m ((c.tc : Thread Cert.MergeLast.nD Cert.MergeLast.τ).loc Cert.MergeLast.main_arg12))
      ∧ r.2.sem = fun _ => 0)

def quiescent_MergeLastIdeal [hMergeLastIdeal : Cert.MergeLastIdeal.Facts] : Prop :=
  ∀ (m : (ℓ : Loc Cert.MergeLastIdeal.nD Cert.MergeLastIdeal.τ Cert.MergeLastIdeal.sig) → Buf (Elt Ideal) ℓ) (g : Dev Cert.MergeLastIdeal.nD → PrngReg), Pre_MergeLastIdeal m →
    θ_run (Cert.MergeLastIdeal.defs (F := Ideal)) (onTc (τ := Cert.MergeLastIdeal.τ) (Cert.MergeLastIdeal.main (F := Ideal))) ⟨m, fun _ => 0, g⟩ (fun r => (∀ c : Dev Cert.MergeLastIdeal.nD,
      r.2.mem ((c.tc : Thread Cert.MergeLastIdeal.nD Cert.MergeLastIdeal.τ).loc Cert.MergeLastIdeal.main_arg0) = m ((c.tc : Thread Cert.MergeLastIdeal.nD Cert.MergeLastIdeal.τ).loc Cert.MergeLastIdeal.main_arg0)
      ∧ r.2.mem ((c.tc : Thread Cert.MergeLastIdeal.nD Cert.MergeLastIdeal.τ).loc Cert.MergeLastIdeal.main_arg1) = m ((c.tc : Thread Cert.MergeLastIdeal.nD Cert.MergeLastIdeal.τ).loc Cert.MergeLastIdeal.main_arg1)
      ∧ r.2.mem ((c.tc : Thread Cert.MergeLastIdeal.nD Cert.MergeLastIdeal.τ).loc Cert.MergeLastIdeal.main_arg2) = m ((c.tc : Thread Cert.MergeLastIdeal.nD Cert.MergeLastIdeal.τ).loc Cert.MergeLastIdeal.main_arg2)
      ∧ r.2.mem ((c.tc : Thread Cert.MergeLastIdeal.nD Cert.MergeLastIdeal.τ).loc Cert.MergeLastIdeal.main_arg3) = m ((c.tc : Thread Cert.MergeLastIdeal.nD Cert.MergeLastIdeal.τ).loc Cert.MergeLastIdeal.main_arg3)
      ∧ r.2.mem ((c.tc : Thread Cert.MergeLastIdeal.nD Cert.MergeLastIdeal.τ).loc Cert.MergeLastIdeal.main_arg4) = m ((c.tc : Thread Cert.MergeLastIdeal.nD Cert.MergeLastIdeal.τ).loc Cert.MergeLastIdeal.main_arg4)
      ∧ r.2.mem ((c.tc : Thread Cert.MergeLastIdeal.nD Cert.MergeLastIdeal.τ).loc Cert.MergeLastIdeal.main_arg5) = m ((c.tc : Thread Cert.MergeLastIdeal.nD Cert.MergeLastIdeal.τ).loc Cert.MergeLastIdeal.main_arg5)
      ∧ r.2.mem ((c.tc : Thread Cert.MergeLastIdeal.nD Cert.MergeLastIdeal.τ).loc Cert.MergeLastIdeal.main_arg6) = m ((c.tc : Thread Cert.MergeLastIdeal.nD Cert.MergeLastIdeal.τ).loc Cert.MergeLastIdeal.main_arg6)
      ∧ r.2.mem ((c.tc : Thread Cert.MergeLastIdeal.nD Cert.MergeLastIdeal.τ).loc Cert.MergeLastIdeal.main_arg7) = m ((c.tc : Thread Cert.MergeLastIdeal.nD Cert.MergeLastIdeal.τ).loc Cert.MergeLastIdeal.main_arg7)
      ∧ r.2.mem ((c.tc : Thread Cert.MergeLastIdeal.nD Cert.MergeLastIdeal.τ).loc Cert.MergeLastIdeal.main_arg8) = m ((c.tc : Thread Cert.MergeLastIdeal.nD Cert.MergeLastIdeal.τ).loc Cert.MergeLastIdeal.main_arg8)
      ∧ r.2.mem ((c.tc : Thread Cert.MergeLastIdeal.nD Cert.MergeLastIdeal.τ).loc Cert.MergeLastIdeal.main_arg9) = m ((c.tc : Thread Cert.MergeLastIdeal.nD Cert.MergeLastIdeal.τ).loc Cert.MergeLastIdeal.main_arg9)
      ∧ r.2.mem ((c.tc : Thread Cert.MergeLastIdeal.nD Cert.MergeLastIdeal.τ).loc Cert.MergeLastIdeal.main_arg10) = m ((c.tc : Thread Cert.MergeLastIdeal.nD Cert.MergeLastIdeal.τ).loc Cert.MergeLastIdeal.main_arg10)
      ∧ r.2.mem ((c.tc : Thread Cert.MergeLastIdeal.nD Cert.MergeLastIdeal.τ).loc Cert.MergeLastIdeal.main_arg11) = m ((c.tc : Thread Cert.MergeLastIdeal.nD Cert.MergeLastIdeal.τ).loc Cert.MergeLastIdeal.main_arg11)
      ∧ r.2.mem ((c.tc : Thread Cert.MergeLastIdeal.nD Cert.MergeLastIdeal.τ).loc Cert.MergeLastIdeal.main_arg12) = m ((c.tc : Thread Cert.MergeLastIdeal.nD Cert.MergeLastIdeal.τ).loc Cert.MergeLastIdeal.main_arg12))
      ∧ r.2.sem = fun _ => 0)

def quiescent_MergeLastRefIdeal [hMergeLastRefIdeal : Cert.MergeLastRefIdeal.Facts] : Prop :=
  ∀ (m : (ℓ : Loc Cert.MergeLastRefIdeal.nD Cert.MergeLastRefIdeal.τ Cert.MergeLastRefIdeal.sig) → Buf (Elt Ideal) ℓ) (g : Dev Cert.MergeLastRefIdeal.nD → PrngReg), Pre_MergeLastRefIdeal m →
    θ_run (Cert.MergeLastRefIdeal.defs (F := Ideal)) (onTc (τ := Cert.MergeLastRefIdeal.τ) (Cert.MergeLastRefIdeal.main (F := Ideal))) ⟨m, fun _ => 0, g⟩ (fun r => (∀ c : Dev Cert.MergeLastRefIdeal.nD,
      r.2.mem ((c.tc : Thread Cert.MergeLastRefIdeal.nD Cert.MergeLastRefIdeal.τ).loc Cert.MergeLastRefIdeal.main_arg0) = m ((c.tc : Thread Cert.MergeLastRefIdeal.nD Cert.MergeLastRefIdeal.τ).loc Cert.MergeLastRefIdeal.main_arg0)
      ∧ r.2.mem ((c.tc : Thread Cert.MergeLastRefIdeal.nD Cert.MergeLastRefIdeal.τ).loc Cert.MergeLastRefIdeal.main_arg1) = m ((c.tc : Thread Cert.MergeLastRefIdeal.nD Cert.MergeLastRefIdeal.τ).loc Cert.MergeLastRefIdeal.main_arg1)
      ∧ r.2.mem ((c.tc : Thread Cert.MergeLastRefIdeal.nD Cert.MergeLastRefIdeal.τ).loc Cert.MergeLastRefIdeal.main_arg2) = m ((c.tc : Thread Cert.MergeLastRefIdeal.nD Cert.MergeLastRefIdeal.τ).loc Cert.MergeLastRefIdeal.main_arg2)
      ∧ r.2.mem ((c.tc : Thread Cert.MergeLastRefIdeal.nD Cert.MergeLastRefIdeal.τ).loc Cert.MergeLastRefIdeal.main_arg3) = m ((c.tc : Thread Cert.MergeLastRefIdeal.nD Cert.MergeLastRefIdeal.τ).loc Cert.MergeLastRefIdeal.main_arg3)
      ∧ r.2.mem ((c.tc : Thread Cert.MergeLastRefIdeal.nD Cert.MergeLastRefIdeal.τ).loc Cert.MergeLastRefIdeal.main_arg4) = m ((c.tc : Thread Cert.MergeLastRefIdeal.nD Cert.MergeLastRefIdeal.τ).loc Cert.MergeLastRefIdeal.main_arg4)
      ∧ r.2.mem ((c.tc : Thread Cert.MergeLastRefIdeal.nD Cert.MergeLastRefIdeal.τ).loc Cert.MergeLastRefIdeal.main_arg5) = m ((c.tc : Thread Cert.MergeLastRefIdeal.nD Cert.MergeLastRefIdeal.τ).loc Cert.MergeLastRefIdeal.main_arg5)
      ∧ r.2.mem ((c.tc : Thread Cert.MergeLastRefIdeal.nD Cert.MergeLastRefIdeal.τ).loc Cert.MergeLastRefIdeal.main_arg6) = m ((c.tc : Thread Cert.MergeLastRefIdeal.nD Cert.MergeLastRefIdeal.τ).loc Cert.MergeLastRefIdeal.main_arg6)
      ∧ r.2.mem ((c.tc : Thread Cert.MergeLastRefIdeal.nD Cert.MergeLastRefIdeal.τ).loc Cert.MergeLastRefIdeal.main_arg7) = m ((c.tc : Thread Cert.MergeLastRefIdeal.nD Cert.MergeLastRefIdeal.τ).loc Cert.MergeLastRefIdeal.main_arg7)
      ∧ r.2.mem ((c.tc : Thread Cert.MergeLastRefIdeal.nD Cert.MergeLastRefIdeal.τ).loc Cert.MergeLastRefIdeal.main_arg8) = m ((c.tc : Thread Cert.MergeLastRefIdeal.nD Cert.MergeLastRefIdeal.τ).loc Cert.MergeLastRefIdeal.main_arg8)
      ∧ r.2.mem ((c.tc : Thread Cert.MergeLastRefIdeal.nD Cert.MergeLastRefIdeal.τ).loc Cert.MergeLastRefIdeal.main_arg9) = m ((c.tc : Thread Cert.MergeLastRefIdeal.nD Cert.MergeLastRefIdeal.τ).loc Cert.MergeLastRefIdeal.main_arg9)
      ∧ r.2.mem ((c.tc : Thread Cert.MergeLastRefIdeal.nD Cert.MergeLastRefIdeal.τ).loc Cert.MergeLastRefIdeal.main_arg10) = m ((c.tc : Thread Cert.MergeLastRefIdeal.nD Cert.MergeLastRefIdeal.τ).loc Cert.MergeLastRefIdeal.main_arg10)
      ∧ r.2.mem ((c.tc : Thread Cert.MergeLastRefIdeal.nD Cert.MergeLastRefIdeal.τ).loc Cert.MergeLastRefIdeal.main_arg11) = m ((c.tc : Thread Cert.MergeLastRefIdeal.nD Cert.MergeLastRefIdeal.τ).loc Cert.MergeLastRefIdeal.main_arg11)
      ∧ r.2.mem ((c.tc : Thread Cert.MergeLastRefIdeal.nD Cert.MergeLastRefIdeal.τ).loc Cert.MergeLastRefIdeal.main_arg12) = m ((c.tc : Thread Cert.MergeLastRefIdeal.nD Cert.MergeLastRefIdeal.τ).loc Cert.MergeLastRefIdeal.main_arg12))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4))
      ∧ r.2.sem = fun _ => 0)

def preserves_Kernel_KernelIdeal : Prop :=
  IdealRules.named_const.Statement Cert.KernelIdeal.κ "qscale" .f32 0x3DD53B95#32 (((Real.sqrt 192)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v3)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v3) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v72) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)) →
    ∃ (v0 : (c : Dev Cert.Ffn2Ideal.nD) → Buf (Elt Ideal) ((c.tc : Thread Cert.Ffn2Ideal.nD Cert.Ffn2Ideal.τ).loc Cert.Ffn2Ideal.main_v3)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v3) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v74) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v21)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v62) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v21)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v21) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v54) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v135) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v5)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v5) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v11) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_Context_ContextIdeal : Prop :=
  IdealRules.named_const.Statement Cert.ContextIdeal.κ "qscale" .f32 0x3DD53B95#32 (((Real.sqrt 192)⁻¹ * (Real.log 2)⁻¹ : ℝ) : EReal)

def algebraic_ContextIdeal_ContextRefIdeal_pre_finite_scores [hContextIdeal : Cert.ContextIdeal.Facts] [hContextRefIdeal : Cert.ContextRefIdeal.Facts] [hPre_finite_scores : Cert.Pre_finite_scores.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextRefIdeal.nD Cert.ContextRefIdeal.τ Cert.ContextRefIdeal.sig) → Buf (Elt Ideal) ℓ) (g' : Dev Cert.ContextRefIdeal.nD → PrngReg), Pre_ContextIdeal_finite_scores m →
    (∀ c : Dev Cert.ContextIdeal.nD,
      m' ((c.tc : Thread Cert.ContextRefIdeal.nD Cert.ContextRefIdeal.τ).loc Cert.ContextRefIdeal.main_arg0) = m ((c.tc : Thread Cert.ContextIdeal.nD Cert.ContextIdeal.τ).loc Cert.ContextIdeal.main_arg0)
      ∧ m' ((c.tc : Thread Cert.ContextRefIdeal.nD Cert.ContextRefIdeal.τ).loc Cert.ContextRefIdeal.main_arg1) = m ((c.tc : Thread Cert.ContextIdeal.nD Cert.ContextIdeal.τ).loc Cert.ContextIdeal.main_arg1)
      ∧ m' ((c.tc : Thread Cert.ContextRefIdeal.nD Cert.ContextRefIdeal.τ).loc Cert.ContextRefIdeal.main_arg2) = m ((c.tc : Thread Cert.ContextIdeal.nD Cert.ContextIdeal.τ).loc Cert.ContextIdeal.main_arg2)
      ∧ m' ((c.tc : Thread Cert.ContextRefIdeal.nD Cert.ContextRefIdeal.τ).loc Cert.ContextRefIdeal.main_arg3) = m ((c.tc : Thread Cert.ContextIdeal.nD Cert.ContextIdeal.τ).loc Cert.ContextIdeal.main_arg3)
      ∧ m' ((c.tc : Thread Cert.ContextRefIdeal.nD Cert.ContextRefIdeal.τ).loc Cert.ContextRefIdeal.main_arg4) = m ((c.tc : Thread Cert.ContextIdeal.nD Cert.ContextIdeal.τ).loc Cert.ContextIdeal.main_arg4)) →
    ∃ (v0 : (c : Dev Cert.ContextIdeal.nD) → Buf (Elt Ideal) ((c.tc : Thread Cert.ContextIdeal.nD Cert.ContextIdeal.τ).loc Cert.ContextIdeal.main_v19)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v19) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ θ_run (Cert.ContextRefIdeal.defs (F := Ideal)) (onTc (τ := Cert.ContextRefIdeal.τ) (Cert.ContextRefIdeal.main (F := Ideal))) ⟨m', fun _ => 0, g'⟩ (fun r => ∀ c : Dev Cert.ContextRefIdeal.nD,
          r.2.mem ((c.tc : Thread Cert.ContextRefIdeal.nD Cert.ContextRefIdeal.τ).loc Cert.ContextRefIdeal.main_v32) = v0 c
          ∧ r.2.mem ((c.tc : Thread Cert.ContextRefIdeal.nD Cert.ContextRefIdeal.τ).loc Cert.ContextRefIdeal.main_arg0) = m' ((c.tc : Thread Cert.ContextRefIdeal.nD Cert.ContextRefIdeal.τ).loc Cert.ContextRefIdeal.main_arg0)
          ∧ r.2.mem ((c.tc : Thread Cert.ContextRefIdeal.nD Cert.ContextRefIdeal.τ).loc Cert.ContextRefIdeal.main_arg1) = m' ((c.tc : Thread Cert.ContextRefIdeal.nD Cert.ContextRefIdeal.τ).loc Cert.ContextRefIdeal.main_arg1)
          ∧ r.2.mem ((c.tc : Thread Cert.ContextRefIdeal.nD Cert.ContextRefIdeal.τ).loc Cert.ContextRefIdeal.main_arg2) = m' ((c.tc : Thread Cert.ContextRefIdeal.nD Cert.ContextRefIdeal.τ).loc Cert.ContextRefIdeal.main_arg2)
          ∧ r.2.mem ((c.tc : Thread Cert.ContextRefIdeal.nD Cert.ContextRefIdeal.τ).loc Cert.ContextRefIdeal.main_arg3) = m' ((c.tc : Thread Cert.ContextRefIdeal.nD Cert.ContextRefIdeal.τ).loc Cert.ContextRefIdeal.main_arg3)
          ∧ r.2.mem ((c.tc : Thread Cert.ContextRefIdeal.nD Cert.ContextRefIdeal.τ).loc Cert.ContextRefIdeal.main_arg4) = m' ((c.tc : Thread Cert.ContextRefIdeal.nD Cert.ContextRefIdeal.τ).loc Cert.ContextRefIdeal.main_arg4))

def preserves_MergeLast_MergeLastIdeal : Prop :=
  True

def algebraic_MergeLastIdeal_MergeLastRefIdeal [hMergeLastIdeal : Cert.MergeLastIdeal.Facts] [hMergeLastRefIdeal : Cert.MergeLastRefIdeal.Facts] : Prop :=
  ∀ (m : (ℓ : Loc Cert.MergeLastIdeal.nD Cert.MergeLastIdeal.τ Cert.MergeLastIdeal.sig) → Buf (Elt Ideal) ℓ) (g : Dev Cert.MergeLastIdeal.nD → PrngReg)
    (m' : (ℓ : Loc Cert.MergeLastRefIdeal.nD Cert.MergeLastRefIdeal.τ Cert.MergeLastRefIdeal.sig) → Buf (Elt Ideal) ℓ) (g' : Dev Cert.MergeLastRefIdeal.nD → PrngReg), Pre_MergeLastIdeal m →
    (∀ c : Dev Cert.MergeLastIdeal.nD,
      m' ((c.tc : Thread Cert.MergeLastRefIdeal.nD Cert.MergeLastRefIdeal.τ).loc Cert.MergeLastRefIdeal.main_arg0) = m ((c.tc : Thread Cert.MergeLastIdeal.nD Cert.MergeLastIdeal.τ).loc Cert.MergeLastIdeal.main_arg0)
      ∧ m' ((c.tc : Thread Cert.MergeLastRefIdeal.nD Cert.MergeLastRefIdeal.τ).loc Cert.MergeLastRefIdeal.main_arg1) = m ((c.tc : Thread Cert.MergeLastIdeal.nD Cert.MergeLastIdeal.τ).loc Cert.MergeLastIdeal.main_arg1)
      ∧ m' ((c.tc : Thread Cert.MergeLastRefIdeal.nD Cert.MergeLastRefIdeal.τ).loc Cert.MergeLastRefIdeal.main_arg2) = m ((c.tc : Thread Cert.MergeLastIdeal.nD Cert.MergeLastIdeal.τ).loc Cert.MergeLastIdeal.main_arg2)
      ∧ m' ((c.tc : Thread Cert.MergeLastRefIdeal.nD Cert.MergeLastRefIdeal.τ).loc Cert.MergeLastRefIdeal.main_arg3) = m ((c.tc : Thread Cert.MergeLastIdeal.nD Cert.MergeLastIdeal.τ).loc Cert.MergeLastIdeal.main_arg3)
      ∧ m' ((c.tc : Thread Cert.MergeLastRefIdeal.nD Cert.MergeLastRefIdeal.τ).loc Cert.MergeLastRefIdeal.main_arg4) = m ((c.tc : Thread Cert.MergeLastIdeal.nD Cert.MergeLastIdeal.τ).loc Cert.MergeLastIdeal.main_arg4)
      ∧ m' ((c.tc : Thread Cert.MergeLastRefIdeal.nD Cert.MergeLastRefIdeal.τ).loc Cert.MergeLastRefIdeal.main_arg5) = m ((c.tc : Thread Cert.MergeLastIdeal.nD Cert.MergeLastIdeal.τ).loc Cert.MergeLastIdeal.main_arg5)
      ∧ m' ((c.tc : Thread Cert.MergeLastRefIdeal.nD Cert.MergeLastRefIdeal.τ).loc Cert.MergeLastRefIdeal.main_arg6) = m ((c.tc : Thread Cert.MergeLastIdeal.nD Cert.MergeLastIdeal.τ).loc Cert.MergeLastIdeal.main_arg6)
      ∧ m' ((c.tc : Thread Cert.MergeLastRefIdeal.nD Cert.MergeLastRefIdeal.τ).loc Cert.MergeLastRefIdeal.main_arg7) = m ((c.tc : Thread Cert.MergeLastIdeal.nD Cert.MergeLastIdeal.τ).loc Cert.MergeLastIdeal.main_arg7)
      ∧ m' ((c.tc : Thread Cert.MergeLastRefIdeal.nD Cert.MergeLastRefIdeal.τ).loc Cert.MergeLastRefIdeal.main_arg8) = m ((c.tc : Thread Cert.MergeLastIdeal.nD Cert.MergeLastIdeal.τ).loc Cert.MergeLastIdeal.main_arg8)
      ∧ m' ((c.tc : Thread Cert.MergeLastRefIdeal.nD Cert.MergeLastRefIdeal.τ).loc Cert.MergeLastRefIdeal.main_arg9) = m ((c.tc : Thread Cert.MergeLastIdeal.nD Cert.MergeLastIdeal.τ).loc Cert.MergeLastIdeal.main_arg9)
      ∧ m' ((c.tc : Thread Cert.MergeLastRefIdeal.nD Cert.MergeLastRefIdeal.τ).loc Cert.MergeLastRefIdeal.main_arg10) = m ((c.tc : Thread Cert.MergeLastIdeal.nD Cert.MergeLastIdeal.τ).loc Cert.MergeLastIdeal.main_arg10)
      ∧ m' ((c.tc : Thread Cert.MergeLastRefIdeal.nD Cert.MergeLastRefIdeal.τ).loc Cert.MergeLastRefIdeal.main_arg11) = m ((c.tc : Thread Cert.MergeLastIdeal.nD Cert.MergeLastIdeal.τ).loc Cert.MergeLastIdeal.main_arg11)
      ∧ m' ((c.tc : Thread Cert.MergeLastRefIdeal.nD Cert.MergeLastRefIdeal.τ).loc Cert.MergeLastRefIdeal.main_arg12) = m ((c.tc : Thread Cert.MergeLastIdeal.nD Cert.MergeLastIdeal.τ).loc Cert.MergeLastIdeal.main_arg12)) →
    ∃ (v0 : (c : Dev Cert.MergeLastIdeal.nD) → Buf (Elt Ideal) ((c.tc : Thread Cert.MergeLastIdeal.nD Cert.MergeLastIdeal.τ).loc Cert.MergeLastIdeal.main_v6)),
      θ_run (Cert.MergeLastIdeal.defs (F := Ideal)) (onTc (τ := Cert.MergeLastIdeal.τ) (Cert.MergeLastIdeal.main (F := Ideal))) ⟨m, fun _ => 0, g⟩ (fun r => ∀ c : Dev Cert.MergeLastIdeal.nD,
          r.2.mem ((c.tc : Thread Cert.MergeLastIdeal.nD Cert.MergeLastIdeal.τ).loc Cert.MergeLastIdeal.main_v6) = v0 c
          ∧ r.2.mem ((c.tc : Thread Cert.MergeLastIdeal.nD Cert.MergeLastIdeal.τ).loc Cert.MergeLastIdeal.main_arg0) = m ((c.tc : Thread Cert.MergeLastIdeal.nD Cert.MergeLastIdeal.τ).loc Cert.MergeLastIdeal.main_arg0)
          ∧ r.2.mem ((c.tc : Thread Cert.MergeLastIdeal.nD Cert.MergeLastIdeal.τ).loc Cert.MergeLastIdeal.main_arg1) = m ((c.tc : Thread Cert.MergeLastIdeal.nD Cert.MergeLastIdeal.τ).loc Cert.MergeLastIdeal.main_arg1)
          ∧ r.2.mem ((c.tc : Thread Cert.MergeLastIdeal.nD Cert.MergeLastIdeal.τ).loc Cert.MergeLastIdeal.main_arg2) = m ((c.tc : Thread Cert.MergeLastIdeal.nD Cert.MergeLastIdeal.τ).loc Cert.MergeLastIdeal.main_arg2)
          ∧ r.2.mem ((c.tc : Thread Cert.MergeLastIdeal.nD Cert.MergeLastIdeal.τ).loc Cert.MergeLastIdeal.main_arg3) = m ((c.tc : Thread Cert.MergeLastIdeal.nD Cert.MergeLastIdeal.τ).loc Cert.MergeLastIdeal.main_arg3)
          ∧ r.2.mem ((c.tc : Thread Cert.MergeLastIdeal.nD Cert.MergeLastIdeal.τ).loc Cert.MergeLastIdeal.main_arg4) = m ((c.tc : Thread Cert.MergeLastIdeal.nD Cert.MergeLastIdeal.τ).loc Cert.MergeLastIdeal.main_arg4)
          ∧ r.2.mem ((c.tc : Thread Cert.MergeLastIdeal.nD Cert.MergeLastIdeal.τ).loc Cert.MergeLastIdeal.main_arg5) = m ((c.tc : Thread Cert.MergeLastIdeal.nD Cert.MergeLastIdeal.τ).loc Cert.MergeLastIdeal.main_arg5)
          ∧ r.2.mem ((c.tc : Thread Cert.MergeLastIdeal.nD Cert.MergeLastIdeal.τ).loc Cert.MergeLastIdeal.main_arg6) = m ((c.tc : Thread Cert.MergeLastIdeal.nD Cert.MergeLastIdeal.τ).loc Cert.MergeLastIdeal.main_arg6)
          ∧ r.2.mem ((c.tc : Thread Cert.MergeLastIdeal.nD Cert.MergeLastIdeal.τ).loc Cert.MergeLastIdeal.main_arg7) = m ((c.tc : Thread Cert.MergeLastIdeal.nD Cert.MergeLastIdeal.τ).loc Cert.MergeLastIdeal.main_arg7)
          ∧ r.2.mem ((c.tc : Thread Cert.MergeLastIdeal.nD Cert.MergeLastIdeal.τ).loc Cert.MergeLastIdeal.main_arg8) = m ((c.tc : Thread Cert.MergeLastIdeal.nD Cert.MergeLastIdeal.τ).loc Cert.MergeLastIdeal.main_arg8)
          ∧ r.2.mem ((c.tc : Thread Cert.MergeLastIdeal.nD Cert.MergeLastIdeal.τ).loc Cert.MergeLastIdeal.main_arg9) = m ((c.tc : Thread Cert.MergeLastIdeal.nD Cert.MergeLastIdeal.τ).loc Cert.MergeLastIdeal.main_arg9)
          ∧ r.2.mem ((c.tc : Thread Cert.MergeLastIdeal.nD Cert.MergeLastIdeal.τ).loc Cert.MergeLastIdeal.main_arg10) = m ((c.tc : Thread Cert.MergeLastIdeal.nD Cert.MergeLastIdeal.τ).loc Cert.MergeLastIdeal.main_arg10)
          ∧ r.2.mem ((c.tc : Thread Cert.MergeLastIdeal.nD Cert.MergeLastIdeal.τ).loc Cert.MergeLastIdeal.main_arg11) = m ((c.tc : Thread Cert.MergeLastIdeal.nD Cert.MergeLastIdeal.τ).loc Cert.MergeLastIdeal.main_arg11)
          ∧ r.2.mem ((c.tc : Thread Cert.MergeLastIdeal.nD Cert.MergeLastIdeal.τ).loc Cert.MergeLastIdeal.main_arg12) = m ((c.tc : Thread Cert.MergeLastIdeal.nD Cert.MergeLastIdeal.τ).loc Cert.MergeLastIdeal.main_arg12))
      ∧ θ_run (Cert.MergeLastRefIdeal.defs (F := Ideal)) (onTc (τ := Cert.MergeLastRefIdeal.τ) (Cert.MergeLastRefIdeal.main (F := Ideal))) ⟨m', fun _ => 0, g'⟩ (fun r => ∀ c : Dev Cert.MergeLastRefIdeal.nD,
          r.2.mem ((c.tc : Thread Cert.MergeLastRefIdeal.nD Cert.MergeLastRefIdeal.τ).loc Cert.MergeLastRefIdeal.main_v68) = v0 c
          ∧ r.2.mem ((c.tc : Thread Cert.MergeLastRefIdeal.nD Cert.MergeLastRefIdeal.τ).loc Cert.MergeLastRefIdeal.main_arg0) = m' ((c.tc : Thread Cert.MergeLastRefIdeal.nD Cert.MergeLastRefIdeal.τ).loc Cert.MergeLastRefIdeal.main_arg0)
          ∧ r.2.mem ((c.tc : Thread Cert.MergeLastRefIdeal.nD Cert.MergeLastRefIdeal.τ).loc Cert.MergeLastRefIdeal.main_arg1) = m' ((c.tc : Thread Cert.MergeLastRefIdeal.nD Cert.MergeLastRefIdeal.τ).loc Cert.MergeLastRefIdeal.main_arg1)
          ∧ r.2.mem ((c.tc : Thread Cert.MergeLastRefIdeal.nD Cert.MergeLastRefIdeal.τ).loc Cert.MergeLastRefIdeal.main_arg2) = m' ((c.tc : Thread Cert.MergeLastRefIdeal.nD Cert.MergeLastRefIdeal.τ).loc Cert.MergeLastRefIdeal.main_arg2)
          ∧ r.2.mem ((c.tc : Thread Cert.MergeLastRefIdeal.nD Cert.MergeLastRefIdeal.τ).loc Cert.MergeLastRefIdeal.main_arg3) = m' ((c.tc : Thread Cert.MergeLastRefIdeal.nD Cert.MergeLastRefIdeal.τ).loc Cert.MergeLastRefIdeal.main_arg3)
          ∧ r.2.mem ((c.tc : Thread Cert.MergeLastRefIdeal.nD Cert.MergeLastRefIdeal.τ).loc Cert.MergeLastRefIdeal.main_arg4) = m' ((c.tc : Thread Cert.MergeLastRefIdeal.nD Cert.MergeLastRefIdeal.τ).loc Cert.MergeLastRefIdeal.main_arg4)
          ∧ r.2.mem ((c.tc : Thread Cert.MergeLastRefIdeal.nD Cert.MergeLastRefIdeal.τ).loc Cert.MergeLastRefIdeal.main_arg5) = m' ((c.tc : Thread Cert.MergeLastRefIdeal.nD Cert.MergeLastRefIdeal.τ).loc Cert.MergeLastRefIdeal.main_arg5)
          ∧ r.2.mem ((c.tc : Thread Cert.MergeLastRefIdeal.nD Cert.MergeLastRefIdeal.τ).loc Cert.MergeLastRefIdeal.main_arg6) = m' ((c.tc : Thread Cert.MergeLastRefIdeal.nD Cert.MergeLastRefIdeal.τ).loc Cert.MergeLastRefIdeal.main_arg6)
          ∧ r.2.mem ((c.tc : Thread Cert.MergeLastRefIdeal.nD Cert.MergeLastRefIdeal.τ).loc Cert.MergeLastRefIdeal.main_arg7) = m' ((c.tc : Thread Cert.MergeLastRefIdeal.nD Cert.MergeLastRefIdeal.τ).loc Cert.MergeLastRefIdeal.main_arg7)
          ∧ r.2.mem ((c.tc : Thread Cert.MergeLastRefIdeal.nD Cert.MergeLastRefIdeal.τ).loc Cert.MergeLastRefIdeal.main_arg8) = m' ((c.tc : Thread Cert.MergeLastRefIdeal.nD Cert.MergeLastRefIdeal.τ).loc Cert.MergeLastRefIdeal.main_arg8)
          ∧ r.2.mem ((c.tc : Thread Cert.MergeLastRefIdeal.nD Cert.MergeLastRefIdeal.τ).loc Cert.MergeLastRefIdeal.main_arg9) = m' ((c.tc : Thread Cert.MergeLastRefIdeal.nD Cert.MergeLastRefIdeal.τ).loc Cert.MergeLastRefIdeal.main_arg9)
          ∧ r.2.mem ((c.tc : Thread Cert.MergeLastRefIdeal.nD Cert.MergeLastRefIdeal.τ).loc Cert.MergeLastRefIdeal.main_arg10) = m' ((c.tc : Thread Cert.MergeLastRefIdeal.nD Cert.MergeLastRefIdeal.τ).loc Cert.MergeLastRefIdeal.main_arg10)
          ∧ r.2.mem ((c.tc : Thread Cert.MergeLastRefIdeal.nD Cert.MergeLastRefIdeal.τ).loc Cert.MergeLastRefIdeal.main_arg11) = m' ((c.tc : Thread Cert.MergeLastRefIdeal.nD Cert.MergeLastRefIdeal.τ).loc Cert.MergeLastRefIdeal.main_arg11)
          ∧ r.2.mem ((c.tc : Thread Cert.MergeLastRefIdeal.nD Cert.MergeLastRefIdeal.τ).loc Cert.MergeLastRefIdeal.main_arg12) = m' ((c.tc : Thread Cert.MergeLastRefIdeal.nD Cert.MergeLastRefIdeal.τ).loc Cert.MergeLastRefIdeal.main_arg12))

def preserves_FfnNext_FfnNextIdeal : Prop :=
  True

def algebraic_FfnNextIdeal_FfnNextRefIdeal [hFfnNextIdeal : Cert.FfnNextIdeal.Facts] [hFfnNextRefIdeal : Cert.FfnNextRefIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)) →
    ∃ (v0 : (c : Dev Cert.FfnNextIdeal.nD) → Buf (Elt Ideal) ((c.tc : Thread Cert.FfnNextIdeal.nD Cert.FfnNextIdeal.τ).loc Cert.FfnNextIdeal.main_v3)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v3) = v0 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v74) = v0 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v3)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v3) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v35) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4))

def Claim : Prop :=
  ∃ (hKernel : Cert.Kernel.Facts) (hKernelIdeal : Cert.KernelIdeal.Facts) (hReferenceIdeal : Cert.ReferenceIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hProj : Cert.Proj.Facts) (hProjIdeal : Cert.ProjIdeal.Facts) (hProjRefIdeal : Cert.ProjRefIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hModulation : Cert.Modulation.Facts) (hModulationIdeal : Cert.ModulationIdeal.Facts) (hModulationRefIdeal : Cert.ModulationRefIdeal.Facts) (hContext : Cert.Context.Facts) (hContextIdeal : Cert.ContextIdeal.Facts) (hContextRefIdeal : Cert.ContextRefIdeal.Facts) (hMergeLast : Cert.MergeLast.Facts) (hMergeLastIdeal : Cert.MergeLastIdeal.Facts) (hMergeLastRefIdeal : Cert.MergeLastRefIdeal.Facts) (hFfnNext : Cert.FfnNext.Facts) (hFfnNextIdeal : Cert.FfnNextIdeal.Facts) (hFfnNextRefIdeal : Cert.FfnNextRefIdeal.Facts) (hFfnLast : Cert.FfnLast.Facts) (hFfnLastIdeal : Cert.FfnLastIdeal.Facts) (hFfnLastRefIdeal : Cert.FfnLastRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Proj (hProj := hProj)
    ∧ quiescent_ProjIdeal (hProjIdeal := hProjIdeal)
    ∧ quiescent_ProjRefIdeal (hProjRefIdeal := hProjRefIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Context (hContext := hContext)
    ∧ quiescent_ContextIdeal (hContextIdeal := hContextIdeal)
    ∧ quiescent_ContextIdeal_pre_finite_scores (hContextIdeal := hContextIdeal) (hPre_finite_scores := hPre_finite_scores)
    ∧ quiescent_ContextRefIdeal (hContextRefIdeal := hContextRefIdeal)
    ∧ quiescent_ContextRefIdeal_pre_finite_scores (hContextRefIdeal := hContextRefIdeal) (hPre_finite_scores := hPre_finite_scores)
    ∧ quiescent_MergeLast (hMergeLast := hMergeLast)
    ∧ quiescent_MergeLastIdeal (hMergeLastIdeal := hMergeLastIdeal)
    ∧ quiescent_MergeLastRefIdeal (hMergeLastRefIdeal := hMergeLastRefIdeal)
    ∧ quiescent_FfnNext (hFfnNext := hFfnNext)
    ∧ quiescent_FfnNextIdeal (hFfnNextIdeal := hFfnNextIdeal)
    ∧ quiescent_FfnNextRefIdeal (hFfnNextRefIdeal := hFfnNextRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Proj_ProjIdeal
    ∧ algebraic_ProjIdeal_ProjRefIdeal (hProjIdeal := hProjIdeal) (hProjRefIdeal := hProjRefIdeal)
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal (hMergeIdeal := hMergeIdeal) (hMergeRefIdeal := hMergeRefIdeal)
    ∧ preserves_Modulation_ModulationIdeal
    ∧ algebraic_ModulationIdeal_ModulationRefIdeal (hModulationIdeal := hModulationIdeal) (hModulationRefIdeal := hModulationRefIdeal)
    ∧ preserves_Context_ContextIdeal
    ∧ algebraic_ContextIdeal_ContextRefIdeal_pre_finite_scores (hContextIdeal := hContextIdeal) (hContextRefIdeal := hContextRefIdeal) (hPre_finite_scores := hPre_finite_scores)
    ∧ preserves_MergeLast_MergeLastIdeal
    ∧ algebraic_MergeLastIdeal_MergeLastRefIdeal (hMergeLastIdeal := hMergeLastIdeal) (hMergeLastRefIdeal := hMergeLastRefIdeal)
    ∧ preserves_FfnNext_FfnNextIdeal
    ∧ algebraic_FfnNextIdeal_FfnNextRefIdeal (hFfnNextIdeal := hFfnNextIdeal) (hFfnNextRefIdeal := hFfnNextRefIdeal)
    ∧ preserves_FfnLast_FfnLastIdeal
    ∧ algebraic_FfnLastIdeal_FfnLastRefIdeal (hFfnLastIdeal := hFfnLastIdeal) (hFfnLastRefIdeal := hFfnLastRefIdeal)
-- ==== Pre_finite_scores.lean ====
abbrev S33792x4x128 : Shape := ⟨3, ![33792, 4, 128]⟩
abbrev S33792x4x64 : Shape := ⟨3, ![33792, 4, 64]⟩
abbrev S33792x64 : Shape := ⟨2, ![33792, 64]⟩
abbrev S_ : Shape := ⟨0, ![]⟩

class Facts : Prop where
  bcast_S_S33792x4x128 : S_.BroadcastsInDim S33792x4x128 (![] : Fin 0 → Fin S33792x4x128.rank)
  bcast_S_S33792x4x64 : S_.BroadcastsInDim S33792x4x64 (![] : Fin 0 → Fin S33792x4x64.rank)
  bcast_S_S33792x64 : S_.BroadcastsInDim S33792x64 (![] : Fin 0 → Fin S33792x64.rank)

variable [Facts]

def fn {F : FTy → Type} [FloatOps F] (main_arg0 : FVec F S33792x4x128 .f32) (main_arg1 : FVec F S33792x4x64 .f32) (main_arg2 : FVec F S33792x4x128 .f32) (main_arg3 : FVec F S33792x64 .f32) (main_arg4 : FVec F S33792x4x128 .f32) : IVec S33792x4x128 1 × IVec S33792x4x64 1 × IVec S33792x4x128 1 × IVec S33792x64 1 :=
  let main_v0 : FVec F S33792x4x128 .f32 := Host.absf main_arg0
  let main_cst : FVec F S_ .f32 := constant S_ .f32 0x7F800000#32
  let main_v1 : FVec F S33792x4x128 .f32 := broadcastInDim S33792x4x128 ![] bcast_S_S33792x4x128 main_cst
  let main_v2 : IVec S33792x4x128 1 := cmpf .olt main_v0 main_v1
  let main_v3 : FVec F S33792x4x64 .f32 := Host.absf main_arg1
  let main_cst_0 : FVec F S_ .f32 := constant S_ .f32 0x7F800000#32
  let main_v4 : FVec F S33792x4x64 .f32 := broadcastInDim S33792x4x64 ![] bcast_S_S33792x4x64 main_cst_0
  let main_v5 : IVec S33792x4x64 1 := cmpf .olt main_v3 main_v4
  let main_v6 : FVec F S33792x4x128 .f32 := Host.absf main_arg2
  let main_cst_1 : FVec F S_ .f32 := constant S_ .f32 0x7F800000#32
  let main_v7 : FVec F S33792x4x128 .f32 := broadcastInDim S33792x4x128 ![] bcast_S_S33792x4x128 main_cst_1
  let main_v8 : IVec S33792x4x128 1 := cmpf .olt main_v6 main_v7
  let main_v9 : FVec F S33792x64 .f32 := Host.absf main_arg3
  let main_cst_2 : FVec F S_ .f32 := constant S_ .f32 0x7F800000#32
  let main_v10 : FVec F S33792x64 .f32 := broadcastInDim S33792x64 ![] bcast_S_S33792x64 main_cst_2
  let main_v11 : IVec S33792x64 1 := cmpf .olt main_v9 main_v10
  (main_v2, main_v5, main_v8, main_v11)
-- ==== Kernel.lean ====
abbrev S33792x4x128 : Shape := ⟨3, ![33792, 4, 128]⟩
abbrev S33792x4x64 : Shape := ⟨3, ![33792, 4, 64]⟩
abbrev S33792x64 : Shape := ⟨2, ![33792, 64]⟩
abbrev S_ : Shape := ⟨0, ![]⟩
abbrev S33792x4x192 : Shape := ⟨3, ![33792, 4, 192]⟩
abbrev S33792x4x256 : Shape := ⟨3, ![33792, 4, 256]⟩
abbrev S4x256x33792 : Shape := ⟨3, ![4, 256, 33792]⟩
abbrev S33792x1x64 : Shape := ⟨3, ![33792, 1, 64]⟩
abbrev S4x33792x256 : Shape := ⟨3, ![4, 33792, 256]⟩
abbrev S1x16x1 : Shape := ⟨3, ![1, 16, 1]⟩
abbrev S4x16x33792 : Shape := ⟨3, ![4, 16, 33792]⟩
abbrev S4x128x33792 : Shape := ⟨3, ![4, 128, 33792]⟩
abbrev S4x144x33792 : Shape := ⟨3, ![4, 144, 33792]⟩
abbrev S512x32768 : Shape := ⟨2, ![512, 32768]⟩
abbrev S1x256x256 : Shape := ⟨3, ![1, 256, 256]⟩
abbrev S1x8192x256 : Shape := ⟨3, ![1, 8192, 256]⟩
abbrev S1x144x8192 : Shape := ⟨3, ![1, 144, 8192]⟩
abbrev S1x144x256 : Shape := ⟨3, ![1, 144, 256]⟩
abbrev S128x256 : Shape := ⟨2, ![128, 256]⟩
abbrev S8448x256 : Shape := ⟨2, ![8448, 256]⟩
abbrev S8x256 : Shape := ⟨2, ![8, 256]⟩
abbrev S1x256 : Shape := ⟨2, ![1, 256]⟩
abbrev S256x256 : Shape := ⟨2, ![256, 256]⟩
abbrev S144x256 : Shape := ⟨2, ![144, 256]⟩
abbrev S1024x256 : Shape := ⟨2, ![1024, 256]⟩
abbrev S1x144x1024 : Shape := ⟨3, ![1, 144, 1024]⟩
abbrev S144x1024 : Shape := ⟨2, ![144, 1024]⟩
abbrev S256 : Shape := ⟨1, ![256]⟩
abbrev S1x1024x256 : Shape := ⟨3, ![1, 1024, 256]⟩

abbrev nBuf : Space → Nat
  | .hbm => 27
  | .vmem => 16
  | .smem => 0
  | _ => 0

abbrev bufTy : (tb : Table) → Fin (tcTables nBuf tb) → BufTy
  | .hbm, ⟨0, _⟩ => ⟨S33792x4x128, .f32⟩
  | .hbm, ⟨1, _⟩ => ⟨S33792x4x64, .f32⟩
  | .hbm, ⟨2, _⟩ => ⟨S33792x4x128, .f32⟩
  | .hbm, ⟨3, _⟩ => ⟨S33792x64, .f32⟩
  | .hbm, ⟨4, _⟩ => ⟨S33792x4x128, .f32⟩
  | .hbm, ⟨5, _⟩ => ⟨S_, .f32⟩
  | .hbm, ⟨6, _⟩ => ⟨S33792x4x64, .f32⟩
  | .hbm, ⟨7, _⟩ => ⟨S33792x4x192, .f32⟩
  | .hbm, ⟨8, _⟩ => ⟨S33792x4x256, .f32⟩
  | .hbm, ⟨9, _⟩ => ⟨S4x256x33792, .f32⟩
  | .hbm, ⟨10, _⟩ => ⟨S4x256x33792, .bf16⟩
  | .hbm, ⟨11, _⟩ => ⟨S33792x1x64, .f32⟩
  | .hbm, ⟨12, _⟩ => ⟨S33792x4x64, .f32⟩
  | .hbm, ⟨13, _⟩ => ⟨S33792x4x192, .f32⟩
  | .hbm, ⟨14, _⟩ => ⟨S33792x4x256, .f32⟩
  | .hbm, ⟨15, _⟩ => ⟨S4x33792x256, .f32⟩
  | .hbm, ⟨16, _⟩ => ⟨S4x33792x256, .bf16⟩
  | .hbm, ⟨17, _⟩ => ⟨S1x16x1, .i32⟩
  | .hbm, ⟨18, _⟩ => ⟨S_, .i32⟩
  | .hbm, ⟨19, _⟩ => ⟨S1x16x1, .i32⟩
  | .hbm, ⟨20, _⟩ => ⟨S1x16x1, .i1⟩
  | .hbm, ⟨21, _⟩ => ⟨S1x16x1, .bf16⟩
  | .hbm, ⟨22, _⟩ => ⟨S4x16x33792, .bf16⟩
  | .hbm, ⟨23, _⟩ => ⟨S4x128x33792, .f32⟩
  | .hbm, ⟨24, _⟩ => ⟨S4x128x33792, .bf16⟩
  | .hbm, ⟨25, _⟩ => ⟨S4x144x33792, .bf16⟩
  | .hbm, ⟨26, _⟩ => ⟨S512x32768, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x144x8192, .bf16⟩
  | .local _ .vmem, ⟨5, _⟩ => ⟨S1x144x8192, .bf16⟩
  | .local _ .vmem, ⟨6, _⟩ => ⟨S1x256x256, .bf16⟩
  | .local _ .vmem, ⟨7, _⟩ => ⟨S1x256x256, .bf16⟩
  | .local _ .vmem, ⟨8, _⟩ => ⟨S1x144x256, .bf16⟩
  | .local _ .vmem, ⟨9, _⟩ => ⟨S1x144x256, .bf16⟩
  | .local _ .vmem, ⟨10, _⟩ => ⟨S128x256, .bf16⟩
  | .local _ .vmem, ⟨11, _⟩ => ⟨S128x256, .bf16⟩
  | .local _ .vmem, ⟨12, _⟩ => ⟨S8448x256, .f32⟩
  | .local _ .vmem, ⟨13, _⟩ => ⟨S8448x256, .f32⟩
  | .local _ .vmem, ⟨14, _⟩ => ⟨S8x256, .f32⟩
  | .local _ .vmem, ⟨15, _⟩ => ⟨S8x256, .f32⟩
  | _, _ => ⟨S33792x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 129], ![false, false, false]⟩

def k0_cond2 (i : grid0.Coords) : BitVec 1 :=
  let arg2 : BitVec 32 := BitVec.ofNat 32 (i 2).val
  let c2_i32 : BitVec 32 := 2#32
  let c0_i32_3 : BitVec 32 := 0#32
  let v7 : BitVec 1 := Scalar.cmpi .eq c2_i32 c0_i32_3
  let c1_i32 : BitVec 32 := 1#32
  let v8 : BitVec 32 := Scalar.select v7 c1_i32 c2_i32
  let v9 : BitVec 32 := Scalar.remsi arg2 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let v17 : BitVec 1 := Scalar.cmpi .eq v16 c0_i32_7
  let v18 : BitVec 32 := Scalar.extui v17
  let c0_i32_8 : BitVec 32 := 0#32
  let v19 : BitVec 1 := Scalar.cmpi .ne v18 c0_i32_8
  v19

def k0_cond3 (i : grid0.Coords) : BitVec 1 :=
  let arg2 : BitVec 32 := BitVec.ofNat 32 (i 2).val
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi arg2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c127_i32 : BitVec 32 := 127#32
  let v0 : BitVec 32 := Scalar.minsi arg2 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.muli arg0 c32_i32_4
  let c127_i32_5 : BitVec 32 := 127#32
  let v19 : BitVec 32 := Scalar.minsi arg2 c127_i32_5
  let c32_i32_6 : BitVec 32 := 32#32
  let c0_i32_7 : BitVec 32 := 0#32
  let v20 : BitVec 1 := Scalar.cmpi .eq c32_i32_6 c0_i32_7
  let c1_i32_8 : BitVec 32 := 1#32
  let v21 : BitVec 32 := Scalar.select v20 c1_i32_8 c32_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v18 v29
  let c0_i32_12 : BitVec 32 := 0#32
  let c0_i32_13 : BitVec 32 := 0#32
  ![v17.toNat, c0_i32_12.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c127_i32 : BitVec 32 := 127#32
  let v0 : BitVec 32 := Scalar.minsi arg2 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, arg0.toNat, c0_i32_4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c127_i32 : BitVec 32 := 127#32
  let v0 : BitVec 32 := Scalar.minsi arg2 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32 : BitVec 32 := 128#32
  let v18 : BitVec 32 := Scalar.addi c128_i32 arg0
  let c0_i32_4 : BitVec 32 := 0#32
  let c0_i32_5 : BitVec 32 := 0#32
  ![v17.toNat, v18.toNat, c0_i32_4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c128_i32 : BitVec 32 := 128#32
  let v19 : BitVec 32 := Scalar.addi c128_i32 arg0
  let c0_i32_6 : BitVec 32 := 0#32
  let c0_i32_7 : BitVec 32 := 0#32
  ![v18.toNat, c0_i32_6.toNat, v19.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32_6 : BitVec 32 := 32#32
  let v19 : BitVec 32 := Scalar.muli arg0 c32_i32_6
  let c1_i32_7 : BitVec 32 := 1#32
  let v20 : BitVec 32 := Scalar.subi arg2 c1_i32_7
  let c0_i32_8 : BitVec 32 := 0#32
  let v21 : BitVec 32 := Scalar.maxsi v20 c0_i32_8
  let c32_i32_9 : BitVec 32 := 32#32
  let c0_i32_10 : BitVec 32 := 0#32
  let v22 : BitVec 1 := Scalar.cmpi .eq c32_i32_9 c0_i32_10
  let c1_i32_11 : BitVec 32 := 1#32
  let v23 : BitVec 32 := Scalar.select v22 c1_i32_11 c32_i32_9
  let v24 : BitVec 32 := Scalar.remsi v21 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v19 v31
  let c0_i32_15 : BitVec 32 := 0#32
  ![v18.toNat, v32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]
-- ==== KernelIdeal.lean ====
variable {F : FTy → Type} [FloatOps F] [Named F]
def κ : String → Option EReal := fun
  | "qscale" => some (((Real.sqrt 192)⁻¹ * (Real.log 2)⁻¹ : ℝ) : EReal)
  | _ => none
-- ==== ReferenceIdeal.lean ====
abbrev S33792x4x128 : Shape := ⟨3, ![33792, 4, 128]⟩
abbrev S33792x4x64 : Shape := ⟨3, ![33792, 4, 64]⟩
abbrev S33792x64 : Shape := ⟨2, ![33792, 64]⟩
abbrev S32768x4x128 : Shape := ⟨3, ![32768, 4, 128]⟩
abbrev S4x8192x4x128 : Shape := ⟨4, ![4, 8192, 4, 128]⟩
abbrev S32768x64 : Shape := ⟨2, ![32768, 64]⟩
abbrev S4x8192x64 : Shape := ⟨3, ![4, 8192, 64]⟩
abbrev S4x4x8192x8192 : Shape := ⟨4, ![4, 4, 8192, 8192]⟩
abbrev S32768x4x64 : Shape := ⟨3, ![32768, 4, 64]⟩
abbrev S4x8192x4x64 : Shape := ⟨4, ![4, 8192, 4, 64]⟩
abbrev S4x8192x8192x4 : Shape := ⟨4, ![4, 8192, 8192, 4]⟩
abbrev S1024x4x128 : Shape := ⟨3, ![1024, 4, 128]⟩
abbrev S4x256x4x128 : Shape := ⟨4, ![4, 256, 4, 128]⟩
abbrev S1024x64 : Shape := ⟨2, ![1024, 64]⟩
abbrev S4x256x64 : Shape := ⟨3, ![4, 256, 64]⟩
abbrev S4x4x8192x256 : Shape := ⟨4, ![4, 4, 8192, 256]⟩
abbrev S4x256x8192x4 : Shape := ⟨4, ![4, 256, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S32768x512 : Shape := ⟨2, ![32768, 512]⟩
abbrev S512x32768 : Shape := ⟨2, ![512, 32768]⟩

abbrev nBuf : Space → Nat
  | .hbm => 62
  | .vmem => 0
  | .smem => 0
  | _ => 0

abbrev bufTy : (tb : Table) → Fin (tcTables nBuf tb) → BufTy
  | .hbm, ⟨0, _⟩ => ⟨S33792x4x128, .f32⟩
  | .hbm, ⟨1, _⟩ => ⟨S33792x4x64, .f32⟩
  | .hbm, ⟨2, _⟩ => ⟨S33792x4x128, .f32⟩
  | .hbm, ⟨3, _⟩ => ⟨S33792x64, .f32⟩
  | .hbm, ⟨4, _⟩ => ⟨S33792x4x128, .f32⟩
  | .hbm, ⟨5, _⟩ => ⟨S32768x4x128, .f32⟩
  | .hbm, ⟨6, _⟩ => ⟨S4x8192x4x128, .f32⟩
  | .hbm, ⟨7, _⟩ => ⟨S32768x64, .f32⟩
  | .hbm, ⟨8, _⟩ => ⟨S4x8192x64, .f32⟩
  | .hbm, ⟨9, _⟩ => ⟨S32768x4x128, .f32⟩
  | .hbm, ⟨10, _⟩ => ⟨S4x8192x4x128, .f32⟩
  | .hbm, ⟨11, _⟩ => ⟨S4x4x8192x8192, .f32⟩
  | .hbm, ⟨12, _⟩ => ⟨S32768x4x64, .f32⟩
  | .hbm, ⟨13, _⟩ => ⟨S4x8192x4x64, .f32⟩
  | .hbm, ⟨14, _⟩ => ⟨S4x8192x8192x4, .f32⟩
  | .hbm, ⟨15, _⟩ => ⟨S4x4x8192x8192, .f32⟩
  | .hbm, ⟨16, _⟩ => ⟨S4x4x8192x8192, .f32⟩
  | .hbm, ⟨17, _⟩ => ⟨S1024x4x128, .f32⟩
  | .hbm, ⟨18, _⟩ => ⟨S4x256x4x128, .f32⟩
  | .hbm, ⟨19, _⟩ => ⟨S1024x64, .f32⟩
  | .hbm, ⟨20, _⟩ => ⟨S4x256x64, .f32⟩
  | .hbm, ⟨21, _⟩ => ⟨S32768x4x128, .f32⟩
  | .hbm, ⟨22, _⟩ => ⟨S4x8192x4x128, .f32⟩
  | .hbm, ⟨23, _⟩ => ⟨S4x4x8192x256, .f32⟩
  | .hbm, ⟨24, _⟩ => ⟨S32768x4x64, .f32⟩
  | .hbm, ⟨25, _⟩ => ⟨S4x8192x4x64, .f32⟩
  | .hbm, ⟨26, _⟩ => ⟨S4x256x8192x4, .f32⟩
  | .hbm, ⟨27, _⟩ => ⟨S4x4x8192x256, .f32⟩
  | .hbm, ⟨28, _⟩ => ⟨S4x4x8192x256, .f32⟩
  | .hbm, ⟨29, _⟩ => ⟨S4x4x8192x8448, .f32⟩
  | .hbm, ⟨30, _⟩ => ⟨S_, .f32⟩
  | .hbm, ⟨31, _⟩ => ⟨S_, .f32⟩
  | .hbm, ⟨32, _⟩ => ⟨S4x4x8192x8448, .f32⟩
  | .hbm, ⟨33, _⟩ => ⟨S4x4x8192x8448, .f32⟩
  | .hbm, ⟨34, _⟩ => ⟨S_, .f32⟩
  | .hbm, ⟨35, _⟩ => ⟨S4x4x8192, .f32⟩
  | .hbm, ⟨36, _⟩ => ⟨S_, .f32⟩
  | .hbm, ⟨37, _⟩ => ⟨S4x4x8192, .f32⟩
  | .hbm, ⟨38, _⟩ => ⟨S4x4x8192, .f32⟩
  | .hbm, ⟨39, _⟩ => ⟨S4x4x8192x1, .f32⟩
  | .hbm, ⟨40, _⟩ => ⟨S4x4x8192x8448, .f32⟩
  | .hbm, ⟨41, _⟩ => ⟨S4x4x8192x8448, .f32⟩
  | .hbm, ⟨42, _⟩ => ⟨S4x4x8192x8448, .f32⟩
  | .hbm, ⟨43, _⟩ => ⟨S_, .f32⟩
  | .hbm, ⟨44, _⟩ => ⟨S4x4x8192, .f32⟩
  | .hbm, ⟨45, _⟩ => ⟨S4x4x8192x1, .f32⟩
  | .hbm, ⟨46, _⟩ => ⟨S4x4x8192x8448, .f32⟩
  | .hbm, ⟨47, _⟩ => ⟨S4x4x8192x8448, .f32⟩
  | .hbm, ⟨48, _⟩ => ⟨S4x4x8192x8192, .f32⟩
  | .hbm, ⟨49, _⟩ => ⟨S32768x4x128, .f32⟩
  | .hbm, ⟨50, _⟩ => ⟨S4x8192x4x128, .f32⟩
  | .hbm, ⟨51, _⟩ => ⟨S4x4x128x8192, .f32⟩
  | .hbm, ⟨52, _⟩ => ⟨S4x8192x4x128, .f32⟩
  | .hbm, ⟨53, _⟩ => ⟨S4x4x8192x256, .f32⟩
  | .hbm, ⟨54, _⟩ => ⟨S1024x4x128, .f32⟩
  | .hbm, ⟨55, _⟩ => ⟨S4x256x4x128, .f32⟩
  | .hbm, ⟨56, _⟩ => ⟨S4x4x128x8192, .f32⟩
  | .hbm, ⟨57, _⟩ => ⟨S4x8192x4x128, .f32⟩
  | .hbm, ⟨58, _⟩ => ⟨S4x8192x4x128, .f32⟩
  | .hbm, ⟨59, _⟩ => ⟨S32768x512, .f32⟩
  | .hbm, ⟨60, _⟩ => ⟨S512x32768, .f32⟩
  | .hbm, ⟨61, _⟩ => ⟨S512x32768, .bf16⟩
  | _, _ => ⟨S33792x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== Ffn1.lean ====
abbrev S32768x1024 : Shape := ⟨2, ![32768, 1024]⟩
abbrev S1024x1024 : Shape := ⟨2, ![1024, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S33792x1024 : Shape := ⟨2, ![33792, 1024]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S8x9x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ffn1RefIdeal.lean ====
abbrev S32768x1024 : Shape := ⟨2, ![32768, 1024]⟩
abbrev S1024x1024 : Shape := ⟨2, ![1024, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S4x8192x1024 : Shape := ⟨3, ![4, 8192, 1024]⟩
abbrev S4x9x1024 : Shape := ⟨3, ![4, 9, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x256x1024 : Shape := ⟨3, ![4, 256, 1024]⟩
abbrev S1x9x1024 : Shape := ⟨3, ![1, 9, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S33792x1024 : Shape := ⟨2, ![33792, 1024]⟩

abbrev nBuf : Space → Nat
  | .hbm => 105
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S8x9x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4x8192x1024, .f32⟩
  | .hbm, ⟨7, _⟩ => ⟨S4x9x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x5632, .f32⟩
  | .hbm, ⟨35, _⟩ => ⟨S4x8192x2816, .f32⟩
  | .hbm, ⟨36, _⟩ => ⟨S4x8192x2816, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x8192x2816, .f32⟩
  | .hbm, ⟨41, _⟩ => ⟨S4x8192x2816, .f32⟩
  | .hbm, ⟨42, _⟩ => ⟨S_, .f32⟩
  | .hbm, ⟨43, _⟩ => ⟨S4x8192x2816, .f32⟩
  | .hbm, ⟨44, _⟩ => ⟨S4x8192x2816, .f32⟩
  | .hbm, ⟨45, _⟩ => ⟨S_, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x256x1024, .f32⟩
  | .hbm, ⟨55, _⟩ => ⟨S1x9x1024, .f32⟩
  | .hbm, ⟨56, _⟩ => ⟨S1x1x1024, .f32⟩
  | .hbm, ⟨57, _⟩ => ⟨S1x1x1024, .f32⟩
  | .hbm, ⟨58, _⟩ => ⟨S1x1x1024, .f32⟩
  | .hbm, ⟨59, _⟩ => ⟨S4x256x1024, .f32⟩
  | .hbm, ⟨60, _⟩ => ⟨S_, .f32⟩
  | .hbm, ⟨61, _⟩ => ⟨S4x256, .f32⟩
  | .hbm, ⟨62, _⟩ => ⟨S4x256x1, .f32⟩
  | .hbm, ⟨63, _⟩ => ⟨S_, .f32⟩
  | .hbm, ⟨64, _⟩ => ⟨S4x256x1, .f32⟩
  | .hbm, ⟨65, _⟩ => ⟨S4x256x1, .f32⟩
  | .hbm, ⟨66, _⟩ => ⟨S_, .f32⟩
  | .hbm, ⟨67, _⟩ => ⟨S4x256x1, .f32⟩
  | .hbm, ⟨68, _⟩ => ⟨S4x256x1, .f32⟩
  | .hbm, ⟨69, _⟩ => ⟨S4x256x1, .f32⟩
  | .hbm, ⟨70, _⟩ => ⟨S4x256x1024, .f32⟩
  | .hbm, ⟨71, _⟩ => ⟨S4x256x1024, .f32⟩
  | .hbm, ⟨72, _⟩ => ⟨S1x1x1024, .f32⟩
  | .hbm, ⟨73, _⟩ => ⟨S4x256x1024, .f32⟩
  | .hbm, ⟨74, _⟩ => ⟨S4x256x1024, .f32⟩
  | .hbm, ⟨75, _⟩ => ⟨S_, .f32⟩
  | .hbm, ⟨76, _⟩ => ⟨S1x1x1024, .f32⟩
  | .hbm, ⟨77, _⟩ => ⟨S1x1x1024, .f32⟩
  | .hbm, ⟨78, _⟩ => ⟨S4x256x1024, .f32⟩
  | .hbm, ⟨79, _⟩ => ⟨S4x256x1024, .f32⟩
  | .hbm, ⟨80, _⟩ => ⟨S4x256x1024, .f32⟩
  | .hbm, ⟨81, _⟩ => ⟨S4x256x1024, .f32⟩
  | .hbm, ⟨82, _⟩ => ⟨S4x256x5632, .f32⟩
  | .hbm, ⟨83, _⟩ => ⟨S4x256x2816, .f32⟩
  | .hbm, ⟨84, _⟩ => ⟨S4x256x2816, .f32⟩
  | .hbm, ⟨85, _⟩ => ⟨S_, .f32⟩
  | .hbm, ⟨86, _⟩ => ⟨S1x1x1024, .f32⟩
  | .hbm, ⟨87, _⟩ => ⟨S1x1x1024, .f32⟩
  | .hbm, ⟨88, _⟩ => ⟨S4x256x2816, .f32⟩
  | .hbm, ⟨89, _⟩ => ⟨S4x256x2816, .f32⟩
  | .hbm, ⟨90, _⟩ => ⟨S_, .f32⟩
  | .hbm, ⟨91, _⟩ => ⟨S4x256x2816, .f32⟩
  | .hbm, ⟨92, _⟩ => ⟨S4x256x2816, .f32⟩
  | .hbm, ⟨93, _⟩ => ⟨S_, .f32⟩
  | .hbm, ⟨94, _⟩ => ⟨S4x256x2816, .f32⟩
  | .hbm, ⟨95, _⟩ => ⟨S4x256x2816, .f32⟩
  | .hbm, ⟨96, _⟩ => ⟨S4x256x2816, .f32⟩
  | .hbm, ⟨97, _⟩ => ⟨S4x256x2816, .f32⟩
  | .hbm, ⟨98, _⟩ => ⟨S4x256x1024, .f32⟩
  | .hbm, ⟨99, _⟩ => ⟨S4x256x1024, .f32⟩
  | .hbm, ⟨100, _⟩ => ⟨S4x256x1024, .f32⟩
  | .hbm, ⟨101, _⟩ => ⟨S4x256x1024, .f32⟩
  | .hbm, ⟨102, _⟩ => ⟨S32768x1024, .f32⟩
  | .hbm, ⟨103, _⟩ => ⟨S1024x1024, .f32⟩
  | .hbm, ⟨104, _⟩ => ⟨S33792x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== Ffn2.lean ====
abbrev S33792x1024 : Shape := ⟨2, ![33792, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c65_i32 : BitVec 32 := 65#32
  let v0 : BitVec 32 := Scalar.minsi arg0 c65_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn2RefIdeal.lean ====
abbrev S33792x1024 : Shape := ⟨2, ![33792, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1024x1024 : Shape := ⟨2, ![1024, 1024]⟩
abbrev S4x8192x1024 : Shape := ⟨3, ![4, 8192, 1024]⟩
abbrev S4x9x1024 : Shape := ⟨3, ![4, 9, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x256x1024 : Shape := ⟨3, ![4, 256, 1024]⟩
abbrev S1x9x1024 : Shape := ⟨3, ![1, 9, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩

abbrev nBuf : Space → Nat
  | .hbm => 106
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S32768x1024, .f32⟩
  | .hbm, ⟨6, _⟩ => ⟨S1024x1024, .f32⟩
  | .hbm, ⟨7, _⟩ => ⟨S4x8192x1024, .f32⟩
  | .hbm, ⟨8, _⟩ => ⟨S4x9x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x5632, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x2816, .f32⟩
  | .hbm, ⟨42, _⟩ => ⟨S4x8192x2816, .f32⟩
  | .hbm, ⟨43, _⟩ => ⟨S_, .f32⟩
  | .hbm, ⟨44, _⟩ => ⟨S4x8192x2816, .f32⟩
  | .hbm, ⟨45, _⟩ => ⟨S4x8192x2816, .f32⟩
  | .hbm, ⟨46, _⟩ => ⟨S_, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x256x1024, .f32⟩
  | .hbm, ⟨56, _⟩ => ⟨S1x9x1024, .f32⟩
  | .hbm, ⟨57, _⟩ => ⟨S1x1x1024, .f32⟩
  | .hbm, ⟨58, _⟩ => ⟨S1x1x1024, .f32⟩
  | .hbm, ⟨59, _⟩ => ⟨S1x1x1024, .f32⟩
  | .hbm, ⟨60, _⟩ => ⟨S4x256x1024, .f32⟩
  | .hbm, ⟨61, _⟩ => ⟨S_, .f32⟩
  | .hbm, ⟨62, _⟩ => ⟨S4x256, .f32⟩
  | .hbm, ⟨63, _⟩ => ⟨S4x256x1, .f32⟩
  | .hbm, ⟨64, _⟩ => ⟨S_, .f32⟩
  | .hbm, ⟨65, _⟩ => ⟨S4x256x1, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S4x256x1, .f32⟩
  | .hbm, ⟨71, _⟩ => ⟨S4x256x1024, .f32⟩
  | .hbm, ⟨72, _⟩ => ⟨S4x256x1024, .f32⟩
  | .hbm, ⟨73, _⟩ => ⟨S1x1x1024, .f32⟩
  | .hbm, ⟨74, _⟩ => ⟨S4x256x1024, .f32⟩
  | .hbm, ⟨75, _⟩ => ⟨S4x256x1024, .f32⟩
  | .hbm, ⟨76, _⟩ => ⟨S_, .f32⟩
  | .hbm, ⟨77, _⟩ => ⟨S1x1x1024, .f32⟩
  | .hbm, ⟨78, _⟩ => ⟨S1x1x1024, .f32⟩
  | .hbm, ⟨79, _⟩ => ⟨S4x256x1024, .f32⟩
  | .hbm, ⟨80, _⟩ => ⟨S4x256x1024, .f32⟩
  | .hbm, ⟨81, _⟩ => ⟨S4x256x1024, .f32⟩
  | .hbm, ⟨82, _⟩ => ⟨S4x256x1024, .f32⟩
  | .hbm, ⟨83, _⟩ => ⟨S4x256x5632, .f32⟩
  | .hbm, ⟨84, _⟩ => ⟨S4x256x2816, .f32⟩
  | .hbm, ⟨85, _⟩ => ⟨S4x256x2816, .f32⟩
  | .hbm, ⟨86, _⟩ => ⟨S_, .f32⟩
  | .hbm, ⟨87, _⟩ => ⟨S1x1x1024, .f32⟩
  | .hbm, ⟨88, _⟩ => ⟨S1x1x1024, .f32⟩
  | .hbm, ⟨89, _⟩ => ⟨S4x256x2816, .f32⟩
  | .hbm, ⟨90, _⟩ => ⟨S4x256x2816, .f32⟩
  | .hbm, ⟨91, _⟩ => ⟨S_, .f32⟩
  | .hbm, ⟨92, _⟩ => ⟨S4x256x2816, .f32⟩
  | .hbm, ⟨93, _⟩ => ⟨S4x256x2816, .f32⟩
  | .hbm, ⟨94, _⟩ => ⟨S_, .f32⟩
  | .hbm, ⟨95, _⟩ => ⟨S4x256x2816, .f32⟩
  | .hbm, ⟨96, _⟩ => ⟨S4x256x2816, .f32⟩
  | .hbm, ⟨97, _⟩ => ⟨S4x256x2816, .f32⟩
  | .hbm, ⟨98, _⟩ => ⟨S4x256x2816, .f32⟩
  | .hbm, ⟨99, _⟩ => ⟨S4x256x1024, .f32⟩
  | .hbm, ⟨100, _⟩ => ⟨S4x256x1024, .f32⟩
  | .hbm, ⟨101, _⟩ => ⟨S4x256x1024, .f32⟩
  | .hbm, ⟨102, _⟩ => ⟨S4x256x1024, .f32⟩
  | .hbm, ⟨103, _⟩ => ⟨S32768x1024, .f32⟩
  | .hbm, ⟨104, _⟩ => ⟨S1024x1024, .f32⟩
  | .hbm, ⟨105, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Proj.lean ====
abbrev S33792x1024 : Shape := ⟨2, ![33792, 1024]⟩
abbrev S8x9x1024 : Shape := ⟨3, ![8, 9, 1024]⟩
abbrev S1024 : Shape := ⟨1, ![1024]⟩
abbrev S1024x7616 : Shape := ⟨2, ![1024, 7616]⟩
abbrev S1024x512 : Shape := ⟨2, ![1024, 512]⟩
abbrev S1024x1536 : Shape := ⟨2, ![1024, 1536]⟩
abbrev S1024x256 : Shape := ⟨2, ![1024, 256]⟩
abbrev S1024x128 : Shape := ⟨2, ![1024, 128]⟩
abbrev S1024x64 : Shape := ⟨2, ![1024, 64]⟩
abbrev S1024x1024 : Shape := ⟨2, ![1024, 1024]⟩
abbrev S1024x3072 : Shape := ⟨2, ![1024, 3072]⟩
abbrev S1024x16 : Shape := ⟨2, ![1024, 16]⟩
abbrev S1024x4608 : Shape := ⟨2, ![1024, 4608]⟩
abbrev S1x1024 : Shape := ⟨2, ![1, 1024]⟩
abbrev S33792x4608 : Shape := ⟨2, ![33792, 4608]⟩
abbrev S512x1024 : Shape := ⟨2, ![512, 1024]⟩
abbrev S1x9x1024 : Shape := ⟨3, ![1, 9, 1024]⟩
abbrev S1024x2304 : Shape := ⟨2, ![1024, 2304]⟩
abbrev S512x2304 : Shape := ⟨2, ![512, 2304]⟩
abbrev S9x1024 : Shape := ⟨2, ![9, 1024]⟩
abbrev S512 : Shape := ⟨1, ![512]⟩
abbrev S512x1 : Shape := ⟨2, ![512, 1]⟩

abbrev nBuf : Space → Nat
  | .hbm => 26
  | .vmem => 9
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x7616, .f32⟩
  | .hbm, ⟨4, _⟩ => ⟨S1024x7616, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x1536, .bf16⟩
  | .hbm, ⟨11, _⟩ => ⟨S1024x256, .bf16⟩
  | .hbm, ⟨12, _⟩ => ⟨S1024x128, .bf16⟩
  | .hbm, ⟨13, _⟩ => ⟨S1024x64, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x3072, .bf16⟩
  | .hbm, ⟨18, _⟩ => ⟨S1024x16, .bf16⟩
  | .hbm, ⟨19, _⟩ => ⟨S1024x16, .bf16⟩
  | .hbm, ⟨20, _⟩ => ⟨S1024x16, .bf16⟩
  | .hbm, ⟨21, _⟩ => ⟨S1024x16, .bf16⟩
  | .hbm, ⟨22, _⟩ => ⟨S1024x64, .bf16⟩
  | .hbm, ⟨23, _⟩ => ⟨S1024x4608, .bf16⟩
  | .hbm, ⟨24, _⟩ => ⟨S1x1024, .f32⟩
  | .hbm, ⟨25, _⟩ => ⟨S33792x4608, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2304, .bf16⟩
  | .local _ .vmem, ⟨6, _⟩ => ⟨S1024x2304, .bf16⟩
  | .local _ .vmem, ⟨7, _⟩ => ⟨S512x2304, .f32⟩
  | .local _ .vmem, ⟨8, _⟩ => ⟨S512x2304, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S33792x1024 : Shape := ⟨2, ![33792, 1024]⟩
abbrev S8x9x1024 : Shape := ⟨3, ![8, 9, 1024]⟩
abbrev S1024 : Shape := ⟨1, ![1024]⟩
abbrev S1024x7616 : Shape := ⟨2, ![1024, 7616]⟩
abbrev S32768x1024 : Shape := ⟨2, ![32768, 1024]⟩
abbrev S4x8192x1024 : Shape := ⟨3, ![4, 8192, 1024]⟩
abbrev S4x9x1024 : Shape := ⟨3, ![4, 9, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7616 : Shape := ⟨3, ![4, 8192, 7616]⟩
abbrev S1024x1024 : Shape := ⟨2, ![1024, 1024]⟩
abbrev S4x256x1024 : Shape := ⟨3, ![4, 256, 1024]⟩
abbrev S1x9x1024 : Shape := ⟨3, ![1, 9, 1024]⟩
abbrev S4x256 : Shape := ⟨2, ![4, 256]⟩
abbrev S4x256x1 : Shape := ⟨3, ![4, 256, 1]⟩
abbrev S4x256x7616 : Shape := ⟨3, ![4, 256, 7616]⟩
abbrev S32768x7616 : Shape := ⟨2, ![32768, 7616]⟩
abbrev S33792x7616 : Shape := ⟨2, ![33792, 7616]⟩
abbrev S33792x4544 : Shape := ⟨2, ![33792, 4544]⟩
abbrev S33792x64 : Shape := ⟨2, ![33792, 64]⟩
abbrev S33792x16 : Shape := ⟨2, ![33792, 16]⟩
abbrev S33792x32 : Shape := ⟨2, ![33792, 32]⟩
abbrev S33792x4608 : Shape := ⟨2, ![33792, 4608]⟩

abbrev nBuf : Space → Nat
  | .hbm => 75
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x7616, .f32⟩
  | .hbm, ⟨4, _⟩ => ⟨S32768x1024, .f32⟩
  | .hbm, ⟨5, _⟩ => ⟨S4x8192x1024, .f32⟩
  | .hbm, ⟨6, _⟩ => ⟨S4x9x1024, .f32⟩
  | .hbm, ⟨7, _⟩ => ⟨S4x1x1024, .f32⟩
  | .hbm, ⟨8, _⟩ => ⟨S4x1x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x7616, .f32⟩
  | .hbm, ⟨33, _⟩ => ⟨S1024x1024, .f32⟩
  | .hbm, ⟨34, _⟩ => ⟨S4x256x1024, .f32⟩
  | .hbm, ⟨35, _⟩ => ⟨S1x9x1024, .f32⟩
  | .hbm, ⟨36, _⟩ => ⟨S1x1x1024, .f32⟩
  | .hbm, ⟨37, _⟩ => ⟨S1x1x1024, .f32⟩
  | .hbm, ⟨38, _⟩ => ⟨S4x256x1024, .f32⟩
  | .hbm, ⟨39, _⟩ => ⟨S_, .f32⟩
  | .hbm, ⟨40, _⟩ => ⟨S4x256, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S4x256x1, .f32⟩
  | .hbm, ⟨49, _⟩ => ⟨S4x256x1024, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S4x256x1024, .f32⟩
  | .hbm, ⟨58, _⟩ => ⟨S4x256x1024, .f32⟩
  | .hbm, ⟨59, _⟩ => ⟨S4x256x1024, .f32⟩
  | .hbm, ⟨60, _⟩ => ⟨S4x256x1024, .f32⟩
  | .hbm, ⟨61, _⟩ => ⟨S4x256x7616, .f32⟩
  | .hbm, ⟨62, _⟩ => ⟨S32768x7616, .f32⟩
  | .hbm, ⟨63, _⟩ => ⟨S1024x7616, .f32⟩
  | .hbm, ⟨64, _⟩ => ⟨S33792x7616, .f32⟩
  | .hbm, ⟨65, _⟩ => ⟨S33792x4544, .f32⟩
  | .hbm, ⟨66, _⟩ => ⟨S33792x64, .f32⟩
  | .hbm, ⟨67, _⟩ => ⟨S33792x16, .f32⟩
  | .hbm, ⟨68, _⟩ => ⟨S33792x16, .f32⟩
  | .hbm, ⟨69, _⟩ => ⟨S33792x16, .f32⟩
  | .hbm, ⟨70, _⟩ => ⟨S33792x16, .f32⟩
  | .hbm, ⟨71, _⟩ => ⟨S33792x32, .f32⟩
  | .hbm, ⟨72, _⟩ => ⟨S33792x32, .f32⟩
  | .hbm, ⟨73, _⟩ => ⟨S33792x64, .f32⟩
  | .hbm, ⟨74, _⟩ => ⟨S33792x4608, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Gates.lean ====
abbrev S33792x1024 : Shape := ⟨2, ![33792, 1024]⟩
abbrev S8x9x1024 : Shape := ⟨3, ![8, 9, 1024]⟩
abbrev S1024 : Shape := ⟨1, ![1024]⟩
abbrev S1024x7616 : Shape := ⟨2, ![1024, 7616]⟩
abbrev S1024x512 : Shape := ⟨2, ![1024, 512]⟩
abbrev S1024x1536 : Shape := ⟨2, ![1024, 1536]⟩
abbrev S1024x256 : Shape := ⟨2, ![1024, 256]⟩
abbrev S1024x128 : Shape := ⟨2, ![1024, 128]⟩
abbrev S1024x64 : Shape := ⟨2, ![1024, 64]⟩
abbrev S1024x1024 : Shape := ⟨2, ![1024, 1024]⟩
abbrev S1024x3072 : Shape := ⟨2, ![1024, 3072]⟩
abbrev S1024x16 : Shape := ⟨2, ![1024, 16]⟩
abbrev S1024x4608 : Shape := ⟨2, ![1024, 4608]⟩
abbrev S1x1024 : Shape := ⟨2, ![1, 1024]⟩
abbrev S33792x3072 : Shape := ⟨2, ![33792, 3072]⟩
abbrev S512x1024 : Shape := ⟨2, ![512, 1024]⟩
abbrev S1x9x1024 : Shape := ⟨3, ![1, 9, 1024]⟩
abbrev S512x3072 : Shape := ⟨2, ![512, 3072]⟩
abbrev S9x1024 : Shape := ⟨2, ![9, 1024]⟩
abbrev S512 : Shape := ⟨1, ![512]⟩
abbrev S512x1 : Shape := ⟨2, ![512, 1]⟩

abbrev nBuf : Space → Nat
  | .hbm => 26
  | .vmem => 8
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x7616, .f32⟩
  | .hbm, ⟨4, _⟩ => ⟨S1024x7616, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x1536, .bf16⟩
  | .hbm, ⟨11, _⟩ => ⟨S1024x256, .bf16⟩
  | .hbm, ⟨12, _⟩ => ⟨S1024x128, .bf16⟩
  | .hbm, ⟨13, _⟩ => ⟨S1024x64, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x3072, .bf16⟩
  | .hbm, ⟨18, _⟩ => ⟨S1024x16, .bf16⟩
  | .hbm, ⟨19, _⟩ => ⟨S1024x16, .bf16⟩
  | .hbm, ⟨20, _⟩ => ⟨S1024x16, .bf16⟩
  | .hbm, ⟨21, _⟩ => ⟨S1024x16, .bf16⟩
  | .hbm, ⟨22, _⟩ => ⟨S1024x64, .bf16⟩
  | .hbm, ⟨23, _⟩ => ⟨S1024x4608, .bf16⟩
  | .hbm, ⟨24, _⟩ => ⟨S1x1024, .f32⟩
  | .hbm, ⟨25, _⟩ => ⟨S33792x3072, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GatesRefIdeal.lean ====
abbrev S33792x1024 : Shape := ⟨2, ![33792, 1024]⟩
abbrev S8x9x1024 : Shape := ⟨3, ![8, 9, 1024]⟩
abbrev S1024 : Shape := ⟨1, ![1024]⟩
abbrev S1024x7616 : Shape := ⟨2, ![1024, 7616]⟩
abbrev S32768x1024 : Shape := ⟨2, ![32768, 1024]⟩
abbrev S4x8192x1024 : Shape := ⟨3, ![4, 8192, 1024]⟩
abbrev S4x9x1024 : Shape := ⟨3, ![4, 9, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7616 : Shape := ⟨3, ![4, 8192, 7616]⟩
abbrev S1024x1024 : Shape := ⟨2, ![1024, 1024]⟩
abbrev S4x256x1024 : Shape := ⟨3, ![4, 256, 1024]⟩
abbrev S1x9x1024 : Shape := ⟨3, ![1, 9, 1024]⟩
abbrev S4x256 : Shape := ⟨2, ![4, 256]⟩
abbrev S4x256x1 : Shape := ⟨3, ![4, 256, 1]⟩
abbrev S4x256x7616 : Shape := ⟨3, ![4, 256, 7616]⟩
abbrev S32768x7616 : Shape := ⟨2, ![32768, 7616]⟩
abbrev S33792x7616 : Shape := ⟨2, ![33792, 7616]⟩
abbrev S33792x3072 : Shape := ⟨2, ![33792, 3072]⟩

abbrev nBuf : Space → Nat
  | .hbm => 67
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x7616, .f32⟩
  | .hbm, ⟨4, _⟩ => ⟨S32768x1024, .f32⟩
  | .hbm, ⟨5, _⟩ => ⟨S4x8192x1024, .f32⟩
  | .hbm, ⟨6, _⟩ => ⟨S4x9x1024, .f32⟩
  | .hbm, ⟨7, _⟩ => ⟨S4x1x1024, .f32⟩
  | .hbm, ⟨8, _⟩ => ⟨S4x1x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x7616, .f32⟩
  | .hbm, ⟨33, _⟩ => ⟨S1024x1024, .f32⟩
  | .hbm, ⟨34, _⟩ => ⟨S4x256x1024, .f32⟩
  | .hbm, ⟨35, _⟩ => ⟨S1x9x1024, .f32⟩
  | .hbm, ⟨36, _⟩ => ⟨S1x1x1024, .f32⟩
  | .hbm, ⟨37, _⟩ => ⟨S1x1x1024, .f32⟩
  | .hbm, ⟨38, _⟩ => ⟨S4x256x1024, .f32⟩
  | .hbm, ⟨39, _⟩ => ⟨S_, .f32⟩
  | .hbm, ⟨40, _⟩ => ⟨S4x256, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S4x256x1, .f32⟩
  | .hbm, ⟨49, _⟩ => ⟨S4x256x1024, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S_, .f32⟩
  | .hbm, ⟨55, _⟩ => ⟨S1x1x1024, .f32⟩
  | .hbm, ⟨56, _⟩ => ⟨S1x1x1024, .f32⟩
  | .hbm, ⟨57, _⟩ => ⟨S4x256x1024, .f32⟩
  | .hbm, ⟨58, _⟩ => ⟨S4x256x1024, .f32⟩
  | .hbm, ⟨59, _⟩ => ⟨S4x256x1024, .f32⟩
  | .hbm, ⟨60, _⟩ => ⟨S4x256x1024, .f32⟩
  | .hbm, ⟨61, _⟩ => ⟨S4x256x7616, .f32⟩
  | .hbm, ⟨62, _⟩ => ⟨S32768x7616, .f32⟩
  | .hbm, ⟨63, _⟩ => ⟨S1024x7616, .f32⟩
  | .hbm, ⟨64, _⟩ => ⟨S33792x7616, .f32⟩
  | .hbm, ⟨65, _⟩ => ⟨S33792x3072, .f32⟩
  | .hbm, ⟨66, _⟩ => ⟨S33792x3072, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Merge.lean ====
abbrev S33792x1024 : Shape := ⟨2, ![33792, 1024]⟩
abbrev S8x9x1024 : Shape := ⟨3, ![8, 9, 1024]⟩
abbrev S32768x512 : Shape := ⟨2, ![32768, 512]⟩
abbrev S33792x4608 : Shape := ⟨2, ![33792, 4608]⟩
abbrev S33792x3072 : Shape := ⟨2, ![33792, 3072]⟩
abbrev S4x4x8192x128 : Shape := ⟨4, ![4, 4, 8192, 128]⟩
abbrev S512x32768 : Shape := ⟨2, ![512, 32768]⟩
abbrev S1024x512 : Shape := ⟨2, ![1024, 512]⟩
abbrev S512x1024 : Shape := ⟨2, ![512, 1024]⟩
abbrev S128 : Shape := ⟨1, ![128]⟩
abbrev S1024x1024 : Shape := ⟨2, ![1024, 1024]⟩
abbrev S4x4x128x64x128 : Shape := ⟨5, ![4, 4, 128, 64, 128]⟩
abbrev S1x128 : Shape := ⟨2, ![1, 128]⟩
abbrev S1x9x1024 : Shape := ⟨3, ![1, 9, 1024]⟩
abbrev S512x512 : Shape := ⟨2, ![512, 512]⟩
abbrev S1x4x128x8x128 : Shape := ⟨5, ![1, 4, 128, 8, 128]⟩
abbrev S9x1024 : Shape := ⟨2, ![9, 1024]⟩
abbrev S512x128 : Shape := ⟨2, ![512, 128]⟩
abbrev S512 : Shape := ⟨1, ![512]⟩
abbrev S512x1 : Shape := ⟨2, ![512, 1]⟩
abbrev S1x1x128x1x128 : Shape := ⟨5, ![1, 1, 128, 1, 128]⟩
abbrev S128x128 : Shape := ⟨2, ![128, 128]⟩
abbrev S128x512 : Shape := ⟨2, ![128, 512]⟩
abbrev S1x1024 : Shape := ⟨2, ![1, 1024]⟩

abbrev nBuf : Space → Nat
  | .hbm => 24
  | .vmem => 35
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S32768x512, .bf16⟩
  | .hbm, ⟨3, _⟩ => ⟨S32768x512, .bf16⟩
  | .hbm, ⟨4, _⟩ => ⟨S33792x4608, .f32⟩
  | .hbm, ⟨5, _⟩ => ⟨S33792x3072, .bf16⟩
  | .hbm, ⟨6, _⟩ => ⟨S4x4x8192x128, .f32⟩
  | .hbm, ⟨7, _⟩ => ⟨S512x32768, .bf16⟩
  | .hbm, ⟨8, _⟩ => ⟨S1024x512, .bf16⟩
  | .hbm, ⟨9, _⟩ => ⟨S1024x512, .bf16⟩
  | .hbm, ⟨10, _⟩ => ⟨S1024x512, .f32⟩
  | .hbm, ⟨11, _⟩ => ⟨S512x1024, .bf16⟩
  | .hbm, ⟨12, _⟩ => ⟨S128, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S4x4x128x64x128, .f32⟩
  | .hbm, ⟨18, _⟩ => ⟨S1x128, .f32⟩
  | .hbm, ⟨19, _⟩ => ⟨S512x1024, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1x4x128x8x128, .f32⟩
  | .local _ .vmem, ⟨11, _⟩ => ⟨S1x4x128x8x128, .f32⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x128, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .f32⟩
  | .local _ .vmem, ⟨30, _⟩ => ⟨S512x512, .f32⟩
  | .local _ .vmem, ⟨31, _⟩ => ⟨S512x512, .bf16⟩
  | .local _ .vmem, ⟨32, _⟩ => ⟨S512x512, .bf16⟩
  | .local _ .vmem, ⟨33, _⟩ => ⟨S512x1024, .f32⟩
  | .local _ .vmem, ⟨34, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![66], ![false]⟩

def k0_off1 (i : grid0.Coords) (c0_i32_31 : BitVec 32) : Fin 5 → Nat :=
  let c0_32 : Index := 0#32
  let c0_33 : Index := 0#32
  let c0_34 : Index := 0#32
  let arg0 : BitVec 32 := BitVec.ofNat 32 (i 0).val
  let c2_i32 : BitVec 32 := 2#32
  let c0_i32 : BitVec 32 := 0#32
  let v80 : BitVec 1 := Scalar.cmpi .eq c2_i32 c0_i32
  let c1_i32 : BitVec 32 := 1#32
  let v81 : BitVec 32 := Scalar.select v80 c1_i32 c2_i32
  let v82 : BitVec 32 := Scalar.remsi arg0 v81
  let c0_i32_29 : BitVec 32 := 0#32
  let v84 : BitVec 1 := Scalar.cmpi .slt v82 c0_i32_29
  let c0_i32_30 : BitVec 32 := 0#32
  let v85 : BitVec 1 := Scalar.cmpi .slt v81 c0_i32_30
  let v86 : BitVec 1 := Scalar.xori v84 v85
  let c0_i32_28 : BitVec 32 := 0#32
  let v83 : BitVec 1 := Scalar.cmpi .ne v82 c0_i32_28
  let v87 : BitVec 1 := Scalar.andi v86 v83
  let v88 : BitVec 32 := Scalar.addi v82 v81
  let v89 : BitVec 32 := Scalar.select v87 v88 v82
  let c4_i32 : BitVec 32 := 4#32
  let v90 : BitVec 32 := Scalar.muli v89 c4_i32
  let v91 : BitVec 32 := Scalar.addi v90 c0_i32_31
  let v92 : Index := Scalar.indexCast v91
  let c0_35 : Index := 0#32
  ![0, 0, 0, v92.toNat, 0]
def k0_off2 (i : grid0.Coords) (c0_i32_36 : BitVec 32) : Fin 5 → Nat :=
  let c0_37 : Index := 0#32
  let c1 : Index := 1#32
  let c0_38 : Index := 0#32
  let arg0 : BitVec 32 := BitVec.ofNat 32 (i 0).val
  let c2_i32 : BitVec 32 := 2#32
  let c0_i32 : BitVec 32 := 0#32
  let v80 : BitVec 1 := Scalar.cmpi .eq c2_i32 c0_i32
  let c1_i32 : BitVec 32 := 1#32
  let v81 : BitVec 32 := Scalar.select v80 c1_i32 c2_i32
  let v82 : BitVec 32 := Scalar.remsi arg0 v81
  let c0_i32_29 : BitVec 32 := 0#32
  let v84 : BitVec 1 := Scalar.cmpi .slt v82 c0_i32_29
  let c0_i32_30 : BitVec 32 := 0#32
  let v85 : BitVec 1 := Scalar.cmpi .slt v81 c0_i32_30
  let v86 : BitVec 1 := Scalar.xori v84 v85
  let c0_i32_28 : BitVec 32 := 0#32
  let v83 : BitVec 1 := Scalar.cmpi .ne v82 c0_i32_28
  let v87 : BitVec 1 := Scalar.andi v86 v83
  let v88 : BitVec 32 := Scalar.addi v82 v81
  let v89 : BitVec 32 := Scalar.select v87 v88 v82
  let c4_i32 : BitVec 32 := 4#32
  let v90 : BitVec 32 := Scalar.muli v89 c4_i32
  let v95 : BitVec 32 := Scalar.addi v90 c0_i32_36
  let v96 : Index := Scalar.indexCast v95
  let c0_39 : Index := 0#32
  ![0, 1, 0, v96.toNat, 0]
def k0_off3 (i : grid0.Coords) (c0_i32_40 : BitVec 32) : Fin 5 → Nat :=
  let c0_41 : Index := 0#32
  let c2 : Index := 2#32
  let c0_42 : Index := 0#32
  let arg0 : BitVec 32 := BitVec.ofNat 32 (i 0).val
  let c2_i32 : BitVec 32 := 2#32
  let c0_i32 : BitVec 32 := 0#32
  let v80 : BitVec 1 := Scalar.cmpi .eq c2_i32 c0_i32
  let c1_i32 : BitVec 32 := 1#32
  let v81 : BitVec 32 := Scalar.select v80 c1_i32 c2_i32
  let v82 : BitVec 32 := Scalar.remsi arg0 v81
  let c0_i32_29 : BitVec 32 := 0#32
  let v84 : BitVec 1 := Scalar.cmpi .slt v82 c0_i32_29
  let c0_i32_30 : BitVec 32 := 0#32
  let v85 : BitVec 1 := Scalar.cmpi .slt v81 c0_i32_30
  let v86 : BitVec 1 := Scalar.xori v84 v85
  let c0_i32_28 : BitVec 32 := 0#32
  let v83 : BitVec 1 := Scalar.cmpi .ne v82 c0_i32_28
  let v87 : BitVec 1 := Scalar.andi v86 v83
  let v88 : BitVec 32 := Scalar.addi v82 v81
  let v89 : BitVec 32 := Scalar.select v87 v88 v82
  let c4_i32 : BitVec 32 := 4#32
  let v90 : BitVec 32 := Scalar.muli v89 c4_i32
  let v99 : BitVec 32 := Scalar.addi v90 c0_i32_40
  let v100 : Index := Scalar.indexCast v99
  let c0_43 : Index := 0#32
  ![0, 2, 0, v100.toNat, 0]
def k0_off4 (i : grid0.Coords) (c0_i32_44 : BitVec 32) : Fin 5 → Nat :=
  let c0_45 : Index := 0#32
  let c3 : Index := 3#32
  let c0_46 : Index := 0#32
  let arg0 : BitVec 32 := BitVec.ofNat 32 (i 0).val
  let c2_i32 : BitVec 32 := 2#32
  let c0_i32 : BitVec 32 := 0#32
  let v80 : BitVec 1 := Scalar.cmpi .eq c2_i32 c0_i32
  let c1_i32 : BitVec 32 := 1#32
  let v81 : BitVec 32 := Scalar.select v80 c1_i32 c2_i32
  let v82 : BitVec 32 := Scalar.remsi arg0 v81
  let c0_i32_29 : BitVec 32 := 0#32
  let v84 : BitVec 1 := Scalar.cmpi .slt v82 c0_i32_29
  let c0_i32_30 : BitVec 32 := 0#32
  let v85 : BitVec 1 := Scalar.cmpi .slt v81 c0_i32_30
  let v86 : BitVec 1 := Scalar.xori v84 v85
  let c0_i32_28 : BitVec 32 := 0#32
  let v83 : BitVec 1 := Scalar.cmpi .ne v82 c0_i32_28
  let v87 : BitVec 1 := Scalar.andi v86 v83
  let v88 : BitVec 32 := Scalar.addi v82 v81
  let v89 : BitVec 32 := Scalar.select v87 v88 v82
  let c4_i32 : BitVec 32 := 4#32
  let v90 : BitVec 32 := Scalar.muli v89 c4_i32
  let v103 : BitVec 32 := Scalar.addi v90 c0_i32_44
  let v104 : Index := Scalar.indexCast v103
  let c0_47 : Index := 0#32
  ![0, 3, 0, v104.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.divsi v27 c2_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c2_i32 c0_i32_12
  let v35 : BitVec 32 := Scalar.extui v34
  let c0_i32_13 : BitVec 32 := 0#32
  let v36 : BitVec 1 := Scalar.cmpi .slt c2_i32 c0_i32_13
  let v37 : BitVec 32 := Scalar.extui v36
  let v38 : BitVec 32 := Scalar.subi v35 v37
  let v39 : BitVec 1 := Scalar.cmpi .ne v33 v38
  let v40 : BitVec 32 := Scalar.remsi v27 c2_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  let c0_i32_19 : BitVec 32 := 0#32
  ![v17.toNat, c0_i32_16.toNat, c0_i32_17.toNat, v44.toNat, c0_i32_18.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S33792x1024 : Shape := ⟨2, ![33792, 1024]⟩
abbrev S8x9x1024 : Shape := ⟨3, ![8, 9, 1024]⟩
abbrev S32768x512 : Shape := ⟨2, ![32768, 512]⟩
abbrev S33792x4608 : Shape := ⟨2, ![33792, 4608]⟩
abbrev S33792x3072 : Shape := ⟨2, ![33792, 3072]⟩
abbrev S4x4x8192x128 : Shape := ⟨4, ![4, 4, 8192, 128]⟩
abbrev S512x32768 : Shape := ⟨2, ![512, 32768]⟩
abbrev S1024x512 : Shape := ⟨2, ![1024, 512]⟩
abbrev S512x1024 : Shape := ⟨2, ![512, 1024]⟩
abbrev S128 : Shape := ⟨1, ![128]⟩
abbrev S1024x1024 : Shape := ⟨2, ![1024, 1024]⟩
abbrev S33792x512 : Shape := ⟨2, ![33792, 512]⟩
abbrev S4x4x128x64x128 : Shape := ⟨5, ![4, 4, 128, 64, 128]⟩
abbrev S4x64x128x4x128 : Shape := ⟨5, ![4, 64, 128, 4, 128]⟩
abbrev S4x8192x512 : Shape := ⟨3, ![4, 8192, 512]⟩
abbrev S32768x1024 : Shape := ⟨2, ![32768, 1024]⟩
abbrev S4x8192x1024 : Shape := ⟨3, ![4, 8192, 1024]⟩
abbrev S4x1x1024 : Shape := ⟨3, ![4, 1, 1024]⟩
abbrev S4x8192x4x128 : Shape := ⟨4, ![4, 8192, 4, 128]⟩
abbrev S32768x3072 : Shape := ⟨2, ![32768, 3072]⟩
abbrev S4x8192x3072 : Shape := ⟨3, ![4, 8192, 3072]⟩
abbrev S_ : Shape := ⟨0, ![]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x256x1024 : Shape := ⟨3, ![4, 256, 1024]⟩
abbrev S1x1x1024 : Shape := ⟨3, ![1, 1, 1024]⟩
abbrev S4x256x4x128 : Shape := ⟨4, ![4, 256, 4, 128]⟩
abbrev S4x256x512 : Shape := ⟨3, ![4, 256, 512]⟩
abbrev S1024x3072 : Shape := ⟨2, ![1024, 3072]⟩
abbrev S4x256x3072 : Shape := ⟨3, ![4, 256, 3072]⟩
abbrev S4x256x4 : Shape := ⟨3, ![4, 256, 4]⟩
abbrev S4x256x4x1 : Shape := ⟨4, ![4, 256, 4, 1]⟩

abbrev nBuf : Space → Nat
  | .hbm => 187
  | .vmem => 0
  | .smem => 0
  | _ => 0

abbrev hbmTy0_0 (i : Nat) : BufTy := match i % 128 with
  | 0 => ⟨S33792x1024, .f32⟩
  | 1 => ⟨S8x9x1024, .f32⟩
  | 2 => ⟨S32768x512, .bf16⟩
  | 3 => ⟨S32768x512, .bf16⟩
  | 4 => ⟨S33792x4608, .f32⟩
  | 5 => ⟨S33792x3072, .bf16⟩
  | 6 => ⟨S4x4x8192x128, .f32⟩
  | 7 => ⟨S512x32768, .bf16⟩
  | 8 => ⟨S1024x512, .bf16⟩
  | 9 => ⟨S1024x512, .bf16⟩
  | 10 => ⟨S1024x512, .f32⟩
  | 11 => ⟨S512x1024, .bf16⟩
  | 12 => ⟨S128, .f32⟩
  | 13 => ⟨S512x1024, .f32⟩
  | 14 => ⟨S512x1024, .f32⟩
  | 15 => ⟨S512x1024, .f32⟩
  | 16 => ⟨S1024x1024, .f32⟩
  | 17 => ⟨S33792x512, .f32⟩
  | 18 => ⟨S4x4x128x64x128, .f32⟩
  | 19 => ⟨S4x64x128x4x128, .f32⟩
  | 20 => ⟨S4x8192x512, .f32⟩
  | 21 => ⟨S32768x1024, .f32⟩
  | 22 => ⟨S4x8192x1024, .f32⟩
  | 23 => ⟨S4x1x1024, .f32⟩
  | 24 => ⟨S32768x512, .f32⟩
  | 25 => ⟨S32768x512, .f32⟩
  | 26 => ⟨S32768x512, .f32⟩
  | 27 => ⟨S4x8192x4x128, .f32⟩
  | 28 => ⟨S32768x512, .f32⟩
  | 29 => ⟨S4x8192x512, .f32⟩
  | 30 => ⟨S32768x512, .bf16⟩
  | 31 => ⟨S4x8192x512, .bf16⟩
  | 32 => ⟨S4x8192x512, .f32⟩
  | 33 => ⟨S32768x3072, .bf16⟩
  | 34 => ⟨S4x8192x3072, .bf16⟩
  | 35 => ⟨S4x8192x3072, .f32⟩
  | 36 => ⟨S4x8192x4x128, .f32⟩
  | 37 => ⟨S_, .f32⟩
  | 38 => ⟨S4x8192x4, .f32⟩
  | 39 => ⟨S4x8192x4x1, .f32⟩
  | 40 => ⟨S_, .f32⟩
  | 41 => ⟨S4x8192x4x1, .f32⟩
  | 42 => ⟨S4x8192x4x1, .f32⟩
  | 43 => ⟨S_, .f32⟩
  | 44 => ⟨S4x8192x4x1, .f32⟩
  | 45 => ⟨S4x8192x4x1, .f32⟩
  | 46 => ⟨S4x8192x4x1, .f32⟩
  | 47 => ⟨S4x8192x4x128, .f32⟩
  | 48 => ⟨S4x8192x4x128, .f32⟩
  | 49 => ⟨S1x1x1x128, .f32⟩
  | 50 => ⟨S4x8192x4x128, .f32⟩
  | 51 => ⟨S4x8192x4x128, .f32⟩
  | 52 => ⟨S4x8192x512, .f32⟩
  | 53 => ⟨S4x8192x512, .f32⟩
  | 54 => ⟨S4x8192x512, .f32⟩
  | 55 => ⟨S_, .f32⟩
  | 56 => ⟨S4x8192x512, .f32⟩
  | 57 => ⟨S4x8192x512, .f32⟩
  | 58 => ⟨S_, .f32⟩
  | 59 => ⟨S4x8192x512, .f32⟩
  | 60 => ⟨S4x8192x512, .f32⟩
  | 61 => ⟨S4x8192x512, .f32⟩
  | 62 => ⟨S4x8192x512, .f32⟩
  | 63 => ⟨S4x8192x1024, .f32⟩
  | 64 => ⟨S4x8192x1024, .f32⟩
  | 65 => ⟨S4x8192x1024, .f32⟩
  | 66 => ⟨S4x8192x1024, .f32⟩
  | 67 => ⟨S4x8192x1024, .f32⟩
  | 68 => ⟨S_, .f32⟩
  | 69 => ⟨S4x8192x1024, .f32⟩
  | 70 => ⟨S4x8192x1024, .f32⟩
  | 71 => ⟨S_, .f32⟩
  | 72 => ⟨S4x8192x1024, .f32⟩
  | 73 => ⟨S4x8192x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S_, .f32⟩
  | 79 => ⟨S4x8192x1024, .f32⟩
  | 80 => ⟨S4x8192x1024, .f32⟩
  | 81 => ⟨S_, .f32⟩
  | 82 => ⟨S4x8192x1024, .f32⟩
  | 83 => ⟨S4x8192x1024, .f32⟩
  | 84 => ⟨S4x8192x1024, .f32⟩
  | 85 => ⟨S4x8192x1024, .f32⟩
  | 86 => ⟨S4x8192x1024, .f32⟩
  | 87 => ⟨S4x8192x1024, .f32⟩
  | 88 => ⟨S4x8192x1024, .f32⟩
  | 89 => ⟨S_, .f32⟩
  | 90 => ⟨S4x8192x1024, .f32⟩
  | 91 => ⟨S4x8192x1024, .f32⟩
  | 92 => ⟨S_, .f32⟩
  | 93 => ⟨S4x8192x1024, .f32⟩
  | 94 => ⟨S4x8192x1024, .f32⟩
  | 95 => ⟨S4x8192x1024, .f32⟩
  | 96 => ⟨S4x8192x1024, .f32⟩
  | 97 => ⟨S4x8192x1024, .f32⟩
  | 98 => ⟨S4x8192x1024, .f32⟩
  | 99 => ⟨S4x8192x1024, .f32⟩
  | 100 => ⟨S4x8192x1024, .f32⟩
  | 101 => ⟨S4x8192x1024, .f32⟩
  | 102 => ⟨S1024x1024, .f32⟩
  | 103 => ⟨S4x256x1024, .f32⟩
  | 104 => ⟨S1x1x1024, .f32⟩
  | 105 => ⟨S1024x512, .f32⟩
  | 106 => ⟨S1024x512, .f32⟩
  | 107 => ⟨S1024x512, .f32⟩
  | 108 => ⟨S4x256x4x128, .f32⟩
  | 109 => ⟨S1024x512, .f32⟩
  | 110 => ⟨S4x256x512, .f32⟩
  | 111 => ⟨S4x256x512, .f32⟩
  | 112 => ⟨S1024x512, .bf16⟩
  | 113 => ⟨S4x256x512, .bf16⟩
  | 114 => ⟨S4x256x512, .f32⟩
  | 115 => ⟨S1024x3072, .bf16⟩
  | 116 => ⟨S4x256x3072, .bf16⟩
  | 117 => ⟨S4x256x3072, .f32⟩
  | 118 => ⟨S4x256x4x128, .f32⟩
  | 119 => ⟨S_, .f32⟩
  | 120 => ⟨S4x256x4, .f32⟩
  | 121 => ⟨S4x256x4x1, .f32⟩
  | 122 => ⟨S_, .f32⟩
  | 123 => ⟨S4x256x4x1, .f32⟩
  | 124 => ⟨S4x256x4x1, .f32⟩
  | 125 => ⟨S_, .f32⟩
  | 126 => ⟨S4x256x4x1, .f32⟩
  | 127 => ⟨S4x256x4x1, .f32⟩
  | _ => ⟨S33792x1024, .f32⟩

abbrev hbmTy0_1 (i : Nat) : BufTy := match i % 128 with
  | 0 => ⟨S4x256x4x1, .f32⟩
  | 1 => ⟨S4x256x4x128, .f32⟩
  | 2 => ⟨S4x256x4x128, .f32⟩
  | 3 => ⟨S1x1x1x128, .f32⟩
  | 4 => ⟨S4x256x4x128, .f32⟩
  | 5 => ⟨S4x256x4x128, .f32⟩
  | 6 => ⟨S4x256x512, .f32⟩
  | 7 => ⟨S4x256x512, .f32⟩
  | 8 => ⟨S4x256x512, .f32⟩
  | 9 => ⟨S_, .f32⟩
  | 10 => ⟨S4x256x512, .f32⟩
  | 11 => ⟨S4x256x512, .f32⟩
  | 12 => ⟨S_, .f32⟩
  | 13 => ⟨S4x256x512, .f32⟩
  | 14 => ⟨S4x256x512, .f32⟩
  | 15 => ⟨S4x256x512, .f32⟩
  | 16 => ⟨S4x256x512, .f32⟩
  | 17 => ⟨S4x256x1024, .f32⟩
  | 18 => ⟨S4x256x1024, .f32⟩
  | 19 => ⟨S4x256x1024, .f32⟩
  | 20 => ⟨S4x256x1024, .f32⟩
  | 21 => ⟨S4x256x1024, .f32⟩
  | 22 => ⟨S_, .f32⟩
  | 23 => ⟨S4x256x1024, .f32⟩
  | 24 => ⟨S4x256x1024, .f32⟩
  | 25 => ⟨S_, .f32⟩
  | 26 => ⟨S4x256x1024, .f32⟩
  | 27 => ⟨S4x256x1024, .f32⟩
  | 28 => ⟨S4x256x1024, .f32⟩
  | 29 => ⟨S4x256x1024, .f32⟩
  | 30 => ⟨S4x256x1024, .f32⟩
  | 31 => ⟨S4x256x1024, .f32⟩
  | 32 => ⟨S_, .f32⟩
  | 33 => ⟨S4x256x1024, .f32⟩
  | 34 => ⟨S4x256x1024, .f32⟩
  | 35 => ⟨S_, .f32⟩
  | 36 => ⟨S4x256x1024, .f32⟩
  | 37 => ⟨S4x256x1024, .f32⟩
  | 38 => ⟨S4x256x1024, .f32⟩
  | 39 => ⟨S4x256x1024, .f32⟩
  | 40 => ⟨S4x256x1024, .f32⟩
  | 41 => ⟨S4x256x1024, .f32⟩
  | 42 => ⟨S4x256x1024, .f32⟩
  | 43 => ⟨S_, .f32⟩
  | 44 => ⟨S4x256x1024, .f32⟩
  | 45 => ⟨S4x256x1024, .f32⟩
  | 46 => ⟨S_, .f32⟩
  | 47 => ⟨S4x256x1024, .f32⟩
  | 48 => ⟨S4x256x1024, .f32⟩
  | 49 => ⟨S4x256x1024, .f32⟩
  | 50 => ⟨S4x256x1024, .f32⟩
  | 51 => ⟨S4x256x1024, .f32⟩
  | 52 => ⟨S4x256x1024, .f32⟩
  | 53 => ⟨S4x256x1024, .f32⟩
  | 54 => ⟨S4x256x1024, .f32⟩
  | 55 => ⟨S4x256x1024, .f32⟩
  | 56 => ⟨S32768x1024, .f32⟩
  | 57 => ⟨S1024x1024, .f32⟩
  | 58 => ⟨S33792x1024, .f32⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_2 : Ref sig .tc := ⟨.hbm, 68, rfl⟩
abbrev main_v40 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_6 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_8 : Ref sig .tc := ⟨.hbm, 119, rfl⟩
abbrev main_v85 : Ref sig .tc := ⟨.hbm, 120, rfl⟩
abbrev main_v86 : Ref sig .tc := ⟨.hbm, 121, rfl⟩
abbrev main_cst_9 : Ref sig .tc := ⟨.hbm, 122, rfl⟩
abbrev main_v87 : Ref sig .tc := ⟨.hbm, 123, rfl⟩
abbrev main_v88 : Ref sig .tc := ⟨.hbm, 124, rfl⟩
abbrev main_cst_10 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call1_v0 : Ref sig .tc := ⟨.hbm, 135, rfl⟩
abbrev main_call1_v1 : Ref sig .tc := ⟨.hbm, 136, rfl⟩
abbrev main_call1_cst : Ref sig .tc := ⟨.hbm, 137, rfl⟩
abbrev main_call1_v2 : Ref sig .tc := ⟨.hbm, 138, rfl⟩
abbrev main_call1_v3 : Ref sig .tc := ⟨.hbm, 139, rfl⟩
abbrev main_call1_cst_0 : Ref sig .tc := ⟨.hbm, 140, rfl⟩
abbrev main_call1_v4 : Ref sig .tc := ⟨.hbm, 141, rfl⟩
abbrev main_call1_v5 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_11 : Ref sig .tc := ⟨.hbm, 150, rfl⟩
abbrev main_v105 : Ref sig .tc := ⟨.hbm, 151, rfl⟩
abbrev main_v106 : Ref sig .tc := ⟨.hbm, 152, rfl⟩
abbrev main_cst_12 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_13 : Ref sig .tc := ⟨.hbm, 160, rfl⟩
abbrev main_v113 : Ref sig .tc := ⟨.hbm, 161, rfl⟩
abbrev main_v114 : Ref sig .tc := ⟨.hbm, 162, rfl⟩
abbrev main_cst_14 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_15 : Ref sig .tc := ⟨.hbm, 171, rfl⟩
abbrev main_v122 : Ref sig .tc := ⟨.hbm, 172, rfl⟩
abbrev main_v123 : Ref sig .tc := ⟨.hbm, 173, rfl⟩
abbrev main_cst_16 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩

abbrev nD : Nat := 1
abbrev τ : Topo := Topo.v7x

variable {F : FTy → Type} [FloatOps F]
-- ==== Modulation.lean ====
abbrev S4x1024 : Shape := ⟨2, ![4, 1024]⟩
abbrev S1024 : Shape := ⟨1, ![1024]⟩
abbrev S1024x9216 : Shape := ⟨2, ![1024, 9216]⟩
abbrev S9216 : Shape := ⟨1, ![9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x9216 : Shape := ⟨2, ![1, 9216]⟩
abbrev S8x9216 : Shape := ⟨2, ![8, 9216]⟩
abbrev S1024x2304 : Shape := ⟨2, ![1024, 2304]⟩
abbrev S1x2304 : Shape := ⟨2, ![1, 2304]⟩
abbrev S8x2304 : Shape := ⟨2, ![8, 2304]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x9216, .f32⟩
  | .hbm, ⟨3, _⟩ => ⟨S9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x9216, .bf16⟩
  | .hbm, ⟨9, _⟩ => ⟨S1x9216, .f32⟩
  | .hbm, ⟨10, _⟩ => ⟨S8x9216, .f32⟩
  | .local _ .vmem, ⟨0, _⟩ => ⟨S8x1024, .f32⟩
  | .local _ .vmem, ⟨1, _⟩ => ⟨S1024x2304, .bf16⟩
  | .local _ .vmem, ⟨2, _⟩ => ⟨S1024x2304, .bf16⟩
  | .local _ .vmem, ⟨3, _⟩ => ⟨S1x2304, .f32⟩
  | .local _ .vmem, ⟨4, _⟩ => ⟨S1x2304, .f32⟩
  | .local _ .vmem, ⟨5, _⟩ => ⟨S8x2304, .f32⟩
  | .local _ .vmem, ⟨6, _⟩ => ⟨S8x2304, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S4x1024 : Shape := ⟨2, ![4, 1024]⟩
abbrev S1024 : Shape := ⟨1, ![1024]⟩
abbrev S1024x9216 : Shape := ⟨2, ![1024, 9216]⟩
abbrev S9216 : Shape := ⟨1, ![9216]⟩
abbrev S_ : Shape := ⟨0, ![]⟩
abbrev S4x9216 : Shape := ⟨2, ![4, 9216]⟩
abbrev S1x9216 : Shape := ⟨2, ![1, 9216]⟩
abbrev S1x1024 : Shape := ⟨2, ![1, 1024]⟩
abbrev S3x9216 : Shape := ⟨2, ![3, 9216]⟩
abbrev S8x9216 : Shape := ⟨2, ![8, 9216]⟩

abbrev nBuf : Space → Nat
  | .hbm => 32
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x9216, .f32⟩
  | .hbm, ⟨3, _⟩ => ⟨S9216, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x9216, .f32⟩
  | .hbm, ⟨14, _⟩ => ⟨S1x9216, .f32⟩
  | .hbm, ⟨15, _⟩ => ⟨S4x9216, .f32⟩
  | .hbm, ⟨16, _⟩ => ⟨S4x9216, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S1x9216, .f32⟩
  | .hbm, ⟨28, _⟩ => ⟨S1x9216, .f32⟩
  | .hbm, ⟨29, _⟩ => ⟨S1x9216, .f32⟩
  | .hbm, ⟨30, _⟩ => ⟨S3x9216, .f32⟩
  | .hbm, ⟨31, _⟩ => ⟨S8x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Context.lean ====
abbrev S33792x4x128 : Shape := ⟨3, ![33792, 4, 128]⟩
abbrev S33792x4x64 : Shape := ⟨3, ![33792, 4, 64]⟩
abbrev S33792x64 : Shape := ⟨2, ![33792, 64]⟩
abbrev S_ : Shape := ⟨0, ![]⟩
abbrev S33792x4x192 : Shape := ⟨3, ![33792, 4, 192]⟩
abbrev S33792x4x256 : Shape := ⟨3, ![33792, 4, 256]⟩
abbrev S4x256x33792 : Shape := ⟨3, ![4, 256, 33792]⟩
abbrev S33792x1x64 : Shape := ⟨3, ![33792, 1, 64]⟩
abbrev S4x33792x256 : Shape := ⟨3, ![4, 33792, 256]⟩
abbrev S1x16x1 : Shape := ⟨3, ![1, 16, 1]⟩
abbrev S4x16x33792 : Shape := ⟨3, ![4, 16, 33792]⟩
abbrev S4x128x33792 : Shape := ⟨3, ![4, 128, 33792]⟩
abbrev S4x144x33792 : Shape := ⟨3, ![4, 144, 33792]⟩
abbrev S512x1024 : Shape := ⟨2, ![512, 1024]⟩
abbrev S1x256x256 : Shape := ⟨3, ![1, 256, 256]⟩
abbrev S1x144x256 : Shape := ⟨3, ![1, 144, 256]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S144x256 : Shape := ⟨2, ![144, 256]⟩

abbrev nBuf : Space → Nat
  | .hbm => 27
  | .vmem => 9
  | .smem => 0
  | _ => 0

abbrev bufTy : (tb : Table) → Fin (tcTables nBuf tb) → BufTy
  | .hbm, ⟨0, _⟩ => ⟨S33792x4x128, .f32⟩
  | .hbm, ⟨1, _⟩ => ⟨S33792x4x64, .f32⟩
  | .hbm, ⟨2, _⟩ => ⟨S33792x4x128, .f32⟩
  | .hbm, ⟨3, _⟩ => ⟨S33792x64, .f32⟩
  | .hbm, ⟨4, _⟩ => ⟨S33792x4x128, .f32⟩
  | .hbm, ⟨5, _⟩ => ⟨S_, .f32⟩
  | .hbm, ⟨6, _⟩ => ⟨S33792x4x64, .f32⟩
  | .hbm, ⟨7, _⟩ => ⟨S33792x4x192, .f32⟩
  | .hbm, ⟨8, _⟩ => ⟨S33792x4x256, .f32⟩
  | .hbm, ⟨9, _⟩ => ⟨S4x256x33792, .f32⟩
  | .hbm, ⟨10, _⟩ => ⟨S4x256x33792, .bf16⟩
  | .hbm, ⟨11, _⟩ => ⟨S33792x1x64, .f32⟩
  | .hbm, ⟨12, _⟩ => ⟨S33792x4x64, .f32⟩
  | .hbm, ⟨13, _⟩ => ⟨S33792x4x192, .f32⟩
  | .hbm, ⟨14, _⟩ => ⟨S33792x4x256, .f32⟩
  | .hbm, ⟨15, _⟩ => ⟨S4x33792x256, .f32⟩
  | .hbm, ⟨16, _⟩ => ⟨S4x33792x256, .bf16⟩
  | .hbm, ⟨17, _⟩ => ⟨S1x16x1, .i32⟩
  | .hbm, ⟨18, _⟩ => ⟨S_, .i32⟩
  | .hbm, ⟨19, _⟩ => ⟨S1x16x1, .i32⟩
  | .hbm, ⟨20, _⟩ => ⟨S1x16x1, .i1⟩
  | .hbm, ⟨21, _⟩ => ⟨S1x16x1, .bf16⟩
  | .hbm, ⟨22, _⟩ => ⟨S4x16x33792, .bf16⟩
  | .hbm, ⟨23, _⟩ => ⟨S4x128x33792, .f32⟩
  | .hbm, ⟨24, _⟩ => ⟨S4x128x33792, .bf16⟩
  | .hbm, ⟨25, _⟩ => ⟨S4x144x33792, .bf16⟩
  | .hbm, ⟨26, _⟩ => ⟨S512x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x144x256, .bf16⟩
  | .local _ .vmem, ⟨5, _⟩ => ⟨S1x144x256, .bf16⟩
  | .local _ .vmem, ⟨6, _⟩ => ⟨S128x256, .bf16⟩
  | .local _ .vmem, ⟨7, _⟩ => ⟨S128x256, .bf16⟩
  | .local _ .vmem, ⟨8, _⟩ => ⟨S256x256, .f32⟩
  | _, _ => ⟨S33792x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ContextIdeal.lean ====
variable {F : FTy → Type} [FloatOps F] [Named F]
def κ : String → Option EReal := fun
  | "qscale" => some (((Real.sqrt 192)⁻¹ * (Real.log 2)⁻¹ : ℝ) : EReal)
  | _ => none
-- ==== ContextRefIdeal.lean ====
abbrev S33792x4x128 : Shape := ⟨3, ![33792, 4, 128]⟩
abbrev S33792x4x64 : Shape := ⟨3, ![33792, 4, 64]⟩
abbrev S33792x64 : Shape := ⟨2, ![33792, 64]⟩
abbrev S1024x4x128 : Shape := ⟨3, ![1024, 4, 128]⟩
abbrev S4x256x4x128 : Shape := ⟨4, ![4, 256, 4, 128]⟩
abbrev S4x4x256x256 : Shape := ⟨4, ![4, 4, 256, 256]⟩
abbrev S1024x4x64 : Shape := ⟨3, ![1024, 4, 64]⟩
abbrev S4x256x4x64 : Shape := ⟨4, ![4, 256, 4, 64]⟩
abbrev S1024x64 : Shape := ⟨2, ![1024, 64]⟩
abbrev S4x256x64 : Shape := ⟨3, ![4, 256, 64]⟩
abbrev S4x256x256x4 : Shape := ⟨4, ![4, 256, 256, 4]⟩
abbrev S_ : Shape := ⟨0, ![]⟩
abbrev S4x4x256 : Shape := ⟨3, ![4, 4, 256]⟩
abbrev S4x4x256x1 : Shape := ⟨4, ![4, 4, 256, 1]⟩
abbrev S4x4x128x256 : Shape := ⟨4, ![4, 4, 128, 256]⟩
abbrev S1024x512 : Shape := ⟨2, ![1024, 512]⟩
abbrev S512x1024 : Shape := ⟨2, ![512, 1024]⟩

abbrev nBuf : Space → Nat
  | .hbm => 42
  | .vmem => 0
  | .smem => 0
  | _ => 0

abbrev bufTy : (tb : Table) → Fin (tcTables nBuf tb) → BufTy
  | .hbm, ⟨0, _⟩ => ⟨S33792x4x128, .f32⟩
  | .hbm, ⟨1, _⟩ => ⟨S33792x4x64, .f32⟩
  | .hbm, ⟨2, _⟩ => ⟨S33792x4x128, .f32⟩
  | .hbm, ⟨3, _⟩ => ⟨S33792x64, .f32⟩
  | .hbm, ⟨4, _⟩ => ⟨S33792x4x128, .f32⟩
  | .hbm, ⟨5, _⟩ => ⟨S1024x4x128, .f32⟩
  | .hbm, ⟨6, _⟩ => ⟨S4x256x4x128, .f32⟩
  | .hbm, ⟨7, _⟩ => ⟨S1024x4x128, .f32⟩
  | .hbm, ⟨8, _⟩ => ⟨S4x256x4x128, .f32⟩
  | .hbm, ⟨9, _⟩ => ⟨S4x4x256x256, .f32⟩
  | .hbm, ⟨10, _⟩ => ⟨S1024x4x64, .f32⟩
  | .hbm, ⟨11, _⟩ => ⟨S4x256x4x64, .f32⟩
  | .hbm, ⟨12, _⟩ => ⟨S1024x64, .f32⟩
  | .hbm, ⟨13, _⟩ => ⟨S4x256x64, .f32⟩
  | .hbm, ⟨14, _⟩ => ⟨S4x256x256x4, .f32⟩
  | .hbm, ⟨15, _⟩ => ⟨S4x4x256x256, .f32⟩
  | .hbm, ⟨16, _⟩ => ⟨S4x4x256x256, .f32⟩
  | .hbm, ⟨17, _⟩ => ⟨S_, .f32⟩
  | .hbm, ⟨18, _⟩ => ⟨S_, .f32⟩
  | .hbm, ⟨19, _⟩ => ⟨S4x4x256x256, .f32⟩
  | .hbm, ⟨20, _⟩ => ⟨S4x4x256x256, .f32⟩
  | .hbm, ⟨21, _⟩ => ⟨S_, .f32⟩
  | .hbm, ⟨22, _⟩ => ⟨S4x4x256, .f32⟩
  | .hbm, ⟨23, _⟩ => ⟨S_, .f32⟩
  | .hbm, ⟨24, _⟩ => ⟨S4x4x256, .f32⟩
  | .hbm, ⟨25, _⟩ => ⟨S4x4x256, .f32⟩
  | .hbm, ⟨26, _⟩ => ⟨S4x4x256x1, .f32⟩
  | .hbm, ⟨27, _⟩ => ⟨S4x4x256x256, .f32⟩
  | .hbm, ⟨28, _⟩ => ⟨S4x4x256x256, .f32⟩
  | .hbm, ⟨29, _⟩ => ⟨S4x4x256x256, .f32⟩
  | .hbm, ⟨30, _⟩ => ⟨S_, .f32⟩
  | .hbm, ⟨31, _⟩ => ⟨S4x4x256, .f32⟩
  | .hbm, ⟨32, _⟩ => ⟨S4x4x256x1, .f32⟩
  | .hbm, ⟨33, _⟩ => ⟨S4x4x256x256, .f32⟩
  | .hbm, ⟨34, _⟩ => ⟨S4x4x256x256, .f32⟩
  | .hbm, ⟨35, _⟩ => ⟨S1024x4x128, .f32⟩
  | .hbm, ⟨36, _⟩ => ⟨S4x256x4x128, .f32⟩
  | .hbm, ⟨37, _⟩ => ⟨S4x4x128x256, .f32⟩
  | .hbm, ⟨38, _⟩ => ⟨S4x256x4x128, .f32⟩
  | .hbm, ⟨39, _⟩ => ⟨S1024x512, .f32⟩
  | .hbm, ⟨40, _⟩ => ⟨S512x1024, .f32⟩
  | .hbm, ⟨41, _⟩ => ⟨S512x1024, .bf16⟩
  | _, _ => ⟨S33792x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== MergeLast.lean ====
abbrev S33792x1024 : Shape := ⟨2, ![33792, 1024]⟩
abbrev S8x9x1024 : Shape := ⟨3, ![8, 9, 1024]⟩
abbrev S32768x512 : Shape := ⟨2, ![32768, 512]⟩
abbrev S33792x4608 : Shape := ⟨2, ![33792, 4608]⟩
abbrev S33792x3072 : Shape := ⟨2, ![33792, 3072]⟩
abbrev S4x4x8192x128 : Shape := ⟨4, ![4, 4, 8192, 128]⟩
abbrev S512x32768 : Shape := ⟨2, ![512, 32768]⟩
abbrev S128 : Shape := ⟨1, ![128]⟩
abbrev S512x1024 : Shape := ⟨2, ![512, 1024]⟩
abbrev S1024x1024 : Shape := ⟨2, ![1024, 1024]⟩
abbrev S4x4x128x64x128 : Shape := ⟨5, ![4, 4, 128, 64, 128]⟩
abbrev S1x128 : Shape := ⟨2, ![1, 128]⟩
abbrev S32768x1024 : Shape := ⟨2, ![32768, 1024]⟩
abbrev S1x9x1024 : Shape := ⟨3, ![1, 9, 1024]⟩
abbrev S512x512 : Shape := ⟨2, ![512, 512]⟩
abbrev S1x4x128x8x128 : Shape := ⟨5, ![1, 4, 128, 8, 128]⟩
abbrev S9x1024 : Shape := ⟨2, ![9, 1024]⟩
abbrev S512x128 : Shape := ⟨2, ![512, 128]⟩
abbrev S512 : Shape := ⟨1, ![512]⟩
abbrev S512x1 : Shape := ⟨2, ![512, 1]⟩
abbrev S1x1x128x1x128 : Shape := ⟨5, ![1, 1, 128, 1, 128]⟩
abbrev S128x128 : Shape := ⟨2, ![128, 128]⟩
abbrev S128x512 : Shape := ⟨2, ![128, 512]⟩
abbrev S1x1024 : Shape := ⟨2, ![1, 1024]⟩

abbrev nBuf : Space → Nat
  | .hbm => 20
  | .vmem => 27
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S32768x512, .bf16⟩
  | .hbm, ⟨3, _⟩ => ⟨S32768x512, .bf16⟩
  | .hbm, ⟨4, _⟩ => ⟨S33792x4608, .f32⟩
  | .hbm, ⟨5, _⟩ => ⟨S33792x3072, .bf16⟩
  | .hbm, ⟨6, _⟩ => ⟨S4x4x8192x128, .f32⟩
  | .hbm, ⟨7, _⟩ => ⟨S512x32768, .bf16⟩
  | .hbm, ⟨8, _⟩ => ⟨S128, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S4x4x128x64x128, .f32⟩
  | .hbm, ⟨14, _⟩ => ⟨S1x128, .f32⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1x4x128x8x128, .f32⟩
  | .local _ .vmem, ⟨11, _⟩ => ⟨S1x4x128x8x128, .f32⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x128, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S512x1024, .f32⟩
  | .local _ .vmem, ⟨26, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def k0_off1 (i : grid0.Coords) (c0_i32_27 : BitVec 32) : Fin 5 → Nat :=
  let c0_28 : Index := 0#32
  let c0_29 : Index := 0#32
  let c0_30 : Index := 0#32
  let arg0 : BitVec 32 := BitVec.ofNat 32 (i 0).val
  let c2_i32 : BitVec 32 := 2#32
  let c0_i32 : BitVec 32 := 0#32
  let v73 : BitVec 1 := Scalar.cmpi .eq c2_i32 c0_i32
  let c1_i32 : BitVec 32 := 1#32
  let v74 : BitVec 32 := Scalar.select v73 c1_i32 c2_i32
  let v75 : BitVec 32 := Scalar.remsi arg0 v74
  let c0_i32_25 : BitVec 32 := 0#32
  let v77 : BitVec 1 := Scalar.cmpi .slt v75 c0_i32_25
  let c0_i32_26 : BitVec 32 := 0#32
  let v78 : BitVec 1 := Scalar.cmpi .slt v74 c0_i32_26
  let v79 : BitVec 1 := Scalar.xori v77 v78
  let c0_i32_24 : BitVec 32 := 0#32
  let v76 : BitVec 1 := Scalar.cmpi .ne v75 c0_i32_24
  let v80 : BitVec 1 := Scalar.andi v79 v76
  let v81 : BitVec 32 := Scalar.addi v75 v74
  let v82 : BitVec 32 := Scalar.select v80 v81 v75
  let c4_i32 : BitVec 32 := 4#32
  let v83 : BitVec 32 := Scalar.muli v82 c4_i32
  let v84 : BitVec 32 := Scalar.addi v83 c0_i32_27
  let v85 : Index := Scalar.indexCast v84
  let c0_31 : Index := 0#32
  ![0, 0, 0, v85.toNat, 0]
def k0_off2 (i : grid0.Coords) (c0_i32_32 : BitVec 32) : Fin 5 → Nat :=
  let c0_33 : Index := 0#32
  let c1 : Index := 1#32
  let c0_34 : Index := 0#32
  let arg0 : BitVec 32 := BitVec.ofNat 32 (i 0).val
  let c2_i32 : BitVec 32 := 2#32
  let c0_i32 : BitVec 32 := 0#32
  let v73 : BitVec 1 := Scalar.cmpi .eq c2_i32 c0_i32
  let c1_i32 : BitVec 32 := 1#32
  let v74 : BitVec 32 := Scalar.select v73 c1_i32 c2_i32
  let v75 : BitVec 32 := Scalar.remsi arg0 v74
  let c0_i32_25 : BitVec 32 := 0#32
  let v77 : BitVec 1 := Scalar.cmpi .slt v75 c0_i32_25
  let c0_i32_26 : BitVec 32 := 0#32
  let v78 : BitVec 1 := Scalar.cmpi .slt v74 c0_i32_26
  let v79 : BitVec 1 := Scalar.xori v77 v78
  let c0_i32_24 : BitVec 32 := 0#32
  let v76 : BitVec 1 := Scalar.cmpi .ne v75 c0_i32_24
  let v80 : BitVec 1 := Scalar.andi v79 v76
  let v81 : BitVec 32 := Scalar.addi v75 v74
  let v82 : BitVec 32 := Scalar.select v80 v81 v75
  let c4_i32 : BitVec 32 := 4#32
  let v83 : BitVec 32 := Scalar.muli v82 c4_i32
  let v88 : BitVec 32 := Scalar.addi v83 c0_i32_32
  let v89 : Index := Scalar.indexCast v88
  let c0_35 : Index := 0#32
  ![0, 1, 0, v89.toNat, 0]
def k0_off3 (i : grid0.Coords) (c0_i32_36 : BitVec 32) : Fin 5 → Nat :=
  let c0_37 : Index := 0#32
  let c2 : Index := 2#32
  let c0_38 : Index := 0#32
  let arg0 : BitVec 32 := BitVec.ofNat 32 (i 0).val
  let c2_i32 : BitVec 32 := 2#32
  let c0_i32 : BitVec 32 := 0#32
  let v73 : BitVec 1 := Scalar.cmpi .eq c2_i32 c0_i32
  let c1_i32 : BitVec 32 := 1#32
  let v74 : BitVec 32 := Scalar.select v73 c1_i32 c2_i32
  let v75 : BitVec 32 := Scalar.remsi arg0 v74
  let c0_i32_25 : BitVec 32 := 0#32
  let v77 : BitVec 1 := Scalar.cmpi .slt v75 c0_i32_25
  let c0_i32_26 : BitVec 32 := 0#32
  let v78 : BitVec 1 := Scalar.cmpi .slt v74 c0_i32_26
  let v79 : BitVec 1 := Scalar.xori v77 v78
  let c0_i32_24 : BitVec 32 := 0#32
  let v76 : BitVec 1 := Scalar.cmpi .ne v75 c0_i32_24
  let v80 : BitVec 1 := Scalar.andi v79 v76
  let v81 : BitVec 32 := Scalar.addi v75 v74
  let v82 : BitVec 32 := Scalar.select v80 v81 v75
  let c4_i32 : BitVec 32 := 4#32
  let v83 : BitVec 32 := Scalar.muli v82 c4_i32
  let v92 : BitVec 32 := Scalar.addi v83 c0_i32_36
  let v93 : Index := Scalar.indexCast v92
  let c0_39 : Index := 0#32
  ![0, 2, 0, v93.toNat, 0]
def k0_off4 (i : grid0.Coords) (c0_i32_40 : BitVec 32) : Fin 5 → Nat :=
  let c0_41 : Index := 0#32
  let c3 : Index := 3#32
  let c0_42 : Index := 0#32
  let arg0 : BitVec 32 := BitVec.ofNat 32 (i 0).val
  let c2_i32 : BitVec 32 := 2#32
  let c0_i32 : BitVec 32 := 0#32
  let v73 : BitVec 1 := Scalar.cmpi .eq c2_i32 c0_i32
  let c1_i32 : BitVec 32 := 1#32
  let v74 : BitVec 32 := Scalar.select v73 c1_i32 c2_i32
  let v75 : BitVec 32 := Scalar.remsi arg0 v74
  let c0_i32_25 : BitVec 32 := 0#32
  let v77 : BitVec 1 := Scalar.cmpi .slt v75 c0_i32_25
  let c0_i32_26 : BitVec 32 := 0#32
  let v78 : BitVec 1 := Scalar.cmpi .slt v74 c0_i32_26
  let v79 : BitVec 1 := Scalar.xori v77 v78
  let c0_i32_24 : BitVec 32 := 0#32
  let v76 : BitVec 1 := Scalar.cmpi .ne v75 c0_i32_24
  let v80 : BitVec 1 := Scalar.andi v79 v76
  let v81 : BitVec 32 := Scalar.addi v75 v74
  let v82 : BitVec 32 := Scalar.select v80 v81 v75
  let c4_i32 : BitVec 32 := 4#32
  let v83 : BitVec 32 := Scalar.muli v82 c4_i32
  let v96 : BitVec 32 := Scalar.addi v83 c0_i32_40
  let v97 : Index := Scalar.indexCast v96
  let c0_43 : Index := 0#32
  ![0, 3, 0, v97.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.divsi v27 c2_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c2_i32 c0_i32_12
  let v35 : BitVec 32 := Scalar.extui v34
  let c0_i32_13 : BitVec 32 := 0#32
  let v36 : BitVec 1 := Scalar.cmpi .slt c2_i32 c0_i32_13
  let v37 : BitVec 32 := Scalar.extui v36
  let v38 : BitVec 32 := Scalar.subi v35 v37
  let v39 : BitVec 1 := Scalar.cmpi .ne v33 v38
  let v40 : BitVec 32 := Scalar.remsi v27 c2_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  let c0_i32_18 : BitVec 32 := 0#32
  let c0_i32_19 : BitVec 32 := 0#32
  ![v17.toNat, c0_i32_16.toNat, c0_i32_17.toNat, v44.toNat, c0_i32_18.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeLastRefIdeal.lean ====
abbrev S33792x1024 : Shape := ⟨2, ![33792, 1024]⟩
abbrev S8x9x1024 : Shape := ⟨3, ![8, 9, 1024]⟩
abbrev S32768x512 : Shape := ⟨2, ![32768, 512]⟩
abbrev S33792x4608 : Shape := ⟨2, ![33792, 4608]⟩
abbrev S33792x3072 : Shape := ⟨2, ![33792, 3072]⟩
abbrev S4x4x8192x128 : Shape := ⟨4, ![4, 4, 8192, 128]⟩
abbrev S512x32768 : Shape := ⟨2, ![512, 32768]⟩
abbrev S128 : Shape := ⟨1, ![128]⟩
abbrev S512x1024 : Shape := ⟨2, ![512, 1024]⟩
abbrev S1024x1024 : Shape := ⟨2, ![1024, 1024]⟩
abbrev S4x8192x4x128 : Shape := ⟨4, ![4, 8192, 4, 128]⟩
abbrev S33792x512 : Shape := ⟨2, ![33792, 512]⟩
abbrev S4x4x128x64x128 : Shape := ⟨5, ![4, 4, 128, 64, 128]⟩
abbrev S4x64x128x4x128 : Shape := ⟨5, ![4, 64, 128, 4, 128]⟩
abbrev S4x8192x512 : Shape := ⟨3, ![4, 8192, 512]⟩
abbrev S32768x1024 : Shape := ⟨2, ![32768, 1024]⟩
abbrev S4x8192x1024 : Shape := ⟨3, ![4, 8192, 1024]⟩
abbrev S4x1x1024 : Shape := ⟨3, ![4, 1, 1024]⟩
abbrev S32768x3072 : Shape := ⟨2, ![32768, 3072]⟩
abbrev S4x8192x3072 : Shape := ⟨3, ![4, 8192, 3072]⟩
abbrev S_ : Shape := ⟨0, ![]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S32768x512, .bf16⟩
  | .hbm, ⟨3, _⟩ => ⟨S32768x512, .bf16⟩
  | .hbm, ⟨4, _⟩ => ⟨S33792x4608, .f32⟩
  | .hbm, ⟨5, _⟩ => ⟨S33792x3072, .bf16⟩
  | .hbm, ⟨6, _⟩ => ⟨S4x4x8192x128, .f32⟩
  | .hbm, ⟨7, _⟩ => ⟨S512x32768, .bf16⟩
  | .hbm, ⟨8, _⟩ => ⟨S128, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S4x8192x4x128, .f32⟩
  | .hbm, ⟨17, _⟩ => ⟨S33792x512, .f32⟩
  | .hbm, ⟨18, _⟩ => ⟨S4x4x128x64x128, .f32⟩
  | .hbm, ⟨19, _⟩ => ⟨S4x64x128x4x128, .f32⟩
  | .hbm, ⟨20, _⟩ => ⟨S4x8192x512, .f32⟩
  | .hbm, ⟨21, _⟩ => ⟨S32768x1024, .f32⟩
  | .hbm, ⟨22, _⟩ => ⟨S4x8192x1024, .f32⟩
  | .hbm, ⟨23, _⟩ => ⟨S4x1x1024, .f32⟩
  | .hbm, ⟨24, _⟩ => ⟨S32768x512, .f32⟩
  | .hbm, ⟨25, _⟩ => ⟨S4x8192x512, .f32⟩
  | .hbm, ⟨26, _⟩ => ⟨S32768x512, .bf16⟩
  | .hbm, ⟨27, _⟩ => ⟨S4x8192x512, .bf16⟩
  | .hbm, ⟨28, _⟩ => ⟨S4x8192x512, .f32⟩
  | .hbm, ⟨29, _⟩ => ⟨S32768x3072, .bf16⟩
  | .hbm, ⟨30, _⟩ => ⟨S4x8192x3072, .bf16⟩
  | .hbm, ⟨31, _⟩ => ⟨S4x8192x3072, .f32⟩
  | .hbm, ⟨32, _⟩ => ⟨S4x8192x4x128, .f32⟩
  | .hbm, ⟨33, _⟩ => ⟨S_, .f32⟩
  | .hbm, ⟨34, _⟩ => ⟨S4x8192x4, .f32⟩
  | .hbm, ⟨35, _⟩ => ⟨S4x8192x4x1, .f32⟩
  | .hbm, ⟨36, _⟩ => ⟨S_, .f32⟩
  | .hbm, ⟨37, _⟩ => ⟨S4x8192x4x1, .f32⟩
  | .hbm, ⟨38, _⟩ => ⟨S4x8192x4x1, .f32⟩
  | .hbm, ⟨39, _⟩ => ⟨S_, .f32⟩
  | .hbm, ⟨40, _⟩ => ⟨S4x8192x4x1, .f32⟩
  | .hbm, ⟨41, _⟩ => ⟨S4x8192x4x1, .f32⟩
  | .hbm, ⟨42, _⟩ => ⟨S4x8192x4x1, .f32⟩
  | .hbm, ⟨43, _⟩ => ⟨S4x8192x4x128, .f32⟩
  | .hbm, ⟨44, _⟩ => ⟨S4x8192x4x128, .f32⟩
  | .hbm, ⟨45, _⟩ => ⟨S1x1x1x128, .f32⟩
  | .hbm, ⟨46, _⟩ => ⟨S4x8192x4x128, .f32⟩
  | .hbm, ⟨47, _⟩ => ⟨S4x8192x4x128, .f32⟩
  | .hbm, ⟨48, _⟩ => ⟨S4x8192x512, .f32⟩
  | .hbm, ⟨49, _⟩ => ⟨S4x8192x512, .f32⟩
  | .hbm, ⟨50, _⟩ => ⟨S4x8192x512, .f32⟩
  | .hbm, ⟨51, _⟩ => ⟨S_, .f32⟩
  | .hbm, ⟨52, _⟩ => ⟨S4x8192x512, .f32⟩
  | .hbm, ⟨53, _⟩ => ⟨S4x8192x512, .f32⟩
  | .hbm, ⟨54, _⟩ => ⟨S_, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x8192x1024, .f32⟩
  | .hbm, ⟨66, _⟩ => ⟨S4x8192x1024, .f32⟩
  | .hbm, ⟨67, _⟩ => ⟨S_, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S4x8192x1024, .f32⟩
  | .hbm, ⟨84, _⟩ => ⟨S4x8192x1024, .f32⟩
  | .hbm, ⟨85, _⟩ => ⟨S_, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S32768x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== FfnNext.lean ====
abbrev S33792x1024 : Shape := ⟨2, ![33792, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c65_i32 : BitVec 32 := 65#32
  let v0 : BitVec 32 := Scalar.minsi arg0 c65_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnNextRefIdeal.lean ====
abbrev S33792x1024 : Shape := ⟨2, ![33792, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1024x1024 : Shape := ⟨2, ![1024, 1024]⟩
abbrev S4x8192x1024 : Shape := ⟨3, ![4, 8192, 1024]⟩
abbrev S4x9x1024 : Shape := ⟨3, ![4, 9, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x256x1024 : Shape := ⟨3, ![4, 256, 1024]⟩
abbrev S1x9x1024 : Shape := ⟨3, ![1, 9, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩

abbrev nBuf : Space → Nat
  | .hbm => 106
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S32768x1024, .f32⟩
  | .hbm, ⟨6, _⟩ => ⟨S1024x1024, .f32⟩
  | .hbm, ⟨7, _⟩ => ⟨S4x8192x1024, .f32⟩
  | .hbm, ⟨8, _⟩ => ⟨S4x9x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x5632, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x2816, .f32⟩
  | .hbm, ⟨42, _⟩ => ⟨S4x8192x2816, .f32⟩
  | .hbm, ⟨43, _⟩ => ⟨S_, .f32⟩
  | .hbm, ⟨44, _⟩ => ⟨S4x8192x2816, .f32⟩
  | .hbm, ⟨45, _⟩ => ⟨S4x8192x2816, .f32⟩
  | .hbm, ⟨46, _⟩ => ⟨S_, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x256x1024, .f32⟩
  | .hbm, ⟨56, _⟩ => ⟨S1x9x1024, .f32⟩
  | .hbm, ⟨57, _⟩ => ⟨S1x1x1024, .f32⟩
  | .hbm, ⟨58, _⟩ => ⟨S1x1x1024, .f32⟩
  | .hbm, ⟨59, _⟩ => ⟨S1x1x1024, .f32⟩
  | .hbm, ⟨60, _⟩ => ⟨S4x256x1024, .f32⟩
  | .hbm, ⟨61, _⟩ => ⟨S_, .f32⟩
  | .hbm, ⟨62, _⟩ => ⟨S4x256, .f32⟩
  | .hbm, ⟨63, _⟩ => ⟨S4x256x1, .f32⟩
  | .hbm, ⟨64, _⟩ => ⟨S_, .f32⟩
  | .hbm, ⟨65, _⟩ => ⟨S4x256x1, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S4x256x1, .f32⟩
  | .hbm, ⟨71, _⟩ => ⟨S4x256x1024, .f32⟩
  | .hbm, ⟨72, _⟩ => ⟨S4x256x1024, .f32⟩
  | .hbm, ⟨73, _⟩ => ⟨S1x1x1024, .f32⟩
  | .hbm, ⟨74, _⟩ => ⟨S4x256x1024, .f32⟩
  | .hbm, ⟨75, _⟩ => ⟨S4x256x1024, .f32⟩
  | .hbm, ⟨76, _⟩ => ⟨S_, .f32⟩
  | .hbm, ⟨77, _⟩ => ⟨S1x1x1024, .f32⟩
  | .hbm, ⟨78, _⟩ => ⟨S1x1x1024, .f32⟩
  | .hbm, ⟨79, _⟩ => ⟨S4x256x1024, .f32⟩
  | .hbm, ⟨80, _⟩ => ⟨S4x256x1024, .f32⟩
  | .hbm, ⟨81, _⟩ => ⟨S4x256x1024, .f32⟩
  | .hbm, ⟨82, _⟩ => ⟨S4x256x1024, .f32⟩
  | .hbm, ⟨83, _⟩ => ⟨S4x256x5632, .f32⟩
  | .hbm, ⟨84, _⟩ => ⟨S4x256x2816, .f32⟩
  | .hbm, ⟨85, _⟩ => ⟨S4x256x2816, .f32⟩
  | .hbm, ⟨86, _⟩ => ⟨S_, .f32⟩
  | .hbm, ⟨87, _⟩ => ⟨S1x1x1024, .f32⟩
  | .hbm, ⟨88, _⟩ => ⟨S1x1x1024, .f32⟩
  | .hbm, ⟨89, _⟩ => ⟨S4x256x2816, .f32⟩
  | .hbm, ⟨90, _⟩ => ⟨S4x256x2816, .f32⟩
  | .hbm, ⟨91, _⟩ => ⟨S_, .f32⟩
  | .hbm, ⟨92, _⟩ => ⟨S4x256x2816, .f32⟩
  | .hbm, ⟨93, _⟩ => ⟨S4x256x2816, .f32⟩
  | .hbm, ⟨94, _⟩ => ⟨S_, .f32⟩
  | .hbm, ⟨95, _⟩ => ⟨S4x256x2816, .f32⟩
  | .hbm, ⟨96, _⟩ => ⟨S4x256x2816, .f32⟩
  | .hbm, ⟨97, _⟩ => ⟨S4x256x2816, .f32⟩
  | .hbm, ⟨98, _⟩ => ⟨S4x256x2816, .f32⟩
  | .hbm, ⟨99, _⟩ => ⟨S4x256x1024, .f32⟩
  | .hbm, ⟨100, _⟩ => ⟨S4x256x1024, .f32⟩
  | .hbm, ⟨101, _⟩ => ⟨S4x256x1024, .f32⟩
  | .hbm, ⟨102, _⟩ => ⟨S4x256x1024, .f32⟩
  | .hbm, ⟨103, _⟩ => ⟨S32768x1024, .f32⟩
  | .hbm, ⟨104, _⟩ => ⟨S1024x1024, .f32⟩
  | .hbm, ⟨105, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_8 : Ref sig .tc := ⟨.hbm, 86, rfl⟩
abbrev main_v64 : Ref sig .tc := ⟨.hbm, 87, rfl⟩
abbrev main_v65 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== FfnLast.lean ====
abbrev S32768x1024 : Shape := ⟨2, ![32768, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnLastRefIdeal.lean ====
abbrev S32768x1024 : Shape := ⟨2, ![32768, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S4x8192x1024 : Shape := ⟨3, ![4, 8192, 1024]⟩
abbrev S4x9x1024 : Shape := ⟨3, ![4, 9, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4x8192x1024, .f32⟩
  | .hbm, ⟨6, _⟩ => ⟨S4x9x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x5632, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x8192x2816, .f32⟩
  | .hbm, ⟨40, _⟩ => ⟨S4x8192x2816, .f32⟩
  | .hbm, ⟨41, _⟩ => ⟨S_, .f32⟩
  | .hbm, ⟨42, _⟩ => ⟨S4x8192x2816, .f32⟩
  | .hbm, ⟨43, _⟩ => ⟨S4x8192x2816, .f32⟩
  | .hbm, ⟨44, _⟩ => ⟨S_, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Proof.Ffn.Math.lean ====
/-
  One row of a feed-forward half-step over the extended reals: the modulated norm, the gated product over the 2816 hidden
  channels, the gate. And the sum over the hidden channels cut into the kernel's six chunks.
-/
module

public import Idealize.ShloMosaic.PureOps.Ideal

@[expose] public section

noncomputable section

namespace Cert.Ffn

open Idealize.ShloMosaic

/-- The number of channels, the norm's epsilon and one half, each as its float word reads. -/
def width : EReal := Ideal.ofBits FTy.f32 1149239296#32
def eps : EReal := Ideal.ofBits FTy.f32 897988541#32
def oneHalf : EReal := Ideal.ofBits FTy.f32 1056964608#32

/-- Entry `k` of a row's norm with its gain, scaled and shifted. -/
def normed (x g shift scale : Fin 1024 → EReal) (k : Fin 1024) : EReal :=
  x k * Ideal.rsqrt (Ideal.div (∑ j, x j * x j) width + eps) * g k * (1 + scale k) + shift k

/-- A row against column `f` of the first weights. -/
def col (h : Fin 1024 → EReal) (w13 : Fin 1024 → Fin 5632 → EReal) (f : Fin 5632) : EReal := ∑ k, h k * w13 k f

/-- Hidden channel `f`: the first half's product through `a / (1 + exp (-a))`, times the second half's. -/
def gated (h : Fin 1024 → EReal) (w13 : Fin 1024 → Fin 5632 → EReal) (f : Fin 2816) : EReal :=
  col h w13 ⟨f.val, by omega⟩ * Ideal.div 1 (1 + Ideal.exp (-col h w13 ⟨f.val, by omega⟩)) * col h w13 ⟨2816 + f.val, by omega⟩

/-- Entry `d` of the row after the half-step. -/
def half (x g shift scale gate : Fin 1024 → EReal) (w13 : Fin 1024 → Fin 5632 → EReal) (w2 : Fin 2816 → Fin 1024 → EReal) (d : Fin 1024) : EReal :=
  x d + oneHalf * gate d * ∑ f, gated (normed x g shift scale) w13 f * w2 f d

/-- The modulation's group of a row: its batch of 8192 rows, or 4 for the context's rows, which come last. -/
def group (n : Fin 33792) : Fin 8 := ⟨min (n.val / 8192) 4, by omega⟩

/-- A sum over the hidden channels is the sum of its parts over five chunks of 512 and one of 256. -/
theorem sum_chunks {M : Type} [AddCommMonoid M] (f : Fin 2816 → M) :
    ∑ k, f k = (∑ x : Fin 512, f ⟨x.val, by omega⟩) + (∑ x : Fin 512, f ⟨512 + x.val, by omega⟩) + (∑ x : Fin 512, f ⟨1024 + x.val, by omega⟩)
      + (∑ x : Fin 512, f ⟨1536 + x.val, by omega⟩) + (∑ x : Fin 512, f ⟨2048 + x.val, by omega⟩) + ∑ x : Fin 256, f ⟨2560 + x.val, by omega⟩ := by
  rw [Fin.sum_univ_add (a := 2560) (b := 256) f, Fin.sum_univ_add (a := 2048) (b := 512), Fin.sum_univ_add (a := 1536) (b := 512),
    Fin.sum_univ_add (a := 1024) (b := 512), Fin.sum_univ_add (a := 512) (b := 512)]
  rfl

/-- One chunk as the kernel computes it, `o` the chunk's first channel and `o'` its column in the second half. -/
theorem chunk (n o o' : ℕ) (h : Fin 1024 → EReal) (w13 : Fin 1024 → Fin 5632 → EReal) (w2 : Fin 2816 → EReal) (ho : o + n ≤ 2816) (e : o' = 2816 + o) :
    (∑ x : Fin n, (col h w13 ⟨o + x.val, by omega⟩ * Ideal.div 1 (1 + Ideal.exp (0 - col h w13 ⟨o + x.val, by omega⟩)) * col h w13 ⟨o' + x.val, by omega⟩)
        * w2 ⟨o + x.val, by omega⟩)
      = ∑ x : Fin n, gated h w13 ⟨o + x.val, by omega⟩ * w2 ⟨o + x.val, by omega⟩ := by
  subst e
  refine Finset.sum_congr rfl fun x _ => ?_
  unfold gated
  rw [zero_sub]
  simp only [Nat.add_assoc]

/-- The first chunk, whose first channel is 0. -/
theorem chunk_zero (h : Fin 1024 → EReal) (w13 : Fin 1024 → Fin 5632 → EReal) (w2 : Fin 2816 → EReal) :
    (∑ x : Fin 512, (col h w13 ⟨x.val, by omega⟩ * Ideal.div 1 (1 + Ideal.exp (0 - col h w13 ⟨x.val, by omega⟩)) * col h w13 ⟨2816 + x.val, by omega⟩)
        * w2 ⟨x.val, by omega⟩)
      = ∑ x : Fin 512, gated h w13 ⟨x.val, by omega⟩ * w2 ⟨x.val, by omega⟩ := by
  refine Finset.sum_congr rfl fun x _ => ?_
  unfold gated
  rw [zero_sub]

/-- The six chunks' sums, as the kernel adds them up. -/
theorem chunks (h : Fin 1024 → EReal) (w13 : Fin 1024 → Fin 5632 → EReal) (w2 : Fin 2816 → EReal) :
    (∑ x : Fin 512, (col h w13 ⟨x.val, by omega⟩ * Ideal.div 1 (1 + Ideal.exp (0 - col h w13 ⟨x.val, by omega⟩)) * col h w13 ⟨2816 + x.val, by omega⟩)
        * w2 ⟨x.val, by omega⟩)
      + (∑ x : Fin 512, (col h w13 ⟨512 + x.val, by omega⟩ * Ideal.div 1 (1 + Ideal.exp (0 - col h w13 ⟨512 + x.val, by omega⟩)) * col h w13 ⟨3328 + x.val, by omega⟩)
        * w2 ⟨512 + x.val, by omega⟩)
      + (∑ x : Fin 512, (col h w13 ⟨1024 + x.val, by omega⟩ * Ideal.div 1 (1 + Ideal.exp (0 - col h w13 ⟨1024 + x.val, by omega⟩)) * col h w13 ⟨3840 + x.val, by omega⟩)
        * w2 ⟨1024 + x.val, by omega⟩)
      + (∑ x : Fin 512, (col h w13 ⟨1536 + x.val, by omega⟩ * Ideal.div 1 (1 + Ideal.exp (0 - col h w13 ⟨1536 + x.val, by omega⟩)) * col h w13 ⟨4352 + x.val, by omega⟩)
        * w2 ⟨1536 + x.val, by omega⟩)
      + (∑ x : Fin 512, (col h w13 ⟨2048 + x.val, by omega⟩ * Ideal.div 1 (1 + Ideal.exp (0 - col h w13 ⟨2048 + x.val, by omega⟩)) * col h w13 ⟨4864 + x.val, by omega⟩)
        * w2 ⟨2048 + x.val, by omega⟩)
      + (∑ x : Fin 256, (col h w13 ⟨2560 + x.val, by omega⟩ * Ideal.div 1 (1 + Ideal.exp (0 - col h w13 ⟨2560 + x.val, by omega⟩)) * col h w13 ⟨5376 + x.val, by omega⟩)
        * w2 ⟨2560 + x.val, by omega⟩)
      = ∑ f, gated h w13 f * w2 f := by
  rw [sum_chunks, chunk_zero, chunk 512 512 3328 h w13 w2 (by omega) rfl, chunk 512 1024 3840 h w13 w2 (by omega) rfl,
    chunk 512 1536 4352 h w13 w2 (by omega) rfl, chunk 512 2048 4864 h w13 w2 (by omega) rfl, chunk 256 2560 5376 h w13 w2 (by omega) rfl]

end Cert.Ffn

end
-- ==== Proof.Ffn.First.lean ====
/-
  The first half-step's kernel, entry by entry, over the ideal numbers: each row's `Ffn.half` with its group's modulation. The last
  1024 rows come from the context's own array.
-/
module

public import proofs.«01_k».proof.Proof.Gen.Ffn1Ideal.Value
public import proofs.«01_k».proof.Proof.Ffn.Math
public import Idealize.ShloMosaic.Lib.Pipeline.ValueKit
public import Idealize.ShloMosaic.Lib.Pointwise
public import Idealize.ShloMosaic.Lib.Claim

@[expose] public section

set_option maxRecDepth 16384

noncomputable section

namespace Cert.Ffn1Ideal.Ffn

open Cert.Ffn1Ideal Cert.Ffn1Ideal.Gen Cert.Ffn
open Idealize.ShloMosaic Idealize.ShloMosaic.TcCoe Idealize.SL.Sem

section Body

variable (x0 : Vec Ideal S512x1024 .f32) (x1 : Vec Ideal S1x9x1024 .f32) (x2 : Vec Ideal S1x1024 .f32) (x3 : Vec Ideal S1024x5632 .bf16)
  (x4 : Vec Ideal S2816x1024 .bf16) (x5 : Vec Ideal S512x1024 .f32)

theorem zero2 : (![0, 0] : Fin 2 → ℕ) = fun _ => 0 := by decide
theorem zero3 : (![0, 0, 0] : Fin 3 → ℕ) = fun _ => 0 := by decide

/-- The row that a point works on: the context's from point 64 on. -/
def row (i : grid0.Coords) (r : Fin 512) (k : Fin 1024) : EReal := k0_pay2 (F := Ideal) i x0 x5 (ix2 r k)

/-- The modulated norm of a row of the block. -/
theorem h_apply (i : grid0.Coords) (r : Fin 512) (k : Fin 1024) : k0_pay4 (F := Ideal) i x0 x5 x1 x2 (ix2 r k)
    = normed (row x0 x5 i r) (fun j => x2 (ix2 0 j)) (fun j => x1 (ix3 0 0 j)) (fun j => x1 (ix3 0 1 j)) k := by
  unfold k0_pay4 row
  generalize k0_pay2 (F := Ideal) i x0 x5 = x
  pointwise [k0_pay3]
  rfl

/-- The block that a point leaves, row by row. -/
theorem out_apply (i : grid0.Coords) (r : Fin 512) (d : Fin 1024) : out0_6 (F := Ideal) i x0 x1 x2 x3 x4 x5 (ix2 r d)
    = half (row x0 x5 i r) (fun j => x2 (ix2 0 j)) (fun j => x1 (ix3 0 0 j)) (fun j => x1 (ix3 0 1 j)) (fun j => x1 (ix3 0 2 j))
        (fun k f => x3 (ix2 k f)) (fun f j => x4 (ix2 f j)) d := by
  unfold half
  rw [← chunks]
  rw [show normed (row x0 x5 i r) (fun j => x2 (ix2 0 j)) (fun j => x1 (ix3 0 0 j)) (fun j => x1 (ix3 0 1 j))
    = fun k => k0_pay4 (F := Ideal) i x0 x5 x1 x2 (ix2 r k) from funext fun k => (h_apply x0 x1 x2 x5 i r k).symm]
  unfold out0_6 k0_pay16 k0_pay7 k0_pay6
  rw [show (View.ld x0 r0_0 : Vec Ideal S512x1024 .f32) = x0 from View.ld_unit_zero zero2 _ _,
    show (View.ld x5 r0_0 : Vec Ideal S512x1024 .f32) = x5 from View.ld_unit_zero zero2 _ _,
    show (View.ld x1 r0_1 : Vec Ideal S1x9x1024 .f32) = x1 from View.ld_unit_zero zero3 _ _,
    show (View.ld x2 r0_2 : Vec Ideal S1x1024 .f32) = x2 from View.ld_unit_zero zero2 _ _]
  unfold row
  generalize k0_pay4 (F := Ideal) i x0 x5 x1 x2 = hv
  generalize k0_pay2 (F := Ideal) i x0 x5 = x
  rw [View.canon_unit_zero zero2]
  pointwise [k0_pay15, k0_pay14, k0_pay13, k0_pay12, k0_pay11, k0_pay10, k0_pay9, k0_pay8, k0_pay5, k0_pay3, k0_pay1]
  rfl

/-- The chosen block, by the point's number. -/
theorem row_eq (i : grid0.Coords) (hi : (i 0).val < 66) (r : Fin 512) (k : Fin 1024) : row x0 x5 i r k = if 64 ≤ (i 0).val then x5 (ix2 r k) else x0 (ix2 r k) := by
  unfold row k0_pay2
  generalize (i 0).val = t at hi
  show (Scalar.select (Scalar.cmpi .sge (BitVec.ofNat 32 t) 64#32) x5 x0 : Vec Ideal S512x1024 .f32) (ix2 r k) = _
  have e : Scalar.cmpi .sge (BitVec.ofNat 32 t) 64#32 = if 64 ≤ t then 1#1 else 0#1 :=
    (by decide +kernel : ∀ t : Fin 66, Scalar.cmpi .sge (BitVec.ofNat 32 t.val) 64#32 = if 64 ≤ t.val then 1#1 else 0#1) ⟨t, hi⟩
  rw [e]
  split
  · rfl
  · rfl

end Body

variable (m : (ℓ : Loc nD τ sig) → Buf (Elt Ideal) ℓ) (c : Dev nD)

/-- The arguments' entries. -/
def aA (n : Fin 32768) (k : Fin 1024) : EReal := (m ((c.tc : Thread nD τ).loc main_arg0) : FVec Ideal S32768x1024 .f32) (ix2 n k)
def aC (n : Fin 1024) (k : Fin 1024) : EReal := (m ((c.tc : Thread nD τ).loc main_arg1) : FVec Ideal S1024x1024 .f32) (ix2 n k)
def aMod (g : Fin 8) (j : Fin 9) (k : Fin 1024) : EReal := (m ((c.tc : Thread nD τ).loc main_arg2) : FVec Ideal S8x9x1024 .f32) (ix3 g j k)
def aGain (k : Fin 1024) : EReal := (m ((c.tc : Thread nD τ).loc main_arg3) : FVec Ideal S1024 .f32) (ix1 k)
def aW13 (k : Fin 1024) (f : Fin 5632) : EReal := (m ((c.tc : Thread nD τ).loc main_arg4) : FVec Ideal S1024x5632 .f32) (ix2 k f)
def aW2 (f : Fin 2816) (k : Fin 1024) : EReal := (m ((c.tc : Thread nD τ).loc main_arg5) : FVec Ideal S2816x1024 .f32) (ix2 f k)

theorem V_gain (k : Fin 1024) : (V m c main_v0 : FVec Ideal S1x1024 .f32) (ix2 0 k) = aGain m c k := by
  entry_read
  pointwise
  rfl
theorem V_w13 (k : Fin 1024) (f : Fin 5632) : (V m c main_v1 : FVec Ideal S1024x5632 .bf16) (ix2 k f) = aW13 m c k f := by
  entry_read
  pointwise
  rfl
theorem V_w2 (f : Fin 2816) (k : Fin 1024) : (V m c main_v2 : FVec Ideal S2816x1024 .bf16) (ix2 f k) = aW2 m c f k := by
  entry_read
  pointwise
  rfl

theorem idx : ∀ t : Fin cfg0.N, win0_0.index t = ![min t.val 63, 0] ∧ win0_1.index t = ![min (t.val / 16) 4, 0, 0] ∧ win0_2.index t = ![0, 0]
    ∧ win0_3.index t = ![0, 0] ∧ win0_4.index t = ![0, 0] ∧ win0_5.index t = ![t.val - 64, 0] ∧ win0_6.index t = ![t.val, 0] ∧ (grid0.coords t 0).val = t.val :=
  (by decide +kernel : ∀ t : Fin grid0.N, _)

theorem blk_a (t : Fin cfg0.N) (r : Fin 512) (k : Fin 1024) (n : Fin 32768) (hn : n.val = t.val * 512 + r.val) :
    (iblk m c 0 t : Vec Ideal S512x1024 .f32) (ix2 r k) = aA m c n k := by
  have ht : t.val < 66 := lt_of_lt_of_eq t.isLt N_0
  have e : (V m c main_arg0 : FVec Ideal S32768x1024 .f32) (ix2 n k) = aA m c n k := by rw [V_main_arg0]; rfl
  rw [← e]
  blk_ext [iblk, idx t]
theorem blk_c (t : Fin cfg0.N) (r : Fin 512) (k : Fin 1024) (n : Fin 1024) (h64 : 64 ≤ t.val) (hn : n.val = (t.val - 64) * 512 + r.val) :
    (iblk m c 5 t : Vec Ideal S512x1024 .f32) (ix2 r k) = aC m c n k := by
  have ht : t.val < 66 := lt_of_lt_of_eq t.isLt N_0
  have e : (V m c main_arg1 : FVec Ideal S1024x1024 .f32) (ix2 n k) = aC m c n k := by rw [V_main_arg1]; rfl
  rw [← e]
  blk_ext [iblk, idx t]
theorem blk_mod (t : Fin cfg0.N) (j : Fin 9) (k : Fin 1024) (g : Fin 8) (hg : g.val = min (t.val / 16) 4) :
    (iblk m c 1 t : Vec Ideal S1x9x1024 .f32) (ix3 0 j k) = aMod m c g j k := by
  have ht : t.val < 66 := lt_of_lt_of_eq t.isLt N_0
  have e : (V m c main_arg2 : FVec Ideal S8x9x1024 .f32) (ix3 g j k) = aMod m c g j k := by rw [V_main_arg2]; rfl
  rw [← e]
  blk_ext [iblk, idx t]
theorem blk_gain (t : Fin cfg0.N) (k : Fin 1024) : (iblk m c 2 t : Vec Ideal S1x1024 .f32) (ix2 0 k) = aGain m c k := by
  rw [← V_gain]
  blk_ext [iblk, idx t]
theorem blk_w13 (t : Fin cfg0.N) (k : Fin 1024) (f : Fin 5632) : (iblk m c 3 t : Vec Ideal S1024x5632 .bf16) (ix2 k f) = aW13 m c k f := by
  rw [← V_w13]
  blk_ext [iblk, idx t]
theorem blk_w2 (t : Fin cfg0.N) (f : Fin 2816) (k : Fin 1024) : (iblk m c 4 t : Vec Ideal S2816x1024 .bf16) (ix2 f k) = aW2 m c f k := by
  rw [← V_w2]
  blk_ext [iblk, idx t]

/-- Row `n` of the two arrays together, the context's rows last. -/
def aX (n : Fin 33792) (k : Fin 1024) : EReal := if h : n.val < 32768 then aA m c ⟨n.val, h⟩ k else aC m c ⟨n.val - 32768, by omega⟩ k

/-- The half-step's result at row `n`, channel `d`. -/
def result (n : Fin 33792) (d : Fin 1024) : EReal :=
  half (aX m c n) (aGain m c) (aMod m c (group n) 0) (aMod m c (group n) 1) (aMod m c (group n) 2) (aW13 m c) (aW2 m c) d

theorem point (t : Fin cfg0.N) (r : Fin 512) (d : Fin 1024) (n : Fin 33792) (hn : n.val = t.val * 512 + r.val) :
    out0_6 (F := Ideal) (grid0.coords t) (iblk m c 0 t) (iblk m c 1 t) (iblk m c 2 t) (iblk m c 3 t) (iblk m c 4 t) (iblk m c 5 t) (ix2 r d) = result m c n d := by
  have ht : t.val < 66 := lt_of_lt_of_eq t.isLt N_0
  have hr := r.isLt
  have hg : (group n).val = min (t.val / 16) 4 := by show min (n.val / 8192) 4 = _; omega
  have ei : (grid0.coords t 0).val = t.val := (idx t).2.2.2.2.2.2.2
  have h0 : row (iblk m c 0 t) (iblk m c 5 t) (grid0.coords t) r = aX m c n := funext fun j => by
    rw [row_eq _ _ _ (by rw [ei]; exact ht), ei]
    unfold aX
    by_cases h : 64 ≤ t.val
    · rw [if_pos h, dif_neg (by omega)]
      exact blk_c m c t r j _ h (by show n.val - 32768 = _; omega)
    · rw [if_neg h, dif_pos (by omega)]
      exact blk_a m c t r j _ hn
  have h1 : ∀ i, (fun j => (iblk m c 1 t : Vec Ideal S1x9x1024 .f32) (ix3 0 i j)) = aMod m c (group n) i := fun i => funext fun j => blk_mod m c t i j _ hg
  have h2 : (fun j => (iblk m c 2 t : Vec Ideal S1x1024 .f32) (ix2 0 j)) = aGain m c := funext fun j => blk_gain m c t j
  have h3 : (fun k f => (iblk m c 3 t : Vec Ideal S1024x5632 .bf16) (ix2 k f)) = aW13 m c := funext fun k => funext fun f => blk_w13 m c t k f
  have h4 : (fun f k => (iblk m c 4 t : Vec Ideal S2816x1024 .bf16) (ix2 f k)) = aW2 m c := funext fun f => funext fun k => blk_w2 m c t f k
  refine (out_apply _ _ _ _ _ _ _ r d).trans ?_
  unfold result
  rw [← h0, ← h1, ← h1, ← h1, ← h2, ← h3, ← h4]

theorem final : (dats m 0 c).arrAt 6 cfg0.N = fun i : S33792x1024.Idx => result m c ⟨(i 0).val, (i 0).isLt⟩ ⟨(i 1).val, (i 1).isLt⟩ := by
  refine (dats m 0 c).arrAt_eq_of_covers 6 _ (by decide +kernel) fun t hfl y => ?_
  have ht : t.val < 66 := lt_of_lt_of_eq t.isLt N_0
  idx_vars y
  blk_simp [idx t]
  rw [after0_6]
  have hy0 := y0.isLt
  exact point m c t ⟨y0.val, y0.isLt⟩ ⟨y1.val, y1.isLt⟩ ⟨t.val * 512 + y0.val, by omega⟩ rfl

end Cert.Ffn1Ideal.Ffn

end
-- ==== Proof.Ffn.FirstRef.lean ====
/-
  The first half-step's reference, entry by entry, over the ideal numbers.
-/
module

public import proofs.«01_k».proof.Proof.Gen.Ffn1RefIdeal.Read
public import proofs.«01_k».proof.Proof.Ffn.Math
public import Idealize.ShloMosaic.Lib.Pointwise
public import Idealize.ShloMosaic.Lib.Claim

@[expose] public section

set_option maxRecDepth 16384

noncomputable section

namespace Cert.Ffn1RefIdeal.Ffn

open Cert.Ffn1RefIdeal Cert.Ffn1RefIdeal.Read Cert.Ffn1RefIdeal.Gen Cert.Ffn
open Idealize.ShloMosaic Idealize.ShloMosaic.TcCoe Idealize.SL.Sem

variable (x0 : FVec Ideal S32768x1024 .f32) (x1 : FVec Ideal S1024x1024 .f32) (x2 : FVec Ideal S8x9x1024 .f32) (x3 : FVec Ideal S1024 .f32)
  (x4 : FVec Ideal S1024x5632 .f32) (x5 : FVec Ideal S2816x1024 .f32)

/-- The modulated norm of a latent row. -/
theorem lat_h (b : Fin 4) (t : Fin 8192) (k : Fin 1024) : val_main_v23 (F := Ideal) x0 x2 x3 (ix3 b t k)
    = normed (fun j => x0 (ix2 ⟨b.val * 8192 + t.val, by omega⟩ j)) (fun j => x3 (ix1 j)) (fun j => x2 (ix3 ⟨b.val, by omega⟩ 0 j))
      (fun j => x2 (ix3 ⟨b.val, by omega⟩ 1 j)) k := by
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- A latent row's half-step. -/
theorem lat_apply (b : Fin 4) (t : Fin 8192) (d : Fin 1024) : val_main_v34 (F := Ideal) x0 x2 x3 x4 x5 (ix3 b t d)
    = half (fun j => x0 (ix2 ⟨b.val * 8192 + t.val, by omega⟩ j)) (fun j => x3 (ix1 j)) (fun j => x2 (ix3 ⟨b.val, by omega⟩ 0 j))
        (fun j => x2 (ix3 ⟨b.val, by omega⟩ 1 j)) (fun j => x2 (ix3 ⟨b.val, by omega⟩ 2 j)) (fun k f => x4 (ix2 k f)) (fun f j => x5 (ix2 f j)) d := by
  unfold half
  rw [show normed (fun j => x0 (ix2 ⟨b.val * 8192 + t.val, by omega⟩ j)) (fun j => x3 (ix1 j)) (fun j => x2 (ix3 ⟨b.val, by omega⟩ 0 j))
      (fun j => x2 (ix3 ⟨b.val, by omega⟩ 1 j))
    = fun k => val_main_v23 (F := Ideal) x0 x2 x3 (ix3 b t k) from funext fun k => (lat_h x0 x2 x3 b t k).symm]
  unfold gated col
  pointwise [val_main_v34, val_main_v33, val_main_v32, val_main_v31, val_main_v30, val_main_v29, val_main_call0_v5, val_main_call0_v4, val_main_call0_v3,
    val_main_call0_v2, val_main_call0_v1, val_main_call0_v0, val_main_call0_cst, val_main_call0_cst_0, val_main_v28, val_main_v27, val_main_v26,
    val_main_v25, val_main_v24, val_main_cst_3, val_main_v4, val_main_v1, val_main_v0]
  rfl

/-- The modulated norm of a context row. -/
theorem ctx_h (b : Fin 4) (t : Fin 256) (k : Fin 1024) : val_main_v58 (F := Ideal) x1 x2 x3 (ix3 b t k)
    = normed (fun j => x1 (ix2 ⟨b.val * 256 + t.val, by omega⟩ j)) (fun j => x3 (ix1 j)) (fun j => x2 (ix3 4 0 j))
      (fun j => x2 (ix3 4 1 j)) k := by
  pointwise [val_main_v58, val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40, val_main_v39,
    val_main_v38, val_main_v37, val_main_v36, val_main_v35, val_main_cst_4, val_main_cst_5, val_main_cst_6, val_main_cst_7]
  rfl

/-- A context row's half-step. -/
theorem ctx_apply (b : Fin 4) (t : Fin 256) (d : Fin 1024) : val_main_v69 (F := Ideal) x1 x2 x3 x4 x5 (ix3 b t d)
    = half (fun j => x1 (ix2 ⟨b.val * 256 + t.val, by omega⟩ j)) (fun j => x3 (ix1 j)) (fun j => x2 (ix3 4 0 j))
        (fun j => x2 (ix3 4 1 j)) (fun j => x2 (ix3 4 2 j)) (fun k f => x4 (ix2 k f)) (fun f j => x5 (ix2 f j)) d := by
  unfold half
  rw [show normed (fun j => x1 (ix2 ⟨b.val * 256 + t.val, by omega⟩ j)) (fun j => x3 (ix1 j)) (fun j => x2 (ix3 4 0 j))
      (fun j => x2 (ix3 4 1 j))
    = fun k => val_main_v58 (F := Ideal) x1 x2 x3 (ix3 b t k) from funext fun k => (ctx_h x1 x2 x3 b t k).symm]
  unfold gated col
  pointwise [val_main_v69, val_main_v68, val_main_v67, val_main_v66, val_main_v65, val_main_v64, val_main_call1_v5, val_main_call1_v4, val_main_call1_v3,
    val_main_call1_v2, val_main_call1_v1, val_main_call1_v0, val_main_call1_cst, val_main_call1_cst_0, val_main_v63, val_main_v62, val_main_v61,
    val_main_v60, val_main_v59, val_main_cst_8, val_main_v39, val_main_v36, val_main_v35]
  rfl

theorem rows_lat (n : Fin 32768) (d : Fin 1024) : val_main_v70 (F := Ideal) x0 x2 x3 x4 x5 (ix2 n d)
    = val_main_v34 (F := Ideal) x0 x2 x3 x4 x5 (ix3 ⟨n.val / 8192, by omega⟩ ⟨n.val % 8192, by omega⟩ d) := by
  pointwise [val_main_v70]

theorem rows_ctx (n : Fin 1024) (d : Fin 1024) : val_main_v71 (F := Ideal) x1 x2 x3 x4 x5 (ix2 n d)
    = val_main_v69 (F := Ideal) x1 x2 x3 x4 x5 (ix3 ⟨n.val / 256, by omega⟩ ⟨n.val % 256, by omega⟩ d) := by
  pointwise [val_main_v71]

theorem joined (n : Fin 33792) (d : Fin 1024) : val_main_v72 (F := Ideal) x0 x1 x2 x3 x4 x5 (ix2 n d)
    = if h : n.val < 32768 then val_main_v70 (F := Ideal) x0 x2 x3 x4 x5 (ix2 ⟨n.val, h⟩ d) else val_main_v71 (F := Ideal) x1 x2 x3 x4 x5 (ix2 ⟨n.val - 32768, by omega⟩ d) := by
  pointwise [val_main_v72]

/-- The reference's result at row `n`, channel `d`. -/
theorem value (n : Fin 33792) (d : Fin 1024) : val_main_v72 (F := Ideal) x0 x1 x2 x3 x4 x5 (ix2 n d)
    = half (fun k => if h : n.val < 32768 then x0 (ix2 ⟨n.val, h⟩ k) else x1 (ix2 ⟨n.val - 32768, by omega⟩ k)) (fun j => x3 (ix1 j)) (fun j => x2 (ix3 (group n) 0 j)) (fun j => x2 (ix3 (group n) 1 j))
        (fun j => x2 (ix3 (group n) 2 j)) (fun k f => x4 (ix2 k f)) (fun f j => x5 (ix2 f j)) d := by
  have hn := n.isLt
  rw [joined]
  by_cases h : n.val < 32768
  · have eg : group n = ⟨n.val / 8192, by omega⟩ := Fin.ext (by show min (n.val / 8192) 4 = n.val / 8192; omega)
    rw [dif_pos h, rows_lat, lat_apply, eg]
    simp only [dif_pos h, Nat.div_add_mod']
  · have eg : group n = 4 := Fin.ext (by show min (n.val / 8192) 4 = 4; omega)
    rw [dif_neg h, rows_ctx, ctx_apply, eg]
    simp only [dif_neg h, Nat.div_add_mod']

end Cert.Ffn1RefIdeal.Ffn

end
-- ==== Proof.Ffn.Second.lean ====
/-
  The second half-step's kernel, entry by entry, over the ideal numbers: each row's `Ffn.half` with its group's modulation.
-/
module

public import proofs.«01_k».proof.Proof.Gen.Ffn2Ideal.Value
public import proofs.«01_k».proof.Proof.Ffn.Math
public import Idealize.ShloMosaic.Lib.Pipeline.ValueKit
public import Idealize.ShloMosaic.Lib.Pointwise
public import Idealize.ShloMosaic.Lib.Claim

@[expose] public section

set_option maxRecDepth 16384

noncomputable section

namespace Cert.Ffn2Ideal.Ffn

open Cert.Ffn2Ideal Cert.Ffn2Ideal.Gen Cert.Ffn
open Idealize.ShloMosaic Idealize.ShloMosaic.TcCoe Idealize.SL.Sem

section Body

variable (x0 : Vec Ideal S512x1024 .f32) (x1 : Vec Ideal S1x9x1024 .f32) (x2 : Vec Ideal S1x1024 .f32) (x3 : Vec Ideal S1024x5632 .bf16)
  (x4 : Vec Ideal S2816x1024 .bf16)

theorem zero2 : (![0, 0] : Fin 2 → ℕ) = fun _ => 0 := by decide
theorem zero3 : (![0, 0, 0] : Fin 3 → ℕ) = fun _ => 0 := by decide

/-- The modulated norm of a row of the block. -/
theorem h_apply (r : Fin 512) (k : Fin 1024) : k0_pay2 (F := Ideal) x0 x1 x2 (ix2 r k)
    = normed (fun j => x0 (ix2 r j)) (fun j => x2 (ix2 0 j)) (fun j => x1 (ix3 0 6 j)) (fun j => x1 (ix3 0 7 j)) k := by
  pointwise [k0_pay2, k0_pay1]
  rfl

/-- The block that a point leaves, row by row. -/
theorem out_apply (r : Fin 512) (d : Fin 1024) : out0_5 (F := Ideal) x0 x1 x2 x3 x4 (ix2 r d)
    = half (fun j => x0 (ix2 r j)) (fun j => x2 (ix2 0 j)) (fun j => x1 (ix3 0 6 j)) (fun j => x1 (ix3 0 7 j)) (fun j => x1 (ix3 0 8 j))
        (fun k f => x3 (ix2 k f)) (fun f j => x4 (ix2 f j)) d := by
  unfold half
  rw [← chunks]
  rw [show normed (fun j => x0 (ix2 r j)) (fun j => x2 (ix2 0 j)) (fun j => x1 (ix3 0 6 j)) (fun j => x1 (ix3 0 7 j))
    = fun k => k0_pay2 (F := Ideal) x0 x1 x2 (ix2 r k) from funext fun k => (h_apply x0 x1 x2 r k).symm]
  unfold out0_5 k0_pay15 k0_pay6 k0_pay5 k0_pay4
  rw [show (View.ld x0 r0_0 : Vec Ideal S512x1024 .f32) = x0 from View.ld_unit_zero zero2 _ _,
    show (View.ld x1 r0_1 : Vec Ideal S1x9x1024 .f32) = x1 from View.ld_unit_zero zero3 _ _,
    show (View.ld x2 r0_2 : Vec Ideal S1x1024 .f32) = x2 from View.ld_unit_zero zero2 _ _]
  generalize k0_pay2 (F := Ideal) x0 x1 x2 = hv
  rw [View.canon_unit_zero zero2]
  pointwise [k0_pay14, k0_pay13, k0_pay12, k0_pay11, k0_pay10, k0_pay9, k0_pay8, k0_pay7, k0_pay3, k0_pay1]
  rfl

end Body

variable (m : (ℓ : Loc nD τ sig) → Buf (Elt Ideal) ℓ) (c : Dev nD)

/-- The arguments' entries. -/
def aX (n : Fin 33792) (k : Fin 1024) : EReal := (m ((c.tc : Thread nD τ).loc main_arg0) : FVec Ideal S33792x1024 .f32) (ix2 n k)
def aMod (g : Fin 8) (j : Fin 9) (k : Fin 1024) : EReal := (m ((c.tc : Thread nD τ).loc main_arg1) : FVec Ideal S8x9x1024 .f32) (ix3 g j k)
def aGain (k : Fin 1024) : EReal := (m ((c.tc : Thread nD τ).loc main_arg2) : FVec Ideal S1024 .f32) (ix1 k)
def aW13 (k : Fin 1024) (f : Fin 5632) : EReal := (m ((c.tc : Thread nD τ).loc main_arg3) : FVec Ideal S1024x5632 .f32) (ix2 k f)
def aW2 (f : Fin 2816) (k : Fin 1024) : EReal := (m ((c.tc : Thread nD τ).loc main_arg4) : FVec Ideal S2816x1024 .f32) (ix2 f k)

theorem V_gain (k : Fin 1024) : (V m c main_v0 : FVec Ideal S1x1024 .f32) (ix2 0 k) = aGain m c k := by
  entry_read
  pointwise
  rfl
theorem V_w13 (k : Fin 1024) (f : Fin 5632) : (V m c main_v1 : FVec Ideal S1024x5632 .bf16) (ix2 k f) = aW13 m c k f := by
  entry_read
  pointwise
  rfl
theorem V_w2 (f : Fin 2816) (k : Fin 1024) : (V m c main_v2 : FVec Ideal S2816x1024 .bf16) (ix2 f k) = aW2 m c f k := by
  entry_read
  pointwise
  rfl

theorem idx : ∀ t : Fin cfg0.N, win0_0.index t = ![min t.val 65, 0] ∧ win0_1.index t = ![min (t.val / 16) 4, 0, 0] ∧ win0_2.index t = ![0, 0]
    ∧ win0_3.index t = ![0, 0] ∧ win0_4.index t = ![0, 0] ∧ win0_5.index t = ![t.val, 0] :=
  (by decide +kernel : ∀ t : Fin grid0.N, _)

theorem blk_x (t : Fin cfg0.N) (r : Fin 512) (k : Fin 1024) (n : Fin 33792) (hn : n.val = t.val * 512 + r.val) :
    (iblk m c 0 t : Vec Ideal S512x1024 .f32) (ix2 r k) = aX m c n k := by
  have ht : t.val < 66 := lt_of_lt_of_eq t.isLt N_0
  have e : (V m c main_arg0 : FVec Ideal S33792x1024 .f32) (ix2 n k) = aX m c n k := by rw [V_main_arg0]; rfl
  rw [← e]
  blk_ext [iblk, idx t]
theorem blk_mod (t : Fin cfg0.N) (j : Fin 9) (k : Fin 1024) (g : Fin 8) (hg : g.val = min (t.val / 16) 4) :
    (iblk m c 1 t : Vec Ideal S1x9x1024 .f32) (ix3 0 j k) = aMod m c g j k := by
  have ht : t.val < 66 := lt_of_lt_of_eq t.isLt N_0
  have e : (V m c main_arg1 : FVec Ideal S8x9x1024 .f32) (ix3 g j k) = aMod m c g j k := by rw [V_main_arg1]; rfl
  rw [← e]
  blk_ext [iblk, idx t]
theorem blk_gain (t : Fin cfg0.N) (k : Fin 1024) : (iblk m c 2 t : Vec Ideal S1x1024 .f32) (ix2 0 k) = aGain m c k := by
  rw [← V_gain]
  blk_ext [iblk, idx t]
theorem blk_w13 (t : Fin cfg0.N) (k : Fin 1024) (f : Fin 5632) : (iblk m c 3 t : Vec Ideal S1024x5632 .bf16) (ix2 k f) = aW13 m c k f := by
  rw [← V_w13]
  blk_ext [iblk, idx t]
theorem blk_w2 (t : Fin cfg0.N) (f : Fin 2816) (k : Fin 1024) : (iblk m c 4 t : Vec Ideal S2816x1024 .bf16) (ix2 f k) = aW2 m c f k := by
  rw [← V_w2]
  blk_ext [iblk, idx t]

/-- The half-step's result at row `n`, channel `d`. -/
def result (n : Fin 33792) (d : Fin 1024) : EReal :=
  half (aX m c n) (aGain m c) (aMod m c (group n) 6) (aMod m c (group n) 7) (aMod m c (group n) 8) (aW13 m c) (aW2 m c) d

theorem point (t : Fin cfg0.N) (r : Fin 512) (d : Fin 1024) (n : Fin 33792) (hn : n.val = t.val * 512 + r.val) :
    out0_5 (F := Ideal) (iblk m c 0 t) (iblk m c 1 t) (iblk m c 2 t) (iblk m c 3 t) (iblk m c 4 t) (ix2 r d) = result m c n d := by
  have ht : t.val < 66 := lt_of_lt_of_eq t.isLt N_0
  have hr := r.isLt
  have hg : (group n).val = min (t.val / 16) 4 := by show min (n.val / 8192) 4 = _; omega
  have h0 : (fun j => (iblk m c 0 t : Vec Ideal S512x1024 .f32) (ix2 r j)) = aX m c n := funext fun j => blk_x m c t r j n hn
  have h1 : ∀ i, (fun j => (iblk m c 1 t : Vec Ideal S1x9x1024 .f32) (ix3 0 i j)) = aMod m c (group n) i := fun i => funext fun j => blk_mod m c t i j _ hg
  have h2 : (fun j => (iblk m c 2 t : Vec Ideal S1x1024 .f32) (ix2 0 j)) = aGain m c := funext fun j => blk_gain m c t j
  have h3 : (fun k f => (iblk m c 3 t : Vec Ideal S1024x5632 .bf16) (ix2 k f)) = aW13 m c := funext fun k => funext fun f => blk_w13 m c t k f
  have h4 : (fun f k => (iblk m c 4 t : Vec Ideal S2816x1024 .bf16) (ix2 f k)) = aW2 m c := funext fun f => funext fun k => blk_w2 m c t f k
  refine (out_apply _ _ _ _ _ r d).trans ?_
  unfold result
  rw [← h0, ← h1, ← h1, ← h1, ← h2, ← h3, ← h4]

theorem final : (dats m 0 c).arrAt 5 cfg0.N = fun i : S33792x1024.Idx => result m c ⟨(i 0).val, (i 0).isLt⟩ ⟨(i 1).val, (i 1).isLt⟩ := by
  refine (dats m 0 c).arrAt_eq_of_covers 5 _ (by decide +kernel) fun t hfl y => ?_
  have ht : t.val < 66 := lt_of_lt_of_eq t.isLt N_0
  idx_vars y
  blk_simp [idx t]
  rw [after0_5]
  have hy0 := y0.isLt
  exact point m c t ⟨y0.val, y0.isLt⟩ ⟨y1.val, y1.isLt⟩ ⟨t.val * 512 + y0.val, by omega⟩ rfl

end Cert.Ffn2Ideal.Ffn

end
-- ==== Proof.Ffn.SecondRef.lean ====
/-
  The second half-step's reference, entry by entry, over the ideal numbers.
-/
module

public import proofs.«01_k».proof.Proof.Gen.Ffn2RefIdeal.Read
public import proofs.«01_k».proof.Proof.Ffn.Math
public import Idealize.ShloMosaic.Lib.Pointwise
public import Idealize.ShloMosaic.Lib.Claim

@[expose] public section

set_option maxRecDepth 16384

noncomputable section

namespace Cert.Ffn2RefIdeal.Ffn

open Cert.Ffn2RefIdeal Cert.Ffn2RefIdeal.Read Cert.Ffn2RefIdeal.Gen Cert.Ffn
open Idealize.ShloMosaic Idealize.ShloMosaic.TcCoe Idealize.SL.Sem

variable (x0 : FVec Ideal S33792x1024 .f32) (x1 : FVec Ideal S8x9x1024 .f32) (x2 : FVec Ideal S1024 .f32) (x3 : FVec Ideal S1024x5632 .f32)
  (x4 : FVec Ideal S2816x1024 .f32)

/-- The modulated norm of a latent row. -/
theorem lat_h (b : Fin 4) (t : Fin 8192) (k : Fin 1024) : val_main_v25 (F := Ideal) x0 x1 x2 (ix3 b t k)
    = normed (fun j => x0 (ix2 ⟨b.val * 8192 + t.val, by omega⟩ j)) (fun j => x2 (ix1 j)) (fun j => x1 (ix3 ⟨b.val, by omega⟩ 6 j))
      (fun j => x1 (ix3 ⟨b.val, by omega⟩ 7 j)) k := by
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v0, val_main_cst, val_main_cst_0, val_main_cst_1, val_main_cst_2]
  rfl

/-- A latent row's half-step. -/
theorem lat_apply (b : Fin 4) (t : Fin 8192) (d : Fin 1024) : val_main_v36 (F := Ideal) x0 x1 x2 x3 x4 (ix3 b t d)
    = half (fun j => x0 (ix2 ⟨b.val * 8192 + t.val, by omega⟩ j)) (fun j => x2 (ix1 j)) (fun j => x1 (ix3 ⟨b.val, by omega⟩ 6 j))
        (fun j => x1 (ix3 ⟨b.val, by omega⟩ 7 j)) (fun j => x1 (ix3 ⟨b.val, by omega⟩ 8 j)) (fun k f => x3 (ix2 k f)) (fun f j => x4 (ix2 f j)) d := by
  unfold half
  rw [show normed (fun j => x0 (ix2 ⟨b.val * 8192 + t.val, by omega⟩ j)) (fun j => x2 (ix1 j)) (fun j => x1 (ix3 ⟨b.val, by omega⟩ 6 j))
      (fun j => x1 (ix3 ⟨b.val, by omega⟩ 7 j))
    = fun k => val_main_v25 (F := Ideal) x0 x1 x2 (ix3 b t k) from funext fun k => (lat_h x0 x1 x2 b t k).symm]
  unfold gated col
  pointwise [val_main_v36, val_main_v35, val_main_v34, val_main_v33, val_main_v32, val_main_v31, val_main_call0_v5, val_main_call0_v4, val_main_call0_v3,
    val_main_call0_v2, val_main_call0_v1, val_main_call0_v0, val_main_call0_cst, val_main_call0_cst_0, val_main_v30, val_main_v29, val_main_v28,
    val_main_v27, val_main_v26, val_main_cst_3, val_main_v6, val_main_v3, val_main_v2, val_main_v0]
  rfl

/-- The modulated norm of a context row. -/
theorem ctx_h (b : Fin 4) (t : Fin 256) (k : Fin 1024) : val_main_v60 (F := Ideal) x0 x1 x2 (ix3 b t k)
    = normed (fun j => x0 (ix2 ⟨32768 + (b.val * 256 + t.val), by omega⟩ j)) (fun j => x2 (ix1 j)) (fun j => x1 (ix3 4 6 j))
      (fun j => x1 (ix3 4 7 j)) k := by
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41,
    val_main_v40, val_main_v39, val_main_v38, val_main_v37, val_main_v1, val_main_cst_4, val_main_cst_5, val_main_cst_6, val_main_cst_7]
  rfl

/-- A context row's half-step. -/
theorem ctx_apply (b : Fin 4) (t : Fin 256) (d : Fin 1024) : val_main_v71 (F := Ideal) x0 x1 x2 x3 x4 (ix3 b t d)
    = half (fun j => x0 (ix2 ⟨32768 + (b.val * 256 + t.val), by omega⟩ j)) (fun j => x2 (ix1 j)) (fun j => x1 (ix3 4 6 j))
        (fun j => x1 (ix3 4 7 j)) (fun j => x1 (ix3 4 8 j)) (fun k f => x3 (ix2 k f)) (fun f j => x4 (ix2 f j)) d := by
  unfold half
  rw [show normed (fun j => x0 (ix2 ⟨32768 + (b.val * 256 + t.val), by omega⟩ j)) (fun j => x2 (ix1 j)) (fun j => x1 (ix3 4 6 j))
      (fun j => x1 (ix3 4 7 j))
    = fun k => val_main_v60 (F := Ideal) x0 x1 x2 (ix3 b t k) from funext fun k => (ctx_h x0 x1 x2 b t k).symm]
  unfold gated col
  pointwise [val_main_v71, val_main_v70, val_main_v69, val_main_v68, val_main_v67, val_main_v66, val_main_call1_v5, val_main_call1_v4, val_main_call1_v3,
    val_main_call1_v2, val_main_call1_v1, val_main_call1_v0, val_main_call1_cst, val_main_call1_cst_0, val_main_v65, val_main_v64, val_main_v63,
    val_main_v62, val_main_v61, val_main_cst_8, val_main_v41, val_main_v38, val_main_v37, val_main_v1]
  rfl

theorem rows_lat (n : Fin 32768) (d : Fin 1024) : val_main_v72 (F := Ideal) x0 x1 x2 x3 x4 (ix2 n d)
    = val_main_v36 (F := Ideal) x0 x1 x2 x3 x4 (ix3 ⟨n.val / 8192, by omega⟩ ⟨n.val % 8192, by omega⟩ d) := by
  pointwise [val_main_v72]

theorem rows_ctx (n : Fin 1024) (d : Fin 1024) : val_main_v73 (F := Ideal) x0 x1 x2 x3 x4 (ix2 n d)
    = val_main_v71 (F := Ideal) x0 x1 x2 x3 x4 (ix3 ⟨n.val / 256, by omega⟩ ⟨n.val % 256, by omega⟩ d) := by
  pointwise [val_main_v73]

theorem joined (n : Fin 33792) (d : Fin 1024) : val_main_v74 (F := Ideal) x0 x1 x2 x3 x4 (ix2 n d)
    = if h : n.val < 32768 then val_main_v72 (F := Ideal) x0 x1 x2 x3 x4 (ix2 ⟨n.val, h⟩ d) else val_main_v73 (F := Ideal) x0 x1 x2 x3 x4 (ix2 ⟨n.val - 32768, by omega⟩ d) := by
  pointwise [val_main_v74]

/-- The reference's result at row `n`, channel `d`. -/
theorem value (n : Fin 33792) (d : Fin 1024) : val_main_v74 (F := Ideal) x0 x1 x2 x3 x4 (ix2 n d)
    = half (fun j => x0 (ix2 n j)) (fun j => x2 (ix1 j)) (fun j => x1 (ix3 (group n) 6 j)) (fun j => x1 (ix3 (group n) 7 j))
        (fun j => x1 (ix3 (group n) 8 j)) (fun k f => x3 (ix2 k f)) (fun f j => x4 (ix2 f j)) d := by
  have hn := n.isLt
  rw [joined]
  by_cases h : n.val < 32768
  · have eg : group n = ⟨n.val / 8192, by omega⟩ := Fin.ext (by show min (n.val / 8192) 4 = n.val / 8192; omega)
    rw [dif_pos h, rows_lat, lat_apply, eg]
    simp only [Nat.div_add_mod']
  · have eg : group n = 4 := Fin.ext (by show min (n.val / 8192) 4 = 4; omega)
    rw [dif_neg h, rows_ctx, ctx_apply, eg]
    have en : (⟨32768 + (n.val - 32768), by omega⟩ : Fin 33792) = n := Fin.ext (by show 32768 + (n.val - 32768) = n.val; omega)
    simp only [Nat.div_add_mod', en]

end Cert.Ffn2RefIdeal.Ffn

end
-- ==== Proof.InProj.Proj.lean ====
/-
  The input projection of the mixers' columns, entry by entry, over the ideal numbers: each row's modulated norm against the
  packed weights, whose last 64 columns are the rotary key's with the quarters exchanged.
-/
module

public import proofs.«01_k».proof.Proof.Gen.ProjIdeal.Value
public import proofs.«01_k».proof.Proof.Ffn.Math
public import Idealize.ShloMosaic.Lib.Pipeline.ValueKit
public import Idealize.ShloMosaic.Lib.Pointwise
public import Idealize.ShloMosaic.Lib.Claim

@[expose] public section

set_option maxRecDepth 16384

noncomputable section

namespace Cert.ProjIdeal.InProj

open Cert.ProjIdeal Cert.ProjIdeal.Gen Cert.Ffn
open Idealize.ShloMosaic Idealize.ShloMosaic.TcCoe Idealize.SL.Sem

theorem zero2 : (![0, 0] : Fin 2 → ℕ) = fun _ => 0 := by decide

/-- The block that a point leaves, from the row's norm. -/
theorem out_apply (x0 : Vec Ideal S512x1024 .f32) (x1 : Vec Ideal S1x9x1024 .f32) (x2 : Vec Ideal S1x1024 .f32) (x3 : Vec Ideal S1024x2304 .bf16)
    (r : Fin 512) (d : Fin 2304) : out0_4 (F := Ideal) x0 x1 x2 x3 (ix2 r d)
    = ∑ k, normed (fun j => x0 (ix2 r j)) (fun j => x2 (ix2 0 j)) (fun j => x1 (ix3 0 3 j)) (fun j => x1 (ix3 0 4 j)) k * x3 (ix2 k d) := by
  unfold out0_4
  rw [View.canon_unit_zero zero2]
  unfold normed
  pointwise [k0_pay1]
  rfl

variable (m : (ℓ : Loc nD τ sig) → Buf (Elt Ideal) ℓ) (c : Dev nD)

/-- The arguments' entries. -/
def aX (n : Fin 33792) (k : Fin 1024) : EReal := (m ((c.tc : Thread nD τ).loc main_arg0) : FVec Ideal S33792x1024 .f32) (ix2 n k)
def aMod (g : Fin 8) (j : Fin 9) (k : Fin 1024) : EReal := (m ((c.tc : Thread nD τ).loc main_arg1) : FVec Ideal S8x9x1024 .f32) (ix3 g j k)
def aGain (k : Fin 1024) : EReal := (m ((c.tc : Thread nD τ).loc main_arg2) : FVec Ideal S1024 .f32) (ix1 k)
def aW (k : Fin 1024) (f : Fin 7616) : EReal := (m ((c.tc : Thread nD τ).loc main_arg3) : FVec Ideal S1024x7616 .f32) (ix2 k f)

theorem V_gain (k : Fin 1024) : (V m c main_v20 : FVec Ideal S1x1024 .f32) (ix2 0 k) = aGain m c k := by
  entry_read
  pointwise
  rfl

/-! ### The packed weights -/

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What a buffer holds after the first `n` host operations. -/
def upto (n : ℕ) (b : Ref sig .tc) : Buf (Elt Ideal) ((c : Thread nD τ).loc b) := StableHlo.after ((hostOps0 (F := Ideal)).take n) (fun b => m (c, b)) b

theorem V_split (n : ℕ) (b : Ref sig .tc) : V m c b
    = StableHlo.after ((hostOps0 (F := Ideal)).drop n) (StableHlo.after ((hostOps0 (F := Ideal)).take n) (fun b => m (c, b))) b := by
  rw [← after_append, List.take_append_drop]

theorem V_upto19 (b : Ref sig .tc) (h : b ≠ main_v19) (h' : b ≠ main_v20) : V m c b = upto m c 19 b := by
  rw [V_split m c 19]
  refine StableHlo.after_of_forall_not_mem (b := Proc.devRef .tc b) _ _ (List.forall_iff_forall_mem.mp ?_)
  simp only [hostOps0, List.drop, List.Forall, StableHlo.nary_writes, StableHlo.reshape_writes, Finset.mem_singleton]
  exact ⟨StableHlo.devRef_ne_of_ne h, StableHlo.devRef_ne_of_ne h'⟩

theorem V_upto18 (b : Ref sig .tc) (h'' : b ≠ main_v18) (h : b ≠ main_v19) (h' : b ≠ main_v20) : V m c b = upto m c 18 b := by
  rw [V_split m c 18]
  refine StableHlo.after_of_forall_not_mem (b := Proc.devRef .tc b) _ _ (List.forall_iff_forall_mem.mp ?_)
  simp only [hostOps0, List.drop, List.Forall, StableHlo.nary_writes, StableHlo.reshape_writes, Finset.mem_singleton]
  exact ⟨StableHlo.devRef_ne_of_ne h'', StableHlo.devRef_ne_of_ne h, StableHlo.devRef_ne_of_ne h'⟩

theorem V_swap : (V m c main_v18 : FVec Ideal S1024x64 .bf16) = concatenate S1024x64 1 [⟨S1024x16, (V m c main_v14 : FVec Ideal S1024x16 .bf16)⟩,
    ⟨S1024x16, (V m c main_v15 : FVec Ideal S1024x16 .bf16)⟩, ⟨S1024x16, (V m c main_v16 : FVec Ideal S1024x16 .bf16)⟩,
    ⟨S1024x16, (V m c main_v17 : FVec Ideal S1024x16 .bf16)⟩] concatenates_S1024x16_S1024x16_S1024x16_S1024x16_S1024x64_d1 := by
  rw [V_upto18 m c main_v14 (by decide) (by decide) (by decide), V_upto18 m c main_v15 (by decide) (by decide) (by decide),
    V_upto18 m c main_v16 (by decide) (by decide) (by decide), V_upto18 m c main_v17 (by decide) (by decide) (by decide), V_split m c 18]
  unfold upto
  generalize StableHlo.after ((hostOps0 (F := Ideal)).take 18) (fun b => m (c, b)) = W
  simp only [hostOps0, List.drop, StableHlo.after_cons, StableHlo.after_nil]
  rw [StableHlo.reshape_result_ne _ _ _ _ _ _ _ (by decide), StableHlo.nary_result_ne _ _ _ _ _ _ (by decide), StableHlo.nary_result]
  rfl

theorem V_cat : (V m c main_v19 : FVec Ideal S1024x4608 .bf16) = concatenate S1024x4608 1 [⟨S1024x512, (V m c main_v1 : FVec Ideal S1024x512 .bf16)⟩,
    ⟨S1024x512, (V m c main_v2 : FVec Ideal S1024x512 .bf16)⟩, ⟨S1024x512, (V m c main_v3 : FVec Ideal S1024x512 .bf16)⟩,
    ⟨S1024x512, (V m c main_v4 : FVec Ideal S1024x512 .bf16)⟩, ⟨S1024x512, (V m c main_v5 : FVec Ideal S1024x512 .bf16)⟩,
    ⟨S1024x1536, (V m c main_v6 : FVec Ideal S1024x1536 .bf16)⟩, ⟨S1024x256, (V m c main_v7 : FVec Ideal S1024x256 .bf16)⟩,
    ⟨S1024x128, (V m c main_v8 : FVec Ideal S1024x128 .bf16)⟩, ⟨S1024x64, (V m c main_v9 : FVec Ideal S1024x64 .bf16)⟩,
    ⟨S1024x64, (V m c main_v18 : FVec Ideal S1024x64 .bf16)⟩]
    concatenates_S1024x512_S1024x512_S1024x512_S1024x512_S1024x512_S1024x1536_S1024x256_S1024x128_S1024x64_S1024x64_S1024x4608_d1 := by
  rw [V_upto19 m c main_v1 (by decide) (by decide), V_upto19 m c main_v2 (by decide) (by decide), V_upto19 m c main_v3 (by decide) (by decide),
    V_upto19 m c main_v4 (by decide) (by decide), V_upto19 m c main_v5 (by decide) (by decide), V_upto19 m c main_v6 (by decide) (by decide),
    V_upto19 m c main_v7 (by decide) (by decide), V_upto19 m c main_v8 (by decide) (by decide), V_upto19 m c main_v9 (by decide) (by decide),
    V_upto19 m c main_v18 (by decide) (by decide), V_split m c 19]
  unfold upto
  generalize StableHlo.after ((hostOps0 (F := Ideal)).take 19) (fun b => m (c, b)) = W
  simp only [hostOps0, List.drop, StableHlo.after_cons, StableHlo.after_nil]
  rw [StableHlo.reshape_result_ne _ _ _ _ _ _ _ (by decide), StableHlo.nary_result]
  rfl

/-- Column `f` of the packed weights as a column of the weights. -/
def src (f : Fin 4608) : Fin 7616 :=
  ⟨if f.val < 4544 then f.val else if f.val < 4560 then f.val - 48 else if f.val < 4576 then f.val - 80 else if f.val < 4592 then f.val - 48 else f.val - 80,
    by split_ifs <;> omega⟩

theorem swap_apply (a1 a2 a3 a4 : FVec Ideal S1024x16 .bf16) (w : Fin 1024 → Fin 7616 → EReal) (h1 : ∀ k f, a1 (ix2 k f) = w k ⟨4496 + f.val, by omega⟩)
    (h2 : ∀ k f, a2 (ix2 k f) = w k ⟨4480 + f.val, by omega⟩) (h3 : ∀ k f, a3 (ix2 k f) = w k ⟨4528 + f.val, by omega⟩)
    (h4 : ∀ k f, a4 (ix2 k f) = w k ⟨4512 + f.val, by omega⟩) (k : Fin 1024) (f : Fin 64) :
    (concatenate S1024x64 1 [⟨S1024x16, a1⟩, ⟨S1024x16, a2⟩, ⟨S1024x16, a3⟩, ⟨S1024x16, a4⟩]
      concatenates_S1024x16_S1024x16_S1024x16_S1024x16_S1024x64_d1 : FVec Ideal S1024x64 .bf16) (ix2 k f) = w k (src ⟨4544 + f.val, by omega⟩) := by
  pointwise
  have hf := f.isLt
  split_ifs <;> simp only [h1, h2, h3, h4] <;> refine congrArg (w k) (Fin.ext ?_) <;> simp only [src] <;> split_ifs <;> omega

set_option maxHeartbeats 2000000 in
theorem cat_apply (a1 a2 a3 a4 a5 : FVec Ideal S1024x512 .bf16) (a6 : FVec Ideal S1024x1536 .bf16) (a7 : FVec Ideal S1024x256 .bf16)
    (a8 : FVec Ideal S1024x128 .bf16) (a9 a10 : FVec Ideal S1024x64 .bf16) (w : Fin 1024 → Fin 7616 → EReal)
    (h1 : ∀ k f, a1 (ix2 k f) = w k ⟨f.val, by omega⟩) (h2 : ∀ k f, a2 (ix2 k f) = w k ⟨512 + f.val, by omega⟩)
    (h3 : ∀ k f, a3 (ix2 k f) = w k ⟨1024 + f.val, by omega⟩) (h4 : ∀ k f, a4 (ix2 k f) = w k ⟨1536 + f.val, by omega⟩)
    (h5 : ∀ k f, a5 (ix2 k f) = w k ⟨2048 + f.val, by omega⟩) (h6 : ∀ k f, a6 (ix2 k f) = w k ⟨2560 + f.val, by omega⟩)
    (h7 : ∀ k f, a7 (ix2 k f) = w k ⟨4096 + f.val, by omega⟩) (h8 : ∀ k f, a8 (ix2 k f) = w k ⟨4352 + f.val, by omega⟩)
    (h9 : ∀ k f, a9 (ix2 k f) = w k ⟨4480 + f.val, by omega⟩) (h10 : ∀ k f, a10 (ix2 k f) = w k (src ⟨4544 + f.val, by omega⟩))
    (k : Fin 1024) (f : Fin 4608) :
    (concatenate S1024x4608 1 [⟨S1024x512, a1⟩, ⟨S1024x512, a2⟩, ⟨S1024x512, a3⟩, ⟨S1024x512, a4⟩, ⟨S1024x512, a5⟩, ⟨S1024x1536, a6⟩, ⟨S1024x256, a7⟩,
      ⟨S1024x128, a8⟩, ⟨S1024x64, a9⟩, ⟨S1024x64, a10⟩]
      concatenates_S1024x512_S1024x512_S1024x512_S1024x512_S1024x512_S1024x1536_S1024x256_S1024x128_S1024x64_S1024x64_S1024x4608_d1 : FVec Ideal S1024x4608 .bf16)
        (ix2 k f) = w k (src f) := by
  pointwise
  have hf := f.isLt
  have lo : ∀ g : Fin 7616, g.val = f.val → f.val < 4544 → w k g = w k (src f) := fun g e h => congrArg (w k) (Fin.ext (by simp only [src]; rw [if_pos h, e]))
  split_ifs <;> (first | rw [h1] | rw [h2] | rw [h3] | rw [h4] | rw [h5] | rw [h6] | rw [h7] | rw [h8] | rw [h9] | rw [h10]) <;>
    first
    | exact lo _ (by first | (simp only []; done) | (simp only []; omega)) (by omega)
    | exact congrArg (fun g => w k (src g)) (Fin.ext (by simp only []; omega))
    | exact absurd rfl (by assumption)

theorem V_1 (k : Fin 1024) (f : Fin 512) : (V m c main_v1 : FVec Ideal S1024x512 .bf16) (ix2 k f) = aW m c k ⟨f.val, by omega⟩ := by
  entry_read; pointwise; rfl
theorem V_2 (k : Fin 1024) (f : Fin 512) : (V m c main_v2 : FVec Ideal S1024x512 .bf16) (ix2 k f) = aW m c k ⟨512 + f.val, by omega⟩ := by
  entry_read; pointwise; rfl
theorem V_3 (k : Fin 1024) (f : Fin 512) : (V m c main_v3 : FVec Ideal S1024x512 .bf16) (ix2 k f) = aW m c k ⟨1024 + f.val, by omega⟩ := by
  entry_read; pointwise; rfl
theorem V_4 (k : Fin 1024) (f : Fin 512) : (V m c main_v4 : FVec Ideal S1024x512 .bf16) (ix2 k f) = aW m c k ⟨1536 + f.val, by omega⟩ := by
  entry_read; pointwise; rfl
theorem V_5 (k : Fin 1024) (f : Fin 512) : (V m c main_v5 : FVec Ideal S1024x512 .bf16) (ix2 k f) = aW m c k ⟨2048 + f.val, by omega⟩ := by
  entry_read; pointwise; rfl
theorem V_6 (k : Fin 1024) (f : Fin 1536) : (V m c main_v6 : FVec Ideal S1024x1536 .bf16) (ix2 k f) = aW m c k ⟨2560 + f.val, by omega⟩ := by
  entry_read; pointwise; rfl
theorem V_7 (k : Fin 1024) (f : Fin 256) : (V m c main_v7 : FVec Ideal S1024x256 .bf16) (ix2 k f) = aW m c k ⟨4096 + f.val, by omega⟩ := by
  entry_read; pointwise; rfl
theorem V_8 (k : Fin 1024) (f : Fin 128) : (V m c main_v8 : FVec Ideal S1024x128 .bf16) (ix2 k f) = aW m c k ⟨4352 + f.val, by omega⟩ := by
  entry_read; pointwise; rfl
theorem V_9 (k : Fin 1024) (f : Fin 64) : (V m c main_v9 : FVec Ideal S1024x64 .bf16) (ix2 k f) = aW m c k ⟨4480 + f.val, by omega⟩ := by
  entry_read; pointwise; rfl
theorem V_14 (k : Fin 1024) (f : Fin 16) : (V m c main_v14 : FVec Ideal S1024x16 .bf16) (ix2 k f) = aW m c k ⟨4496 + f.val, by omega⟩ := by
  entry_read; pointwise; exact congrArg (aW m c k) (Fin.ext (by simp only []; omega))
theorem V_15 (k : Fin 1024) (f : Fin 16) : (V m c main_v15 : FVec Ideal S1024x16 .bf16) (ix2 k f) = aW m c k ⟨4480 + f.val, by omega⟩ := by
  entry_read; pointwise; exact congrArg (aW m c k) (Fin.ext (by simp only []))
theorem V_16 (k : Fin 1024) (f : Fin 16) : (V m c main_v16 : FVec Ideal S1024x16 .bf16) (ix2 k f) = aW m c k ⟨4528 + f.val, by omega⟩ := by
  entry_read; pointwise; exact congrArg (aW m c k) (Fin.ext (by simp only []; omega))
theorem V_17 (k : Fin 1024) (f : Fin 16) : (V m c main_v17 : FVec Ideal S1024x16 .bf16) (ix2 k f) = aW m c k ⟨4512 + f.val, by omega⟩ := by
  entry_read; pointwise; exact congrArg (aW m c k) (Fin.ext (by simp only []; omega))

theorem V_w (k : Fin 1024) (f : Fin 4608) : (V m c main_v19 : FVec Ideal S1024x4608 .bf16) (ix2 k f) = aW m c k (src f) := by
  rw [V_cat]
  refine cat_apply _ _ _ _ _ _ _ _ _ _ (aW m c) (V_1 m c) (V_2 m c) (V_3 m c) (V_4 m c) (V_5 m c) (V_6 m c) (V_7 m c) (V_8 m c) (V_9 m c) (fun k f => ?_) k f
  rw [V_swap]
  exact swap_apply _ _ _ _ (aW m c) (V_14 m c) (V_15 m c) (V_16 m c) (V_17 m c) k f

/-! ### The blocks and the result -/

theorem idx : ∀ t : Fin cfg0.N, win0_0.index t = ![t.val % 66, 0] ∧ win0_1.index t = ![min (t.val % 66 / 16) 4, 0, 0] ∧ win0_2.index t = ![0, 0]
    ∧ win0_3.index t = ![0, t.val / 66] ∧ win0_4.index t = ![t.val % 66, t.val / 66] :=
  (by decide +kernel : ∀ t : Fin grid0.N, _)

theorem blk_x (t : Fin cfg0.N) (r : Fin 512) (k : Fin 1024) (n : Fin 33792) (hn : n.val = t.val % 66 * 512 + r.val) :
    (iblk m c 0 t : Vec Ideal S512x1024 .f32) (ix2 r k) = aX m c n k := by
  have ht : t.val < 132 := lt_of_lt_of_eq t.isLt N_0
  have e : (V m c main_arg0 : FVec Ideal S33792x1024 .f32) (ix2 n k) = aX m c n k := by rw [V_main_arg0]; rfl
  rw [← e]
  blk_ext [iblk, idx t]
theorem blk_mod (t : Fin cfg0.N) (j : Fin 9) (k : Fin 1024) (g : Fin 8) (hg : g.val = min (t.val % 66 / 16) 4) :
    (iblk m c 1 t : Vec Ideal S1x9x1024 .f32) (ix3 0 j k) = aMod m c g j k := by
  have ht : t.val < 132 := lt_of_lt_of_eq t.isLt N_0
  have e : (V m c main_arg1 : FVec Ideal S8x9x1024 .f32) (ix3 g j k) = aMod m c g j k := by rw [V_main_arg1]; rfl
  rw [← e]
  blk_ext [iblk, idx t]
theorem blk_gain (t : Fin cfg0.N) (k : Fin 1024) : (iblk m c 2 t : Vec Ideal S1x1024 .f32) (ix2 0 k) = aGain m c k := by
  rw [← V_gain]
  blk_ext [iblk, idx t]
theorem blk_w (t : Fin cfg0.N) (k : Fin 1024) (x : Fin 2304) (f : Fin 4608) (hf : f.val = t.val / 66 * 2304 + x.val) :
    (iblk m c 3 t : Vec Ideal S1024x2304 .bf16) (ix2 k x) = aW m c k (src f) := by
  have ht : t.val < 132 := lt_of_lt_of_eq t.isLt N_0
  rw [← V_w]
  blk_ext [iblk, idx t]

/-- The projection's result at row `n`, column `f`. -/
def result (n : Fin 33792) (f : Fin 4608) : EReal :=
  ∑ k, normed (aX m c n) (aGain m c) (aMod m c (group n) 3) (aMod m c (group n) 4) k * aW m c k (src f)

theorem point (t : Fin cfg0.N) (r : Fin 512) (x : Fin 2304) (n : Fin 33792) (f : Fin 4608) (hn : n.val = t.val % 66 * 512 + r.val)
    (hf : f.val = t.val / 66 * 2304 + x.val) :
    out0_4 (F := Ideal) (iblk m c 0 t) (iblk m c 1 t) (iblk m c 2 t) (iblk m c 3 t) (ix2 r x) = result m c n f := by
  have ht : t.val < 132 := lt_of_lt_of_eq t.isLt N_0
  have hr := r.isLt
  have hg : (group n).val = min (t.val % 66 / 16) 4 := by show min (n.val / 8192) 4 = _; omega
  have h0 : (fun j => (iblk m c 0 t : Vec Ideal S512x1024 .f32) (ix2 r j)) = aX m c n := funext fun j => blk_x m c t r j n hn
  have h1 : ∀ i, (fun j => (iblk m c 1 t : Vec Ideal S1x9x1024 .f32) (ix3 0 i j)) = aMod m c (group n) i := fun i => funext fun j => blk_mod m c t i j _ hg
  have h2 : (fun j => (iblk m c 2 t : Vec Ideal S1x1024 .f32) (ix2 0 j)) = aGain m c := funext fun j => blk_gain m c t j
  refine (out_apply _ _ _ _ r x).trans ?_
  unfold result
  rw [← h0, ← h1, ← h1, ← h2]
  exact Finset.sum_congr rfl fun k _ => congrArg _ (blk_w m c t k x f hf)

theorem final : (dats m 0 c).arrAt 4 cfg0.N = fun i : S33792x4608.Idx => result m c ⟨(i 0).val, (i 0).isLt⟩ ⟨(i 1).val, (i 1).isLt⟩ := by
  refine (dats m 0 c).arrAt_eq_of_covers 4 _ (by decide +kernel) fun t hfl y => ?_
  have ht : t.val < 132 := lt_of_lt_of_eq t.isLt N_0
  idx_vars y
  blk_simp [idx t]
  rw [after0_4]
  have hy0 := y0.isLt
  have hy1 := y1.isLt
  exact point m c t ⟨y0.val, y0.isLt⟩ ⟨y1.val, y1.isLt⟩ ⟨t.val % 66 * 512 + y0.val, by omega⟩ ⟨t.val / 66 * 2304 + y1.val, by omega⟩ rfl rfl

end Cert.ProjIdeal.InProj

end
-- ==== Proof.InProj.ProjRef.lean ====
/-
  The reference of the mixers' columns of the input projection, entry by entry, over the ideal numbers.
-/
module

public import proofs.«01_k».proof.Proof.Gen.ProjRefIdeal.Read
public import proofs.«01_k».proof.Proof.Ffn.Math
public import Idealize.ShloMosaic.Lib.Pointwise
public import Idealize.ShloMosaic.Lib.Claim

@[expose] public section

set_option maxRecDepth 16384

noncomputable section

namespace Cert.ProjRefIdeal.InProj

open Cert.ProjRefIdeal Cert.ProjRefIdeal.Read Cert.ProjRefIdeal.Gen Cert.Ffn
open Idealize.ShloMosaic Idealize.ShloMosaic.TcCoe Idealize.SL.Sem

variable (x0 : FVec Ideal S33792x1024 .f32) (x1 : FVec Ideal S8x9x1024 .f32) (x2 : FVec Ideal S1024 .f32) (x3 : FVec Ideal S1024x7616 .f32)

/-- The modulated norm of a latent row. -/
theorem lat_h (b : Fin 4) (t : Fin 8192) (k : Fin 1024) : val_main_v23 (F := Ideal) x0 x1 x2 (ix3 b t k)
    = normed (fun j => x0 (ix2 ⟨b.val * 8192 + t.val, by omega⟩ j)) (fun j => x2 (ix1 j)) (fun j => x1 (ix3 ⟨b.val, by omega⟩ 3 j))
      (fun j => x1 (ix3 ⟨b.val, by omega⟩ 4 j)) k := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- A latent row's projection. -/
theorem lat_apply (b : Fin 4) (t : Fin 8192) (f : Fin 7616) : val_main_v24 (F := Ideal) x0 x1 x2 x3 (ix3 b t f)
    = ∑ k, normed (fun j => x0 (ix2 ⟨b.val * 8192 + t.val, by omega⟩ j)) (fun j => x2 (ix1 j)) (fun j => x1 (ix3 ⟨b.val, by omega⟩ 3 j))
        (fun j => x1 (ix3 ⟨b.val, by omega⟩ 4 j)) k * x3 (ix2 k f) := by
  simp only [← lat_h]
  pointwise [val_main_v24]

/-- The modulated norm of a context row. -/
theorem ctx_h (b : Fin 4) (t : Fin 256) (k : Fin 1024) : val_main_v48 (F := Ideal) x0 x1 x2 (ix3 b t k)
    = normed (fun j => x0 (ix2 ⟨32768 + (b.val * 256 + t.val), by omega⟩ j)) (fun j => x2 (ix1 j)) (fun j => x1 (ix3 4 3 j))
      (fun j => x1 (ix3 4 4 j)) k := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_3, val_main_cst_4, val_main_cst_5, val_main_cst_6]
  rfl

/-- A context row's projection. -/
theorem ctx_apply (b : Fin 4) (t : Fin 256) (f : Fin 7616) : val_main_v49 (F := Ideal) x0 x1 x2 x3 (ix3 b t f)
    = ∑ k, normed (fun j => x0 (ix2 ⟨32768 + (b.val * 256 + t.val), by omega⟩ j)) (fun j => x2 (ix1 j)) (fun j => x1 (ix3 4 3 j))
        (fun j => x1 (ix3 4 4 j)) k * x3 (ix2 k f) := by
  simp only [← ctx_h]
  pointwise [val_main_v49]

theorem rows_lat (n : Fin 32768) (f : Fin 7616) : val_main_v50 (F := Ideal) x0 x1 x2 x3 (ix2 n f)
    = val_main_v24 (F := Ideal) x0 x1 x2 x3 (ix3 ⟨n.val / 8192, by omega⟩ ⟨n.val % 8192, by omega⟩ f) := by
  pointwise [val_main_v50]

theorem rows_ctx (n : Fin 1024) (f : Fin 7616) : val_main_v51 (F := Ideal) x0 x1 x2 x3 (ix2 n f)
    = val_main_v49 (F := Ideal) x0 x1 x2 x3 (ix3 ⟨n.val / 256, by omega⟩ ⟨n.val % 256, by omega⟩ f) := by
  pointwise [val_main_v51]

theorem joined (n : Fin 33792) (f : Fin 7616) : val_main_v52 (F := Ideal) x0 x1 x2 x3 (ix2 n f)
    = if h : n.val < 32768 then val_main_v50 (F := Ideal) x0 x1 x2 x3 (ix2 ⟨n.val, h⟩ f) else val_main_v51 (F := Ideal) x0 x1 x2 x3 (ix2 ⟨n.val - 32768, by omega⟩ f) := by
  pointwise [val_main_v52]

/-- The projection onto all columns at row `n`, column `f`. -/
theorem row (n : Fin 33792) (f : Fin 7616) : val_main_v52 (F := Ideal) x0 x1 x2 x3 (ix2 n f)
    = ∑ k, normed (fun j => x0 (ix2 n j)) (fun j => x2 (ix1 j)) (fun j => x1 (ix3 (group n) 3 j)) (fun j => x1 (ix3 (group n) 4 j)) k * x3 (ix2 k f) := by
  have hn := n.isLt
  rw [joined]
  by_cases h : n.val < 32768
  · have eg : group n = ⟨n.val / 8192, by omega⟩ := Fin.ext (by show min (n.val / 8192) 4 = n.val / 8192; omega)
    rw [dif_pos h, rows_lat, lat_apply, eg]
    simp only [Nat.div_add_mod']
  · have eg : group n = 4 := Fin.ext (by show min (n.val / 8192) 4 = 4; omega)
    rw [dif_neg h, rows_ctx, ctx_apply, eg]
    have en : (⟨32768 + (n.val - 32768), by omega⟩ : Fin 33792) = n := Fin.ext (by show 32768 + (n.val - 32768) = n.val; omega)
    simp only [Nat.div_add_mod', en]

/-- Column `f` of the result as a column of the weights. -/
def src (f : Fin 4608) : Fin 7616 :=
  ⟨if f.val < 4544 then f.val else if f.val < 4560 then f.val - 48 else if f.val < 4576 then f.val - 80 else if f.val < 4592 then f.val - 48 else f.val - 80,
    by split_ifs <;> omega⟩

theorem kept (n : Fin 33792) (f : Fin 4544) : val_main_v53 (F := Ideal) x0 x1 x2 x3 (ix2 n f)
    = val_main_v52 (F := Ideal) x0 x1 x2 x3 (ix2 n ⟨f.val, by omega⟩) := by
  pointwise [val_main_v53]

theorem quarters (n : Fin 33792) (f : Fin 64) : val_main_v61 (F := Ideal) x0 x1 x2 x3 (ix2 n f)
    = val_main_v52 (F := Ideal) x0 x1 x2 x3 (ix2 n (src ⟨4544 + f.val, by omega⟩)) := by
  have hf := f.isLt
  pointwise [val_main_v61, val_main_v60, val_main_v59, val_main_v58, val_main_v57, val_main_v56, val_main_v55, val_main_v54, val_main_v53]
  split_ifs <;> refine congrArg (fun g => val_main_v52 (F := Ideal) x0 x1 x2 x3 (ix2 n g)) (Fin.ext ?_) <;> simp only [src] <;> split_ifs <;> omega

/-- The reference's result at row `n`, column `f`. -/
theorem value (n : Fin 33792) (f : Fin 4608) : val_main_v62 (F := Ideal) x0 x1 x2 x3 (ix2 n f)
    = ∑ k, normed (fun j => x0 (ix2 n j)) (fun j => x2 (ix1 j)) (fun j => x1 (ix3 (group n) 3 j)) (fun j => x1 (ix3 (group n) 4 j)) k * x3 (ix2 k (src f)) := by
  have hf := f.isLt
  rw [← row]
  by_cases h : f.val < 4544
  · have e : src f = ⟨f.val, by omega⟩ := Fin.ext (by simp only [src]; rw [if_pos h])
    rw [e, ← kept x0 x1 x2 x3 n ⟨f.val, h⟩]
    pointwise [val_main_v62]
    rw [dif_pos h]
  · have e : src f = src ⟨4544 + (f.val - 4544), by omega⟩ := congrArg src (Fin.ext (by simp only []; omega))
    rw [e, ← quarters x0 x1 x2 x3 n ⟨f.val - 4544, by omega⟩]
    pointwise [val_main_v62]
    rw [dif_neg h]

end Cert.ProjRefIdeal.InProj

end
-- ==== Proof.InProj.Gates.lean ====
/-
  The input projection of the gates' columns, entry by entry, over the ideal numbers: each row's modulated norm against the
  three gates' weights side by side.
-/
module

public import proofs.«01_k».proof.Proof.Gen.GatesIdeal.Value
public import proofs.«01_k».proof.Proof.Ffn.Math
public import Idealize.ShloMosaic.Lib.Pipeline.ValueKit
public import Idealize.ShloMosaic.Lib.Pointwise
public import Idealize.ShloMosaic.Lib.Claim

@[expose] public section

set_option maxRecDepth 16384

noncomputable section

namespace Cert.GatesIdeal.InProj

open Cert.GatesIdeal Cert.GatesIdeal.Gen Cert.Ffn
open Idealize.ShloMosaic Idealize.ShloMosaic.TcCoe Idealize.SL.Sem

theorem zero2 : (![0, 0] : Fin 2 → ℕ) = fun _ => 0 := by decide

/-- The block that a point leaves, from the row's norm. -/
theorem out_apply (x0 : Vec Ideal S512x1024 .f32) (x1 : Vec Ideal S1x9x1024 .f32) (x2 : Vec Ideal S1x1024 .f32) (x3 : Vec Ideal S1024x3072 .bf16)
    (r : Fin 512) (d : Fin 3072) : out0_4 (F := Ideal) x0 x1 x2 x3 (ix2 r d)
    = ∑ k, normed (fun j => x0 (ix2 r j)) (fun j => x2 (ix2 0 j)) (fun j => x1 (ix3 0 3 j)) (fun j => x1 (ix3 0 4 j)) k * x3 (ix2 k d) := by
  unfold out0_4
  rw [View.canon_unit_zero zero2]
  unfold normed
  pointwise [k0_pay1]
  rfl

variable (m : (ℓ : Loc nD τ sig) → Buf (Elt Ideal) ℓ) (c : Dev nD)

/-- The arguments' entries. -/
def aX (n : Fin 33792) (k : Fin 1024) : EReal := (m ((c.tc : Thread nD τ).loc main_arg0) : FVec Ideal S33792x1024 .f32) (ix2 n k)
def aMod (g : Fin 8) (j : Fin 9) (k : Fin 1024) : EReal := (m ((c.tc : Thread nD τ).loc main_arg1) : FVec Ideal S8x9x1024 .f32) (ix3 g j k)
def aGain (k : Fin 1024) : EReal := (m ((c.tc : Thread nD τ).loc main_arg2) : FVec Ideal S1024 .f32) (ix1 k)
def aW (k : Fin 1024) (f : Fin 7616) : EReal := (m ((c.tc : Thread nD τ).loc main_arg3) : FVec Ideal S1024x7616 .f32) (ix2 k f)

theorem V_gain (k : Fin 1024) : (V m c main_v20 : FVec Ideal S1x1024 .f32) (ix2 0 k) = aGain m c k := by
  entry_read
  pointwise
  rfl

/-! ### The packed weights -/

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What a buffer holds after the first `n` host operations. -/
def upto (n : ℕ) (b : Ref sig .tc) : Buf (Elt Ideal) ((c : Thread nD τ).loc b) := StableHlo.after ((hostOps0 (F := Ideal)).take n) (fun b => m (c, b)) b

theorem V_split (n : ℕ) (b : Ref sig .tc) : V m c b
    = StableHlo.after ((hostOps0 (F := Ideal)).drop n) (StableHlo.after ((hostOps0 (F := Ideal)).take n) (fun b => m (c, b))) b := by
  rw [← after_append, List.take_append_drop]

theorem V_upto13 (b : Ref sig .tc) (h : ∀ r : Ref sig .tc, r = main_v13 ∨ r = main_v14 ∨ r = main_v15 ∨ r = main_v16 ∨ r = main_v17 ∨ r = main_v18
    ∨ r = main_v19 ∨ r = main_v20 → b ≠ r) : V m c b = upto m c 13 b := by
  rw [V_split m c 13]
  refine StableHlo.after_of_forall_not_mem (b := Proc.devRef .tc b) _ _ (List.forall_iff_forall_mem.mp ?_)
  simp only [hostOps0, List.drop, List.Forall, StableHlo.nary_writes, StableHlo.reshape_writes, StableHlo.unary_writes, Finset.mem_singleton]
  exact ⟨StableHlo.devRef_ne_of_ne (h _ (by simp)), StableHlo.devRef_ne_of_ne (h _ (by simp)), StableHlo.devRef_ne_of_ne (h _ (by simp)),
    StableHlo.devRef_ne_of_ne (h _ (by simp)), StableHlo.devRef_ne_of_ne (h _ (by simp)), StableHlo.devRef_ne_of_ne (h _ (by simp)),
    StableHlo.devRef_ne_of_ne (h _ (by simp)), StableHlo.devRef_ne_of_ne (h _ (by simp))⟩

theorem V_cat : (V m c main_v13 : FVec Ideal S1024x3072 .bf16) = concatenate S1024x3072 1 [⟨S1024x1024, (V m c main_v10 : FVec Ideal S1024x1024 .bf16)⟩,
    ⟨S1024x1024, (V m c main_v11 : FVec Ideal S1024x1024 .bf16)⟩, ⟨S1024x1024, (V m c main_v12 : FVec Ideal S1024x1024 .bf16)⟩]
    concatenates_S1024x1024_S1024x1024_S1024x1024_S1024x3072_d1 := by
  rw [V_upto13 m c main_v10 (by rintro r (h | h | h | h | h | h | h | h) <;> subst h <;> decide),
    V_upto13 m c main_v11 (by rintro r (h | h | h | h | h | h | h | h) <;> subst h <;> decide),
    V_upto13 m c main_v12 (by rintro r (h | h | h | h | h | h | h | h) <;> subst h <;> decide), V_split m c 13]
  unfold upto
  generalize StableHlo.after ((hostOps0 (F := Ideal)).take 13) (fun b => m (c, b)) = W
  simp only [hostOps0, List.drop, StableHlo.after_cons, StableHlo.after_nil]
  rw [StableHlo.reshape_result_ne _ _ _ _ _ _ _ (by decide), StableHlo.nary_result_ne _ _ _ _ _ _ (by decide), StableHlo.nary_result_ne _ _ _ _ _ _ (by decide),
    StableHlo.unary_result_ne _ _ _ _ _ _ (by decide), StableHlo.unary_result_ne _ _ _ _ _ _ (by decide),
    StableHlo.unary_result_ne _ _ _ _ _ _ (by decide), StableHlo.unary_result_ne _ _ _ _ _ _ (by decide), StableHlo.nary_result]
  rfl

/-- Column `f` of the packed weights as a column of the weights. -/
def src (f : Fin 3072) : Fin 7616 := ⟨4544 + f.val, by omega⟩

theorem cat_apply (a1 a2 a3 : FVec Ideal S1024x1024 .bf16) (w : Fin 1024 → Fin 7616 → EReal) (h1 : ∀ k f, a1 (ix2 k f) = w k ⟨4544 + f.val, by omega⟩)
    (h2 : ∀ k f, a2 (ix2 k f) = w k ⟨5568 + f.val, by omega⟩) (h3 : ∀ k f, a3 (ix2 k f) = w k ⟨6592 + f.val, by omega⟩) (k : Fin 1024) (f : Fin 3072) :
    (concatenate S1024x3072 1 [⟨S1024x1024, a1⟩, ⟨S1024x1024, a2⟩, ⟨S1024x1024, a3⟩]
      concatenates_S1024x1024_S1024x1024_S1024x1024_S1024x3072_d1 : FVec Ideal S1024x3072 .bf16) (ix2 k f) = w k (src f) := by
  pointwise
  have hf := f.isLt
  split_ifs <;> simp only [h1, h2, h3] <;> refine congrArg (w k) (Fin.ext ?_) <;> simp only [src] <;> omega

theorem V_10 (k : Fin 1024) (f : Fin 1024) : (V m c main_v10 : FVec Ideal S1024x1024 .bf16) (ix2 k f) = aW m c k ⟨4544 + f.val, by omega⟩ := by
  entry_read; pointwise; rfl
theorem V_11 (k : Fin 1024) (f : Fin 1024) : (V m c main_v11 : FVec Ideal S1024x1024 .bf16) (ix2 k f) = aW m c k ⟨5568 + f.val, by omega⟩ := by
  entry_read; pointwise; rfl
theorem V_12 (k : Fin 1024) (f : Fin 1024) : (V m c main_v12 : FVec Ideal S1024x1024 .bf16) (ix2 k f) = aW m c k ⟨6592 + f.val, by omega⟩ := by
  entry_read; pointwise; rfl

theorem V_w (k : Fin 1024) (f : Fin 3072) : (V m c main_v13 : FVec Ideal S1024x3072 .bf16) (ix2 k f) = aW m c k (src f) := by
  rw [V_cat]
  exact cat_apply _ _ _ (aW m c) (V_10 m c) (V_11 m c) (V_12 m c) k f

/-! ### The blocks and the result -/

theorem idx : ∀ t : Fin cfg0.N, win0_0.index t = ![t.val % 66, 0] ∧ win0_1.index t = ![min (t.val % 66 / 16) 4, 0, 0] ∧ win0_2.index t = ![0, 0]
    ∧ win0_3.index t = ![0, t.val / 66] ∧ win0_4.index t = ![t.val % 66, t.val / 66] :=
  (by decide +kernel : ∀ t : Fin grid0.N, _)

theorem blk_x (t : Fin cfg0.N) (r : Fin 512) (k : Fin 1024) (n : Fin 33792) (hn : n.val = t.val % 66 * 512 + r.val) :
    (iblk m c 0 t : Vec Ideal S512x1024 .f32) (ix2 r k) = aX m c n k := by
  have ht : t.val < 66 := lt_of_lt_of_eq t.isLt N_0
  have e : (V m c main_arg0 : FVec Ideal S33792x1024 .f32) (ix2 n k) = aX m c n k := by rw [V_main_arg0]; rfl
  rw [← e]
  blk_ext [iblk, idx t]
theorem blk_mod (t : Fin cfg0.N) (j : Fin 9) (k : Fin 1024) (g : Fin 8) (hg : g.val = min (t.val % 66 / 16) 4) :
    (iblk m c 1 t : Vec Ideal S1x9x1024 .f32) (ix3 0 j k) = aMod m c g j k := by
  have ht : t.val < 66 := lt_of_lt_of_eq t.isLt N_0
  have e : (V m c main_arg1 : FVec Ideal S8x9x1024 .f32) (ix3 g j k) = aMod m c g j k := by rw [V_main_arg1]; rfl
  rw [← e]
  blk_ext [iblk, idx t]
theorem blk_gain (t : Fin cfg0.N) (k : Fin 1024) : (iblk m c 2 t : Vec Ideal S1x1024 .f32) (ix2 0 k) = aGain m c k := by
  rw [← V_gain]
  blk_ext [iblk, idx t]
theorem blk_w (t : Fin cfg0.N) (k : Fin 1024) (x : Fin 3072) (f : Fin 3072) (hf : f.val = t.val / 66 * 3072 + x.val) :
    (iblk m c 3 t : Vec Ideal S1024x3072 .bf16) (ix2 k x) = aW m c k (src f) := by
  have ht : t.val < 66 := lt_of_lt_of_eq t.isLt N_0
  rw [← V_w]
  blk_ext [iblk, idx t]

/-- The projection's result at row `n`, column `f`. -/
def result (n : Fin 33792) (f : Fin 3072) : EReal :=
  ∑ k, normed (aX m c n) (aGain m c) (aMod m c (group n) 3) (aMod m c (group n) 4) k * aW m c k (src f)

theorem point (t : Fin cfg0.N) (r : Fin 512) (x : Fin 3072) (n : Fin 33792) (f : Fin 3072) (hn : n.val = t.val % 66 * 512 + r.val)
    (hf : f.val = t.val / 66 * 3072 + x.val) :
    out0_4 (F := Ideal) (iblk m c 0 t) (iblk m c 1 t) (iblk m c 2 t) (iblk m c 3 t) (ix2 r x) = result m c n f := by
  have ht : t.val < 66 := lt_of_lt_of_eq t.isLt N_0
  have hr := r.isLt
  have hg : (group n).val = min (t.val % 66 / 16) 4 := by show min (n.val / 8192) 4 = _; omega
  have h0 : (fun j => (iblk m c 0 t : Vec Ideal S512x1024 .f32) (ix2 r j)) = aX m c n := funext fun j => blk_x m c t r j n hn
  have h1 : ∀ i, (fun j => (iblk m c 1 t : Vec Ideal S1x9x1024 .f32) (ix3 0 i j)) = aMod m c (group n) i := fun i => funext fun j => blk_mod m c t i j _ hg
  have h2 : (fun j => (iblk m c 2 t : Vec Ideal S1x1024 .f32) (ix2 0 j)) = aGain m c := funext fun j => blk_gain m c t j
  refine (out_apply _ _ _ _ r x).trans ?_
  unfold result
  rw [← h0, ← h1, ← h1, ← h2]
  exact Finset.sum_congr rfl fun k _ => congrArg _ (blk_w m c t k x f hf)

theorem final : (dats m 0 c).arrAt 4 cfg0.N = fun i : S33792x3072.Idx => result m c ⟨(i 0).val, (i 0).isLt⟩ ⟨(i 1).val, (i 1).isLt⟩ := by
  refine (dats m 0 c).arrAt_eq_of_covers 4 _ (by decide +kernel) fun t hfl y => ?_
  have ht : t.val < 66 := lt_of_lt_of_eq t.isLt N_0
  idx_vars y
  blk_simp [idx t]
  rw [after0_4]
  have hy0 := y0.isLt
  have hy1 := y1.isLt
  exact point m c t ⟨y0.val, y0.isLt⟩ ⟨y1.val, y1.isLt⟩ ⟨t.val % 66 * 512 + y0.val, by omega⟩ ⟨t.val / 66 * 3072 + y1.val, by omega⟩ rfl rfl

end Cert.GatesIdeal.InProj

end
-- ==== Proof.InProj.GatesRef.lean ====
/-
  The reference of the gates' columns of the input projection, entry by entry, over the ideal numbers.
-/
module

public import proofs.«01_k».proof.Proof.Gen.GatesRefIdeal.Read
public import proofs.«01_k».proof.Proof.Ffn.Math
public import Idealize.ShloMosaic.Lib.Pointwise
public import Idealize.ShloMosaic.Lib.Claim

@[expose] public section

set_option maxRecDepth 16384

noncomputable section

namespace Cert.GatesRefIdeal.InProj

open Cert.GatesRefIdeal Cert.GatesRefIdeal.Read Cert.GatesRefIdeal.Gen Cert.Ffn
open Idealize.ShloMosaic Idealize.ShloMosaic.TcCoe Idealize.SL.Sem

variable (x0 : FVec Ideal S33792x1024 .f32) (x1 : FVec Ideal S8x9x1024 .f32) (x2 : FVec Ideal S1024 .f32) (x3 : FVec Ideal S1024x7616 .f32)

/-- The modulated norm of a latent row. -/
theorem lat_h (b : Fin 4) (t : Fin 8192) (k : Fin 1024) : val_main_v23 (F := Ideal) x0 x1 x2 (ix3 b t k)
    = normed (fun j => x0 (ix2 ⟨b.val * 8192 + t.val, by omega⟩ j)) (fun j => x2 (ix1 j)) (fun j => x1 (ix3 ⟨b.val, by omega⟩ 3 j))
      (fun j => x1 (ix3 ⟨b.val, by omega⟩ 4 j)) k := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- A latent row's projection. -/
theorem lat_apply (b : Fin 4) (t : Fin 8192) (f : Fin 7616) : val_main_v24 (F := Ideal) x0 x1 x2 x3 (ix3 b t f)
    = ∑ k, normed (fun j => x0 (ix2 ⟨b.val * 8192 + t.val, by omega⟩ j)) (fun j => x2 (ix1 j)) (fun j => x1 (ix3 ⟨b.val, by omega⟩ 3 j))
        (fun j => x1 (ix3 ⟨b.val, by omega⟩ 4 j)) k * x3 (ix2 k f) := by
  simp only [← lat_h]
  pointwise [val_main_v24]

/-- The modulated norm of a context row. -/
theorem ctx_h (b : Fin 4) (t : Fin 256) (k : Fin 1024) : val_main_v48 (F := Ideal) x0 x1 x2 (ix3 b t k)
    = normed (fun j => x0 (ix2 ⟨32768 + (b.val * 256 + t.val), by omega⟩ j)) (fun j => x2 (ix1 j)) (fun j => x1 (ix3 4 3 j))
      (fun j => x1 (ix3 4 4 j)) k := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_3, val_main_cst_4, val_main_cst_5, val_main_cst_6]
  rfl

/-- A context row's projection. -/
theorem ctx_apply (b : Fin 4) (t : Fin 256) (f : Fin 7616) : val_main_v49 (F := Ideal) x0 x1 x2 x3 (ix3 b t f)
    = ∑ k, normed (fun j => x0 (ix2 ⟨32768 + (b.val * 256 + t.val), by omega⟩ j)) (fun j => x2 (ix1 j)) (fun j => x1 (ix3 4 3 j))
        (fun j => x1 (ix3 4 4 j)) k * x3 (ix2 k f) := by
  simp only [← ctx_h]
  pointwise [val_main_v49]

theorem rows_lat (n : Fin 32768) (f : Fin 7616) : val_main_v50 (F := Ideal) x0 x1 x2 x3 (ix2 n f)
    = val_main_v24 (F := Ideal) x0 x1 x2 x3 (ix3 ⟨n.val / 8192, by omega⟩ ⟨n.val % 8192, by omega⟩ f) := by
  pointwise [val_main_v50]

theorem rows_ctx (n : Fin 1024) (f : Fin 7616) : val_main_v51 (F := Ideal) x0 x1 x2 x3 (ix2 n f)
    = val_main_v49 (F := Ideal) x0 x1 x2 x3 (ix3 ⟨n.val / 256, by omega⟩ ⟨n.val % 256, by omega⟩ f) := by
  pointwise [val_main_v51]

theorem joined (n : Fin 33792) (f : Fin 7616) : val_main_v52 (F := Ideal) x0 x1 x2 x3 (ix2 n f)
    = if h : n.val < 32768 then val_main_v50 (F := Ideal) x0 x1 x2 x3 (ix2 ⟨n.val, h⟩ f) else val_main_v51 (F := Ideal) x0 x1 x2 x3 (ix2 ⟨n.val - 32768, by omega⟩ f) := by
  pointwise [val_main_v52]

/-- The projection onto all columns at row `n`, column `f`. -/
theorem row (n : Fin 33792) (f : Fin 7616) : val_main_v52 (F := Ideal) x0 x1 x2 x3 (ix2 n f)
    = ∑ k, normed (fun j => x0 (ix2 n j)) (fun j => x2 (ix1 j)) (fun j => x1 (ix3 (group n) 3 j)) (fun j => x1 (ix3 (group n) 4 j)) k * x3 (ix2 k f) := by
  have hn := n.isLt
  rw [joined]
  by_cases h : n.val < 32768
  · have eg : group n = ⟨n.val / 8192, by omega⟩ := Fin.ext (by show min (n.val / 8192) 4 = n.val / 8192; omega)
    rw [dif_pos h, rows_lat, lat_apply, eg]
    simp only [Nat.div_add_mod']
  · have eg : group n = 4 := Fin.ext (by show min (n.val / 8192) 4 = 4; omega)
    rw [dif_neg h, rows_ctx, ctx_apply, eg]
    have en : (⟨32768 + (n.val - 32768), by omega⟩ : Fin 33792) = n := Fin.ext (by show 32768 + (n.val - 32768) = n.val; omega)
    simp only [Nat.div_add_mod', en]

/-- The reference's result at row `n`, column `f`. -/
theorem value (n : Fin 33792) (f : Fin 3072) : val_main_v54 (F := Ideal) x0 x1 x2 x3 (ix2 n f)
    = ∑ k, normed (fun j => x0 (ix2 n j)) (fun j => x2 (ix1 j)) (fun j => x1 (ix3 (group n) 3 j)) (fun j => x1 (ix3 (group n) 4 j)) k
        * x3 (ix2 k ⟨4544 + f.val, by omega⟩) := by
  rw [← row]
  pointwise [val_main_v54, val_main_v53]

end Cert.GatesRefIdeal.InProj

end
-- ==== Proof.Merge.Math.lean ====
/-
  One row of the mixers' merge over the extended reals: the state's readout per head of 128 channels, the three gated
  products, the output product and the residual.
-/
module

public import proofs.«01_k».proof.Proof.Ffn.Math

@[expose] public section

noncomputable section

namespace Cert.OutProj

open Idealize.ShloMosaic Cert.Ffn

/-- The number of a head's channels, as its float word reads. -/
def headWidth : EReal := Ideal.ofBits FTy.f32 1124073472#32

/-- The logistic function. -/
def sigm (x : EReal) : EReal := Ideal.div 1 (1 + Ideal.exp (-x))

/-- Channel `j` of a row normed per head of 128 channels, with the gain. -/
def headed (o : Fin 512 → EReal) (gain : Fin 128 → EReal) (j : Fin 512) : EReal :=
  o j * Ideal.rsqrt (Ideal.div (∑ d : Fin 128, o ⟨j.val / 128 * 128 + d.val, by omega⟩ * o ⟨j.val / 128 * 128 + d.val, by omega⟩) headWidth + eps)
    * gain ⟨j.val % 128, by omega⟩

/-- The same where `i` places a head's channels among all. -/
theorem headed_at (o : Fin 512 → EReal) (gain : Fin 128 → EReal) (i : Fin 128 → Fin 512) (h : ℕ) (hi : ∀ d, (i d).val = h * 128 + d.val) (j : Fin 512) (d : Fin 128)
    (e : j.val = h * 128 + d.val) :
    headed o gain j = o (i d) * Ideal.rsqrt (Ideal.div (∑ d : Fin 128, o (i d) * o (i d)) headWidth + eps) * gain d := by
  have h1 : j.val / 128 = h := by omega
  have h2 : (⟨j.val % 128, by omega⟩ : Fin 128) = d := Fin.ext (by simp only []; omega)
  have h3 : j = i d := Fin.ext (e.trans (hi d).symm)
  have h4 : ∀ x : Fin 128, (⟨j.val / 128 * 128 + x.val, by omega⟩ : Fin 512) = i x := fun x => Fin.ext (by rw [hi x]; simp only [h1])
  unfold headed
  simp only [h2, h4]
  rw [← h3]

/-- The readout: the normed row times `g` through `g / (1 + exp (-g))`. -/
def readout (o g : Fin 512 → EReal) (gain : Fin 128 → EReal) (j : Fin 512) : EReal := headed o gain j * (g j * sigm (g j))

/-- Channel `e` of the three mixers' gated products. -/
def mixed (ya yb yc : Fin 512 → EReal) (ga gb gc : Fin 1024 → EReal) (wa wb wc : Fin 512 → Fin 1024 → EReal) (e : Fin 1024) : EReal :=
  sigm (ga e) * ∑ k, ya k * wa k e + sigm (gb e) * ∑ k, yb k * wb k e + sigm (gc e) * ∑ k, yc k * wc k e

/-- Channel `d` of the merged row: the residual and, under the modulation's gate, the output product. -/
def mergedRow (x gate mix : Fin 1024 → EReal) (wo : Fin 1024 → Fin 1024 → EReal) (d : Fin 1024) : EReal := x d + gate d * ∑ e, mix e * wo e d

/-- The state mixer's output of row `n`: the sum of both directions, the latent rows' and then the context's. -/
def stateRow (of ob : Fin 32768 → Fin 512 → EReal) (cf cb : Fin 1024 → Fin 512 → EReal) (n : Fin 33792) (j : Fin 512) : EReal :=
  if h : n.val < 32768 then of ⟨n.val, h⟩ j + ob ⟨n.val, h⟩ j else cf ⟨n.val - 32768, by omega⟩ j + cb ⟨n.val - 32768, by omega⟩ j

/-- The convolution's output of row `n`: the latent ones lie in blocks of 128 channels, in each the tokens with the same
    remainder by 128 one after the other. -/
def convRow (b : Fin 4 → Fin 4 → Fin 8192 → Fin 128 → EReal) (bc : Fin 1024 → Fin 512 → EReal) (n : Fin 33792) (j : Fin 512) : EReal :=
  if h : n.val < 32768 then b ⟨n.val / 8192, by omega⟩ ⟨j.val / 128, by omega⟩ ⟨n.val % 128 * 64 + n.val % 8192 / 128, by omega⟩ ⟨j.val % 128, by omega⟩
  else bc ⟨n.val - 32768, by omega⟩ j

/-- The attention's output of row `n`, which lies transposed. -/
def attRow (a : Fin 512 → Fin 32768 → EReal) (ac : Fin 512 → Fin 1024 → EReal) (n : Fin 33792) (j : Fin 512) : EReal :=
  if h : n.val < 32768 then a j ⟨n.val, h⟩ else ac j ⟨n.val - 32768, by omega⟩

/-- The merge's result at row `n`, channel `d`. -/
def result (x : Fin 33792 → Fin 1024 → EReal) (md : Fin 8 → Fin 9 → Fin 1024 → EReal) (of ob : Fin 32768 → Fin 512 → EReal) (p : Fin 33792 → Fin 4608 → EReal)
    (g : Fin 33792 → Fin 3072 → EReal) (b : Fin 4 → Fin 4 → Fin 8192 → Fin 128 → EReal) (a : Fin 512 → Fin 32768 → EReal) (cf cb : Fin 1024 → Fin 512 → EReal)
    (bc : Fin 1024 → Fin 512 → EReal) (ac : Fin 512 → Fin 1024 → EReal) (gain : Fin 128 → EReal) (wa wb wc : Fin 512 → Fin 1024 → EReal)
    (wo : Fin 1024 → Fin 1024 → EReal) (n : Fin 33792) (d : Fin 1024) : EReal :=
  mergedRow (x n) (md (group n) 5)
    (mixed (readout (stateRow of ob cf cb n) (fun j => p n ⟨2048 + j.val, by omega⟩) gain) (convRow b bc n) (attRow a ac n) (fun k => g n ⟨k.val, by omega⟩)
      (fun k => g n ⟨1024 + k.val, by omega⟩) (fun k => g n ⟨2048 + k.val, by omega⟩) wa wb wc) wo d

end Cert.OutProj

end
-- ==== Proof.Merge.Body.lean ====
/-
  The body of the mixers' merge, entry by entry, over the ideal numbers: the block that a point leaves, from the blocks it reads.
-/
module

public import proofs.«01_k».proof.Proof.Gen.MergeIdeal.Value
public import proofs.«01_k».proof.Proof.Merge.Math
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.MergeIdeal.OutProj

open Cert.MergeIdeal Cert.MergeIdeal.Gen Cert.OutProj
open Idealize.ShloMosaic Idealize.ShloMosaic.TcCoe Idealize.SL.Sem

theorem zero2 : (![0, 0] : Fin 2 → ℕ) = fun _ => 0 := by decide
theorem zero3 : (![0, 0, 0] : Fin 3 → ℕ) = fun _ => 0 := by decide
theorem ld_512x512 {e : EltTy} (x : Vec Ideal S512x512 e) : View.ld x (Rect.unit (s := S512x512) ![0, 0] ![512, 512] inb_S512x512_S512x512_0_0) = x := View.ld_unit_zero zero2 _ _
theorem ld_1x128 {e : EltTy} (x : Vec Ideal S1x128 e) : View.ld x (Rect.unit (s := S1x128) ![0, 0] ![1, 128] inb_S1x128_S1x128_0_0) = x := View.ld_unit_zero zero2 _ _
theorem ld_512x1024 {e : EltTy} (x : Vec Ideal S512x1024 e) : View.ld x (Rect.unit (s := S512x1024) ![0, 0] ![512, 1024] inb_S512x1024_S512x1024_0_0) = x := View.ld_unit_zero zero2 _ _
theorem ld_1024x1024 {e : EltTy} (x : Vec Ideal S1024x1024 e) : View.ld x (Rect.unit (s := S1024x1024) ![0, 0] ![1024, 1024] inb_S1024x1024_S1024x1024_0_0) = x := View.ld_unit_zero zero2 _ _
theorem ld_1x9x1024 {e : EltTy} (x : Vec Ideal S1x9x1024 e) : View.ld x (Rect.unit (s := S1x9x1024) ![0, 0, 0] ![1, 9, 1024] inb_S1x9x1024_S1x9x1024_0_0_0) = x :=
  View.ld_unit_zero zero3 _ _

/-- Whether the point is one of the context's, which come last. -/
def late (i : grid0.Coords) : BitVec 1 := Scalar.cmpi .sge (BitVec.ofNat 32 (i 0).val) 64#32

/-- The slab of 128 channels and 128 tokens that the body reads at each of its offsets. -/
def slab1 (i : grid0.Coords) (q : Fin 4) (x : Vec Ideal S1x4x128x8x128 .f32) : Vec Ideal S1x1x128x1x128 .f32 :=
  View.ld x (Rect.unit (s := S1x4x128x8x128) (k0_off1 i (BitVec.ofNat 32 q.val)) S1x1x128x1x128.size (k0_off1_inb i q))
def slab2 (i : grid0.Coords) (q : Fin 4) (x : Vec Ideal S1x4x128x8x128 .f32) : Vec Ideal S1x1x128x1x128 .f32 :=
  View.ld x (Rect.unit (s := S1x4x128x8x128) (k0_off2 i (BitVec.ofNat 32 q.val)) S1x1x128x1x128.size (k0_off2_inb i q))
def slab3 (i : grid0.Coords) (q : Fin 4) (x : Vec Ideal S1x4x128x8x128 .f32) : Vec Ideal S1x1x128x1x128 .f32 :=
  View.ld x (Rect.unit (s := S1x4x128x8x128) (k0_off3 i (BitVec.ofNat 32 q.val)) S1x1x128x1x128.size (k0_off3_inb i q))
def slab4 (i : grid0.Coords) (q : Fin 4) (x : Vec Ideal S1x4x128x8x128 .f32) : Vec Ideal S1x1x128x1x128 .f32 :=
  View.ld x (Rect.unit (s := S1x4x128x8x128) (k0_off4 i (BitVec.ofNat 32 q.val)) S1x1x128x1x128.size (k0_off4_inb i q))

/-- The latent rows of the convolution's result: four groups of 128 tokens, four slabs of channels in each; the context's rows from `z`. -/
def conv (i : grid0.Coords) (x5 : Vec Ideal S1x4x128x8x128 .f32) (z : Vec Ideal S512x512 .f32) : Vec Ideal S512x512 .f32 :=
  k0_pay16 (late i) (k0_pay9 (slab1 i 0 x5) (slab2 i 0 x5) (slab3 i 0 x5) (slab4 i 0 x5)) (k0_pay11 (k0_pay10 (slab1 i 1 x5)) (slab2 i 1 x5) (slab3 i 1 x5) (slab4 i 1 x5))
    (k0_pay12 (slab1 i 2 x5)) (k0_pay13 (slab2 i 2 x5)) (k0_pay14 (slab3 i 2 x5)) (k0_pay15 (slab4 i 2 x5)) (slab1 i 3 x5) (slab2 i 3 x5) (slab3 i 3 x5) (slab4 i 3 x5) z

theorem out_eq (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S1x4x128x8x128 .f32) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x128 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .f32) (harg18 : arg18.IsWhole) (arg19 : Memref sig .tc .vmem S512x512 .bf16) (harg19 : arg19.IsWhole) (arg20 : Memref sig .tc .vmem S512x1024 .f32) (harg20 : arg20.IsWhole)
    (x0 : Vec Ideal S512x1024 .f32) (x1 : Vec Ideal S1x9x1024 .f32) (x2 : Vec Ideal S512x512 .bf16) (x3 : Vec Ideal S512x512 .bf16) (x4 : Vec Ideal S512x512 .f32) (x5 : Vec Ideal S1x4x128x8x128 .f32) (x6 : Vec Ideal S512x512 .bf16) (x7 : Vec Ideal S512x1024 .bf16) (x8 : Vec Ideal S512x1024 .bf16) (x9 : Vec Ideal S512x1024 .bf16) (x10 : Vec Ideal S1x128 .f32) (x11 : Vec Ideal S512x1024 .bf16) (x12 : Vec Ideal S512x1024 .bf16) (x13 : Vec Ideal S512x1024 .bf16) (x14 : Vec Ideal S1024x1024 .bf16) (x15 : Vec Ideal S512x512 .bf16) (x16 : Vec Ideal S512x512 .bf16) (x17 : Vec Ideal S512x512 .f32) (x18 : Vec Ideal S512x512 .bf16)
    : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18
      = k0_pay1 (k0_pay19 (k0_pay8 (k0_pay3 i x2 x3 x15 x16) (k0_pay4 x10) (k0_pay5 i x2 x3 x15 x16 x10) (k0_pay6 i x2 x3 x15 x16) (k0_pay7 i x2 x3 x15 x16) x4)
          (conv i x5 x17) (k0_pay17 (late i) x6 x18) (k0_pay18 x7) x11 x8 x12 x9 x13) x0 (k0_pay20 (k0_pay2 x1)) x14 := by
  unfold out0_A_19 kernelRun0_A
  dsimp only
  rw [View.read_writes_full]
  unfold kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, Memref.IsWhole.read_unread, ld_512x512, ld_1x128, ld_512x1024, ld_1024x1024, ld_1x9x1024]
  rfl

/-! ### The payloads' entries -/

theorem pay1_apply (v206 : FVec Ideal S512x1024 .f32) (v207 : Vec Ideal S512x1024 .f32) (x1 : Vec Ideal S1x9x1024 .f32) (v210 : Vec Ideal S1024x1024 .bf16)
    (r : Fin 512) (d : Fin 1024) : k0_pay1 (F := Ideal) v206 v207 (k0_pay20 (k0_pay2 x1)) v210 (ix2 r d)
    = mergedRow (fun k => v207 (ix2 r k)) (fun k => x1 (ix3 0 5 k)) (fun e => v206 (ix2 r e)) (fun e k => v210 (ix2 e k)) d := by
  unfold mergedRow
  pointwise [k0_pay1, k0_pay20, k0_pay2]

theorem pay19_apply (v79 : FVec Ideal S512x512 .bf16) (v162 : Vec Ideal S512x512 .f32) (v164 : Vec Ideal S512x512 .bf16) (v165 v178 v193 : Vec Ideal S512x1024 .bf16)
    (v173 v187 v201 : Vec Ideal S512x1024 .bf16) (r : Fin 512) (e : Fin 1024) :
    k0_pay19 (F := Ideal) v79 v162 v164 (k0_pay18 v165) v173 v178 v187 v193 v201 (ix2 r e)
    = mixed (fun j => v79 (ix2 r j)) (fun j => v162 (ix2 r j)) (fun j => v164 (ix2 j r)) (fun k => v165 (ix2 r k)) (fun k => v178 (ix2 r k)) (fun k => v193 (ix2 r k))
        (fun j k => v173 (ix2 j k)) (fun j k => v187 (ix2 j k)) (fun j k => v201 (ix2 j k)) e := by
  unfold mixed sigm
  pointwise [k0_pay19, k0_pay18]
  simp only [zero_sub]

set_option maxHeartbeats 2000000 in
theorem pay8_apply (i : grid0.Coords) (x2 x3 x15 x16 : Vec Ideal S512x512 .bf16) (x10 : Vec Ideal S1x128 .f32) (x4 : Vec Ideal S512x512 .f32)
    (r : Fin 512) (j : Fin 512) :
    k0_pay8 (F := Ideal) (k0_pay3 i x2 x3 x15 x16) (k0_pay4 x10) (k0_pay5 i x2 x3 x15 x16 x10) (k0_pay6 i x2 x3 x15 x16) (k0_pay7 i x2 x3 x15 x16) x4 (ix2 r j)
    = readout (fun k => k0_pay3 i x2 x3 x15 x16 (ix2 r k)) (fun k => x4 (ix2 r k)) (fun d => x10 (ix2 0 d)) j := by
  unfold readout sigm k0_pay5 k0_pay7 k0_pay6
  generalize k0_pay3 (F := Ideal) i x2 x3 x15 x16 = o
  pointwise [k0_pay8, k0_pay4]
  have hj := j.isLt
  simp only [zero_sub]
  split_ifs <;> refine congrArg (· * _) (Eq.symm ?_) <;>
    first
    | exact headed_at _ _ (fun d => ⟨d.val, by omega⟩) 0 (fun d => by show d.val = 0 * 128 + d.val; omega) j ⟨j.val, by omega⟩ (by show j.val = 0 * 128 + j.val; omega)
    | exact headed_at _ _ (fun d => ⟨128 + d.val, by omega⟩) 1 (fun d => by show 128 + d.val = 1 * 128 + d.val; omega) j ⟨j.val - 128, by omega⟩
        (by show j.val = 1 * 128 + (j.val - 128); omega)
    | exact headed_at _ _ (fun d => ⟨256 + d.val, by omega⟩) 2 (fun d => by show 256 + d.val = 2 * 128 + d.val; omega) j ⟨j.val - 128 - 128, by omega⟩
        (by show j.val = 2 * 128 + (j.val - 128 - 128); omega)
    | exact headed_at _ _ (fun d => ⟨384 + d.val, by omega⟩) 3 (fun d => by show 384 + d.val = 3 * 128 + d.val; omega) j ⟨j.val - 128 - 128 - 128, by omega⟩
        (by show j.val = 3 * 128 + (j.val - 128 - 128 - 128); omega)

theorem cols_apply (a0 a1 a2 a3 : FVec Ideal S128x128 .f32) (w : Fin 4 → Fin 128 → Fin 128 → EReal) (h0 : ∀ r d, a0 (ix2 r d) = w 0 r d)
    (h1 : ∀ r d, a1 (ix2 r d) = w 1 r d) (h2 : ∀ r d, a2 (ix2 r d) = w 2 r d) (h3 : ∀ r d, a3 (ix2 r d) = w 3 r d) (r : Fin 128) (j : Fin 512) :
    (concatenate S128x512 1 [⟨S128x128, a0⟩, ⟨S128x128, a1⟩, ⟨S128x128, a2⟩, ⟨S128x128, a3⟩] concatenates_S128x128_S128x128_S128x128_S128x128_S128x512_d1 : FVec Ideal S128x512 .f32)
      (ix2 r j) = w ⟨j.val / 128, by omega⟩ r ⟨j.val % 128, by omega⟩ := by
  pointwise
  have hj := j.isLt
  have key : ∀ (k : Fin 4) (d : Fin 128), j.val = k.val * 128 + d.val → w k r d = w ⟨j.val / 128, by omega⟩ r ⟨j.val % 128, by omega⟩ := by
    intro k d e
    have e1 : k = ⟨j.val / 128, by omega⟩ := Fin.ext (by simp only []; omega)
    have e2 : d = ⟨j.val % 128, by omega⟩ := Fin.ext (by simp only []; omega)
    rw [← e1, ← e2]
  split_ifs <;>
    first
    | exact (h0 _ _).trans (key 0 _ (by show j.val = 0 * 128 + j.val; omega))
    | exact (h1 _ _).trans (key 1 _ (by show j.val = 1 * 128 + (j.val - 128); omega))
    | exact (h2 _ _).trans (key 2 _ (by show j.val = 2 * 128 + (j.val - 128 - 128); omega))
    | exact (h3 _ _).trans (key 3 _ (by show j.val = 3 * 128 + (j.val - 128 - 128 - 128); omega))

theorem rows_apply (a0 a1 a2 a3 : FVec Ideal S128x512 .f32) (w : Fin 4 → Fin 128 → Fin 512 → EReal) (h0 : ∀ r d, a0 (ix2 r d) = w 0 r d)
    (h1 : ∀ r d, a1 (ix2 r d) = w 1 r d) (h2 : ∀ r d, a2 (ix2 r d) = w 2 r d) (h3 : ∀ r d, a3 (ix2 r d) = w 3 r d) (r : Fin 512) (j : Fin 512) :
    (concatenate S512x512 0 [⟨S128x512, a0⟩, ⟨S128x512, a1⟩, ⟨S128x512, a2⟩, ⟨S128x512, a3⟩] concatenates_S128x512_S128x512_S128x512_S128x512_S512x512_d0 : FVec Ideal S512x512 .f32)
      (ix2 r j) = w ⟨r.val / 128, by omega⟩ ⟨r.val % 128, by omega⟩ j := by
  pointwise
  have hr := r.isLt
  have key : ∀ (k : Fin 4) (d : Fin 128), r.val = k.val * 128 + d.val → w k d j = w ⟨r.val / 128, by omega⟩ ⟨r.val % 128, by omega⟩ j := by
    intro k d e
    have e1 : k = ⟨r.val / 128, by omega⟩ := Fin.ext (by simp only []; omega)
    have e2 : d = ⟨r.val % 128, by omega⟩ := Fin.ext (by simp only []; omega)
    rw [← e1, ← e2]
  split_ifs <;>
    first
    | exact (h0 _ _).trans (key 0 _ (by show r.val = 0 * 128 + r.val; omega))
    | exact (h1 _ _).trans (key 1 _ (by show r.val = 1 * 128 + (r.val - 128); omega))
    | exact (h2 _ _).trans (key 2 _ (by show r.val = 2 * 128 + (r.val - 128 - 128); omega))
    | exact (h3 _ _).trans (key 3 _ (by show r.val = 3 * 128 + (r.val - 128 - 128 - 128); omega))

theorem cast_slab (x : Vec Ideal S1x1x128x1x128 .f32) (r d : Fin 128) :
    (shapeCast S128x128 x shapeCasts_S1x1x128x1x128_S128x128 : FVec Ideal S128x128 .f32) (ix2 r d) = x (ix5 0 0 r 0 d) := by
  pointwise

/-! ### The offsets, by points -/

theorem late_eq : ∀ t : Fin cfg0.N, late (grid0.coords t) = if t.val < 64 then 0#1 else 1#1 := (by decide +kernel : ∀ t : Fin grid0.N, _)

theorem off1 : ∀ (t : Fin cfg0.N) (q : Fin 4), k0_off1 (grid0.coords t) (BitVec.ofNat 32 q.val) = ![0, 0, 0, t.val % 2 * 4 + q.val, 0] :=
  (by decide +kernel : ∀ (t : Fin grid0.N) (q : Fin 4), _)
theorem off2 : ∀ (t : Fin cfg0.N) (q : Fin 4), k0_off2 (grid0.coords t) (BitVec.ofNat 32 q.val) = ![0, 1, 0, t.val % 2 * 4 + q.val, 0] :=
  (by decide +kernel : ∀ (t : Fin grid0.N) (q : Fin 4), _)
theorem off3 : ∀ (t : Fin cfg0.N) (q : Fin 4), k0_off3 (grid0.coords t) (BitVec.ofNat 32 q.val) = ![0, 2, 0, t.val % 2 * 4 + q.val, 0] :=
  (by decide +kernel : ∀ (t : Fin grid0.N) (q : Fin 4), _)
theorem off4 : ∀ (t : Fin cfg0.N) (q : Fin 4), k0_off4 (grid0.coords t) (BitVec.ofNat 32 q.val) = ![0, 3, 0, t.val % 2 * 4 + q.val, 0] :=
  (by decide +kernel : ∀ (t : Fin grid0.N) (q : Fin 4), _)

theorem slab1_apply (t : Fin cfg0.N) (q : Fin 4) (x : Vec Ideal S1x4x128x8x128 .f32) (r d : Fin 128) :
    slab1 (grid0.coords t) q x (ix5 0 0 r 0 d) = x (ix5 0 0 r ⟨t.val % 2 * 4 + q.val, by omega⟩ d) := by
  unfold slab1
  refine View.ld_unit_apply_of x _ _ _ _ _ fun a => ?_
  refine Eq.trans ?_ (congrArg (· + _) (congrFun (off1 t q) a).symm)
  fin_cases a <;> simp [ix5]
theorem slab2_apply (t : Fin cfg0.N) (q : Fin 4) (x : Vec Ideal S1x4x128x8x128 .f32) (r d : Fin 128) :
    slab2 (grid0.coords t) q x (ix5 0 0 r 0 d) = x (ix5 0 1 r ⟨t.val % 2 * 4 + q.val, by omega⟩ d) := by
  unfold slab2
  refine View.ld_unit_apply_of x _ _ _ _ _ fun a => ?_
  refine Eq.trans ?_ (congrArg (· + _) (congrFun (off2 t q) a).symm)
  fin_cases a <;> simp [ix5]
theorem slab3_apply (t : Fin cfg0.N) (q : Fin 4) (x : Vec Ideal S1x4x128x8x128 .f32) (r d : Fin 128) :
    slab3 (grid0.coords t) q x (ix5 0 0 r 0 d) = x (ix5 0 2 r ⟨t.val % 2 * 4 + q.val, by omega⟩ d) := by
  unfold slab3
  refine View.ld_unit_apply_of x _ _ _ _ _ fun a => ?_
  refine Eq.trans ?_ (congrArg (· + _) (congrFun (off3 t q) a).symm)
  fin_cases a <;> simp [ix5]
theorem slab4_apply (t : Fin cfg0.N) (q : Fin 4) (x : Vec Ideal S1x4x128x8x128 .f32) (r d : Fin 128) :
    slab4 (grid0.coords t) q x (ix5 0 0 r 0 d) = x (ix5 0 3 r ⟨t.val % 2 * 4 + q.val, by omega⟩ d) := by
  unfold slab4
  refine View.ld_unit_apply_of x _ _ _ _ _ fun a => ?_
  refine Eq.trans ?_ (congrArg (· + _) (congrFun (off4 t q) a).symm)
  fin_cases a <;> simp [ix5]
/-- The convolution's rows at a latent point: token `r` of the block is token `r % 128` of the group `r / 128`. -/
theorem conv_lat (t : Fin cfg0.N) (ht : t.val < 64) (x : Vec Ideal S1x4x128x8x128 .f32) (z : Vec Ideal S512x512 .f32) (r j : Fin 512) :
    conv (grid0.coords t) x z (ix2 r j)
    = x (ix5 0 ⟨j.val / 128, by omega⟩ ⟨r.val % 128, by omega⟩ ⟨t.val % 2 * 4 + r.val / 128, by omega⟩ ⟨j.val % 128, by omega⟩) := by
  unfold conv k0_pay16
  rw [late_eq t, if_pos ht]
  refine rows_apply _ _ _ _ (fun q a j => x (ix5 0 ⟨j.val / 128, by omega⟩ a ⟨t.val % 2 * 4 + q.val, by omega⟩ ⟨j.val % 128, by omega⟩)) ?_ ?_ ?_ ?_ r j <;> intro a b
  · exact cols_apply _ _ _ _ (fun k a d => x (ix5 0 k a ⟨t.val % 2 * 4 + (0 : Fin 4).val, by omega⟩ d))
      (fun a d => (cast_slab _ a d).trans (slab1_apply t 0 x a d)) (fun a d => (cast_slab _ a d).trans (slab2_apply t 0 x a d))
      (fun a d => (cast_slab _ a d).trans (slab3_apply t 0 x a d)) (fun a d => (cast_slab _ a d).trans (slab4_apply t 0 x a d)) a b
  · exact cols_apply _ _ _ _ (fun k a d => x (ix5 0 k a ⟨t.val % 2 * 4 + (1 : Fin 4).val, by omega⟩ d))
      (fun a d => (cast_slab _ a d).trans (slab1_apply t 1 x a d)) (fun a d => (cast_slab _ a d).trans (slab2_apply t 1 x a d))
      (fun a d => (cast_slab _ a d).trans (slab3_apply t 1 x a d)) (fun a d => (cast_slab _ a d).trans (slab4_apply t 1 x a d)) a b
  · exact cols_apply _ _ _ _ (fun k a d => x (ix5 0 k a ⟨t.val % 2 * 4 + (2 : Fin 4).val, by omega⟩ d))
      (fun a d => (cast_slab _ a d).trans (slab1_apply t 2 x a d)) (fun a d => (cast_slab _ a d).trans (slab2_apply t 2 x a d))
      (fun a d => (cast_slab _ a d).trans (slab3_apply t 2 x a d)) (fun a d => (cast_slab _ a d).trans (slab4_apply t 2 x a d)) a b
  · exact cols_apply _ _ _ _ (fun k a d => x (ix5 0 k a ⟨t.val % 2 * 4 + (3 : Fin 4).val, by omega⟩ d))
      (fun a d => (cast_slab _ a d).trans (slab1_apply t 3 x a d)) (fun a d => (cast_slab _ a d).trans (slab2_apply t 3 x a d))
      (fun a d => (cast_slab _ a d).trans (slab3_apply t 3 x a d)) (fun a d => (cast_slab _ a d).trans (slab4_apply t 3 x a d)) a b

theorem conv_ctx (t : Fin cfg0.N) (ht : ¬ t.val < 64) (x : Vec Ideal S1x4x128x8x128 .f32) (z : Vec Ideal S512x512 .f32) : conv (grid0.coords t) x z = z := by
  unfold conv k0_pay16
  rw [late_eq t, if_neg ht]
  rfl

theorem att_lat (t : Fin cfg0.N) (ht : t.val < 64) (x z : Vec Ideal S512x512 .bf16) : k0_pay17 (F := Ideal) (late (grid0.coords t)) x z = x := by
  unfold k0_pay17
  rw [late_eq t, if_pos ht]
  rfl
theorem att_ctx (t : Fin cfg0.N) (ht : ¬ t.val < 64) (x z : Vec Ideal S512x512 .bf16) : k0_pay17 (F := Ideal) (late (grid0.coords t)) x z = z := by
  unfold k0_pay17
  rw [late_eq t, if_neg ht]
  rfl

theorem state_lat (t : Fin cfg0.N) (ht : t.val < 64) (a b a' b' : Vec Ideal S512x512 .bf16) (r j : Fin 512) :
    k0_pay3 (F := Ideal) (grid0.coords t) a b a' b' (ix2 r j) = a (ix2 r j) + b (ix2 r j) := by
  have e := late_eq t
  rw [if_pos ht] at e
  unfold late at e
  unfold k0_pay3
  simp only [e]
  rfl
theorem state_ctx (t : Fin cfg0.N) (ht : ¬ t.val < 64) (a b a' b' : Vec Ideal S512x512 .bf16) (r j : Fin 512) :
    k0_pay3 (F := Ideal) (grid0.coords t) a b a' b' (ix2 r j) = a' (ix2 r j) + b' (ix2 r j) := by
  have e := late_eq t
  rw [if_neg ht] at e
  unfold late at e
  unfold k0_pay3
  simp only [e]
  rfl

end Cert.MergeIdeal.OutProj

end
-- ==== Proof.Merge.Kernel.lean ====
/-
  The mixers' merge, entry by entry, over the ideal numbers: the blocks that a point reads, and the result's rows.
-/
module

public import proofs.«01_k».proof.Proof.Merge.Body
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.MergeIdeal.OutProj

open Cert.MergeIdeal Cert.MergeIdeal.Gen Cert.OutProj Cert.Ffn
open Idealize.ShloMosaic Idealize.ShloMosaic.TcCoe Idealize.SL.Sem

variable (m : (ℓ : Loc nD τ sig) → Buf (Elt Ideal) ℓ) (c : Dev nD)

/-- The arguments' entries. -/
def aX (n : Fin 33792) (k : Fin 1024) : EReal := (m ((c.tc : Thread nD τ).loc main_arg0) : FVec Ideal S33792x1024 .f32) (ix2 n k)
def aMod (g : Fin 8) (j : Fin 9) (k : Fin 1024) : EReal := (m ((c.tc : Thread nD τ).loc main_arg1) : FVec Ideal S8x9x1024 .f32) (ix3 g j k)
def aOf (n : Fin 32768) (j : Fin 512) : EReal := (m ((c.tc : Thread nD τ).loc main_arg2) : FVec Ideal S32768x512 .bf16) (ix2 n j)
def aOb (n : Fin 32768) (j : Fin 512) : EReal := (m ((c.tc : Thread nD τ).loc main_arg3) : FVec Ideal S32768x512 .bf16) (ix2 n j)
def aP (n : Fin 33792) (f : Fin 4608) : EReal := (m ((c.tc : Thread nD τ).loc main_arg4) : FVec Ideal S33792x4608 .f32) (ix2 n f)
def aG (n : Fin 33792) (f : Fin 3072) : EReal := (m ((c.tc : Thread nD τ).loc main_arg5) : FVec Ideal S33792x3072 .bf16) (ix2 n f)
def aB (b : Fin 4) (k : Fin 4) (s : Fin 8192) (d : Fin 128) : EReal := (m ((c.tc : Thread nD τ).loc main_arg6) : FVec Ideal S4x4x8192x128 .f32) (ix4 b k s d)
def aC (j : Fin 512) (n : Fin 32768) : EReal := (m ((c.tc : Thread nD τ).loc main_arg7) : FVec Ideal S512x32768 .bf16) (ix2 j n)
def aCf (n : Fin 1024) (j : Fin 512) : EReal := (m ((c.tc : Thread nD τ).loc main_arg8) : FVec Ideal S1024x512 .bf16) (ix2 n j)
def aCb (n : Fin 1024) (j : Fin 512) : EReal := (m ((c.tc : Thread nD τ).loc main_arg9) : FVec Ideal S1024x512 .bf16) (ix2 n j)
def aBc (n : Fin 1024) (j : Fin 512) : EReal := (m ((c.tc : Thread nD τ).loc main_arg10) : FVec Ideal S1024x512 .f32) (ix2 n j)
def aCc (j : Fin 512) (n : Fin 1024) : EReal := (m ((c.tc : Thread nD τ).loc main_arg11) : FVec Ideal S512x1024 .bf16) (ix2 j n)
def aGain (d : Fin 128) : EReal := (m ((c.tc : Thread nD τ).loc main_arg12) : FVec Ideal S128 .f32) (ix1 d)
def aWa (j : Fin 512) (e : Fin 1024) : EReal := (m ((c.tc : Thread nD τ).loc main_arg13) : FVec Ideal S512x1024 .f32) (ix2 j e)
def aWb (j : Fin 512) (e : Fin 1024) : EReal := (m ((c.tc : Thread nD τ).loc main_arg14) : FVec Ideal S512x1024 .f32) (ix2 j e)
def aWc (j : Fin 512) (e : Fin 1024) : EReal := (m ((c.tc : Thread nD τ).loc main_arg15) : FVec Ideal S512x1024 .f32) (ix2 j e)
def aWo (e : Fin 1024) (d : Fin 1024) : EReal := (m ((c.tc : Thread nD τ).loc main_arg16) : FVec Ideal S1024x1024 .f32) (ix2 e d)

theorem V_b (b k : Fin 4) (a : Fin 128) (e : Fin 64) (d : Fin 128) : (V m c main_v0 : FVec Ideal S4x4x128x64x128 .f32) (ix5 b k a e d)
    = aB m c b k ⟨a.val * 64 + e.val, by omega⟩ d := by
  entry_read
  pointwise
  rfl
theorem V_gain (d : Fin 128) : (V m c main_v1 : FVec Ideal S1x128 .f32) (ix2 0 d) = aGain m c d := by
  entry_read
  pointwise
  rfl
theorem V_wa (j : Fin 512) (e : Fin 1024) : (V m c main_v2 : FVec Ideal S512x1024 .bf16) (ix2 j e) = aWa m c j e := by
  entry_read; pointwise; rfl
theorem V_wb (j : Fin 512) (e : Fin 1024) : (V m c main_v3 : FVec Ideal S512x1024 .bf16) (ix2 j e) = aWb m c j e := by
  entry_read; pointwise; rfl
theorem V_wc (j : Fin 512) (e : Fin 1024) : (V m c main_v4 : FVec Ideal S512x1024 .bf16) (ix2 j e) = aWc m c j e := by
  entry_read; pointwise; rfl
theorem V_wo (e d : Fin 1024) : (V m c main_v5 : FVec Ideal S1024x1024 .bf16) (ix2 e d) = aWo m c e d := by
  entry_read; pointwise; rfl

/-! ### The blocks -/

theorem idx : ∀ t : Fin cfg0.N, win0_0.index t = ![t.val, 0] ∧ win0_1.index t = ![min (t.val / 16) 4, 0, 0] ∧ win0_2.index t = ![min t.val 63, 0]
    ∧ win0_3.index t = ![min t.val 63, 0] ∧ win0_4.index t = ![t.val, 4] ∧ win0_5.index t = ![min (t.val / 16) 3, 0, 0, t.val % 16 / 2, 0]
    ∧ win0_6.index t = ![0, min t.val 63] ∧ win0_7.index t = ![t.val, 0] ∧ win0_8.index t = ![t.val, 1] ∧ win0_9.index t = ![t.val, 2]
    ∧ win0_10.index t = ![0, 0] ∧ win0_11.index t = ![0, 0] ∧ win0_12.index t = ![0, 0] ∧ win0_13.index t = ![0, 0] ∧ win0_14.index t = ![0, 0]
    ∧ win0_15.index t = ![t.val - 64, 0] ∧ win0_16.index t = ![t.val - 64, 0] ∧ win0_17.index t = ![t.val - 64, 0] ∧ win0_18.index t = ![0, t.val - 64]
    ∧ win0_19.index t = ![t.val, 0] :=
  (by decide +kernel : ∀ t : Fin grid0.N, _)

theorem blk_x (t : Fin cfg0.N) (r : Fin 512) (k : Fin 1024) (n : Fin 33792) (hn : n.val = t.val * 512 + r.val) :
    (iblk m c 0 t : Vec Ideal S512x1024 .f32) (ix2 r k) = aX m c n k := by
  have ht : t.val < 66 := lt_of_lt_of_eq t.isLt N_0
  have e : (V m c main_arg0 : FVec Ideal S33792x1024 .f32) (ix2 n k) = aX m c n k := by rw [V_main_arg0]; rfl
  rw [← e]
  blk_ext [iblk, idx t]
theorem blk_mod (t : Fin cfg0.N) (j : Fin 9) (k : Fin 1024) (g : Fin 8) (hg : g.val = min (t.val / 16) 4) :
    (iblk m c 1 t : Vec Ideal S1x9x1024 .f32) (ix3 0 j k) = aMod m c g j k := by
  have ht : t.val < 66 := lt_of_lt_of_eq t.isLt N_0
  have e : (V m c main_arg1 : FVec Ideal S8x9x1024 .f32) (ix3 g j k) = aMod m c g j k := by rw [V_main_arg1]; rfl
  rw [← e]
  blk_ext [iblk, idx t]
theorem blk_of (t : Fin cfg0.N) (r j : Fin 512) (h : t.val < 64) (n : Fin 32768) (hn : n.val = t.val * 512 + r.val) :
    (iblk m c 2 t : Vec Ideal S512x512 .bf16) (ix2 r j) = aOf m c n j := by
  have ht : t.val < 66 := lt_of_lt_of_eq t.isLt N_0
  have e : (V m c main_arg2 : FVec Ideal S32768x512 .bf16) (ix2 n j) = aOf m c n j := by rw [V_main_arg2]; rfl
  rw [← e]
  blk_ext [iblk, idx t]
theorem blk_ob (t : Fin cfg0.N) (r j : Fin 512) (h : t.val < 64) (n : Fin 32768) (hn : n.val = t.val * 512 + r.val) :
    (iblk m c 3 t : Vec Ideal S512x512 .bf16) (ix2 r j) = aOb m c n j := by
  have ht : t.val < 66 := lt_of_lt_of_eq t.isLt N_0
  have e : (V m c main_arg3 : FVec Ideal S32768x512 .bf16) (ix2 n j) = aOb m c n j := by rw [V_main_arg3]; rfl
  rw [← e]
  blk_ext [iblk, idx t]
theorem blk_p (t : Fin cfg0.N) (r j : Fin 512) (n : Fin 33792) (hn : n.val = t.val * 512 + r.val) :
    (iblk m c 4 t : Vec Ideal S512x512 .f32) (ix2 r j) = aP m c n ⟨2048 + j.val, by omega⟩ := by
  have ht : t.val < 66 := lt_of_lt_of_eq t.isLt N_0
  have e : (V m c main_arg4 : FVec Ideal S33792x4608 .f32) (ix2 n ⟨2048 + j.val, by omega⟩) = aP m c n ⟨2048 + j.val, by omega⟩ := by rw [V_main_arg4]; rfl
  rw [← e]
  blk_ext [iblk, idx t]
theorem blk_b (t : Fin cfg0.N) (k : Fin 4) (a : Fin 128) (q : Fin 8) (d : Fin 128) (h : t.val < 64) :
    (iblk m c 5 t : Vec Ideal S1x4x128x8x128 .f32) (ix5 0 k a q d) = aB m c ⟨t.val / 16, by omega⟩ k ⟨a.val * 64 + (t.val % 16 / 2 * 8 + q.val), by omega⟩ d := by
  have ht : t.val < 66 := lt_of_lt_of_eq t.isLt N_0
  have e := V_b m c ⟨t.val / 16, by omega⟩ k a ⟨t.val % 16 / 2 * 8 + q.val, by omega⟩ d
  rw [← e]
  blk_ext [iblk, idx t]
theorem blk_c (t : Fin cfg0.N) (r j : Fin 512) (h : t.val < 64) (n : Fin 32768) (hn : n.val = t.val * 512 + r.val) :
    (iblk m c 6 t : Vec Ideal S512x512 .bf16) (ix2 j r) = aC m c j n := by
  have ht : t.val < 66 := lt_of_lt_of_eq t.isLt N_0
  have e : (V m c main_arg7 : FVec Ideal S512x32768 .bf16) (ix2 j n) = aC m c j n := by rw [V_main_arg7]; rfl
  rw [← e]
  blk_ext [iblk, idx t]
theorem blk_ga (t : Fin cfg0.N) (r : Fin 512) (k : Fin 1024) (n : Fin 33792) (hn : n.val = t.val * 512 + r.val) :
    (iblk m c 7 t : Vec Ideal S512x1024 .bf16) (ix2 r k) = aG m c n ⟨k.val, by omega⟩ := by
  have ht : t.val < 66 := lt_of_lt_of_eq t.isLt N_0
  have e : (V m c main_arg5 : FVec Ideal S33792x3072 .bf16) (ix2 n ⟨k.val, by omega⟩) = aG m c n ⟨k.val, by omega⟩ := by rw [V_main_arg5]; rfl
  rw [← e]
  blk_ext [iblk, idx t]
theorem blk_gb (t : Fin cfg0.N) (r : Fin 512) (k : Fin 1024) (n : Fin 33792) (hn : n.val = t.val * 512 + r.val) :
    (iblk m c 8 t : Vec Ideal S512x1024 .bf16) (ix2 r k) = aG m c n ⟨1024 + k.val, by omega⟩ := by
  have ht : t.val < 66 := lt_of_lt_of_eq t.isLt N_0
  have e : (V m c main_arg5 : FVec Ideal S33792x3072 .bf16) (ix2 n ⟨1024 + k.val, by omega⟩) = aG m c n ⟨1024 + k.val, by omega⟩ := by rw [V_main_arg5]; rfl
  rw [← e]
  blk_ext [iblk, idx t]
theorem blk_gc (t : Fin cfg0.N) (r : Fin 512) (k : Fin 1024) (n : Fin 33792) (hn : n.val = t.val * 512 + r.val) :
    (iblk m c 9 t : Vec Ideal S512x1024 .bf16) (ix2 r k) = aG m c n ⟨2048 + k.val, by omega⟩ := by
  have ht : t.val < 66 := lt_of_lt_of_eq t.isLt N_0
  have e : (V m c main_arg5 : FVec Ideal S33792x3072 .bf16) (ix2 n ⟨2048 + k.val, by omega⟩) = aG m c n ⟨2048 + k.val, by omega⟩ := by rw [V_main_arg5]; rfl
  rw [← e]
  blk_ext [iblk, idx t]
theorem blk_gain (t : Fin cfg0.N) (d : Fin 128) :
    (iblk m c 10 t : Vec Ideal S1x128 .f32) (ix2 0 d) = aGain m c d := by
  have ht : t.val < 66 := lt_of_lt_of_eq t.isLt N_0
  have e := V_gain m c d
  rw [← e]
  blk_ext [iblk, idx t]
theorem blk_wa (t : Fin cfg0.N) (j : Fin 512) (e : Fin 1024) :
    (iblk m c 11 t : Vec Ideal S512x1024 .bf16) (ix2 j e) = aWa m c j e := by
  have ht : t.val < 66 := lt_of_lt_of_eq t.isLt N_0
  have e0 := V_wa m c j e
  rw [← e0]
  blk_ext [iblk, idx t]
theorem blk_wb (t : Fin cfg0.N) (j : Fin 512) (e : Fin 1024) :
    (iblk m c 12 t : Vec Ideal S512x1024 .bf16) (ix2 j e) = aWb m c j e := by
  have ht : t.val < 66 := lt_of_lt_of_eq t.isLt N_0
  have e0 := V_wb m c j e
  rw [← e0]
  blk_ext [iblk, idx t]
theorem blk_wc (t : Fin cfg0.N) (j : Fin 512) (e : Fin 1024) :
    (iblk m c 13 t : Vec Ideal S512x1024 .bf16) (ix2 j e) = aWc m c j e := by
  have ht : t.val < 66 := lt_of_lt_of_eq t.isLt N_0
  have e0 := V_wc m c j e
  rw [← e0]
  blk_ext [iblk, idx t]
theorem blk_wo (t : Fin cfg0.N) (e d : Fin 1024) :
    (iblk m c 14 t : Vec Ideal S1024x1024 .bf16) (ix2 e d) = aWo m c e d := by
  have ht : t.val < 66 := lt_of_lt_of_eq t.isLt N_0
  have e0 := V_wo m c e d
  rw [← e0]
  blk_ext [iblk, idx t]
theorem blk_cf (t : Fin cfg0.N) (r j : Fin 512) (h : ¬ t.val < 64) (n : Fin 1024) (hn : n.val = (t.val - 64) * 512 + r.val) :
    (iblk m c 15 t : Vec Ideal S512x512 .bf16) (ix2 r j) = aCf m c n j := by
  have ht : t.val < 66 := lt_of_lt_of_eq t.isLt N_0
  have e : (V m c main_arg8 : FVec Ideal S1024x512 .bf16) (ix2 n j) = aCf m c n j := by rw [V_main_arg8]; rfl
  rw [← e]
  blk_ext [iblk, idx t]
theorem blk_cb (t : Fin cfg0.N) (r j : Fin 512) (h : ¬ t.val < 64) (n : Fin 1024) (hn : n.val = (t.val - 64) * 512 + r.val) :
    (iblk m c 16 t : Vec Ideal S512x512 .bf16) (ix2 r j) = aCb m c n j := by
  have ht : t.val < 66 := lt_of_lt_of_eq t.isLt N_0
  have e : (V m c main_arg9 : FVec Ideal S1024x512 .bf16) (ix2 n j) = aCb m c n j := by rw [V_main_arg9]; rfl
  rw [← e]
  blk_ext [iblk, idx t]
theorem blk_bc (t : Fin cfg0.N) (r j : Fin 512) (h : ¬ t.val < 64) (n : Fin 1024) (hn : n.val = (t.val - 64) * 512 + r.val) :
    (iblk m c 17 t : Vec Ideal S512x512 .f32) (ix2 r j) = aBc m c n j := by
  have ht : t.val < 66 := lt_of_lt_of_eq t.isLt N_0
  have e : (V m c main_arg10 : FVec Ideal S1024x512 .f32) (ix2 n j) = aBc m c n j := by rw [V_main_arg10]; rfl
  rw [← e]
  blk_ext [iblk, idx t]
theorem blk_cc (t : Fin cfg0.N) (r j : Fin 512) (h : ¬ t.val < 64) (n : Fin 1024) (hn : n.val = (t.val - 64) * 512 + r.val) :
    (iblk m c 18 t : Vec Ideal S512x512 .bf16) (ix2 j r) = aCc m c j n := by
  have ht : t.val < 66 := lt_of_lt_of_eq t.isLt N_0
  have e : (V m c main_arg11 : FVec Ideal S512x1024 .bf16) (ix2 j n) = aCc m c j n := by rw [V_main_arg11]; rfl
  rw [← e]
  blk_ext [iblk, idx t]

/-! ### The result -/

/-- The merge's result at row `n`, channel `d`, of the arguments. -/
def value (n : Fin 33792) (d : Fin 1024) : EReal :=
  result (aX m c) (aMod m c) (aOf m c) (aOb m c) (aP m c) (aG m c) (aB m c) (aC m c) (aCf m c) (aCb m c) (aBc m c) (aCc m c) (aGain m c) (aWa m c) (aWb m c) (aWc m c)
    (aWo m c) n d

theorem state_at (t : Fin cfg0.N) (r j : Fin 512) (n : Fin 33792) (hn : n.val = t.val * 512 + r.val) :
    k0_pay3 (F := Ideal) (grid0.coords t) (iblk m c 2 t) (iblk m c 3 t) (iblk m c 15 t) (iblk m c 16 t) (ix2 r j) = stateRow (aOf m c) (aOb m c) (aCf m c) (aCb m c) n j := by
  have hr := r.isLt
  unfold stateRow
  by_cases h : t.val < 64
  · rw [dif_pos (by omega)]
    refine (state_lat t h _ _ _ _ r j).trans ?_
    exact congrArg₂ (· + ·) (blk_of m c t r j h _ hn) (blk_ob m c t r j h _ hn)
  · rw [dif_neg (by omega)]
    refine (state_ctx t h _ _ _ _ r j).trans ?_
    exact congrArg₂ (· + ·) (blk_cf m c t r j h _ (by show n.val - 32768 = _; omega)) (blk_cb m c t r j h _ (by show n.val - 32768 = _; omega))

theorem conv_at (t : Fin cfg0.N) (r j : Fin 512) (n : Fin 33792) (hn : n.val = t.val * 512 + r.val) :
    conv (grid0.coords t) (iblk m c 5 t) (iblk m c 17 t) (ix2 r j) = convRow (aB m c) (aBc m c) n j := by
  have hr := r.isLt
  unfold convRow
  by_cases h : t.val < 64
  · rw [dif_pos (by omega)]
    refine (conv_lat t h _ _ r j).trans ?_
    refine (blk_b m c t _ _ _ _ h).trans ?_
    have e1 : (⟨t.val / 16, by omega⟩ : Fin 4) = ⟨n.val / 8192, by omega⟩ := Fin.ext (by simp only []; omega)
    have e2 : (⟨r.val % 128 * 64 + (t.val % 16 / 2 * 8 + (t.val % 2 * 4 + r.val / 128)), by omega⟩ : Fin 8192) = ⟨n.val % 128 * 64 + n.val % 8192 / 128, by omega⟩ :=
      Fin.ext (by simp only []; omega)
    exact congrArg₂ (fun b s => aB m c b _ s _) e1 e2
  · rw [dif_neg (by omega)]
    rw [conv_ctx t h]
    exact blk_bc m c t r j h _ (by show n.val - 32768 = _; omega)

theorem att_at (t : Fin cfg0.N) (r j : Fin 512) (n : Fin 33792) (hn : n.val = t.val * 512 + r.val) :
    k0_pay17 (F := Ideal) (late (grid0.coords t)) (iblk m c 6 t) (iblk m c 18 t) (ix2 j r) = attRow (aC m c) (aCc m c) n j := by
  have hr := r.isLt
  unfold attRow
  by_cases h : t.val < 64
  · rw [dif_pos (by omega)]
    rw [att_lat t h]
    exact blk_c m c t r j h _ hn
  · rw [dif_neg (by omega)]
    rw [att_ctx t h]
    exact blk_cc m c t r j h _ (by show n.val - 32768 = _; omega)

theorem point (t : Fin cfg0.N) (r : Fin 512) (d : Fin 1024) (n : Fin 33792) (hn : n.val = t.val * 512 + r.val) : outsAt0 m c t (ix2 r d) = value m c n d := by
  have ht : t.val < 66 := lt_of_lt_of_eq t.isLt N_0
  have hr := r.isLt
  have hg : (group n).val = min (t.val / 16) 4 := by show min (n.val / 8192) 4 = _; omega
  unfold outsAt0 value result
  rw [out_eq, pay1_apply]
  simp only [pay19_apply, pay8_apply]
  simp only [blk_x m c t r _ n hn, blk_mod m c t _ _ _ hg, blk_p m c t r _ n hn, blk_ga m c t r _ n hn, blk_gb m c t r _ n hn, blk_gc m c t r _ n hn, blk_gain m c t,
    blk_wa m c t, blk_wb m c t, blk_wc m c t, blk_wo m c t, state_at m c t r _ n hn, conv_at m c t r _ n hn, att_at m c t r _ n hn]

theorem final : (dats m 0 c).arrAt 19 cfg0.N = fun i : S33792x1024.Idx => value m c ⟨(i 0).val, (i 0).isLt⟩ ⟨(i 1).val, (i 1).isLt⟩ := by
  refine (dats m 0 c).arrAt_eq_of_covers 19 _ (by decide +kernel) fun t hfl y => ?_
  have ht : t.val < 66 := lt_of_lt_of_eq t.isLt N_0
  idx_vars y
  blk_simp [idx t]
  rw [after0_19]
  have hy0 := y0.isLt
  exact point m c t ⟨y0.val, y0.isLt⟩ ⟨y1.val, y1.isLt⟩ ⟨t.val * 512 + y0.val, by omega⟩ rfl

end Cert.MergeIdeal.OutProj

end
-- ==== Proof.Merge.Ref.lean ====
/-
  The reference of the mixers' merge, entry by entry, over the ideal numbers.
-/
module

public import proofs.«01_k».proof.Proof.Gen.MergeRefIdeal.Read
public import proofs.«01_k».proof.Proof.Merge.Math
public import Idealize.ShloMosaic.Lib.Pointwise
public import Idealize.ShloMosaic.Lib.Claim

@[expose] public section

set_option maxRecDepth 16384

noncomputable section

namespace Cert.MergeRefIdeal.OutProj

open Cert.MergeRefIdeal Cert.MergeRefIdeal.Read Cert.MergeRefIdeal.Gen Cert.Ffn Cert.OutProj
open Idealize.ShloMosaic Idealize.ShloMosaic.TcCoe Idealize.SL.Sem

variable (x0 : FVec Ideal S33792x1024 .f32) (x1 : FVec Ideal S8x9x1024 .f32) (x2 : FVec Ideal S32768x512 .bf16) (x3 : FVec Ideal S32768x512 .bf16) (x4 : FVec Ideal S33792x4608 .f32) (x5 : FVec Ideal S33792x3072 .bf16) (x6 : FVec Ideal S4x4x8192x128 .f32) (x7 : FVec Ideal S512x32768 .bf16) (x8 : FVec Ideal S1024x512 .bf16) (x9 : FVec Ideal S1024x512 .bf16) (x10 : FVec Ideal S1024x512 .f32) (x11 : FVec Ideal S512x1024 .bf16) (x12 : FVec Ideal S128 .f32) (x13 : FVec Ideal S512x1024 .f32) (x14 : FVec Ideal S512x1024 .f32) (x15 : FVec Ideal S512x1024 .f32) (x16 : FVec Ideal S1024x1024 .f32)

/-- The state's sum over both directions. -/
theorem lat_state (b : Fin 4) (t : Fin 8192) (h : Fin 4) (d : Fin 128) : val_main_v10 (F := Ideal) x2 x3 (ix4 b t h d)
    = x2 (ix2 ⟨b.val * 8192 + t.val, by omega⟩ ⟨h.val * 128 + d.val, by omega⟩) + x3 (ix2 ⟨b.val * 8192 + t.val, by omega⟩ ⟨h.val * 128 + d.val, by omega⟩) := by
  pointwise [val_main_v10, val_main_v9, val_main_v8, val_main_v7]

/-- The state's readout. -/
theorem lat_readout (b : Fin 4) (t : Fin 8192) (j : Fin 512) : val_main_v34 (F := Ideal) x2 x3 x4 x12 (ix3 b t j)
    = readout (fun k => x2 (ix2 ⟨b.val * 8192 + t.val, by omega⟩ k) + x3 (ix2 ⟨b.val * 8192 + t.val, by omega⟩ k)) (fun k => x4 (ix2 ⟨b.val * 8192 + t.val, by omega⟩ ⟨2048 + k.val, by omega⟩)) (fun d => x12 (ix1 d)) j := by
  unfold readout sigm
  rw [headed_at _ _ (fun d => ⟨j.val / 128 * 128 + d.val, by omega⟩) (j.val / 128) (fun d => rfl) j ⟨j.val % 128, by omega⟩ (by simp only []; omega)]
  simp only [← lat_state x2 x3 b t ⟨j.val / 128, by omega⟩]
  pointwise [val_main_v34, val_main_v33, val_main_call0_v5, val_main_call0_v4, val_main_call0_v3, val_main_call0_v2, val_main_call0_v1, val_main_call0_v0, val_main_call0_cst, val_main_call0_cst_0, val_main_v32, val_main_v31, val_main_v30, val_main_v29, val_main_v28, val_main_v27, val_main_v26, val_main_v25, val_main_v24, val_main_v23, val_main_v22, val_main_v21, val_main_v20, val_main_v19, val_main_v12, val_main_v11, val_main_v0, val_main_cst, val_main_cst_0, val_main_cst_1]
  rw [lat_state x2 x3 b t ⟨j.val / 128, by omega⟩ ⟨j.val % 128, by omega⟩]
  rfl

/-- The convolution's output. -/
theorem lat_conv (b : Fin 4) (t : Fin 8192) (j : Fin 512) : val_main_v3 (F := Ideal) x6 (ix3 b t j)
    = x6 (ix4 b ⟨j.val / 128, by omega⟩ ⟨t.val % 128 * 64 + t.val / 128, by omega⟩ ⟨j.val % 128, by omega⟩) := by
  pointwise [val_main_v3, val_main_v2, val_main_v1]

/-- The attention's output. -/
theorem lat_att (b : Fin 4) (t : Fin 8192) (j : Fin 512) : val_main_v15 (F := Ideal) x7 (ix3 b t j)
    = x7 (ix2 j ⟨b.val * 8192 + t.val, by omega⟩) := by
  pointwise [val_main_v15, val_main_v14, val_main_v13]

/-- A mixer's gate. -/
theorem lat_gate_a (b : Fin 4) (t : Fin 8192) (k : Fin 1024) : val_main_v43 (F := Ideal) x5 (ix3 b t k)
    = sigm (x5 (ix2 ⟨b.val * 8192 + t.val, by omega⟩ ⟨k.val, by omega⟩)) := by
  unfold sigm
  pointwise [val_main_v43, val_main_v42, val_main_v41, val_main_v40, val_main_v39, val_main_v38, val_main_v35, val_main_v18, val_main_v17, val_main_v16, val_main_cst_2, val_main_cst_3]

/-- A mixer's gate. -/
theorem lat_gate_b (b : Fin 4) (t : Fin 8192) (k : Fin 1024) : val_main_v51 (F := Ideal) x5 (ix3 b t k)
    = sigm (x5 (ix2 ⟨b.val * 8192 + t.val, by omega⟩ ⟨1024 + k.val, by omega⟩)) := by
  unfold sigm
  pointwise [val_main_v51, val_main_v50, val_main_v49, val_main_v48, val_main_v47, val_main_v46, val_main_v36, val_main_v18, val_main_v17, val_main_v16, val_main_cst_4, val_main_cst_5]

/-- A mixer's gate. -/
theorem lat_gate_c (b : Fin 4) (t : Fin 8192) (k : Fin 1024) : val_main_v60 (F := Ideal) x5 (ix3 b t k)
    = sigm (x5 (ix2 ⟨b.val * 8192 + t.val, by omega⟩ ⟨2048 + k.val, by omega⟩)) := by
  unfold sigm
  pointwise [val_main_v60, val_main_v59, val_main_v58, val_main_v57, val_main_v56, val_main_v55, val_main_v37, val_main_v18, val_main_v17, val_main_v16, val_main_cst_6, val_main_cst_7]

/-- The three mixers' gated products. -/
theorem lat_mixed (b : Fin 4) (t : Fin 8192) (e : Fin 1024) : val_main_v63 (F := Ideal) x2 x3 x4 x5 x6 x7 x12 x13 x14 x15 (ix3 b t e)
    = mixed (fun j => val_main_v34 (F := Ideal) x2 x3 x4 x12 (ix3 b t j)) (fun j => val_main_v3 (F := Ideal) x6 (ix3 b t j)) (fun j => val_main_v15 (F := Ideal) x7 (ix3 b t j)) (fun k => x5 (ix2 ⟨b.val * 8192 + t.val, by omega⟩ ⟨k.val, by omega⟩))
        (fun k => x5 (ix2 ⟨b.val * 8192 + t.val, by omega⟩ ⟨1024 + k.val, by omega⟩)) (fun k => x5 (ix2 ⟨b.val * 8192 + t.val, by omega⟩ ⟨2048 + k.val, by omega⟩)) (fun k e => x13 (ix2 k e)) (fun k e => x14 (ix2 k e))
        (fun k e => x15 (ix2 k e)) e := by
  unfold mixed
  simp only [← lat_gate_a x5 b t, ← lat_gate_b x5 b t, ← lat_gate_c x5 b t]
  pointwise [val_main_v63, val_main_v62, val_main_v61, val_main_v54, val_main_v53, val_main_v52, val_main_v45, val_main_v44]

/-- The merged row. -/
theorem lat_row (b : Fin 4) (t : Fin 8192) (d : Fin 1024) : val_main_v67 (F := Ideal) x0 x1 x2 x3 x4 x5 x6 x7 x12 x13 x14 x15 x16 (ix3 b t d)
    = mergedRow (fun k => x0 (ix2 ⟨b.val * 8192 + t.val, by omega⟩ k)) (fun k => x1 (ix3 ⟨b.val, by omega⟩ 5 k)) (fun e => val_main_v63 (F := Ideal) x2 x3 x4 x5 x6 x7 x12 x13 x14 x15 (ix3 b t e)) (fun e k => x16 (ix2 e k)) d := by
  unfold mergedRow
  pointwise [val_main_v67, val_main_v66, val_main_v65, val_main_v64, val_main_v6, val_main_v5, val_main_v4]

/-- The state's sum over both directions. -/
theorem ctx_state (b : Fin 4) (t : Fin 256) (h : Fin 4) (d : Fin 128) : val_main_v74 (F := Ideal) x8 x9 (ix4 b t h d)
    = x8 (ix2 ⟨b.val * 256 + t.val, by omega⟩ ⟨h.val * 128 + d.val, by omega⟩) + x9 (ix2 ⟨b.val * 256 + t.val, by omega⟩ ⟨h.val * 128 + d.val, by omega⟩) := by
  pointwise [val_main_v74, val_main_v73, val_main_v72, val_main_v71]

/-- The state's readout. -/
theorem ctx_readout (b : Fin 4) (t : Fin 256) (j : Fin 512) : val_main_v99 (F := Ideal) x4 x8 x9 x12 (ix3 b t j)
    = readout (fun k => x8 (ix2 ⟨b.val * 256 + t.val, by omega⟩ k) + x9 (ix2 ⟨b.val * 256 + t.val, by omega⟩ k)) (fun k => x4 (ix2 ⟨32768 + (b.val * 256 + t.val), by omega⟩ ⟨2048 + k.val, by omega⟩)) (fun d => x12 (ix1 d)) j := by
  unfold readout sigm
  rw [headed_at _ _ (fun d => ⟨j.val / 128 * 128 + d.val, by omega⟩) (j.val / 128) (fun d => rfl) j ⟨j.val % 128, by omega⟩ (by simp only []; omega)]
  simp only [← ctx_state x8 x9 b t ⟨j.val / 128, by omega⟩]
  pointwise [val_main_v99, val_main_v98, val_main_call1_v5, val_main_call1_v4, val_main_call1_v3, val_main_call1_v2, val_main_call1_v1, val_main_call1_v0, val_main_call1_cst, val_main_call1_cst_0, val_main_v97, val_main_v96, val_main_v95, val_main_v94, val_main_v93, val_main_v92, val_main_v91, val_main_v90, val_main_v89, val_main_v88, val_main_v87, val_main_v86, val_main_v85, val_main_v84, val_main_v76, val_main_v75, val_main_v0, val_main_cst_8, val_main_cst_9, val_main_cst_10]
  rw [ctx_state x8 x9 b t ⟨j.val / 128, by omega⟩ ⟨j.val % 128, by omega⟩]
  rfl

/-- The convolution's output. -/
theorem ctx_conv (b : Fin 4) (t : Fin 256) (j : Fin 512) : val_main_v77 (F := Ideal) x10 (ix3 b t j)
    = x10 (ix2 ⟨b.val * 256 + t.val, by omega⟩ j) := by
  pointwise [val_main_v77]

/-- The attention's output. -/
theorem ctx_att (b : Fin 4) (t : Fin 256) (j : Fin 512) : val_main_v80 (F := Ideal) x11 (ix3 b t j)
    = x11 (ix2 j ⟨b.val * 256 + t.val, by omega⟩) := by
  pointwise [val_main_v80, val_main_v79, val_main_v78]

/-- A mixer's gate. -/
theorem ctx_gate_a (b : Fin 4) (t : Fin 256) (k : Fin 1024) : val_main_v108 (F := Ideal) x5 (ix3 b t k)
    = sigm (x5 (ix2 ⟨32768 + (b.val * 256 + t.val), by omega⟩ ⟨k.val, by omega⟩)) := by
  unfold sigm
  pointwise [val_main_v108, val_main_v107, val_main_v106, val_main_v105, val_main_v104, val_main_v103, val_main_v100, val_main_v83, val_main_v82, val_main_v81, val_main_cst_11, val_main_cst_12]

/-- A mixer's gate. -/
theorem ctx_gate_b (b : Fin 4) (t : Fin 256) (k : Fin 1024) : val_main_v116 (F := Ideal) x5 (ix3 b t k)
    = sigm (x5 (ix2 ⟨32768 + (b.val * 256 + t.val), by omega⟩ ⟨1024 + k.val, by omega⟩)) := by
  unfold sigm
  pointwise [val_main_v116, val_main_v115, val_main_v114, val_main_v113, val_main_v112, val_main_v111, val_main_v101, val_main_v83, val_main_v82, val_main_v81, val_main_cst_13, val_main_cst_14]

/-- A mixer's gate. -/
theorem ctx_gate_c (b : Fin 4) (t : Fin 256) (k : Fin 1024) : val_main_v125 (F := Ideal) x5 (ix3 b t k)
    = sigm (x5 (ix2 ⟨32768 + (b.val * 256 + t.val), by omega⟩ ⟨2048 + k.val, by omega⟩)) := by
  unfold sigm
  pointwise [val_main_v125, val_main_v124, val_main_v123, val_main_v122, val_main_v121, val_main_v120, val_main_v102, val_main_v83, val_main_v82, val_main_v81, val_main_cst_15, val_main_cst_16]

/-- The three mixers' gated products. -/
theorem ctx_mixed (b : Fin 4) (t : Fin 256) (e : Fin 1024) : val_main_v128 (F := Ideal) x4 x5 x8 x9 x10 x11 x12 x13 x14 x15 (ix3 b t e)
    = mixed (fun j => val_main_v99 (F := Ideal) x4 x8 x9 x12 (ix3 b t j)) (fun j => val_main_v77 (F := Ideal) x10 (ix3 b t j)) (fun j => val_main_v80 (F := Ideal) x11 (ix3 b t j)) (fun k => x5 (ix2 ⟨32768 + (b.val * 256 + t.val), by omega⟩ ⟨k.val, by omega⟩))
        (fun k => x5 (ix2 ⟨32768 + (b.val * 256 + t.val), by omega⟩ ⟨1024 + k.val, by omega⟩)) (fun k => x5 (ix2 ⟨32768 + (b.val * 256 + t.val), by omega⟩ ⟨2048 + k.val, by omega⟩)) (fun k e => x13 (ix2 k e)) (fun k e => x14 (ix2 k e))
        (fun k e => x15 (ix2 k e)) e := by
  unfold mixed
  simp only [← ctx_gate_a x5 b t, ← ctx_gate_b x5 b t, ← ctx_gate_c x5 b t]
  pointwise [val_main_v128, val_main_v127, val_main_v126, val_main_v119, val_main_v118, val_main_v117, val_main_v110, val_main_v109]

/-- The merged row. -/
theorem ctx_row (b : Fin 4) (t : Fin 256) (d : Fin 1024) : val_main_v132 (F := Ideal) x0 x1 x4 x5 x8 x9 x10 x11 x12 x13 x14 x15 x16 (ix3 b t d)
    = mergedRow (fun k => x0 (ix2 ⟨32768 + (b.val * 256 + t.val), by omega⟩ k)) (fun k => x1 (ix3 4 5 k)) (fun e => val_main_v128 (F := Ideal) x4 x5 x8 x9 x10 x11 x12 x13 x14 x15 (ix3 b t e)) (fun e k => x16 (ix2 e k)) d := by
  unfold mergedRow
  pointwise [val_main_v132, val_main_v131, val_main_v130, val_main_v129, val_main_v70, val_main_v69, val_main_v68]

theorem rows_lat (n : Fin 32768) (d : Fin 1024) : val_main_v133 (F := Ideal) x0 x1 x2 x3 x4 x5 x6 x7 x12 x13 x14 x15 x16 (ix2 n d)
    = val_main_v67 (F := Ideal) x0 x1 x2 x3 x4 x5 x6 x7 x12 x13 x14 x15 x16 (ix3 ⟨n.val / 8192, by omega⟩ ⟨n.val % 8192, by omega⟩ d) := by
  pointwise [val_main_v133]

theorem rows_ctx (n : Fin 1024) (d : Fin 1024) : val_main_v134 (F := Ideal) x0 x1 x4 x5 x8 x9 x10 x11 x12 x13 x14 x15 x16 (ix2 n d)
    = val_main_v132 (F := Ideal) x0 x1 x4 x5 x8 x9 x10 x11 x12 x13 x14 x15 x16 (ix3 ⟨n.val / 256, by omega⟩ ⟨n.val % 256, by omega⟩ d) := by
  pointwise [val_main_v134]

theorem joined (n : Fin 33792) (d : Fin 1024) : val_main_v135 (F := Ideal) x0 x1 x2 x3 x4 x5 x6 x7 x8 x9 x10 x11 x12 x13 x14 x15 x16 (ix2 n d)
    = if h : n.val < 32768 then val_main_v133 (F := Ideal) x0 x1 x2 x3 x4 x5 x6 x7 x12 x13 x14 x15 x16 (ix2 ⟨n.val, h⟩ d)
      else val_main_v134 (F := Ideal) x0 x1 x4 x5 x8 x9 x10 x11 x12 x13 x14 x15 x16 (ix2 ⟨n.val - 32768, by omega⟩ d) := by
  pointwise [val_main_v135]

/-- The reference's result at row `n`, channel `d`. -/
theorem value (n : Fin 33792) (d : Fin 1024) : val_main_v135 (F := Ideal) x0 x1 x2 x3 x4 x5 x6 x7 x8 x9 x10 x11 x12 x13 x14 x15 x16 (ix2 n d)
    = result (fun n k => x0 (ix2 n k)) (fun g j k => x1 (ix3 g j k)) (fun n j => x2 (ix2 n j)) (fun n j => x3 (ix2 n j)) (fun n f => x4 (ix2 n f))
        (fun n f => x5 (ix2 n f)) (fun b k s d => x6 (ix4 b k s d)) (fun j n => x7 (ix2 j n)) (fun n j => x8 (ix2 n j)) (fun n j => x9 (ix2 n j))
        (fun n j => x10 (ix2 n j)) (fun j n => x11 (ix2 j n)) (fun d => x12 (ix1 d)) (fun j e => x13 (ix2 j e)) (fun j e => x14 (ix2 j e)) (fun j e => x15 (ix2 j e))
        (fun e d => x16 (ix2 e d)) n d := by
  have hn := n.isLt
  unfold result
  rw [joined]
  by_cases h : n.val < 32768
  · have eg : group n = ⟨n.val / 8192, by omega⟩ := Fin.ext (by show min (n.val / 8192) 4 = n.val / 8192; omega)
    have es : ∀ j, stateRow (fun n j => x2 (ix2 n j)) (fun n j => x3 (ix2 n j)) (fun n j => x8 (ix2 n j)) (fun n j => x9 (ix2 n j)) n j
        = x2 (ix2 ⟨n.val, h⟩ j) + x3 (ix2 ⟨n.val, h⟩ j) := fun j => dif_pos h
    have eb : ∀ j, convRow (fun b k s d => x6 (ix4 b k s d)) (fun n j => x10 (ix2 n j)) n j = x6 (ix4 ⟨n.val / 8192, by omega⟩ ⟨j.val / 128, by omega⟩
        ⟨n.val % 128 * 64 + n.val % 8192 / 128, by omega⟩ ⟨j.val % 128, by omega⟩) := fun j => dif_pos h
    have ea : ∀ j, attRow (fun j n => x7 (ix2 j n)) (fun j n => x11 (ix2 j n)) n j = x7 (ix2 j ⟨n.val, h⟩) := fun j => dif_pos h
    have em : n.val % 8192 % 128 = n.val % 128 := by omega
    rw [dif_pos h, rows_lat, lat_row, eg, show stateRow _ _ _ _ n = _ from funext es, show convRow _ _ n = _ from funext eb, show attRow _ _ n = _ from funext ea]
    simp only [lat_mixed, lat_readout, lat_conv, lat_att, Nat.div_add_mod', em]
  · have eg : group n = 4 := Fin.ext (by show min (n.val / 8192) 4 = 4; omega)
    have en : (⟨32768 + (n.val - 32768), by omega⟩ : Fin 33792) = n := Fin.ext (by show 32768 + (n.val - 32768) = n.val; omega)
    have es : ∀ j, stateRow (fun n j => x2 (ix2 n j)) (fun n j => x3 (ix2 n j)) (fun n j => x8 (ix2 n j)) (fun n j => x9 (ix2 n j)) n j
        = x8 (ix2 ⟨n.val - 32768, by omega⟩ j) + x9 (ix2 ⟨n.val - 32768, by omega⟩ j) := fun j => dif_neg h
    have eb : ∀ j, convRow (fun b k s d => x6 (ix4 b k s d)) (fun n j => x10 (ix2 n j)) n j = x10 (ix2 ⟨n.val - 32768, by omega⟩ j) := fun j => dif_neg h
    have ea : ∀ j, attRow (fun j n => x7 (ix2 j n)) (fun j n => x11 (ix2 j n)) n j = x11 (ix2 j ⟨n.val - 32768, by omega⟩) := fun j => dif_neg h
    rw [dif_neg h, rows_ctx, ctx_row, eg, show stateRow _ _ _ _ n = _ from funext es, show convRow _ _ n = _ from funext eb, show attRow _ _ n = _ from funext ea]
    simp only [ctx_mixed, ctx_readout, ctx_conv, ctx_att, Nat.div_add_mod', en]

end Cert.MergeRefIdeal.OutProj

end
-- ==== Proof.Mod.Kernel.lean ====
/-
  The modulation, entry by entry, over the ideal numbers: a condition's row through `x / (1 + exp (-x))` against the
  weights, and the bias.
-/
module

public import proofs.«01_k».proof.Proof.Gen.ModulationIdeal.Value
public import proofs.«01_k».proof.Proof.Merge.Math
public import Idealize.ShloMosaic.Lib.Pipeline.ValueKit
public import Idealize.ShloMosaic.Lib.Pointwise
public import Idealize.ShloMosaic.Lib.Claim

@[expose] public section

set_option maxRecDepth 16384

noncomputable section

namespace Cert.OutProj

open Idealize.ShloMosaic

/-- A row of conditions, modulated. -/
def modulated (x : Fin 1024 → EReal) (w : Fin 1024 → EReal) (b : EReal) : EReal := ∑ k, x k * sigm (x k) * w k + b

/-- The conditions' rows: the batches', the context's, and zeros. -/
def conds (c : Fin 4 → Fin 1024 → EReal) (cc : Fin 1024 → EReal) (g : Fin 8) (k : Fin 1024) : EReal :=
  if h : g.val < 4 then c ⟨g.val, h⟩ k else if g.val = 4 then cc k else 0

end Cert.OutProj

namespace Cert.ModulationIdeal.Mod

open Cert.ModulationIdeal Cert.ModulationIdeal.Gen Cert.OutProj
open Idealize.ShloMosaic Idealize.ShloMosaic.TcCoe Idealize.SL.Sem

theorem zero2 : (![0, 0] : Fin 2 → ℕ) = fun _ => 0 := by decide

/-- The block that a point leaves. -/
theorem out_apply (x0 : Vec Ideal S8x1024 .f32) (x1 : Vec Ideal S1024x2304 .bf16) (x2 : Vec Ideal S1x2304 .f32) (g : Fin 8) (d : Fin 2304) :
    out0_3 (F := Ideal) x0 x1 x2 (ix2 g d) = modulated (fun k => x0 (ix2 g k)) (fun k => x1 (ix2 k d)) (x2 (ix2 0 d)) := by
  unfold out0_3
  rw [View.canon_unit_zero zero2]
  unfold modulated sigm
  pointwise [k0_pay1]
  simp only [zero_sub]

variable (m : (ℓ : Loc nD τ sig) → Buf (Elt Ideal) ℓ) (c : Dev nD)

/-- The arguments' entries. -/
def aC (b : Fin 4) (k : Fin 1024) : EReal := (m ((c.tc : Thread nD τ).loc main_arg0) : FVec Ideal S4x1024 .f32) (ix2 b k)
def aCc (k : Fin 1024) : EReal := (m ((c.tc : Thread nD τ).loc main_arg1) : FVec Ideal S1024 .f32) (ix1 k)
def aW (k : Fin 1024) (f : Fin 9216) : EReal := (m ((c.tc : Thread nD τ).loc main_arg2) : FVec Ideal S1024x9216 .f32) (ix2 k f)
def aB (f : Fin 9216) : EReal := (m ((c.tc : Thread nD τ).loc main_arg3) : FVec Ideal S9216 .f32) (ix1 f)

/-! ### The rows of conditions -/

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What a buffer holds after the first three host operations. -/
def upto (b : Ref sig .tc) : Buf (Elt Ideal) ((c : Thread nD τ).loc b) := StableHlo.after ((hostOps0 (F := Ideal)).take 3) (fun b => m (c, b)) b

theorem V_split (b : Ref sig .tc) : V m c b
    = StableHlo.after ((hostOps0 (F := Ideal)).drop 3) (StableHlo.after ((hostOps0 (F := Ideal)).take 3) (fun b => m (c, b))) b := by
  rw [← after_append, List.take_append_drop]

theorem V_upto (b : Ref sig .tc) (h : ∀ r : Ref sig .tc, r = main_v2 ∨ r = main_v3 ∨ r = main_v4 → b ≠ r) : V m c b = upto m c b := by
  rw [V_split m c]
  refine StableHlo.after_of_forall_not_mem (b := Proc.devRef .tc b) _ _ (List.forall_iff_forall_mem.mp ?_)
  simp only [hostOps0, List.drop, List.Forall, StableHlo.nary_writes, StableHlo.reshape_writes, StableHlo.unary_writes, Finset.mem_singleton]
  exact ⟨StableHlo.devRef_ne_of_ne (h _ (by simp)), StableHlo.devRef_ne_of_ne (h _ (by simp)), StableHlo.devRef_ne_of_ne (h _ (by simp))⟩

theorem V_cat : (V m c main_v2 : FVec Ideal S8x1024 .f32) = concatenate S8x1024 0 [⟨S4x1024, (V m c main_arg0 : FVec Ideal S4x1024 .f32)⟩,
    ⟨S1x1024, (V m c main_v0 : FVec Ideal S1x1024 .f32)⟩, ⟨S3x1024, (V m c main_v1 : FVec Ideal S3x1024 .f32)⟩]
    concatenates_S4x1024_S1x1024_S3x1024_S8x1024_d0 := by
  rw [V_upto m c main_arg0 (by rintro r (h | h | h) <;> subst h <;> decide), V_upto m c main_v0 (by rintro r (h | h | h) <;> subst h <;> decide),
    V_upto m c main_v1 (by rintro r (h | h | h) <;> subst h <;> decide), V_split m c]
  unfold upto
  generalize StableHlo.after ((hostOps0 (F := Ideal)).take 3) (fun b => m (c, b)) = W
  simp only [hostOps0, List.drop, StableHlo.after_cons, StableHlo.after_nil]
  rw [StableHlo.reshape_result_ne _ _ _ _ _ _ _ (by decide), StableHlo.unary_result_ne _ _ _ _ _ _ (by decide), StableHlo.nary_result]
  rfl

theorem cat_apply (a1 : FVec Ideal S4x1024 .f32) (a2 : FVec Ideal S1x1024 .f32) (a3 : FVec Ideal S3x1024 .f32) (x : Fin 4 → Fin 1024 → EReal) (y : Fin 1024 → EReal)
    (h1 : ∀ b k, a1 (ix2 b k) = x b k) (h2 : ∀ k, a2 (ix2 0 k) = y k) (h3 : ∀ i k, a3 (ix2 i k) = (0 : EReal)) (g : Fin 8) (k : Fin 1024) :
    (concatenate S8x1024 0 [⟨S4x1024, a1⟩, ⟨S1x1024, a2⟩, ⟨S3x1024, a3⟩] concatenates_S4x1024_S1x1024_S3x1024_S8x1024_d0 : FVec Ideal S8x1024 .f32) (ix2 g k)
      = conds x y g k := by
  pointwise
  unfold conds
  have hg := g.isLt
  split_ifs <;> first
    | exact h1 _ _
    | exact (h3 _ _).trans (if_neg (by omega)).symm
    | exact ((congrArg (fun i => a2 (ix2 i k)) (Fin.ext (by show g.val - 4 = 0; omega))).trans (h2 k)).trans (if_pos (by omega)).symm

theorem V_arg (b : Fin 4) (k : Fin 1024) : (V m c main_arg0 : FVec Ideal S4x1024 .f32) (ix2 b k) = aC m c b k := by
  rw [V_main_arg0]; rfl
theorem V_0 (k : Fin 1024) : (V m c main_v0 : FVec Ideal S1x1024 .f32) (ix2 0 k) = aCc m c k := by
  entry_read; pointwise; rfl
theorem V_1 (i : Fin 3) (k : Fin 1024) : (V m c main_v1 : FVec Ideal S3x1024 .f32) (ix2 i k) = (0 : EReal) := by
  entry_read; pointwise

theorem V_c (g : Fin 8) (k : Fin 1024) : (V m c main_v2 : FVec Ideal S8x1024 .f32) (ix2 g k) = conds (aC m c) (aCc m c) g k := by
  rw [V_cat]
  exact cat_apply _ _ _ _ _ (V_arg m c) (V_0 m c) (V_1 m c) g k

theorem V_w (k : Fin 1024) (f : Fin 9216) : (V m c main_v3 : FVec Ideal S1024x9216 .bf16) (ix2 k f) = aW m c k f := by
  entry_read; pointwise; rfl
theorem V_b (f : Fin 9216) : (V m c main_v4 : FVec Ideal S1x9216 .f32) (ix2 0 f) = aB m c f := by
  entry_read; pointwise; rfl

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem blk_c (t : Fin cfg0.N) (g : Fin 8) (k : Fin 1024) : (iblk m c 0 t : Vec Ideal S8x1024 .f32) (ix2 g k) = conds (aC m c) (aCc m c) g k := by
  rw [← V_c]
  blk_ext [iblk, idx t]
theorem blk_w (t : Fin cfg0.N) (k : Fin 1024) (x : Fin 2304) (f : Fin 9216) (hf : f.val = t.val * 2304 + x.val) :
    (iblk m c 1 t : Vec Ideal S1024x2304 .bf16) (ix2 k x) = aW m c k f := by
  have ht : t.val < 4 := lt_of_lt_of_eq t.isLt N_0
  rw [← V_w]
  blk_ext [iblk, idx t]
theorem blk_b (t : Fin cfg0.N) (x : Fin 2304) (f : Fin 9216) (hf : f.val = t.val * 2304 + x.val) :
    (iblk m c 2 t : Vec Ideal S1x2304 .f32) (ix2 0 x) = aB m c f := by
  have ht : t.val < 4 := lt_of_lt_of_eq t.isLt N_0
  rw [← V_b]
  blk_ext [iblk, idx t]

/-- The modulation's result at row `g`, column `f`. -/
def result (g : Fin 8) (f : Fin 9216) : EReal := modulated (conds (aC m c) (aCc m c) g) (fun k => aW m c k f) (aB m c f)

theorem point (t : Fin cfg0.N) (g : Fin 8) (x : Fin 2304) (f : Fin 9216) (hf : f.val = t.val * 2304 + x.val) :
    out0_3 (F := Ideal) (iblk m c 0 t) (iblk m c 1 t) (iblk m c 2 t) (ix2 g x) = result m c g f := by
  refine (out_apply _ _ _ g x).trans ?_
  unfold result
  simp only [blk_c m c t, blk_w m c t _ x f hf, blk_b m c t x f hf]

theorem final : (dats m 0 c).arrAt 3 cfg0.N = fun i : S8x9216.Idx => result m c ⟨(i 0).val, (i 0).isLt⟩ ⟨(i 1).val, (i 1).isLt⟩ := by
  refine (dats m 0 c).arrAt_eq_of_covers 3 _ (by decide +kernel) fun t hfl y => ?_
  have ht : t.val < 4 := lt_of_lt_of_eq t.isLt N_0
  idx_vars y
  blk_simp [idx t]
  rw [after0_3]
  have hy1 := y1.isLt
  exact point m c t ⟨y0.val, y0.isLt⟩ ⟨y1.val, y1.isLt⟩ ⟨t.val * 2304 + y1.val, by omega⟩ rfl

end Cert.ModulationIdeal.Mod

end
-- ==== Proof.Mod.Ref.lean ====
/-
  The modulation's reference, entry by entry, over the ideal numbers.
-/
module

public import proofs.«01_k».proof.Proof.Gen.ModulationRefIdeal.Read
public import proofs.«01_k».proof.Proof.Mod.Kernel

@[expose] public section

set_option maxRecDepth 16384

noncomputable section

namespace Cert.ModulationRefIdeal.Mod

open Cert.ModulationRefIdeal Cert.ModulationRefIdeal.Read Cert.ModulationRefIdeal.Gen Cert.OutProj
open Idealize.ShloMosaic Idealize.ShloMosaic.TcCoe Idealize.SL.Sem

variable (x0 : FVec Ideal S4x1024 .f32) (x1 : FVec Ideal S1024 .f32) (x2 : FVec Ideal S1024x9216 .f32) (x3 : FVec Ideal S9216 .f32)

theorem lat (b : Fin 4) (f : Fin 9216) : val_main_v4 (F := Ideal) x0 x2 x3 (ix2 b f)
    = modulated (fun k => x0 (ix2 b k)) (fun k => x2 (ix2 k f)) (x3 (ix1 f)) := by
  unfold modulated sigm
  pointwise [val_main_v4, val_main_v3, val_main_v2, val_main_v1, val_main_v0, val_main_call0_v5, val_main_call0_v4, val_main_call0_v3, val_main_call0_v2,
    val_main_call0_v1, val_main_call0_v0, val_main_call0_cst, val_main_call0_cst_0]

theorem ctx (f : Fin 9216) : val_main_v9 (F := Ideal) x1 x2 x3 (ix2 0 f)
    = modulated (fun k => x1 (ix1 k)) (fun k => x2 (ix2 k f)) (x3 (ix1 f)) := by
  unfold modulated sigm
  pointwise [val_main_v9, val_main_v8, val_main_v7, val_main_v6, val_main_v5, val_main_call1_v5, val_main_call1_v4, val_main_call1_v3, val_main_call1_v2,
    val_main_call1_v1, val_main_call1_v0, val_main_call1_cst, val_main_call1_cst_0]

theorem rest (i : Fin 3) (f : Fin 9216) : val_main_v10 (F := Ideal) x3 (ix2 i f) = x3 (ix1 f) := by
  pointwise [val_main_v10]

/-- A row of zeros leaves the bias. -/
theorem modulated_zero (w : Fin 1024 → EReal) (b : EReal) : modulated (fun _ => 0) w b = b := by
  unfold modulated
  simp

theorem joined (g : Fin 8) (f : Fin 9216) : val_main_v11 (F := Ideal) x0 x1 x2 x3 (ix2 g f)
    = if h : g.val < 4 then val_main_v4 (F := Ideal) x0 x2 x3 (ix2 ⟨g.val, h⟩ f) else if g.val = 4 then val_main_v9 (F := Ideal) x1 x2 x3 (ix2 0 f)
      else x3 (ix1 f) := by
  have hg := g.isLt
  pointwise [val_main_v11]
  split_ifs <;> first
    | rfl
    | exact (rest x3 _ f).trans (if_neg (by omega)).symm
    | exact (congrArg (fun i => val_main_v9 (F := Ideal) x1 x2 x3 (ix2 i f)) (Fin.ext (by show g.val - 4 = 0; omega))).trans (if_pos (by omega)).symm

/-- The reference's result at row `g`, column `f`. -/
theorem value (g : Fin 8) (f : Fin 9216) : val_main_v11 (F := Ideal) x0 x1 x2 x3 (ix2 g f)
    = modulated (conds (fun b k => x0 (ix2 b k)) (fun k => x1 (ix1 k)) g) (fun k => x2 (ix2 k f)) (x3 (ix1 f)) := by
  rw [joined]
  by_cases h : g.val < 4
  · have e : conds (fun b k => x0 (ix2 b k)) (fun k => x1 (ix1 k)) g = fun k => x0 (ix2 ⟨g.val, h⟩ k) := funext fun k => dif_pos h
    rw [dif_pos h, e, lat]
  · rw [dif_neg h]
    by_cases h4 : g.val = 4
    · have e : conds (fun b k => x0 (ix2 b k)) (fun k => x1 (ix1 k)) g = fun k => x1 (ix1 k) := funext fun k => (dif_neg h).trans (if_pos h4)
      rw [if_pos h4, e, ctx]
    · have e : conds (fun b k => x0 (ix2 b k)) (fun k => x1 (ix1 k)) g = fun _ => 0 := funext fun k => (dif_neg h).trans (if_neg h4)
      rw [if_neg h4, e, modulated_zero]

end Cert.ModulationRefIdeal.Mod

end
-- ==== Proof.Attn.Pass.lean ====
/-
  The attention kernel's body at one grid point, over any floats. Each point finishes one pair (head, block of 256
  queries) — it turns the scores the point before left in scratch into weights and multiplies them with the values —
  and computes the scores of the next pair into the other scratch. Here: what the two passes compute, as functions of
  the blocks (`scores`, `maxes`, `outBlk`), and the body's triples, one per parity of the step and one for the first
  point, which clears the scratch it reads.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the two passes compute -/

/-- Rows `off … off + 1023` of the scores' scratch. -/
abbrev latRect (off : ℕ) (h : ∀ a, (![off, 0] : Fin 2 → ℕ) a + S1024x256.size a ≤ S8448x256.size a) : Rect S8448x256 :=
  Rect.unit (s := S8448x256) ![off, 0] S1024x256.size h
/-- Its first 256 rows, the context keys'. -/
abbrev ctxRect : Rect S8448x256 := (Rect.unit (s := S8448x256) ![0, 0] S256x256.size inb_S8448x256_S256x256_0_0)
abbrev keyRect (off : ℕ) (h : ∀ a, (![0, off, 0] : Fin 3 → ℕ) a + S1x1024x256.size a ≤ S1x8192x256.size a) : Rect S1x8192x256 :=
  Rect.unit (s := S1x8192x256) ![0, off, 0] S1x1024x256.size h
abbrev valRect (off : ℕ) (h : ∀ a, (![0, 0, off] : Fin 3 → ℕ) a + S1x144x1024.size a ≤ S1x144x8192.size a) : Rect S1x144x8192 :=
  Rect.unit (s := S1x144x8192) ![0, 0, off] S1x144x1024.size h

variable (q : Vec F S1x256x256 .bf16) (k : Vec F S1x8192x256 .bf16) (kc : Vec F S1x256x256 .bf16)
  (vt : Vec F S1x144x8192 .bf16) (vc : Vec F S1x144x256 .bf16) (s : Vec F S8448x256 .f32) (mx : Vec F S8x256 .f32)

abbrev ldq : Vec F S1x256x256 .bf16 := View.ld q (Rect.unit (s := S1x256x256) ![0, 0, 0] S1x256x256.size inb_S1x256x256_S1x256x256_0_0_0)
abbrev ks0 : Vec F S1x1024x256 .bf16 := View.ld k (keyRect 0 inb_S1x8192x256_S1x1024x256_0_0_0)
abbrev ks1 : Vec F S1x1024x256 .bf16 := View.ld k (keyRect 1024 inb_S1x8192x256_S1x1024x256_0_1024_0)
abbrev ks2 : Vec F S1x1024x256 .bf16 := View.ld k (keyRect 2048 inb_S1x8192x256_S1x1024x256_0_2048_0)
abbrev ks3 : Vec F S1x1024x256 .bf16 := View.ld k (keyRect 3072 inb_S1x8192x256_S1x1024x256_0_3072_0)
abbrev ks4 : Vec F S1x1024x256 .bf16 := View.ld k (keyRect 4096 inb_S1x8192x256_S1x1024x256_0_4096_0)
abbrev ks5 : Vec F S1x1024x256 .bf16 := View.ld k (keyRect 5120 inb_S1x8192x256_S1x1024x256_0_5120_0)
abbrev ks6 : Vec F S1x1024x256 .bf16 := View.ld k (keyRect 6144 inb_S1x8192x256_S1x1024x256_0_6144_0)
abbrev ks7 : Vec F S1x1024x256 .bf16 := View.ld k (keyRect 7168 inb_S1x8192x256_S1x1024x256_0_7168_0)
abbrev sC : Vec F S256x256 .f32 := View.ld s ctxRect
abbrev s0 : Vec F S1024x256 .f32 := View.ld s (latRect 256 inb_S8448x256_S1024x256_256_0)
abbrev s1 : Vec F S1024x256 .f32 := View.ld s (latRect 1280 inb_S8448x256_S1024x256_1280_0)
abbrev s2 : Vec F S1024x256 .f32 := View.ld s (latRect 2304 inb_S8448x256_S1024x256_2304_0)
abbrev s3 : Vec F S1024x256 .f32 := View.ld s (latRect 3328 inb_S8448x256_S1024x256_3328_0)
abbrev s4 : Vec F S1024x256 .f32 := View.ld s (latRect 4352 inb_S8448x256_S1024x256_4352_0)
abbrev s5 : Vec F S1024x256 .f32 := View.ld s (latRect 5376 inb_S8448x256_S1024x256_5376_0)
abbrev s6 : Vec F S1024x256 .f32 := View.ld s (latRect 6400 inb_S8448x256_S1024x256_6400_0)
abbrev s7 : Vec F S1024x256 .f32 := View.ld s (latRect 7424 inb_S8448x256_S1024x256_7424_0)
abbrev v0 : Vec F S1x144x1024 .bf16 := View.ld vt (valRect 0 inb_S1x144x8192_S1x144x1024_0_0_0)
abbrev v1 : Vec F S1x144x1024 .bf16 := View.ld vt (valRect 1024 inb_S1x144x8192_S1x144x1024_0_0_1024)
abbrev v2 : Vec F S1x144x1024 .bf16 := View.ld vt (valRect 2048 inb_S1x144x8192_S1x144x1024_0_0_2048)
abbrev v3 : Vec F S1x144x1024 .bf16 := View.ld vt (valRect 3072 inb_S1x144x8192_S1x144x1024_0_0_3072)
abbrev v4 : Vec F S1x144x1024 .bf16 := View.ld vt (valRect 4096 inb_S1x144x8192_S1x144x1024_0_0_4096)
abbrev v5 : Vec F S1x144x1024 .bf16 := View.ld vt (valRect 5120 inb_S1x144x8192_S1x144x1024_0_0_5120)
abbrev v6 : Vec F S1x144x1024 .bf16 := View.ld vt (valRect 6144 inb_S1x144x8192_S1x144x1024_0_0_6144)
abbrev v7 : Vec F S1x144x1024 .bf16 := View.ld vt (valRect 7168 inb_S1x144x8192_S1x144x1024_0_0_7168)
abbrev mrow : Vec F S1x256 .f32 := View.ld mx (Rect.unit (s := S8x256) ![0, 0] S1x256.size inb_S8x256_S1x256_0_0)
abbrev vcs : Vec F S1x144x256 .bf16 := View.ld vc (Rect.unit (s := S1x144x256) ![0, 0, 0] S1x144x256.size inb_S1x144x256_S1x144x256_0_0_0)

/-- The scaled queries. -/
abbrev qs : FVec F S256x256 .bf16 := k0_pay14 (ldq q)

/-- What the score pass leaves in the scores' scratch, piece by piece, the last stored first. -/
def scorePieces : List (View.Piece (Elt F) S8448x256 .f32) :=
  [⟨latRect 7424 inb_S8448x256_S1024x256_7424_0, k0_pay21 (qs q) (ks7 k)⟩,
   ⟨latRect 6400 inb_S8448x256_S1024x256_6400_0, k0_pay21 (qs q) (ks6 k)⟩,
   ⟨latRect 5376 inb_S8448x256_S1024x256_5376_0, k0_pay21 (qs q) (ks5 k)⟩,
   ⟨latRect 4352 inb_S8448x256_S1024x256_4352_0, k0_pay21 (qs q) (ks4 k)⟩,
   ⟨latRect 3328 inb_S8448x256_S1024x256_3328_0, k0_pay21 (qs q) (ks3 k)⟩,
   ⟨latRect 2304 inb_S8448x256_S1024x256_2304_0, k0_pay21 (qs q) (ks2 k)⟩,
   ⟨latRect 1280 inb_S8448x256_S1024x256_1280_0, k0_pay21 (qs q) (ks1 k)⟩,
   ⟨latRect 256 inb_S8448x256_S1024x256_256_0, k0_pay21 (qs q) (ks0 k)⟩,
   ⟨ctxRect, k0_pay16 (ldq q) (ldq kc)⟩]
def scores : Vec F S8448x256 .f32 := View.canon (scorePieces q k kc)
/-- The running maximum the score pass returns, on every row of its scratch. -/
def maxPieces : List (View.Piece (Elt F) S8x256 .f32) :=
  [⟨(Rect.unit (s := S8x256) ![0, 0] S8x256.size inb_S8x256_S8x256_0_0), k0_pay4 (k0_pay33 (qs q) (k0_pay26 (qs q) (k0_pay17 (ldq q) (ldq kc)) (k0_pay18 (ldq q) (ks0 k)) (ks1 k) (ks2 k) (ks3 k)) (ks4 k) (ks5 k) (ks6 k)) (k0_pay34 (qs q) (ks7 k))⟩]
def maxes : Vec F S8x256 .f32 := View.canon (maxPieces q k kc)

/-- What the value pass leaves in the result's block. -/
def outPieces : List (View.Piece (Elt F) S128x256 .bf16) :=
  [⟨(Rect.unit (s := S128x256) ![0, 0] S128x256.size inb_S128x256_S128x256_0_0), k0_pay13 (mrow mx)
      (k0_pay10 (mrow mx) (k0_pay7 (mrow mx) (sC s) (vcs vc) (s0 s) (v0 vt) (s1 s) (v1 vt)) (k0_pay8 (mrow mx) (s2 s)) (k0_pay9 (v2 vt))
        (constant S144x256 .f32 0x00000000#32) (s3 s) (v3 vt) (s4 s) (v4 vt) (s5 s) (v5 vt))
      (k0_pay11 (mrow mx) (s6 s)) (k0_pay12 (v6 vt)) (constant S144x256 .f32 0x00000000#32) (s7 s) (v7 vt)⟩]
def outBlk : Vec F S128x256 .bf16 := View.canon (outPieces vt vc s mx)

def zeroScores : Vec F S8448x256 .f32 := View.canon [⟨(Rect.unit (s := S8448x256) ![0, 0] S8448x256.size inb_S8448x256_S8448x256_0_0), k0_pay1⟩]
def zeroMaxes : Vec F S8x256 .f32 := View.canon [⟨(Rect.unit (s := S8x256) ![0, 0] S8x256.size inb_S8x256_S8x256_0_0), k0_pay2⟩]

theorem cover_scores (y : S8448x256.Idx) : ∃ pc ∈ scorePieces q k kc, y ∈ pc.1.set :=
  View.cover_of_tiledBy (scorePieces q k kc) S256x256.size (by sl_kernel_rfl) y
theorem cover_maxes (y : S8x256.Idx) : ∃ pc ∈ maxPieces q k kc, y ∈ pc.1.set :=
  View.cover_of_tiledL (maxPieces q k kc) S8x256.size (by sl_kernel_rfl) y
theorem cover_out (y : S128x256.Idx) : ∃ pc ∈ outPieces vt vc s mx, y ∈ pc.1.set :=
  View.cover_of_tiledL (outPieces vt vc s mx) S128x256.size (by sl_kernel_rfl) y

/-! ## The conditions -/

/-- The kernel's test for the grid's first point. -/
abbrev cond1 (i : grid0.Coords) : BitVec 1 :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32

theorem cond1_iff : ∀ t : Fin grid0.N, cond1 (grid0.coords t) = 1#1 ↔ t.val = 0 := by decide +kernel
theorem cond2_iff : ∀ t : Fin grid0.N, k0_cond2 (grid0.coords t) = 1#1 ↔ t.val % 129 % 2 = 0 := by decide +kernel
theorem cond3_iff : ∀ t : Fin grid0.N, k0_cond3 (grid0.coords t) = 1#1 ↔ t.val % 129 % 2 = 1 := by decide +kernel

/-! ## The odd steps' operations are the even steps' -/

theorem pay5_eq : @k0_pay5 = @k0_pay3 := rfl
theorem pay6_eq : @k0_pay6 = @k0_pay4 := rfl
theorem pay35_eq : @k0_pay35 = @k0_pay7 := rfl
theorem pay36_eq : @k0_pay36 = @k0_pay8 := rfl
theorem pay37_eq : @k0_pay37 = @k0_pay9 := rfl
theorem pay38_eq : @k0_pay38 = @k0_pay10 := rfl
theorem pay39_eq : @k0_pay39 = @k0_pay11 := rfl
theorem pay40_eq : @k0_pay40 = @k0_pay12 := rfl
theorem pay41_eq : @k0_pay41 = @k0_pay13 := rfl
theorem pay42_eq : @k0_pay42 = @k0_pay14 := rfl
theorem pay43_eq : @k0_pay43 = @k0_pay15 := rfl
theorem pay44_eq : @k0_pay44 = @k0_pay16 := rfl
theorem pay45_eq : @k0_pay45 = @k0_pay17 := rfl
theorem pay46_eq : @k0_pay46 = @k0_pay18 := rfl
theorem pay47_eq : @k0_pay47 = @k0_pay19 := rfl
theorem pay48_eq : @k0_pay48 = @k0_pay20 := rfl
theorem pay49_eq : @k0_pay49 = @k0_pay21 := rfl
theorem pay50_eq : @k0_pay50 = @k0_pay22 := rfl
theorem pay51_eq : @k0_pay51 = @k0_pay23 := rfl
theorem pay52_eq : @k0_pay52 = @k0_pay24 := rfl
theorem pay53_eq : @k0_pay53 = @k0_pay25 := rfl
theorem pay54_eq : @k0_pay54 = @k0_pay26 := rfl
theorem pay55_eq : @k0_pay55 = @k0_pay27 := rfl
theorem pay56_eq : @k0_pay56 = @k0_pay28 := rfl
theorem pay57_eq : @k0_pay57 = @k0_pay29 := rfl
theorem pay58_eq : @k0_pay58 = @k0_pay30 := rfl
theorem pay59_eq : @k0_pay59 = @k0_pay31 := rfl
theorem pay60_eq : @k0_pay60 = @k0_pay32 := rfl
theorem pay61_eq : @k0_pay61 = @k0_pay33 := rfl
theorem pay62_eq : @k0_pay62 = @k0_pay34 := rfl

end Cert.KernelIdeal.Attn

end
-- ==== Proof.Attn.Even.lean ====
/-
  The attention kernel's body at an even step past the first point.
-/
module

public import proofs.«01_k».proof.Proof.Attn.Pass

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (q : Vec F S1x256x256 .bf16) (k : Vec F S1x8192x256 .bf16) (kc : Vec F S1x256x256 .bf16)
  (vt : Vec F S1x144x8192 .bf16) (vc : Vec F S1x144x256 .bf16) (s : Vec F S8448x256 .f32) (mx : Vec F S8x256 .f32)

set_option maxHeartbeats 2000000 in
/-- An even step past the first point: the scores go to the first scratch, the values' pass reads the second. -/
theorem run_even (c : Dev nD) (E : Set ℕ) (i : grid0.Coords) (arg3 : Memref sig .tc .vmem S1x256x256 .bf16) (harg3 : arg3.IsWhole) (arg4 : Memref sig .tc .vmem S1x8192x256 .bf16) (harg4 : arg4.IsWhole)
    (arg5 : Memref sig .tc .vmem S1x144x8192 .bf16) (harg5 : arg5.IsWhole) (arg6 : Memref sig .tc .vmem S1x256x256 .bf16) (harg6 : arg6.IsWhole)
    (arg7 : Memref sig .tc .vmem S1x144x256 .bf16) (harg7 : arg7.IsWhole) (arg8 : Memref sig .tc .vmem S128x256 .bf16) (harg8 : arg8.IsWhole)
    (arg9 : Memref sig .tc .vmem S8448x256 .f32) (harg9 : arg9.IsWhole) (arg10 : Memref sig .tc .vmem S8448x256 .f32) (harg10 : arg10.IsWhole)
    (arg11 : Memref sig .tc .vmem S8x256 .f32) (harg11 : arg11.IsWhole) (arg12 : Memref sig .tc .vmem S8x256 .f32) (harg12 : arg12.IsWhole)
    (h1 : ¬ cond1 i = 1#1) (h2 : k0_cond2 i = 1#1) (h3 : ¬ k0_cond3 i = 1#1) (K : PUnit → sProp 𝕄) :
    iprop(owns (c : Thread nD τ) arg3 fullShare q ∗ owns (c : Thread nD τ) arg4 fullShare k ∗ owns (c : Thread nD τ) arg5 fullShare vt ∗ owns (c : Thread nD τ) arg6 fullShare kc ∗ owns (c : Thread nD τ) arg7 fullShare vc ∗ (∃ d, owns (c : Thread nD τ) arg8 fullShare d)
        ∗ (∃ d, owns (c : Thread nD τ) arg9 fullShare d) ∗ owns (c : Thread nD τ) arg10 fullShare s ∗ (∃ d, owns (c : Thread nD τ) arg11 fullShare d) ∗ owns (c : Thread nD τ) arg12 fullShare mx
        ∗ (iprop(owns (c : Thread nD τ) arg3 fullShare q ∗ owns (c : Thread nD τ) arg4 fullShare k ∗ owns (c : Thread nD τ) arg5 fullShare vt ∗ owns (c : Thread nD τ) arg6 fullShare kc ∗ owns (c : Thread nD τ) arg7 fullShare vc ∗ owns (c : Thread nD τ) arg8 fullShare (outBlk vt vc s mx)
        ∗ owns (c : Thread nD τ) arg9 fullShare (scores q k kc) ∗ owns (c : Thread nD τ) arg10 fullShare s ∗ owns (c : Thread nD τ) arg11 fullShare (maxes q k kc) ∗ owns (c : Thread nD τ) arg12 fullShare mx) -∗ K ⟨⟩))
      ⊢ wp frame (wpE (defs₀ (F := F)) Variants.none c none) E (cc0_mla_attention i arg3 harg3 arg4 harg4 arg5 harg5 arg6 harg6 arg7 harg7 arg8 harg8 arg9 harg9 arg10 harg10 arg11 harg11 arg12 harg12) K := by
  simp only [cc0_mla_attention_eq_skeleton]; unfold cc0_mla_attention_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%dc, %fc, -, HC⟩, ⟨%fp, %hfp, HP⟩, ⟨%dmc, %fmc, -, HMC⟩, ⟨%fmp, %hfmp, HMP⟩, Hk⟩
  subst hf3 hf4 hf5 hf6 hf7 hfp hfmp
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    dsimp only
    exact View.read_writes_eq_canon _ _ _ (cover_out _ _ _ _)
  isplitl [HC]
  · iexists _; isplitr
    swap; · iexact HC
    ipureintro
    dsimp only
    exact View.read_writes_eq_canon _ _ _ (cover_scores _ _ _)
  isplitl [HP]
  · iexists fp; isplitr; · ipureintro; rfl
    iexact HP
  isplitl [HMC]
  · iexists _; isplitr
    swap; · iexact HMC
    ipureintro
    dsimp only
    exact View.read_writes_eq_canon _ _ _ (cover_maxes _ _ _)
  · iexists fmp; isplitr; · ipureintro; rfl
    iexact HMP

end Cert.KernelIdeal.Attn

end
-- ==== Proof.Attn.Odd.lean ====
/-
  The attention kernel's body at an odd step: the two scratches exchanged.
-/
module

public import proofs.«01_k».proof.Proof.Attn.Pass

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (q : Vec F S1x256x256 .bf16) (k : Vec F S1x8192x256 .bf16) (kc : Vec F S1x256x256 .bf16)
  (vt : Vec F S1x144x8192 .bf16) (vc : Vec F S1x144x256 .bf16) (s : Vec F S8448x256 .f32) (mx : Vec F S8x256 .f32)

set_option maxHeartbeats 2000000 in
/-- An odd step: the two scratches exchanged. -/
theorem run_odd (c : Dev nD) (E : Set ℕ) (i : grid0.Coords) (arg3 : Memref sig .tc .vmem S1x256x256 .bf16) (harg3 : arg3.IsWhole) (arg4 : Memref sig .tc .vmem S1x8192x256 .bf16) (harg4 : arg4.IsWhole)
    (arg5 : Memref sig .tc .vmem S1x144x8192 .bf16) (harg5 : arg5.IsWhole) (arg6 : Memref sig .tc .vmem S1x256x256 .bf16) (harg6 : arg6.IsWhole)
    (arg7 : Memref sig .tc .vmem S1x144x256 .bf16) (harg7 : arg7.IsWhole) (arg8 : Memref sig .tc .vmem S128x256 .bf16) (harg8 : arg8.IsWhole)
    (arg9 : Memref sig .tc .vmem S8448x256 .f32) (harg9 : arg9.IsWhole) (arg10 : Memref sig .tc .vmem S8448x256 .f32) (harg10 : arg10.IsWhole)
    (arg11 : Memref sig .tc .vmem S8x256 .f32) (harg11 : arg11.IsWhole) (arg12 : Memref sig .tc .vmem S8x256 .f32) (harg12 : arg12.IsWhole)
    (h1 : ¬ cond1 i = 1#1) (h2 : ¬ k0_cond2 i = 1#1) (h3 : k0_cond3 i = 1#1) (K : PUnit → sProp 𝕄) :
    iprop(owns (c : Thread nD τ) arg3 fullShare q ∗ owns (c : Thread nD τ) arg4 fullShare k ∗ owns (c : Thread nD τ) arg5 fullShare vt ∗ owns (c : Thread nD τ) arg6 fullShare kc ∗ owns (c : Thread nD τ) arg7 fullShare vc ∗ (∃ d, owns (c : Thread nD τ) arg8 fullShare d)
        ∗ (∃ d, owns (c : Thread nD τ) arg10 fullShare d) ∗ owns (c : Thread nD τ) arg9 fullShare s ∗ (∃ d, owns (c : Thread nD τ) arg12 fullShare d) ∗ owns (c : Thread nD τ) arg11 fullShare mx
        ∗ (iprop(owns (c : Thread nD τ) arg3 fullShare q ∗ owns (c : Thread nD τ) arg4 fullShare k ∗ owns (c : Thread nD τ) arg5 fullShare vt ∗ owns (c : Thread nD τ) arg6 fullShare kc ∗ owns (c : Thread nD τ) arg7 fullShare vc ∗ owns (c : Thread nD τ) arg8 fullShare (outBlk vt vc s mx)
        ∗ owns (c : Thread nD τ) arg10 fullShare (scores q k kc) ∗ owns (c : Thread nD τ) arg9 fullShare s ∗ owns (c : Thread nD τ) arg12 fullShare (maxes q k kc) ∗ owns (c : Thread nD τ) arg11 fullShare mx) -∗ K ⟨⟩))
      ⊢ wp frame (wpE (defs₀ (F := F)) Variants.none c none) E (cc0_mla_attention i arg3 harg3 arg4 harg4 arg5 harg5 arg6 harg6 arg7 harg7 arg8 harg8 arg9 harg9 arg10 harg10 arg11 harg11 arg12 harg12) K := by
  simp only [cc0_mla_attention_eq_skeleton]; unfold cc0_mla_attention_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%dc, %fc, -, HC⟩, ⟨%fp, %hfp, HP⟩, ⟨%dmc, %fmc, -, HMC⟩, ⟨%fmp, %hfmp, HMP⟩, Hk⟩
  subst hf3 hf4 hf5 hf6 hf7 hfp hfmp
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    dsimp only
    simp only [pay5_eq, pay6_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq]
    exact View.read_writes_eq_canon _ _ _ (cover_out _ _ _ _)
  isplitl [HC]
  · iexists _; isplitr
    swap; · iexact HC
    ipureintro
    dsimp only
    simp only [pay5_eq, pay6_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq]
    exact View.read_writes_eq_canon _ _ _ (cover_scores _ _ _)
  isplitl [HP]
  · iexists fp; isplitr; · ipureintro; rfl
    iexact HP
  isplitl [HMC]
  · iexists _; isplitr
    swap; · iexact HMC
    ipureintro
    dsimp only
    simp only [pay5_eq, pay6_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq]
    exact View.read_writes_eq_canon _ _ _ (cover_maxes _ _ _)
  · iexists fmp; isplitr; · ipureintro; rfl
    iexact HMP

end Cert.KernelIdeal.Attn

end
-- ==== Proof.Attn.First.lean ====
/-
  The attention kernel's body at the grid's first point, which clears the scratch it reads.
-/
module

public import proofs.«01_k».proof.Proof.Attn.Pass

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (q : Vec F S1x256x256 .bf16) (k : Vec F S1x8192x256 .bf16) (kc : Vec F S1x256x256 .bf16)
  (vt : Vec F S1x144x8192 .bf16) (vc : Vec F S1x144x256 .bf16) (s : Vec F S8448x256 .f32) (mx : Vec F S8x256 .f32)

set_option maxHeartbeats 2000000 in
/-- The grid's first point: an even step that first clears the second scratch. -/
theorem run_first (c : Dev nD) (E : Set ℕ) (i : grid0.Coords) (arg3 : Memref sig .tc .vmem S1x256x256 .bf16) (harg3 : arg3.IsWhole) (arg4 : Memref sig .tc .vmem S1x8192x256 .bf16) (harg4 : arg4.IsWhole)
    (arg5 : Memref sig .tc .vmem S1x144x8192 .bf16) (harg5 : arg5.IsWhole) (arg6 : Memref sig .tc .vmem S1x256x256 .bf16) (harg6 : arg6.IsWhole)
    (arg7 : Memref sig .tc .vmem S1x144x256 .bf16) (harg7 : arg7.IsWhole) (arg8 : Memref sig .tc .vmem S128x256 .bf16) (harg8 : arg8.IsWhole)
    (arg9 : Memref sig .tc .vmem S8448x256 .f32) (harg9 : arg9.IsWhole) (arg10 : Memref sig .tc .vmem S8448x256 .f32) (harg10 : arg10.IsWhole)
    (arg11 : Memref sig .tc .vmem S8x256 .f32) (harg11 : arg11.IsWhole) (arg12 : Memref sig .tc .vmem S8x256 .f32) (harg12 : arg12.IsWhole)
    (h1 : cond1 i = 1#1) (h2 : k0_cond2 i = 1#1) (h3 : ¬ k0_cond3 i = 1#1) (K : PUnit → sProp 𝕄) :
    iprop(owns (c : Thread nD τ) arg3 fullShare q ∗ owns (c : Thread nD τ) arg4 fullShare k ∗ owns (c : Thread nD τ) arg5 fullShare vt ∗ owns (c : Thread nD τ) arg6 fullShare kc ∗ owns (c : Thread nD τ) arg7 fullShare vc ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare q ∗ owns (c : Thread nD τ) arg4 fullShare k ∗ owns (c : Thread nD τ) arg5 fullShare vt ∗ owns (c : Thread nD τ) arg6 fullShare kc ∗ owns (c : Thread nD τ) arg7 fullShare vc ∗ owns (c : Thread nD τ) arg8 fullShare (outBlk vt vc zeroScores zeroMaxes)
        ∗ owns (c : Thread nD τ) arg9 fullShare (scores q k kc) ∗ owns (c : Thread nD τ) arg10 fullShare zeroScores ∗ owns (c : Thread nD τ) arg11 fullShare (maxes q k kc) ∗ owns (c : Thread nD τ) arg12 fullShare zeroMaxes) -∗ K ⟨⟩))
      ⊢ wp frame (wpE (defs₀ (F := F)) Variants.none c none) E (cc0_mla_attention i arg3 harg3 arg4 harg4 arg5 harg5 arg6 harg6 arg7 harg7 arg8 harg8 arg9 harg9 arg10 harg10 arg11 harg11 arg12 harg12) K := by
  simp only [cc0_mla_attention_eq_skeleton]; unfold cc0_mla_attention_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%dc, %fc, -, HC⟩, ⟨%dp, %fp, -, HP⟩, ⟨%dmc, %fmc, -, HMC⟩, ⟨%dmp, %fmp, -, HMP⟩, Hk⟩
  subst hf3 hf4 hf5 hf6 hf7
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    dsimp only
    rw [show run_first.sl.v33 c arg12 = mrow zeroMaxes from View.readCov_eq_canon' _ _ _,
      show run_first.sl.v34 c arg10 = sC zeroScores from View.readCov_eq_canon' _ _ _,
      show run_first.sl.v42 c arg10 = s0 zeroScores from View.readCov_eq_canon' _ _ _,
      show run_first.sl.v51 c arg10 = s1 zeroScores from View.readCov_eq_canon' _ _ _,
      show run_first.sl.v60 c arg10 = s2 zeroScores from View.readCov_eq_canon' _ _ _,
      show run_first.sl.v69 c arg10 = s3 zeroScores from View.readCov_eq_canon' _ _ _,
      show run_first.sl.v78 c arg10 = s4 zeroScores from View.readCov_eq_canon' _ _ _,
      show run_first.sl.v87 c arg10 = s5 zeroScores from View.readCov_eq_canon' _ _ _,
      show run_first.sl.v96 c arg10 = s6 zeroScores from View.readCov_eq_canon' _ _ _,
      show run_first.sl.v105 c arg10 = s7 zeroScores from View.readCov_eq_canon' _ _ _]
    exact View.read_writes_eq_canon _ _ _ (cover_out _ _ _ _)
  isplitl [HC]
  · iexists _; isplitr
    swap; · iexact HC
    ipureintro
    dsimp only
    exact View.read_writes_eq_canon _ _ _ (cover_scores _ _ _)
  isplitl [HP]
  · iexists _; isplitr
    swap; · iexact HP
    ipureintro
    dsimp only
    exact View.read_writes_eq_canon _ _ _ (View.cover_of_tiledL _ S8448x256.size (by sl_kernel_rfl))
  isplitl [HMC]
  · iexists _; isplitr
    swap; · iexact HMC
    ipureintro
    dsimp only
    exact View.read_writes_eq_canon _ _ _ (cover_maxes _ _ _)
  · iexists _; isplitr
    swap; · iexact HMP
    ipureintro
    dsimp only
    exact View.read_writes_eq_canon _ _ _ (View.cover_of_tiledL _ S8x256.size (by sl_kernel_rfl))

end Cert.KernelIdeal.Attn

end
-- ==== Proof.Attn.Frame.lean ====
/-
  The attention kernel's launch, over any floats: the two scratches carried from point to point (`scr`: what they hold
  before each point), the proof data, the body at every point, and the run of the whole program.
-/
module

public import proofs.«01_k».proof.Proof.Attn.Even
public import proofs.«01_k».proof.Proof.Attn.Odd
public import proofs.«01_k».proof.Proof.Attn.First

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two pairs of scratches: scores and running maxima. -/
structure Scr (F : FTy → Type) where
  a : Vec F S8448x256 .f32
  ma : Vec F S8x256 .f32
  b : Vec F S8448x256 .f32
  mb : Vec F S8x256 .f32

/-- The scores computed at point `t`, and their maxima. -/
def ptScores (c : Dev nD) (t : Fin cfg0.N) : Vec F S8448x256 .f32 := scores (iblk m c 0 t) (X0_1 m c t) (iblk m c 3 t)
def ptMaxes (c : Dev nD) (t : Fin cfg0.N) : Vec F S8x256 .f32 := maxes (iblk m c 0 t) (X0_1 m c t) (iblk m c 3 t)

/-- What the scratches hold before point `n`. -/
def scr (c : Dev nD) : (n : ℕ) → n ≤ cfg0.N → Scr F
  | 0, _ => ⟨zeroScores, zeroMaxes, zeroScores, zeroMaxes⟩
  | n + 1, h =>
    if n % 129 % 2 = 0 then
      ⟨ptScores m c ⟨n, h⟩, ptMaxes m c ⟨n, h⟩, (scr c n (Nat.le_of_succ_le h)).b, (scr c n (Nat.le_of_succ_le h)).mb⟩
    else
      ⟨(scr c n (Nat.le_of_succ_le h)).a, (scr c n (Nat.le_of_succ_le h)).ma, ptScores m c ⟨n, h⟩, ptMaxes m c ⟨n, h⟩⟩

theorem scr_succ (c : Dev nD) (n : ℕ) (h : n + 1 ≤ cfg0.N) : scr m c (n + 1) h =
    if n % 129 % 2 = 0 then
      ⟨ptScores m c ⟨n, h⟩, ptMaxes m c ⟨n, h⟩, (scr m c n (Nat.le_of_succ_le h)).b, (scr m c n (Nat.le_of_succ_le h)).mb⟩
    else
      ⟨(scr m c n (Nat.le_of_succ_le h)).a, (scr m c n (Nat.le_of_succ_le h)).ma, ptScores m c ⟨n, h⟩, ptMaxes m c ⟨n, h⟩⟩ := rfl

/-- What the values' pass leaves in the result's block at point `t`. -/
def outAt (c : Dev nD) (t : Fin cfg0.N) : Vec F S128x256 .bf16 :=
  if t.val % 129 % 2 = 0 then
    outBlk (X0_2 m c t) (iblk m c 4 t) (scr m c t.val t.isLt.le).b (scr m c t.val t.isLt.le).mb
  else
    outBlk (X0_2 m c t) (iblk m c 4 t) (scr m c t.val t.isLt.le).a (scr m c t.val t.isLt.le).ma

/-- The invariant carried: before the first point the scratches hold anything, afterwards `scr`. -/
def PhiS (c : Dev nD) : (n : ℕ) → n ≤ cfg0.N → sProp 𝕄
  | 0, _ => Pipeline.ΦA spec0 c
  | n + 1, h => iprop(owns (c : Thread nD τ) (Memref.whole cc0_scratch0) fullShare (scr m c (n + 1) h).a
      ∗ owns (c : Thread nD τ) (Memref.whole cc0_scratch1) fullShare (scr m c (n + 1) h).b
      ∗ owns (c : Thread nD τ) (Memref.whole cc0_scratch2) fullShare (scr m c (n + 1) h).ma
      ∗ owns (c : Thread nD τ) (Memref.whole cc0_scratch3) fullShare (scr m c (n + 1) h).mb
      ∗ ∃ r, prngReg c r)

theorem PhiS_succ (c : Dev nD) (n : ℕ) (h : n + 1 ≤ cfg0.N) :
    PhiS m c (n + 1) h = iprop(owns (c : Thread nD τ) (Memref.whole cc0_scratch0) fullShare (scr m c (n + 1) h).a
      ∗ owns (c : Thread nD τ) (Memref.whole cc0_scratch1) fullShare (scr m c (n + 1) h).b
      ∗ owns (c : Thread nD τ) (Memref.whole cc0_scratch2) fullShare (scr m c (n + 1) h).ma
      ∗ owns (c : Thread nD τ) (Memref.whole cc0_scratch3) fullShare (scr m c (n + 1) h).mb
      ∗ ∃ r, prngReg c r) := rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => outAt m c t
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem Phi_castSucc (c : Dev nD) (t : Fin cfg0.N) : (dats m 0 c).Φ t.castSucc = PhiS m c t.val t.isLt.le := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- What one point's body is shown to do, apart from the invariant. -/
def Step (c : Dev nD) (t : Fin cfg0.N) (I J : sProp 𝕄) : Prop :=
  ∀ K : PUnit → sProp 𝕄,
    iprop(I ∗ owns (c : Thread nD τ) (st0_0 t) fullShare (iblk m c 0 t) ∗ owns (c : Thread nD τ) (st0_1 t) fullShare (X0_1 m c t)
        ∗ owns (c : Thread nD τ) (st0_2 t) fullShare (X0_2 m c t) ∗ owns (c : Thread nD τ) (st0_3 t) fullShare (iblk m c 3 t)
        ∗ owns (c : Thread nD τ) (st0_4 t) fullShare (iblk m c 4 t) ∗ (∃ d, owns (c : Thread nD τ) (st0_5 t) fullShare d)
        ∗ (iprop(J ∗ owns (c : Thread nD τ) (st0_0 t) fullShare (iblk m c 0 t) ∗ owns (c : Thread nD τ) (st0_1 t) fullShare (X0_1 m c t)
          ∗ owns (c : Thread nD τ) (st0_2 t) fullShare (X0_2 m c t) ∗ owns (c : Thread nD τ) (st0_3 t) fullShare (iblk m c 3 t)
          ∗ owns (c : Thread nD τ) (st0_4 t) fullShare (iblk m c 4 t) ∗ owns (c : Thread nD τ) (st0_5 t) fullShare (outAt m c t)) -∗ K ⟨⟩))
      ⊢ wp frame (wpE (defs₀ (F := F)) Variants.none c none) Set.univ (bodyAt0 t) K

theorem step_first (c : Dev nD) (t : Fin cfg0.N) (h1 : cond1 (grid0.coords t) = 1#1) (h2 : k0_cond2 (grid0.coords t) = 1#1)
    (h3 : ¬ k0_cond3 (grid0.coords t) = 1#1) (eo : outAt m c t = outBlk (X0_2 m c t) (iblk m c 4 t) zeroScores zeroMaxes) :
    Step m c t (Pipeline.ΦA spec0 c)
      (iprop(owns (c : Thread nD τ) (Memref.whole cc0_scratch0) fullShare (ptScores m c t)
        ∗ owns (c : Thread nD τ) (Memref.whole cc0_scratch1) fullShare zeroScores
        ∗ owns (c : Thread nD τ) (Memref.whole cc0_scratch2) fullShare (ptMaxes m c t)
        ∗ owns (c : Thread nD τ) (Memref.whole cc0_scratch3) fullShare zeroMaxes
        ∗ ∃ r, prngReg c r)) := by
  intro K
  unfold Pipeline.ΦA
  rw [scopedRest0_eq, eo]
  iintro ⟨⟨⟨⟨%f0, HS0⟩, ⟨%f1, HS1⟩, ⟨%f2, HS2⟩, ⟨%f3, HS3⟩⟩, Hg⟩, H0, H1, H2, H3, H4, H5, Hk⟩
  iapply (run_first (iblk m c 0 t) (X0_1 m c t) (iblk m c 3 t) (X0_2 m c t) (iblk m c 4 t)
    c Set.univ (grid0.coords t) _ _ _ _ _ _ _ _ _ _ _ _ _ _ _ _ _ _ _ _ h1 h2 h3 K)
  isplitl [H0]; · iexact H0
  isplitl [H1]; · iexact H1
  isplitl [H2]; · iexact H2
  isplitl [H3]; · iexact H3
  isplitl [H4]; · iexact H4
  isplitl [H5]; · iexact H5
  isplitl [HS0]
  · iexists f0; rw [owns_whole]; iexact HS0
  isplitl [HS1]
  · iexists f1; rw [owns_whole]; iexact HS1
  isplitl [HS2]
  · iexists f2; rw [owns_whole]; iexact HS2
  isplitl [HS3]
  · iexists f3; rw [owns_whole]; iexact HS3
  iintro ⟨H0, H1, H2, H3, H4, H5, HS0, HS1, HS2, HS3⟩
  iapply Hk
  isplitl [HS0 HS1 HS2 HS3 Hg]
  · isplitl [HS0]; · iexact HS0
    isplitl [HS1]; · iexact HS1
    isplitl [HS2]; · iexact HS2
    isplitl [HS3]; · iexact HS3
    iexact Hg
  isplitl [H0]; · iexact H0
  isplitl [H1]; · iexact H1
  isplitl [H2]; · iexact H2
  isplitl [H3]; · iexact H3
  isplitl [H4]; · iexact H4
  iexact H5

theorem step_zero (c : Dev nD) (t : Fin cfg0.N) (ht : t.val = 0) : Step m c t (PhiS m c t.val t.isLt.le) (PhiS m c (t.val + 1) t.isLt) := by
  have hp' : ∀ n : ℕ, n = 0 → n % 129 % 2 = 0 := by intro n h; subst h; rfl
  have hp : t.val % 129 % 2 = 0 := hp' _ ht
  have h2 : k0_cond2 (grid0.coords t) = 1#1 := (cond2_iff t).mpr hp
  have h3 : ¬ k0_cond3 (grid0.coords t) = 1#1 := fun e => absurd (hp.symm.trans ((cond3_iff t).mp e)) Nat.zero_ne_one
  have h1 : cond1 (grid0.coords t) = 1#1 := (cond1_iff t).mpr ht
  have ez : ∀ (n : ℕ) (h : n ≤ cfg0.N), n = 0 → scr m c n h = ⟨zeroScores, zeroMaxes, zeroScores, zeroMaxes⟩ := by
    intro n h e; subst e; rfl
  have eo : outAt m c t = outBlk (X0_2 m c t) (iblk m c 4 t) zeroScores zeroMaxes := by
    unfold outAt; rw [if_pos hp, ez _ _ ht]
  have es : scr m c (t.val + 1) t.isLt = ⟨ptScores m c t, ptMaxes m c t, zeroScores, zeroMaxes⟩ := by
    rw [scr_succ, if_pos hp, ez _ _ ht]
  have eΦ : ∀ (n : ℕ) (h : n ≤ cfg0.N), n = 0 → PhiS m c n h = Pipeline.ΦA spec0 c := by
    intro n h e; subst e; rfl
  rw [PhiS_succ m c t.val t.isLt, es, eΦ _ _ ht]
  dsimp only
  exact step_first m c t h1 h2 h3 eo

set_option maxHeartbeats 1000000 in
theorem step_even (c : Dev nD) (n : ℕ) (h : n + 1 < cfg0.N) (hp : (n + 1) % 129 % 2 = 0) :
    Step m c ⟨n + 1, h⟩ (PhiS m c (n + 1) h.le) (PhiS m c (n + 2) h) := by
  intro K
  have h1 : ¬ cond1 (grid0.coords ⟨n + 1, h⟩) = 1#1 := fun e => Nat.succ_ne_zero n ((cond1_iff ⟨n + 1, h⟩).mp e)
  have h2 : k0_cond2 (grid0.coords ⟨n + 1, h⟩) = 1#1 := (cond2_iff ⟨n + 1, h⟩).mpr hp
  have h3 : ¬ k0_cond3 (grid0.coords ⟨n + 1, h⟩) = 1#1 := fun e => by
    have e' : (n + 1) % 129 % 2 = 1 := (cond3_iff ⟨n + 1, h⟩).mp e
    omega
  have eo : outAt m c ⟨n + 1, h⟩ = outBlk (X0_2 m c ⟨n + 1, h⟩) (iblk m c 4 ⟨n + 1, h⟩) (scr m c (n + 1) h.le).b (scr m c (n + 1) h.le).mb := if_pos hp
  have es : scr m c (n + 2) h = ⟨ptScores m c ⟨n + 1, h⟩, ptMaxes m c ⟨n + 1, h⟩, (scr m c (n + 1) h.le).b, (scr m c (n + 1) h.le).mb⟩ := if_pos hp
  rw [PhiS_succ m c (n + 1) h, PhiS_succ m c n h.le, es, eo]
  iintro ⟨⟨HS0, HS1, HS2, HS3, Hg⟩, H0, H1, H2, H3, H4, H5, Hk⟩
  iapply (run_even (iblk m c 0 ⟨n + 1, h⟩) (X0_1 m c ⟨n + 1, h⟩) (iblk m c 3 ⟨n + 1, h⟩) (X0_2 m c ⟨n + 1, h⟩) (iblk m c 4 ⟨n + 1, h⟩)
    (scr m c (n + 1) h.le).b (scr m c (n + 1) h.le).mb
    c Set.univ (grid0.coords ⟨n + 1, h⟩) _ _ _ _ _ _ _ _ _ _ _ _ _ _ _ _ _ _ _ _ h1 h2 h3 K)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexact HS1
  isplitl [HS2]; · iexists _; iexact HS2
  isplitl [HS3]; · iexact HS3
  iintro ⟨H0, H1, H2, H3, H4, H5, HS0, HS1, HS2, HS3⟩
  iapply Hk
  isplitl [HS0 HS1 HS2 HS3 Hg]
  · isplitl [HS0]; · iexact HS0
    isplitl [HS1]; · iexact HS1
    isplitl [HS2]; · iexact HS2
    isplitl [HS3]; · iexact HS3
    iexact Hg
  isplitl [H0]; · iexact H0
  isplitl [H1]; · iexact H1
  isplitl [H2]; · iexact H2
  isplitl [H3]; · iexact H3
  isplitl [H4]; · iexact H4
  iexact H5

set_option maxHeartbeats 1000000 in
theorem step_odd (c : Dev nD) (n : ℕ) (h : n + 1 < cfg0.N) (hp : (n + 1) % 129 % 2 = 1) :
    Step m c ⟨n + 1, h⟩ (PhiS m c (n + 1) h.le) (PhiS m c (n + 2) h) := by
  intro K
  have h1 : ¬ cond1 (grid0.coords ⟨n + 1, h⟩) = 1#1 := fun e => Nat.succ_ne_zero n ((cond1_iff ⟨n + 1, h⟩).mp e)
  have hq : ¬ (n + 1) % 129 % 2 = 0 := by omega
  have h2 : ¬ k0_cond2 (grid0.coords ⟨n + 1, h⟩) = 1#1 := fun e => hq ((cond2_iff ⟨n + 1, h⟩).mp e)
  have h3 : k0_cond3 (grid0.coords ⟨n + 1, h⟩) = 1#1 := (cond3_iff ⟨n + 1, h⟩).mpr hp
  have eo : outAt m c ⟨n + 1, h⟩ = outBlk (X0_2 m c ⟨n + 1, h⟩) (iblk m c 4 ⟨n + 1, h⟩) (scr m c (n + 1) h.le).a (scr m c (n + 1) h.le).ma := if_neg hq
  have es : scr m c (n + 2) h = ⟨(scr m c (n + 1) h.le).a, (scr m c (n + 1) h.le).ma, ptScores m c ⟨n + 1, h⟩, ptMaxes m c ⟨n + 1, h⟩⟩ := if_neg hq
  rw [PhiS_succ m c (n + 1) h, PhiS_succ m c n h.le, es, eo]
  iintro ⟨⟨HS0, HS1, HS2, HS3, Hg⟩, H0, H1, H2, H3, H4, H5, Hk⟩
  iapply (run_odd (iblk m c 0 ⟨n + 1, h⟩) (X0_1 m c ⟨n + 1, h⟩) (iblk m c 3 ⟨n + 1, h⟩) (X0_2 m c ⟨n + 1, h⟩) (iblk m c 4 ⟨n + 1, h⟩)
    (scr m c (n + 1) h.le).a (scr m c (n + 1) h.le).ma
    c Set.univ (grid0.coords ⟨n + 1, h⟩) _ _ _ _ _ _ _ _ _ _ _ _ _ _ _ _ _ _ _ _ h1 h2 h3 K)
  isplitl [H0]; · iexact H0
  isplitl [H1]; · iexact H1
  isplitl [H2]; · iexact H2
  isplitl [H3]; · iexact H3
  isplitl [H4]; · iexact H4
  isplitl [H5]; · iexact H5
  isplitl [HS1]; · iexists _; iexact HS1
  isplitl [HS0]; · iexact HS0
  isplitl [HS3]; · iexists _; iexact HS3
  isplitl [HS2]; · iexact HS2
  iintro ⟨H0, H1, H2, H3, H4, H5, HS1, HS0, HS3, HS2⟩
  iapply Hk
  isplitl [HS0 HS1 HS2 HS3 Hg]
  · isplitl [HS0]; · iexact HS0
    isplitl [HS1]; · iexact HS1
    isplitl [HS2]; · iexact HS2
    isplitl [HS3]; · iexact HS3
    iexact Hg
  isplitl [H0]; · iexact H0
  isplitl [H1]; · iexact H1
  isplitl [H2]; · iexact H2
  isplitl [H3]; · iexact H3
  isplitl [H4]; · iexact H4
  iexact H5

theorem step (c : Dev nD) (t : Fin cfg0.N) : Step m c t (PhiS m c t.val t.isLt.le) (PhiS m c (t.val + 1) t.isLt) := by
  obtain ⟨n, hn⟩ := t
  cases n with
  | zero => exact step_zero m c ⟨0, hn⟩ rfl
  | succ n =>
    rcases Nat.mod_two_eq_zero_or_one ((n + 1) % 129) with hp | hp
    · exact step_even m c n hn hp
    · exact step_odd m c n hn hp

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_castSucc, Phi_succ, after0_0, after0_1, after0_2, after0_3, after0_4, after0_5]
  have e0 : ∀ d, (dats m 0 c).before 0 t d = iblk m c 0 t := before0_0_of m (dats m 0 c) (A_eq m c 0) (after0_0 m c) t
  have e1 : ∀ d, (dats m 0 c).before 1 t d = X0_1 m c t := before0_1_of m (dats m 0 c) (A_eq m c 1) (after0_1 m c) t
  have e2 : ∀ d, (dats m 0 c).before 2 t d = X0_2 m c t := before0_2_of m (dats m 0 c) (A_eq m c 2) (after0_2 m c) t
  have e3 : ∀ d, (dats m 0 c).before 3 t d = iblk m c 3 t := before0_3_of m (dats m 0 c) (A_eq m c 3) (after0_3 m c) t
  have e4 : ∀ d, (dats m 0 c).before 4 t d = iblk m c 4 t := before0_4_of m (dats m 0 c) (A_eq m c 4) (after0_4 m c) t
  simp only [e0, e1, e2, e3, e4]
  unfold Dat.owesAt Pipeline.owesWithin
  rw [show (dats m 0 c).owed t.castSucc = 0 from rfl, show (dats m 0 c).owed t.succ = 0 from rfl]
  iintro ⟨HΦ, HW, ⟨%d0, H0⟩, ⟨%d1, H1⟩, ⟨%d2, H2⟩, ⟨%d3, H3⟩, ⟨%d4, H4⟩, ⟨%d5, H5⟩⟩
  iapply (step m c t _)
  isplitl [HΦ]; · iexact HΦ
  isplitl [H0]; · iexact H0
  isplitl [H1]; · iexact H1
  isplitl [H2]; · iexact H2
  isplitl [H3]; · iexact H3
  isplitl [H4]; · iexact H4
  isplitl [H5]; · iexists _; iexact H5
  iintro ⟨HΦ, H0, H1, H2, H3, H4, H5⟩
  isplitl [HΦ]; · iexact HΦ
  isplitl [HW]; · iexact HW
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem idle5 : ∀ t : Fin cfg0.N, cfg0.idle 5 (cfg0.grid.coords t) = false := by decide +kernel

theorem body_obligation (c : Dev nD) : BodyObligation (dats (F := F) m 0 c) (defs₀ (F := F)) Variants.none () Set.univ := fun t => by
  rw [bigSep_W0, bigSep_W0, defs₀_row, idle5 t]
  exact triple_restated (sound_body m c t) rfl .rfl fun _ => .rfl

/-- At the end the scratches are given back at whatever they hold. -/
theorem PhiS_out (c : Dev nD) : ∀ (n : ℕ) (h : n ≤ cfg0.N), PhiS m c n h ⊢ Pipeline.ΦA spec0 c
  | 0, _ => .rfl
  | n + 1, h => by
    rw [PhiS_succ]
    unfold Pipeline.ΦA
    rw [scopedRest0_eq, owns_whole, owns_whole, owns_whole, owns_whole]
    iintro ⟨HS0, HS1, HS2, HS3, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

/-! ## The run and the frame -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun c => by dsimp only [dats]; exact PhiS_out m c _ _) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c)⟩, h.2⟩)
    (run_main m ρ)

end Cert.KernelIdeal.Attn

end
-- ==== Proof.Attn.Softmax.lean ====
/-
  The mathematics the attention's two programs meet in: weights `2 ^ (z / log 2 - a)` summed against the values and
  divided by their own sum are the softmax of `z` summed against the values, whatever the two shifts are, as long as
  the logits and the shifts are real. The values may be infinite.
-/
module

public import Idealize.ShloMosaic.PureOps.Ideal
public import Idealize.ShloMosaic.PureOps.Ideal.Laws

@[expose] public section

noncomputable section

namespace Cert.Softmax

open Idealize.ShloMosaic

/-- A sum of extended reals times a real that is not negative. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x : EReal) (r : ℝ) (hr : r ≠ 0) : Ideal.div x (r : EReal) = x * ((r⁻¹ : ℝ) : EReal) := by
  unfold Ideal.div
  rw [if_neg (by exact_mod_cast hr), EReal.coe_inv]

/-- The greatest of finitely many reals, started from `⊥`, is a real. -/
theorem fold_max_real {n : ℕ} (hn : 0 < n) (f : Fin n → EReal) (hf : ∀ i, ∃ r : ℝ, f i = (r : EReal)) :
    ∃ r : ℝ, (Finset.univ : Finset (Fin n)).fold max ⊥ f = (r : EReal) := by
  have e : (Finset.univ : Finset (Fin n)).fold max ⊥ f = Finset.univ.sup f := rfl
  obtain ⟨i, -, hi⟩ := Finset.exists_mem_eq_sup (Finset.univ : Finset (Fin n)) ⟨⟨0, hn⟩, Finset.mem_univ _⟩ f
  obtain ⟨r, hr⟩ := hf i
  exact ⟨r, by rw [e, hi, hr]⟩

theorem max_real {x y : EReal} (hx : ∃ r : ℝ, x = (r : EReal)) (hy : ∃ r : ℝ, y = (r : EReal)) : ∃ r : ℝ, max x y = (r : EReal) := by
  obtain ⟨a, rfl⟩ := hx
  obtain ⟨b, rfl⟩ := hy
  rcases le_total a b with h | h
  · exact ⟨b, max_eq_right (by exact_mod_cast h)⟩
  · exact ⟨a, max_eq_left (by exact_mod_cast h)⟩

theorem sum_mul_real {ι : Type} (s : Finset ι) (f g : ι → EReal) (hf : ∀ i, ∃ r : ℝ, f i = (r : EReal)) (hg : ∀ i, ∃ r : ℝ, g i = (r : EReal)) :
    ∃ r : ℝ, ∑ i ∈ s, f i * g i = (r : EReal) := by
  choose a ha using hf
  choose b hb using hg
  exact ⟨∑ i ∈ s, a i * b i, by rw [coe_sum]; exact Finset.sum_congr rfl fun i _ => by rw [ha, hb, EReal.coe_mul]⟩

theorem exp2_coe (r : ℝ) : Ideal.exp2 (r : EReal) = ((Real.exp (r * Real.log 2) : ℝ) : EReal) := by
  have h : Real.rpow 2 r = Real.exp (r * Real.log 2) := by
    rw [mul_comm]; exact Real.rpow_def_of_pos (by norm_num) r
  show ((Real.rpow 2 r : ℝ) : EReal) = _
  rw [h]

/-- The weights in base two against the shift `a`, divided after the sum, are the softmax against the shift `b`,
    divided before it. -/
theorem softmax_dot {ι : Type} [Fintype ι] [Nonempty ι] (v : ι → EReal) (z : ι → ℝ) (a b : ℝ) :
    Ideal.div (∑ i, v i * Ideal.exp2 (((z i * (Real.log 2)⁻¹ : ℝ) : EReal) - (a : EReal)))
        (∑ i, 1 * Ideal.exp2 (((z i * (Real.log 2)⁻¹ : ℝ) : EReal) - (a : EReal)))
      = ∑ i, v i * Ideal.div (Ideal.exp ((z i : EReal) - (b : EReal))) (∑ j, Ideal.exp ((z j : EReal) - (b : EReal))) := by
  have hl : Real.log 2 ≠ 0 := (Real.log_pos (by norm_num)).ne'
  have e2 : ∀ i, Ideal.exp2 (((z i * (Real.log 2)⁻¹ : ℝ) : EReal) - (a : EReal))
      = ((Real.exp (b - a * Real.log 2) * Real.exp (z i - b) : ℝ) : EReal) := fun i => by
    rw [← EReal.coe_sub, exp2_coe, ← Real.exp_add]
    congr 2
    field_simp
    ring
  have e1 : ∀ i, Ideal.exp ((z i : EReal) - (b : EReal)) = ((Real.exp (z i - b) : ℝ) : EReal) := fun i => by
    rw [← EReal.coe_sub]; rfl
  have hL : 0 < ∑ i, Real.exp (z i - b) := Finset.sum_pos (fun i _ => Real.exp_pos _) Finset.univ_nonempty
  have hK : 0 < Real.exp (b - a * Real.log 2) := Real.exp_pos _
  have eD : (∑ i, 1 * Ideal.exp2 (((z i * (Real.log 2)⁻¹ : ℝ) : EReal) - (a : EReal)))
      = ((Real.exp (b - a * Real.log 2) * ∑ i, Real.exp (z i - b) : ℝ) : EReal) := by
    rw [Finset.mul_sum, coe_sum]
    exact Finset.sum_congr rfl fun i _ => by rw [one_mul, e2]
  have eL : (∑ j, Ideal.exp ((z j : EReal) - (b : EReal))) = ((∑ j, Real.exp (z j - b) : ℝ) : EReal) := by
    rw [coe_sum]
    exact Finset.sum_congr rfl fun i _ => e1 i
  rw [eD, eL, div_coe _ _ (mul_pos hK hL).ne', sum_mul_coe _ _ _ (inv_nonneg.mpr (mul_pos hK hL).le)]
  refine Finset.sum_congr rfl fun i _ => ?_
  rw [div_coe _ _ hL.ne', e2, e1, mul_assoc, ← EReal.coe_mul, ← EReal.coe_mul]
  congr 2
  field_simp

/-- A sum over 8192 keys, 1024 at a time. -/
theorem sum_chunks {M : Type} [AddCommMonoid M] (f : ℕ → M) : (∑ i : Fin 8192, f i.val) =
    (∑ i : Fin 1024, f i.val) + (∑ i : Fin 1024, f (1024 + i.val)) + (∑ i : Fin 1024, f (2048 + i.val))
      + (∑ i : Fin 1024, f (3072 + i.val)) + (∑ i : Fin 1024, f (4096 + i.val)) + (∑ i : Fin 1024, f (5120 + i.val))
      + (∑ i : Fin 1024, f (6144 + i.val)) + (∑ i : Fin 1024, f (7168 + i.val)) := by
  have h : ∀ o, (∑ i : Fin 1024, f (o + i.val)) = ∑ i ∈ Finset.range 1024, f (o + i) := fun o =>
    Fin.sum_univ_eq_sum_range (fun i => f (o + i)) 1024
  rw [h, h, h, h, h, h, h, Fin.sum_univ_eq_sum_range (fun i => f i) 1024, Fin.sum_univ_eq_sum_range (fun i => f i) 8192,
    show 8192 = 7168 + 1024 from rfl, Finset.sum_range_add, show 7168 = 6144 + 1024 from rfl, Finset.sum_range_add,
    show 6144 = 5120 + 1024 from rfl, Finset.sum_range_add, show 5120 = 4096 + 1024 from rfl, Finset.sum_range_add,
    show 4096 = 3072 + 1024 from rfl, Finset.sum_range_add, show 3072 = 2048 + 1024 from rfl, Finset.sum_range_add,
    show 2048 = 1024 + 1024 from rfl, Finset.sum_range_add]

/-- A sum over all 8448 keys: the context's 256 first. -/
theorem sum_keys {M : Type} [AddCommMonoid M] (f : ℕ → M) :
    (∑ i : Fin 8448, f i.val) = (∑ i : Fin 256, f i.val) + ∑ i : Fin 8192, f (256 + i.val) := by
  rw [Fin.sum_univ_eq_sum_range (fun i => f i) 8448, Fin.sum_univ_eq_sum_range (fun i => f i) 256,
    Fin.sum_univ_eq_sum_range (fun i => f (256 + i)) 8192, show 8448 = 256 + 8192 from rfl, Finset.sum_range_add]

end Cert.Softmax

end
-- ==== Proof.Attn.Math.lean ====
/-
  The attention as plain sums over the keys: what both programs compute at one entry of the result.
-/
module

public import proofs.«01_k».proof.Proof.Attn.Softmax

@[expose] public section

noncomputable section

namespace Cert.Softmax

open Idealize.ShloMosaic

/-- Row of the arrays that holds key `k` of batch `b`: the context's 256 keys first, then the batch's own 8192. -/
def keyPos (b : Fin 4) (k : Fin 8448) : Fin 33792 :=
  if h : k.val < 256 then ⟨32768 + 256 * b.val + k.val, by omega⟩ else ⟨8192 * b.val + (k.val - 256), by omega⟩

/-- The batch a row of the queries belongs to. -/
def batch (n : Fin 32768) : Fin 4 := ⟨n.val / 8192, by omega⟩

/-- The row of the arrays of a query. -/
def qPos (n : Fin 32768) : Fin 33792 := ⟨n.val, by omega⟩

variable (qn : Fin 33792 → Fin 4 → Fin 128 → EReal) (qr : Fin 33792 → Fin 4 → Fin 64 → EReal)
  (kn : Fin 33792 → Fin 4 → Fin 128 → EReal) (kr : Fin 33792 → Fin 64 → EReal) (v : Fin 33792 → Fin 4 → Fin 128 → EReal)

/-- The logit of head `h` of a query row against a key row. -/
def logit (h : Fin 4) (n k : Fin 33792) : EReal :=
  ((∑ x : Fin 128, qn n h x * kn k h x) + ∑ x : Fin 64, qr n h x * kr k x) * (((Real.sqrt 192)⁻¹ : ℝ) : EReal)

/-- A softmax of the logits `z` dotted with `v`. -/
def dotSoft (v z : Fin 8448 → EReal) : EReal :=
  ∑ i, v i * Ideal.div (Ideal.exp (z i - ((0 : ℝ) : EReal))) (∑ j, Ideal.exp (z j - ((0 : ℝ) : EReal)))

/-- The attention at head `h`, channel `d`, query `n`. -/
def attn (h : Fin 4) (d : Fin 128) (n : Fin 32768) : EReal :=
  dotSoft (fun k => v (keyPos (batch n) k) h d) (fun k => logit qn qr kn kr h (qPos n) (keyPos (batch n) k))

theorem logit_real (hqn : ∀ n h x, ∃ r : ℝ, qn n h x = r) (hqr : ∀ n h x, ∃ r : ℝ, qr n h x = r)
    (hkn : ∀ n h x, ∃ r : ℝ, kn n h x = r) (hkr : ∀ n x, ∃ r : ℝ, kr n x = r) (h : Fin 4) (n k : Fin 33792) :
    ∃ r : ℝ, logit qn qr kn kr h n k = (r : EReal) := by
  obtain ⟨a, ha⟩ := sum_mul_real Finset.univ (fun x : Fin 128 => qn n h x) (fun x => kn k h x) (fun x => hqn _ _ _) (fun x => hkn _ _ _)
  obtain ⟨b, hb⟩ := sum_mul_real Finset.univ (fun x : Fin 64 => qr n h x) (fun x => kr k x) (fun x => hqr _ _ _) (fun x => hkr _ _)
  refine ⟨(a + b) * (Real.sqrt 192)⁻¹, ?_⟩
  unfold logit
  rw [ha, hb, ← EReal.coe_add, ← EReal.coe_mul]

/-- Over the exponent of two, the logits divided by `log 2`, at any real shift. -/
theorem dotSoft_exp2 (v z : Fin 8448 → EReal) (hz : ∀ i, ∃ r : ℝ, z i = r) (a : EReal) (ha : ∃ r : ℝ, a = r) :
    Ideal.div (∑ i, v i * Ideal.exp2 (z i * (((Real.log 2)⁻¹ : ℝ) : EReal) - a)) (∑ i, 1 * Ideal.exp2 (z i * (((Real.log 2)⁻¹ : ℝ) : EReal) - a))
      = dotSoft v z := by
  choose y hy using hz
  obtain ⟨a, rfl⟩ := ha
  unfold dotSoft
  simp only [hy, ← EReal.coe_mul]
  exact softmax_dot v y a 0

/-- Over the exponential, at any real shift. -/
theorem dotSoft_exp (v z : Fin 8448 → EReal) (hz : ∀ i, ∃ r : ℝ, z i = r) (a : EReal) (ha : ∃ r : ℝ, a = r) :
    ∑ i, v i * Ideal.div (Ideal.exp (z i - a)) (∑ j, Ideal.exp (z j - a)) = dotSoft v z := by
  choose y hy using hz
  obtain ⟨a, rfl⟩ := ha
  unfold dotSoft
  simp only [hy]
  exact (softmax_dot v y 0 a).symm.trans (softmax_dot v y 0 0)

/-- The queries' and the keys' 256 channels, the two parts and the zeros after them. -/
def pack (a : Fin 128 → EReal) (b : Fin 64 → EReal) (x : Fin 256) : EReal :=
  if _ : x.val < 192 then (if h : x.val < 128 then a ⟨x.val, h⟩ else b ⟨x.val - 128, by omega⟩) else 0

theorem sum_pack (a c : Fin 128 → ℝ) (b d : Fin 64 → ℝ) :
    ∑ x : Fin 256, pack (fun x => c x) (fun x => d x) x
        * (pack (fun x => a x) (fun x => b x) x * (((Real.sqrt 192)⁻¹ * (Real.log 2)⁻¹ : ℝ) : EReal))
      = ((∑ x : Fin 128, (a x : EReal) * (c x : EReal)) + ∑ x : Fin 64, (b x : EReal) * (d x : EReal)) * (((Real.sqrt 192)⁻¹ : ℝ) : EReal)
          * (((Real.log 2)⁻¹ : ℝ) : EReal) := by
  have h : ∀ f : Fin 256 → EReal, ∑ x, f x = (∑ x : Fin 128, f ⟨x.val, by omega⟩) + (∑ x : Fin 64, f ⟨128 + x.val, by omega⟩)
      + ∑ x : Fin 64, f ⟨192 + x.val, by omega⟩ := fun f =>
    (Fin.sum_univ_add (a := 192) (b := 64) f).trans (congrArg (· + _) (Fin.sum_univ_add (a := 128) (b := 64) fun x => f ⟨x.val, by omega⟩))
  have e1 : ∀ (a : Fin 128 → EReal) (b : Fin 64 → EReal) (x : Fin 128), pack a b ⟨x.val, by omega⟩ = a x := fun a b x => by
    unfold pack; rw [dif_pos (by show x.val < 192; omega), dif_pos x.isLt]
  have e2 : ∀ (a : Fin 128 → EReal) (b : Fin 64 → EReal) (x : Fin 64), pack a b ⟨128 + x.val, by omega⟩ = b x := fun a b x => by
    unfold pack; rw [dif_pos (by show 128 + x.val < 192; omega), dif_neg (by show ¬ 128 + x.val < 128; omega)]
    congr 1; apply Fin.ext; show 128 + x.val - 128 = x.val; omega
  have e3 : ∀ (a : Fin 128 → EReal) (b : Fin 64 → EReal) (x : Fin 64), pack a b ⟨192 + x.val, by omega⟩ = 0 := fun a b x => by
    unfold pack; rw [dif_neg (by show ¬ 192 + x.val < 192; omega)]
  rw [h]
  simp only [e1, e2, e3, zero_mul, Finset.sum_const_zero, add_zero, ← EReal.coe_mul, ← coe_sum, ← EReal.coe_add]
  congr 1
  rw [mul_assoc, add_mul, Finset.sum_mul, Finset.sum_mul]
  congr 1 <;> exact Finset.sum_congr rfl fun x _ => by ring

theorem sum_pack_logit (hqn : ∀ n h x, ∃ r : ℝ, qn n h x = r) (hqr : ∀ n h x, ∃ r : ℝ, qr n h x = r)
    (hkn : ∀ n h x, ∃ r : ℝ, kn n h x = r) (hkr : ∀ n x, ∃ r : ℝ, kr n x = r) (h : Fin 4) (n k : Fin 33792) :
    ∑ x : Fin 256, pack (kn k h) (kr k) x * (pack (qn n h) (qr n h) x * (((Real.sqrt 192)⁻¹ * (Real.log 2)⁻¹ : ℝ) : EReal))
      = logit qn qr kn kr h n k * (((Real.log 2)⁻¹ : ℝ) : EReal) := by
  choose a ha using hqn n h
  choose b hb using hqr n h
  choose c hc using hkn k h
  choose d hd using hkr k
  have e := sum_pack a c b d
  unfold logit
  simp only [← ha, ← hb, ← hc, ← hd] at e
  exact e

end Cert.Softmax

end
-- ==== Proof.Attn.Blocks.lean ====
/-
  The attention's blocks, read off the program's arguments.
-/
module

public import proofs.«01_k».proof.Proof.Gen.KernelIdeal.Frame
public import proofs.«01_k».proof.Proof.Attn.Math
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem

open Cert.Softmax (pack)

variable (m : (ℓ : Loc nD τ sig) → Buf (Elt Ideal) ℓ) (c : Dev nD)

/-- The arguments' entries. -/
def aQn (n : Fin 33792) (h : Fin 4) (x : Fin 128) : EReal := (m ((c.tc : Thread nD τ).loc main_arg0) : FVec Ideal S33792x4x128 .f32) (ix3 n h x)
def aQr (n : Fin 33792) (h : Fin 4) (x : Fin 64) : EReal := (m ((c.tc : Thread nD τ).loc main_arg1) : FVec Ideal S33792x4x64 .f32) (ix3 n h x)
def aKn (n : Fin 33792) (h : Fin 4) (x : Fin 128) : EReal := (m ((c.tc : Thread nD τ).loc main_arg2) : FVec Ideal S33792x4x128 .f32) (ix3 n h x)
def aKr (n : Fin 33792) (x : Fin 64) : EReal := (m ((c.tc : Thread nD τ).loc main_arg3) : FVec Ideal S33792x64 .f32) (ix2 n x)
def aV (n : Fin 33792) (h : Fin 4) (x : Fin 128) : EReal := (m ((c.tc : Thread nD τ).loc main_arg4) : FVec Ideal S33792x4x128 .f32) (ix3 n h x)

/-! ## The packed arrays -/

theorem V_q (h : Fin 4) (x : Fin 256) (n : Fin 33792) :
    (V m c main_v4 : FVec Ideal S4x256x33792 .bf16) (ix3 h x n) = pack (aQn m c n h) (aQr m c n h) x := by
  entry_read
  pointwise
  rfl
theorem V_k (h : Fin 4) (x : Fin 256) (n : Fin 33792) :
    (V m c main_v10 : FVec Ideal S4x33792x256 .bf16) (ix3 h n x) = pack (aKn m c n h) (aKr m c n) x := by
  entry_read
  pointwise
  rfl
theorem V_v (h : Fin 4) (x : Fin 144) (n : Fin 33792) :
    (V m c main_v18 : FVec Ideal S4x144x33792 .bf16) (ix3 h x n)
      = if hx : x.val < 128 then aV m c n h ⟨x.val, hx⟩ else FloatOps.uitofp (F := Ideal) .bf16 (IntOp.cmpi .eq (BitVec.ofNat 32 (x.val - 128)) 0#32) := by
  entry_read
  pointwise
  rfl
theorem V_v_val (h : Fin 4) (x : Fin 128) (n : Fin 33792) :
    (V m c main_v18 : FVec Ideal S4x144x33792 .bf16) (ix3 h ⟨x.val, by omega⟩ n) = aV m c n h x := by
  rw [V_v, dif_pos x.isLt]
theorem V_v_one (h : Fin 4) (n : Fin 33792) :
    (V m c main_v18 : FVec Ideal S4x144x33792 .bf16) (ix3 h 128 n) = (1 : EReal) := by
  rw [V_v, dif_neg (by decide)]
  show (((1#1 : BitVec 1).toNat : ℝ) : EReal) = (1 : EReal)
  norm_num

/-! ## The blocks -/

theorem idx : ∀ t : Fin cfg0.N,
    win0_0.index t = ![min (t.val % 129) 127 / 32, 0, t.val / 129 * 32 + min (t.val % 129) 127 % 32]
    ∧ win0_1.index t = ![min (t.val % 129) 127 / 32, t.val / 129, 0]
    ∧ win0_2.index t = ![(t.val % 129 - 1) / 32, 0, t.val / 129]
    ∧ win0_3.index t = ![min (t.val % 129) 127 / 32, 128 + t.val / 129, 0]
    ∧ win0_4.index t = ![(t.val % 129 - 1) / 32, 0, 128 + t.val / 129]
    ∧ win0_5.index t = ![(t.val % 129 - 1) / 32, t.val / 129 * 32 + (t.val % 129 - 1) % 32] :=
  (by decide +kernel : ∀ t : Fin grid0.N, _)

theorem blk_q (t : Fin cfg0.N) (x u : Fin 256) (h : Fin 4) (n : Fin 33792)
    (hh : h.val = min (t.val % 129) 127 / 32) (hn : n.val = (t.val / 129 * 32 + min (t.val % 129) 127 % 32) * 256 + u.val) :
    (iblk m c 0 t : Vec Ideal S1x256x256 .bf16) (ix3 0 x u) = pack (aQn m c n h) (aQr m c n h) x := by
  rw [← V_q]
  have ht : t.val < 516 := lt_of_lt_of_eq t.isLt N_0
  blk_ext [iblk, idx t]
theorem blk_k (t : Fin cfg0.N) (r : Fin 8192) (x : Fin 256) (h : Fin 4) (n : Fin 33792)
    (hh : h.val = min (t.val % 129) 127 / 32) (hn : n.val = 8192 * (t.val / 129) + r.val) :
    (X0_1 m c t : Vec Ideal S1x8192x256 .bf16) (ix3 0 r x) = pack (aKn m c n h) (aKr m c n) x := by
  rw [← V_k]
  have ht : t.val < 516 := lt_of_lt_of_eq t.isLt N_0
  unfold X0_1 Pipeline.Window.fill
  rw [dif_pos (moved0_1 t _)]
  blk_ext [iblk, idx t]
theorem blk_kc (t : Fin cfg0.N) (r x : Fin 256) (h : Fin 4) (n : Fin 33792)
    (hh : h.val = min (t.val % 129) 127 / 32) (hn : n.val = 32768 + 256 * (t.val / 129) + r.val) :
    (iblk m c 3 t : Vec Ideal S1x256x256 .bf16) (ix3 0 r x) = pack (aKn m c n h) (aKr m c n) x := by
  rw [← V_k]
  have ht : t.val < 516 := lt_of_lt_of_eq t.isLt N_0
  blk_ext [iblk, idx t]
theorem blk_v (t : Fin cfg0.N) (x : Fin 144) (r : Fin 8192) (h : Fin 4) (n : Fin 33792)
    (hh : h.val = (t.val % 129 - 1) / 32) (hn : n.val = 8192 * (t.val / 129) + r.val) :
    (X0_2 m c t : Vec Ideal S1x144x8192 .bf16) (ix3 0 x r) = (V m c main_v18 : FVec Ideal S4x144x33792 .bf16) (ix3 h x n) := by
  have ht : t.val < 516 := lt_of_lt_of_eq t.isLt N_0
  unfold X0_2 Pipeline.Window.fill
  rw [dif_pos (moved0_2 t _)]
  blk_ext [iblk, idx t]
theorem blk_vc (t : Fin cfg0.N) (x : Fin 144) (r : Fin 256) (h : Fin 4) (n : Fin 33792)
    (hh : h.val = (t.val % 129 - 1) / 32) (hn : n.val = 32768 + 256 * (t.val / 129) + r.val) :
    (iblk m c 4 t : Vec Ideal S1x144x256 .bf16) (ix3 0 x r) = (V m c main_v18 : FVec Ideal S4x144x33792 .bf16) (ix3 h x n) := by
  have ht : t.val < 516 := lt_of_lt_of_eq t.isLt N_0
  blk_ext [iblk, idx t]

end Cert.KernelIdeal.Attn

end
-- ==== Proof.Attn.PassValue.lean ====
module

public import proofs.«01_k».proof.Proof.Attn.Pass
public import proofs.«01_k».proof.Proof.Attn.Softmax
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

variable (q : Vec Ideal S1x256x256 .bf16) (k : Vec Ideal S1x8192x256 .bf16) (kc : Vec Ideal S1x256x256 .bf16)
  (vt : Vec Ideal S1x144x8192 .bf16) (vc : Vec Ideal S1x144x256 .bf16) (s : Vec Ideal S8448x256 .f32) (mx : Vec Ideal S8x256 .f32)

/-- The factor of the logits in the exponent of two: the softmax's scale over `log 2`. -/
abbrev QS : EReal := (((Real.sqrt 192)⁻¹ * (Real.log 2)⁻¹ : ℝ) : EReal)

/-- Row `n` of the keys as the passes take them, the context's 256 first. -/
def keyRow (n : ℕ) (c : Fin 256) : EReal :=
  if h : n < 256 then kc (ix3 0 ⟨n, h⟩ c) else if h' : n - 256 < 8192 then k (ix3 0 ⟨n - 256, h'⟩ c) else 0
/-- Channel `d` of the values (and, at channel 128, the row of ones) of key `n`. -/
def valRow (d : Fin 144) (n : ℕ) : EReal :=
  if h : n < 256 then vc (ix3 0 d ⟨n, h⟩) else if h' : n - 256 < 8192 then vt (ix3 0 d ⟨n - 256, h'⟩) else 0
/-- Row `n` of the scores' scratch. -/
def sRow (n : ℕ) (u : Fin 256) : EReal := if h : n < 8448 then s (ix2 ⟨n, h⟩ u) else 0
/-- The score of query `u` of the block against key `n`. -/
def score (n : ℕ) (u : Fin 256) : EReal := ∑ c : Fin 256, keyRow k kc n c * (q (ix3 0 c u) * QS)

/-! ## Parts of blocks -/

theorem zero2 : (![0, 0] : Fin 2 → ℕ) = fun _ => 0 := by decide
theorem zero3 : (![0, 0, 0] : Fin 3 → ℕ) = fun _ => 0 := by decide

theorem keys_lat (off : ℕ) (h : ∀ a, (![0, off, 0] : Fin 3 → ℕ) a + S1x1024x256.size a ≤ S1x8192x256.size a) (r : Fin 1024) (c : Fin 256) :
    (View.ld k (keyRect off h) : Vec Ideal S1x1024x256 .bf16) (ix3 0 r c) = keyRow k kc (256 + (off + r.val)) c := by
  have h1 : off + 1024 ≤ 8192 := h 1
  have hr := r.isLt
  unfold keyRow
  rw [dif_neg (by omega), dif_pos (by omega)]
  show k _ = k _
  congr 1
  funext a
  apply Fin.ext
  match a with
  | ⟨0, _⟩ => rfl
  | ⟨1, _⟩ => show off + 1 * r.val = 256 + (off + r.val) - 256; omega
  | ⟨2, _⟩ => show 0 + 1 * c.val = c.val; omega
theorem keys_ctx (r : Fin 256) (c : Fin 256) : kc (ix3 0 r c) = keyRow k kc r.val c := by
  unfold keyRow; rw [dif_pos r.isLt]
theorem vals_lat (off : ℕ) (h : ∀ a, (![0, 0, off] : Fin 3 → ℕ) a + S1x144x1024.size a ≤ S1x144x8192.size a) (d : Fin 144) (r : Fin 1024) :
    (View.ld vt (valRect off h) : Vec Ideal S1x144x1024 .bf16) (ix3 0 d r) = valRow vt vc d (256 + (off + r.val)) := by
  have h1 : off + 1024 ≤ 8192 := h 2
  have hr := r.isLt
  unfold valRow
  rw [dif_neg (by omega), dif_pos (by omega)]
  show vt _ = vt _
  congr 1
  funext a
  apply Fin.ext
  match a with
  | ⟨0, _⟩ => rfl
  | ⟨1, _⟩ => show 0 + 1 * d.val = d.val; omega
  | ⟨2, _⟩ => show off + 1 * r.val = 256 + (off + r.val) - 256; omega
theorem vals_ctx (d : Fin 144) (r : Fin 256) : vcs vc (ix3 0 d r) = valRow vt vc d r.val := by
  have e : vcs vc = vc := View.ld_unit_zero zero3 _ _
  rw [e]; unfold valRow; rw [dif_pos r.isLt]
theorem scr_lat (off : ℕ) (h : ∀ a, (![off, 0] : Fin 2 → ℕ) a + S1024x256.size a ≤ S8448x256.size a) (r : Fin 1024) (u : Fin 256) :
    (View.ld s (latRect off h) : Vec Ideal S1024x256 .f32) (ix2 r u) = sRow s (off + r.val) u := by
  have h1 : off + 1024 ≤ 8448 := h 0
  have hr := r.isLt
  unfold sRow
  rw [dif_pos (by omega)]
  show s _ = s _
  congr 1
  funext a
  apply Fin.ext
  match a with
  | ⟨0, _⟩ => show off + 1 * r.val = off + r.val; omega
  | ⟨1, _⟩ => show 0 + 1 * u.val = u.val; omega
theorem scr_ctx (r : Fin 256) (u : Fin 256) : sC s (ix2 r u) = sRow s r.val u := by
  have hr := r.isLt
  unfold sRow
  rw [dif_pos (by omega)]
  show s _ = s _
  congr 1
  funext a
  apply Fin.ext
  match a with
  | ⟨0, _⟩ => show 0 + 1 * r.val = r.val; omega
  | ⟨1, _⟩ => show 0 + 1 * u.val = u.val; omega
theorem mrow_apply (u : Fin 256) : mrow mx (ix2 0 u) = mx (ix2 0 u) := by
  show mx _ = mx _
  congr 1
  funext a
  apply Fin.ext
  match a with
  | ⟨0, _⟩ => rfl
  | ⟨1, _⟩ => show 0 + 1 * u.val = u.val; omega

/-! ## The score pass -/

theorem qscale : (Named.named (F := Ideal) κ "qscale" (φ := .f32) 0x3DD53B95#32 : EReal) = QS :=
  IdealRules.named_const.ideal_named_scalar _ _ _ _ rfl

theorem pay20_apply (x : Vec Ideal S1x1024x256 .bf16) (r : Fin 1024) (u : Fin 256) :
    k0_pay20 (F := Ideal) (qs q) x (ix2 r u) = ∑ c : Fin 256, x (ix3 0 r c) * (q (ix3 0 c u) * QS) := by
  pointwise [k0_pay20, qs, k0_pay14, ldq]
  rw [qscale]
theorem pay15_apply (x : Vec Ideal S1x256x256 .bf16) (r u : Fin 256) :
    k0_pay15 (F := Ideal) (ldq q) x (ix2 r u) = ∑ c : Fin 256, x (ix3 0 r c) * (q (ix3 0 c u) * QS) := by
  pointwise [k0_pay15, k0_pay14, ldq]
  rw [qscale]

theorem pay20_score (off : ℕ) (h : ∀ a, (![0, off, 0] : Fin 3 → ℕ) a + S1x1024x256.size a ≤ S1x8192x256.size a) (r : Fin 1024) (u : Fin 256) :
    k0_pay20 (F := Ideal) (qs q) (View.ld k (keyRect off h)) (ix2 r u) = score q k kc (256 + (off + r.val)) u := by
  rw [pay20_apply]
  exact Finset.sum_congr rfl fun c _ => by rw [keys_lat k kc]
theorem pay15_score (r u : Fin 256) : k0_pay15 (F := Ideal) (ldq q) (ldq kc) (ix2 r u) = score q k kc r.val u := by
  have e : ldq kc = kc := View.ld_unit_zero zero3 _ _
  rw [pay15_apply, e]
  exact Finset.sum_congr rfl fun c _ => by rw [keys_ctx k kc]

/-- What one piece of the scores' scratch holds. -/
theorem piece_lat (off : ℕ) (h : ∀ a, (![0, off, 0] : Fin 3 → ℕ) a + S1x1024x256.size a ≤ S1x8192x256.size a)
    (o : ℕ) (ho : o = 256 + off) (h' : ∀ a, (![o, 0] : Fin 2 → ℕ) a + S1024x256.size a ≤ S8448x256.size a) (x : S1024x256.Idx) :
    k0_pay21 (F := Ideal) (qs q) (View.ld k (keyRect off h)) x
      = (fun y : S8448x256.Idx => score q k kc (y 0).val ⟨(y 1).val, (y 1).isLt⟩) ((latRect o h').emb x) := by
  have e : k0_pay21 (F := Ideal) (qs q) (View.ld k (keyRect off h)) x = k0_pay20 (F := Ideal) (qs q) (View.ld k (keyRect off h)) x := by
    unfold k0_pay21; exact congrFun (shapeCast_self _ _) x
  idx_vars x
  rw [e, pay20_score q k kc]
  have e0 : (((latRect o h').emb (ix2 x0 x1)) 0).val = 256 + (off + x0.val) := by
    show o + 1 * x0.val = _; omega
  have e1 : (((latRect o h').emb (ix2 x0 x1)) 1).val = x1.val := by
    show 0 + 1 * x1.val = _; omega
  show _ = score q k kc (((latRect o h').emb (ix2 x0 x1)) 0).val ⟨(((latRect o h').emb (ix2 x0 x1)) 1).val, _⟩
  rw [e0]
  congr 1
  exact Fin.ext e1.symm

theorem piece_ctx (x : S256x256.Idx) :
    k0_pay16 (F := Ideal) (ldq q) (ldq kc) x
      = (fun y : S8448x256.Idx => score q k kc (y 0).val ⟨(y 1).val, (y 1).isLt⟩) (ctxRect.emb x) := by
  have e : k0_pay16 (F := Ideal) (ldq q) (ldq kc) x = k0_pay15 (F := Ideal) (ldq q) (ldq kc) x := by
    unfold k0_pay16; exact congrFun (shapeCast_self _ _) x
  idx_vars x
  rw [e, pay15_score q k kc]
  have e0 : ((ctxRect.emb (ix2 x0 x1)) 0).val = x0.val := by
    show 0 + 1 * x0.val = _; omega
  have e1 : ((ctxRect.emb (ix2 x0 x1)) 1).val = x1.val := by
    show 0 + 1 * x1.val = _; omega
  show _ = score q k kc ((ctxRect.emb (ix2 x0 x1)) 0).val ⟨((ctxRect.emb (ix2 x0 x1)) 1).val, _⟩
  rw [e0]
  congr 1
  exact Fin.ext e1.symm

theorem scores_apply (n : Fin 8448) (u : Fin 256) : scores (F := Ideal) q k kc (ix2 n u) = score q k kc n.val u := by
  unfold scores
  refine View.canon_apply_of_pieces (fun y : S8448x256.Idx => score q k kc (y 0).val ⟨(y 1).val, (y 1).isLt⟩) _ ?_ (ix2 n u) (cover_scores q k kc _)
  intro p hp
  unfold scorePieces at hp
  simp only [List.mem_cons, List.not_mem_nil, or_false] at hp
  rcases hp with rfl | rfl | rfl | rfl | rfl | rfl | rfl | rfl | rfl
  · exact piece_lat q k kc 7168 _ 7424 rfl inb_S8448x256_S1024x256_7424_0
  · exact piece_lat q k kc 6144 _ 6400 rfl inb_S8448x256_S1024x256_6400_0
  · exact piece_lat q k kc 5120 _ 5376 rfl inb_S8448x256_S1024x256_5376_0
  · exact piece_lat q k kc 4096 _ 4352 rfl inb_S8448x256_S1024x256_4352_0
  · exact piece_lat q k kc 3072 _ 3328 rfl inb_S8448x256_S1024x256_3328_0
  · exact piece_lat q k kc 2048 _ 2304 rfl inb_S8448x256_S1024x256_2304_0
  · exact piece_lat q k kc 1024 _ 1280 rfl inb_S8448x256_S1024x256_1280_0
  · exact piece_lat q k kc 0 _ 256 rfl inb_S8448x256_S1024x256_256_0
  · exact piece_ctx q k kc

/-- Where every score of a query is real, so is their maximum. -/
theorem maxes_real (u : Fin 256) (hs : ∀ n, ∃ r : ℝ, score q k kc n u = (r : EReal)) (d : Fin 8) :
    ∃ r : ℝ, maxes (F := Ideal) q k kc (ix2 d u) = (r : EReal) := by
  unfold maxes maxPieces
  rw [View.canon_unit_zero zero2]
  pointwise [k0_pay4, k0_pay33, k0_pay26, k0_pay17]
  rw [show Ideal.ofBits .f32 4286578688#32 = ⊥ by simp [Ideal.ofBits, Ideal.ieee]]
  have hl : ∀ (off : ℕ) (h : ∀ a, (![0, off, 0] : Fin 3 → ℕ) a + S1x1024x256.size a ≤ S1x8192x256.size a),
      ∃ r : ℝ, Finset.fold max ⊥ (fun x : Fin 1024 => k0_pay20 (F := Ideal) (qs q) (View.ld k (keyRect off h)) (ix2 x u)) Finset.univ = (r : EReal) :=
    fun off h => Softmax.fold_max_real (by norm_num) _ fun i => by rw [pay20_score q k kc]; exact hs _
  refine Softmax.max_real (Softmax.max_real (Softmax.max_real (Softmax.max_real (Softmax.max_real (Softmax.max_real (Softmax.max_real (Softmax.max_real
    (Softmax.fold_max_real (by norm_num) _ fun i => by rw [pay15_score q k kc]; exact hs _) ?_) ?_) ?_) ?_) ?_) ?_) ?_) ?_
  · exact hl 0 _
  · exact hl 1024 _
  · exact hl 2048 _
  · exact hl 3072 _
  · exact hl 4096 _
  · exact hl 5120 _
  · exact hl 6144 _
  · exact hl 7168 _

/-! ## The value pass -/

/-- Channel `d` of the values summed with the weights of query `u`. -/
def wsum (d : Fin 144) (u : Fin 256) : EReal := ∑ n : Fin 8448, valRow vt vc d n.val * Ideal.exp2 (sRow s n.val u - mx (ix2 0 u))

theorem add9 {a a0 a1 a2 a3 a4 a5 a6 a7 b b0 b1 b2 b3 b4 b5 b6 b7 : EReal} (h : a = b) (h0 : a0 = b0) (h1 : a1 = b1) (h2 : a2 = b2) (h3 : a3 = b3)
    (h4 : a4 = b4) (h5 : a5 = b5) (h6 : a6 = b6) (h7 : a7 = b7) :
    a + a0 + a1 + a2 + a3 + a4 + a5 + a6 + a7 = b + (b0 + b1 + b2 + b3 + b4 + b5 + b6 + b7) := by
  rw [h, h0, h1, h2, h3, h4, h5, h6, h7]; simp only [add_assoc]

theorem wsum_eq (d : Fin 144) (u : Fin 256) :
    ((∑ x, (vcs vc (ix3 0 d x) : EReal) * Ideal.exp2 ((sC s (ix2 x u) : EReal) - mrow mx (ix2 0 u)))
      + (∑ x, (v0 vt (ix3 0 d x) : EReal) * Ideal.exp2 ((s0 s (ix2 x u) : EReal) - mrow mx (ix2 0 u)))
      + (∑ x, (v1 vt (ix3 0 d x) : EReal) * Ideal.exp2 ((s1 s (ix2 x u) : EReal) - mrow mx (ix2 0 u)))
      + (∑ x, (v2 vt (ix3 0 d x) : EReal) * Ideal.exp2 ((s2 s (ix2 x u) : EReal) - mrow mx (ix2 0 u)))
      + (∑ x, (v3 vt (ix3 0 d x) : EReal) * Ideal.exp2 ((s3 s (ix2 x u) : EReal) - mrow mx (ix2 0 u)))
      + (∑ x, (v4 vt (ix3 0 d x) : EReal) * Ideal.exp2 ((s4 s (ix2 x u) : EReal) - mrow mx (ix2 0 u)))
      + (∑ x, (v5 vt (ix3 0 d x) : EReal) * Ideal.exp2 ((s5 s (ix2 x u) : EReal) - mrow mx (ix2 0 u)))
      + (∑ x, (v6 vt (ix3 0 d x) : EReal) * Ideal.exp2 ((s6 s (ix2 x u) : EReal) - mrow mx (ix2 0 u)))
      + (∑ x, (v7 vt (ix3 0 d x) : EReal) * Ideal.exp2 ((s7 s (ix2 x u) : EReal) - mrow mx (ix2 0 u))) : EReal) = wsum vt vc s mx d u := by
  have hc : ∀ (off o : ℕ) (ho : o = 256 + off) (h : ∀ a, (![0, 0, off] : Fin 3 → ℕ) a + S1x144x1024.size a ≤ S1x144x8192.size a)
      (h' : ∀ a, (![o, 0] : Fin 2 → ℕ) a + S1024x256.size a ≤ S8448x256.size a),
      (∑ x : Fin 1024, ((View.ld vt (valRect off h) : Vec Ideal S1x144x1024 .bf16) (ix3 0 d x) : EReal)
          * Ideal.exp2 (((View.ld s (latRect o h') : Vec Ideal S1024x256 .f32) (ix2 x u) : EReal) - mrow mx (ix2 0 u)) : EReal)
        = ∑ x : Fin 1024, valRow vt vc d (256 + (off + x.val)) * Ideal.exp2 (sRow s (256 + (off + x.val)) u - mx (ix2 0 u)) := by
    intro off o ho h h'
    subst ho
    refine Finset.sum_congr rfl fun x _ => ?_
    rw [vals_lat vt vc, scr_lat s, mrow_apply, Nat.add_assoc]
  unfold wsum
  rw [Softmax.sum_keys (fun n => valRow vt vc d n * Ideal.exp2 (sRow s n u - mx (ix2 0 u))),
    Softmax.sum_chunks (fun n => valRow vt vc d (256 + n) * Ideal.exp2 (sRow s (256 + n) u - mx (ix2 0 u)))]
  have e0 : (∑ x : Fin 256, (vcs vc (ix3 0 d x) : EReal) * Ideal.exp2 ((sC s (ix2 x u) : EReal) - mrow mx (ix2 0 u)) : EReal)
      = ∑ x : Fin 256, valRow vt vc d x.val * Ideal.exp2 (sRow s x.val u - mx (ix2 0 u)) :=
    Finset.sum_congr rfl fun x _ => by rw [vals_ctx vt vc, scr_ctx s, mrow_apply]
  have hz : ∀ f : ℕ → EReal, (∑ x : Fin 1024, f (256 + (0 + x.val))) = ∑ x : Fin 1024, f (256 + x.val) := fun f =>
    Finset.sum_congr rfl fun x _ => by rw [Nat.zero_add]
  exact add9 e0 ((hc 0 256 rfl inb_S1x144x8192_S1x144x1024_0_0_0 inb_S8448x256_S1024x256_256_0).trans (hz fun n => valRow vt vc d n * Ideal.exp2 (sRow s n u - mx (ix2 0 u)))) (hc 1024 1280 rfl inb_S1x144x8192_S1x144x1024_0_0_1024 inb_S8448x256_S1024x256_1280_0)
    (hc 2048 2304 rfl inb_S1x144x8192_S1x144x1024_0_0_2048 inb_S8448x256_S1024x256_2304_0) (hc 3072 3328 rfl inb_S1x144x8192_S1x144x1024_0_0_3072 inb_S8448x256_S1024x256_3328_0) (hc 4096 4352 rfl inb_S1x144x8192_S1x144x1024_0_0_4096 inb_S8448x256_S1024x256_4352_0) (hc 5120 5376 rfl inb_S1x144x8192_S1x144x1024_0_0_5120 inb_S8448x256_S1024x256_5376_0) (hc 6144 6400 rfl inb_S1x144x8192_S1x144x1024_0_0_6144 inb_S8448x256_S1024x256_6400_0) (hc 7168 7424 rfl inb_S1x144x8192_S1x144x1024_0_0_7168 inb_S8448x256_S1024x256_7424_0)

theorem out_apply (d : Fin 128) (u : Fin 256) : outBlk (F := Ideal) vt vc s mx (ix2 d u)
    = Ideal.div (wsum vt vc s mx ⟨d.val, by omega⟩ u) (wsum vt vc s mx 128 u) := by
  unfold outBlk outPieces
  rw [View.canon_unit_zero zero2]
  pointwise [k0_pay13, k0_pay12, k0_pay11, k0_pay10, k0_pay9, k0_pay8, k0_pay7]
  exact congrArg₂ Ideal.div (wsum_eq vt vc s mx _ u) (wsum_eq vt vc s mx _ u)

end Cert.KernelIdeal.Attn

end
-- ==== Proof.Attn.Value.lean ====
/-
  The attention kernel's result, entry by entry, over the ideal numbers: each query's softmax over its batch's keys dotted
  with the values (`final`), the queries and the keys being finite.
-/
module

public import proofs.«01_k».proof.Proof.Attn.Frame
public import proofs.«01_k».proof.Proof.Attn.Blocks
public import proofs.«01_k».proof.Proof.Attn.PassValue
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem

open Cert.Softmax (pack attn logit keyPos qPos batch)

variable (m : (ℓ : Loc nD τ sig) → Buf (Elt Ideal) ℓ) (c : Dev nD)

/-- Every entry of the queries and of the keys is a real number. -/
structure Finite : Prop where
  qn : ∀ n h x, ∃ r : ℝ, aQn m c n h x = (r : EReal)
  qr : ∀ n h x, ∃ r : ℝ, aQr m c n h x = (r : EReal)
  kn : ∀ n h x, ∃ r : ℝ, aKn m c n h x = (r : EReal)
  kr : ∀ n x, ∃ r : ℝ, aKr m c n x = (r : EReal)

/-- Past its first point of a batch, a point's values pass uses the scores of the point before. -/
theorem outAt_prev (t s : Fin cfg0.N) (h : t.val = s.val + 1) (hs : 1 ≤ t.val % 129) :
    outAt m c t = outBlk (X0_2 m c t) (iblk m c 4 t) (ptScores m c s) (ptMaxes m c s) := by
  obtain ⟨t, ht⟩ := t
  obtain ⟨s, hs'⟩ := s
  have e : t = s + 1 := h
  subst e
  unfold outAt
  have hs1 : 1 ≤ (s + 1) % 129 := hs
  by_cases hp : (s + 1) % 129 % 2 = 0
  · rw [if_pos hp]
    have e : scr m c (s + 1) ht.le = _ := (scr_succ m c s ht.le).trans (if_neg (by omega))
    show outBlk _ _ (scr m c (s + 1) ht.le).b (scr m c (s + 1) ht.le).mb = _
    rw [e]
  · rw [if_neg hp]
    have e : scr m c (s + 1) ht.le = _ := (scr_succ m c s ht.le).trans (if_pos (by omega))
    show outBlk _ _ (scr m c (s + 1) ht.le).a (scr m c (s + 1) ht.le).ma = _
    rw [e]

/-! ## One point's score pass and values pass -/

theorem keyRow_eq (t : Fin cfg0.N) (h : Fin 4) (b : Fin 4) (hh : h.val = min (t.val % 129) 127 / 32) (hb : b.val = t.val / 129)
    (k : Fin 8448) (x : Fin 256) :
    keyRow (X0_1 m c t) (iblk m c 3 t) k.val x = pack (aKn m c (keyPos b k) h) (aKr m c (keyPos b k)) x := by
  have hk := k.isLt
  unfold keyRow
  by_cases h1 : k.val < 256
  · rw [dif_pos h1, show keyPos b k = ⟨32768 + 256 * b.val + k.val, by omega⟩ from dif_pos h1]
    exact blk_kc m c t ⟨k.val, h1⟩ x h _ hh (by show 32768 + 256 * b.val + k.val = _; rw [hb])
  · rw [dif_neg h1, dif_pos (by omega), show keyPos b k = ⟨8192 * b.val + (k.val - 256), by omega⟩ from dif_neg h1]
    exact blk_k m c t ⟨k.val - 256, by omega⟩ x h _ hh (by show 8192 * b.val + (k.val - 256) = _; rw [hb])

theorem valRow_eq (t : Fin cfg0.N) (h : Fin 4) (b : Fin 4) (hh : h.val = (t.val % 129 - 1) / 32) (hb : b.val = t.val / 129)
    (d : Fin 144) (k : Fin 8448) :
    valRow (X0_2 m c t) (iblk m c 4 t) d k.val = (V m c main_v18 : FVec Ideal S4x144x33792 .bf16) (ix3 h d (keyPos b k)) := by
  have hk := k.isLt
  unfold valRow
  by_cases h1 : k.val < 256
  · rw [dif_pos h1, show keyPos b k = ⟨32768 + 256 * b.val + k.val, by omega⟩ from dif_pos h1]
    exact blk_vc m c t d ⟨k.val, h1⟩ h _ hh (by show 32768 + 256 * b.val + k.val = _; rw [hb])
  · rw [dif_neg h1, dif_pos (by omega), show keyPos b k = ⟨8192 * b.val + (k.val - 256), by omega⟩ from dif_neg h1]
    exact blk_v m c t d ⟨k.val - 256, by omega⟩ h _ hh (by show 8192 * b.val + (k.val - 256) = _; rw [hb])

/-- The score pass of a point, as logits over `log 2`. -/
theorem score_eq (hf : Finite m c) (t : Fin cfg0.N) (h : Fin 4) (b : Fin 4) (hh : h.val = min (t.val % 129) 127 / 32) (hb : b.val = t.val / 129)
    (u : Fin 256) (n : Fin 33792) (hn : n.val = (t.val / 129 * 32 + min (t.val % 129) 127 % 32) * 256 + u.val) (k : Fin 8448) :
    score (iblk m c 0 t) (X0_1 m c t) (iblk m c 3 t) k.val u
      = logit (aQn m c) (aQr m c) (aKn m c) (aKr m c) h n (keyPos b k) * (((Real.log 2)⁻¹ : ℝ) : EReal) := by
  rw [← Cert.Softmax.sum_pack_logit (aQn m c) (aQr m c) (aKn m c) (aKr m c) hf.qn hf.qr hf.kn hf.kr]
  unfold score
  refine Finset.sum_congr rfl fun x _ => ?_
  rw [keyRow_eq m c t h b hh hb, blk_q m c t x u h n hh hn]

theorem score_real (hf : Finite m c) (t : Fin cfg0.N) (u : Fin 256) (k : ℕ) :
    ∃ r : ℝ, score (iblk m c 0 t) (X0_1 m c t) (iblk m c 3 t) k u = (r : EReal) := by
  have ht : t.val < 516 := lt_of_lt_of_eq t.isLt N_0
  have hu := u.isLt
  by_cases hk : k < 8448
  · rw [score_eq m c hf t ⟨min (t.val % 129) 127 / 32, by omega⟩ ⟨t.val / 129, by omega⟩ rfl rfl u
      ⟨(t.val / 129 * 32 + min (t.val % 129) 127 % 32) * 256 + u.val, by omega⟩ rfl ⟨k, hk⟩]
    obtain ⟨r, hr⟩ := Cert.Softmax.logit_real (aQn m c) (aQr m c) (aKn m c) (aKr m c) hf.qn hf.qr hf.kn hf.kr
      ⟨min (t.val % 129) 127 / 32, by omega⟩ ⟨(t.val / 129 * 32 + min (t.val % 129) 127 % 32) * 256 + u.val, by omega⟩
      (keyPos ⟨t.val / 129, by omega⟩ ⟨k, hk⟩)
    exact ⟨r * (Real.log 2)⁻¹, by rw [hr, EReal.coe_mul]⟩
  · refine ⟨0, ?_⟩
    have hk' : ∀ x, keyRow (X0_1 m c t) (iblk m c 3 t) k x = 0 := fun x => by
      unfold keyRow; rw [dif_neg (by omega), dif_neg (by omega)]
    unfold score
    simp only [hk', zero_mul, Finset.sum_const_zero]
    rfl

theorem sRow_eq (hf : Finite m c) (s : Fin cfg0.N) (h : Fin 4) (b : Fin 4) (hh : h.val = min (s.val % 129) 127 / 32) (hb : b.val = s.val / 129)
    (u : Fin 256) (n : Fin 33792) (hn : n.val = (s.val / 129 * 32 + min (s.val % 129) 127 % 32) * 256 + u.val) (k : Fin 8448) :
    sRow (ptScores m c s) k.val u
      = logit (aQn m c) (aQr m c) (aKn m c) (aKr m c) h n (keyPos b k) * (((Real.log 2)⁻¹ : ℝ) : EReal) := by
  unfold sRow ptScores
  rw [dif_pos k.isLt]
  exact (scores_apply _ _ _ ⟨k.val, k.isLt⟩ u).trans (score_eq m c hf s h b hh hb u n hn k)

theorem ptMaxes_real (hf : Finite m c) (s : Fin cfg0.N) (u : Fin 256) : ∃ r : ℝ, ptMaxes m c s (ix2 0 u) = (r : EReal) :=
  maxes_real (iblk m c 0 s) (X0_1 m c s) (iblk m c 3 s) u (fun k => score_real m c hf s u k) 0

theorem point_dot (hf : Finite m c) (t s : Fin cfg0.N) (h b : Fin 4) (hh : h.val = min (s.val % 129) 127 / 32) (hb : b.val = s.val / 129)
    (hh' : h.val = (t.val % 129 - 1) / 32) (hb' : b.val = t.val / 129) (d : Fin 128)
    (u : Fin 256) (n : Fin 33792) (hn : n.val = (s.val / 129 * 32 + min (s.val % 129) 127 % 32) * 256 + u.val) :
    outBlk (X0_2 m c t) (iblk m c 4 t) (ptScores m c s) (ptMaxes m c s) (ix2 d u)
      = Cert.Softmax.dotSoft (fun k => aV m c (keyPos b k) h d) (fun k => logit (aQn m c) (aQr m c) (aKn m c) (aKr m c) h n (keyPos b k)) := by
  rw [out_apply, ← Cert.Softmax.dotSoft_exp2 (fun k => aV m c (keyPos b k) h d)
    (fun k => logit (aQn m c) (aQr m c) (aKn m c) (aKr m c) h n (keyPos b k))
    (fun k => Cert.Softmax.logit_real (aQn m c) (aQr m c) (aKn m c) (aKr m c) hf.qn hf.qr hf.kn hf.kr h n (keyPos b k)) _ (ptMaxes_real m c hf s u)]
  unfold wsum
  refine congrArg₂ Ideal.div (Finset.sum_congr rfl fun k _ => ?_) (Finset.sum_congr rfl fun k _ => ?_)
  · rw [valRow_eq m c t h b hh' hb', V_v_val, sRow_eq m c hf s h b hh hb u n hn]
  · rw [valRow_eq m c t h b hh' hb', V_v_one, sRow_eq m c hf s h b hh hb u n hn]

/-- What a point past its batch's first leaves in the result's block. -/
theorem point (hf : Finite m c) (t s : Fin cfg0.N) (e : t.val = s.val + 1) (hs : 1 ≤ t.val % 129) (h : Fin 4) (d : Fin 128) (u : Fin 256)
    (n : Fin 32768) (hh : h.val = (t.val % 129 - 1) / 32) (hn : n.val = (t.val / 129 * 32 + (t.val % 129 - 1) % 32) * 256 + u.val) :
    outAt m c t (ix2 d u) = attn (aQn m c) (aQr m c) (aKn m c) (aKr m c) (aV m c) h d n := by
  have ht : t.val < 516 := lt_of_lt_of_eq t.isLt N_0
  have hu := u.isLt
  have hb : (batch n).val = t.val / 129 := by show n.val / 8192 = _; omega
  have hb' : (batch n).val = s.val / 129 := by rw [hb]; omega
  have hm : min (s.val % 129) 127 = t.val % 129 - 1 := by omega
  have hn' : (qPos n).val = (s.val / 129 * 32 + min (s.val % 129) 127 % 32) * 256 + u.val := by
    show n.val = _
    rw [hm, ← hb', hb]; exact hn
  rw [outAt_prev m c t s e hs]
  unfold attn
  exact point_dot m c hf t s h (batch n) (by rw [hm]; exact hh) hb' hh hb d u (qPos n) hn'

theorem flush5 : ∀ t : Fin cfg0.N, (cfg0.win 5).flush t = true → 1 ≤ t.val % 129 := (by decide +kernel)

theorem final (hf : Finite m c) : (dats m 0 c).arrAt 5 (cfgs 0).N
    = fun i : S512x32768.Idx => attn (aQn m c) (aQr m c) (aKn m c) (aKr m c) (aV m c)
        ⟨(i 0).val / 128, by have h : (i 0).val < 512 := (i 0).isLt; omega⟩ ⟨(i 0).val % 128, by omega⟩ ⟨(i 1).val, (i 1).isLt⟩ := by
  refine (dats m 0 c).arrAt_eq_of_covers 5 _ (by decide +kernel) fun t hfl y => ?_
  have ht : t.val < 516 := lt_of_lt_of_eq t.isLt N_0
  have h1 := flush5 t hfl
  idx_vars y
  blk_simp [idx t]
  rw [after0_5]
  have hy0 := y0.isLt
  have hy1 := y1.isLt
  have hs : t.val - 1 < cfg0.N := lt_of_lt_of_eq (by omega : t.val - 1 < 516) N_0.symm
  refine (point m c hf t ⟨t.val - 1, hs⟩ (by show t.val = t.val - 1 + 1; omega) h1 ⟨(t.val % 129 - 1) / 32, by omega⟩ ⟨y0.val, hy0⟩ ⟨y1.val, hy1⟩
    ⟨(t.val / 129 * 32 + (t.val % 129 - 1) % 32) * 256 + y1.val, by omega⟩ rfl rfl).trans ?_
  have e1 : ((t.val % 129 - 1) / 32 * 128 + y0.val) / 128 = (t.val % 129 - 1) / 32 := by omega
  have e2 : ((t.val % 129 - 1) / 32 * 128 + y0.val) % 128 = y0.val := by omega
  congr 1
  · exact Fin.ext e1.symm
  · exact Fin.ext e2.symm

end Cert.KernelIdeal.Attn

end
-- ==== Proof.Attn.Finite.lean ====
/-
  The precondition, read: where every entry's size lies below infinity, the queries and the keys are real numbers.
-/
module

public import proofs.«01_k».proof.Defs
public import proofs.«01_k».proof.Proof.Gen.KernelIdeal
public import proofs.«01_k».proof.Proof.Attn.Value

@[expose] public section

noncomputable section

namespace Cert.KernelIdeal.Attn

open Cert.KernelIdeal Cert.KernelIdeal.Gen
open Idealize.ShloMosaic Idealize.ShloMosaic.TcCoe Idealize.SL.Sem

instance preFacts : Cert.Pre_finite_scores.Facts where
  bcast_S_S33792x4x128 := by decide
  bcast_S_S33792x4x64 := by decide
  bcast_S_S33792x64 := by decide

theorem real_of_abs (y : EReal) (h : max y (-y) < ⊤) : ∃ r : ℝ, y = r := by
  induction y using EReal.rec with
  | bot => exact absurd h (by simp)
  | top => exact absurd h (by simp)
  | coe r => exact ⟨r, rfl⟩

/-- An array of which no entry's size reaches infinity has real entries. -/
theorem real_of_lt {s : Shape} (x : FVec Ideal s .f32) (h : (⟨0, ![]⟩ : Shape).BroadcastsInDim s ![]) (i : s.Idx)
    (e : cmpf .olt (Host.absf x) (broadcastInDim s ![] h (constant ⟨0, ![]⟩ .f32 0x7F800000#32)) = fun _ => 1#1) :
    ∃ r : ℝ, (x i : EReal) = r := by
  have e1 : Ideal.cmp .olt (max (x i : EReal) (-(x i))) (Ideal.ofBits .f32 0x7F800000#32) = 1#1 := congrFun e i
  have e2 : Ideal.ofBits .f32 0x7F800000#32 = (⊤ : EReal) := by simp [Ideal.ofBits, Ideal.ieee]
  rw [e2] at e1
  have e3 : max (x i : EReal) (-(x i)) < ⊤ := by
    by_contra hn
    simp [Ideal.cmp, hn] at e1
  exact real_of_abs _ e3

theorem finite_of_pre (m : (ℓ : Loc nD τ sig) → Buf (Elt Ideal) ℓ) (h : Cert.Pre_KernelIdeal_finite_scores m) (c : Dev nD) : Finite m c where
  qn n j x := real_of_lt _ _ (ix3 n j x) (h c).1
  qr n j x := real_of_lt _ _ (ix3 n j x) (h c).2.1
  kn n j x := real_of_lt _ _ (ix3 n j x) (h c).2.2.1
  kr n x := real_of_lt _ _ (ix2 n x) (h c).2.2.2

end Cert.KernelIdeal.Attn

end
-- ==== Proof.Ctx.Math.lean ====
/-
  The context's attention over itself as plain sums over its 256 keys.
-/
module

public import proofs.«01_k».proof.Proof.Attn.Math

@[expose] public section

noncomputable section

namespace Cert.Softmax

open Idealize.ShloMosaic

/-- Row of the arrays that holds the context's token `k` of batch `b`. -/
def ctxPos (b : Fin 4) (k : Fin 256) : Fin 33792 := ⟨32768 + (b.val * 256 + k.val), by omega⟩

/-- A softmax of the logits `z` of a batch's context keys dotted with `v`. -/
def dotSoftC (v z : Fin 256 → EReal) : EReal :=
  ∑ i, v i * Ideal.div (Ideal.exp (z i - ((0 : ℝ) : EReal))) (∑ j, Ideal.exp (z j - ((0 : ℝ) : EReal)))

/-- Over the exponent of two, the logits divided by `log 2`, at any real shift. -/
theorem dotSoftC_exp2 (v z : Fin 256 → EReal) (hz : ∀ i, ∃ r : ℝ, z i = r) (a : EReal) (ha : ∃ r : ℝ, a = r) :
    Ideal.div (∑ i, v i * Ideal.exp2 (z i * (((Real.log 2)⁻¹ : ℝ) : EReal) - a)) (∑ i, 1 * Ideal.exp2 (z i * (((Real.log 2)⁻¹ : ℝ) : EReal) - a))
      = dotSoftC v z := by
  choose y hy using hz
  obtain ⟨a, rfl⟩ := ha
  unfold dotSoftC
  simp only [hy, ← EReal.coe_mul]
  exact softmax_dot v y a 0

/-- Over the exponential, at any real shift. -/
theorem dotSoftC_exp (v z : Fin 256 → EReal) (hz : ∀ i, ∃ r : ℝ, z i = r) (a : EReal) (ha : ∃ r : ℝ, a = r) :
    ∑ i, v i * Ideal.div (Ideal.exp (z i - a)) (∑ j, Ideal.exp (z j - a)) = dotSoftC v z := by
  choose y hy using hz
  obtain ⟨a, rfl⟩ := ha
  unfold dotSoftC
  simp only [hy]
  exact (softmax_dot v y 0 a).symm.trans (softmax_dot v y 0 0)

variable (qn : Fin 33792 → Fin 4 → Fin 128 → EReal) (qr : Fin 33792 → Fin 4 → Fin 64 → EReal)
  (kn : Fin 33792 → Fin 4 → Fin 128 → EReal) (kr : Fin 33792 → Fin 64 → EReal) (v : Fin 33792 → Fin 4 → Fin 128 → EReal)

/-- The context's attention at head `h`, channel `d`, of batch `b`'s context query `u`. -/
def attnC (h : Fin 4) (d : Fin 128) (b : Fin 4) (u : Fin 256) : EReal :=
  dotSoftC (fun k => v (ctxPos b k) h d) (fun k => logit qn qr kn kr h (ctxPos b u) (ctxPos b k))

end Cert.Softmax

end
-- ==== Proof.Ctx.Kernel.lean ====
/-
  The context's attention over itself, entry by entry, over the ideal numbers: each query's softmax over its batch's
  context keys dotted with the values (`final`), the queries and the keys being finite.
-/
module

public import proofs.«01_k».proof.Proof.Gen.ContextIdeal.Value
public import proofs.«01_k».proof.Proof.Ctx.Math
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.ContextIdeal.Attn

open Cert.ContextIdeal Cert.ContextIdeal.Gen
open Idealize.ShloMosaic Idealize.ShloMosaic.TcCoe Idealize.SL.Sem

open Cert.Softmax (pack attnC logit ctxPos dotSoftC)

/-- The factor of the logits in the exponent of two: the softmax's scale over `log 2`. -/
abbrev QS : EReal := (((Real.sqrt 192)⁻¹ * (Real.log 2)⁻¹ : ℝ) : EReal)

theorem zero3 : (![0, 0, 0] : Fin 3 → ℕ) = fun _ => 0 := by decide

theorem ld_256 {e : EltTy} (x : Vec Ideal S1x256x256 e) : View.ld x (Rect.unit (s := S1x256x256) ![0, 0, 0] ![1, 256, 256] inb_S1x256x256_S1x256x256_0_0_0) = x :=
  View.ld_unit_zero zero3 _ _
theorem ld_144 {e : EltTy} (x : Vec Ideal S1x144x256 e) : View.ld x (Rect.unit (s := S1x144x256) ![0, 0, 0] ![1, 144, 256] inb_S1x144x256_S1x144x256_0_0_0) = x :=
  View.ld_unit_zero zero3 _ _

theorem qscale : (Named.named (F := Ideal) κ "qscale" (φ := .f32) 0x3DD53B95#32 : EReal) = QS :=
  IdealRules.named_const.ideal_named_scalar _ _ _ _ rfl

section body
variable (q : Vec Ideal S1x256x256 .bf16) (k : Vec Ideal S1x256x256 .bf16) (v : Vec Ideal S1x144x256 .bf16)

/-- The score of query `u` of the block against key `n`. -/
def score (n u : Fin 256) : EReal := ∑ c : Fin 256, k (ix3 0 n c) * (q (ix3 0 c u) * QS)

theorem pay1_apply (n u : Fin 256) : k0_pay1 (F := Ideal) q k (ix2 n u) = score q k n u := by
  pointwise [k0_pay1]
  rw [qscale]
  rfl
theorem pay2_apply (n u : Fin 256) : k0_pay2 (F := Ideal) q k (ix2 n u) = score q k n u :=
  (show k0_pay2 (F := Ideal) q k (ix2 n u) = k0_pay1 (F := Ideal) q k (ix2 n u) by
    unfold k0_pay2; exact congrFun (shapeCast_self _ _) _).trans (pay1_apply q k n u)

/-- The maximum of a query's scores. -/
def top (u : Fin 256) : EReal := Finset.univ.fold max (⊥ : EReal) fun n : Fin 256 => score q k n u

theorem pay3_apply (s : Vec Ideal S256x256 .f32) (hs : ∀ n u, s (ix2 n u) = score q k n u) (d : Fin 128) (u : Fin 256) :
    k0_pay3 (F := Ideal) q k s v (ix2 d u)
      = Ideal.div (∑ n : Fin 256, (v (ix3 0 ⟨d.val, by omega⟩ n) : EReal) * Ideal.exp2 (score q k n u - top q k u))
          (∑ n : Fin 256, (v (ix3 0 128 n) : EReal) * Ideal.exp2 (score q k n u - top q k u)) := by
  pointwise [k0_pay3]
  rw [show Ideal.ofBits .f32 4286578688#32 = ⊥ by simp [Ideal.ofBits, Ideal.ieee]]
  simp only [hs, pay1_apply]
  rfl

end body

variable (m : (ℓ : Loc nD τ sig) → Buf (Elt Ideal) ℓ) (c : Dev nD)

/-- The block that a point leaves. -/
theorem out_apply (t : Fin cfg0.N) : outsAt0 m c t = k0_pay3 (F := Ideal) (iblk m c 0 t) (iblk m c 1 t) (k0_pay2 (iblk m c 0 t) (iblk m c 1 t)) (iblk m c 2 t) := by
  unfold outsAt0 out0_A_3 kernelRun0_A
  dsimp only
  rw [View.read_writes_full]
  unfold kernelRun0_A.sl.v14 kernelRun0_A.sl.HS0_1
  simp only [View.readAt_eq_ld, Memref.IsWhole.read_unread, ld_256, ld_144]
  exact congrArg (fun s => k0_pay3 (F := Ideal) (iblk m c 0 t) (iblk m c 1 t) s (iblk m c 2 t)) (View.readCov_full _ _ _ _ _)

/-- The arguments' entries. -/
def aQn (n : Fin 33792) (h : Fin 4) (x : Fin 128) : EReal := (m ((c.tc : Thread nD τ).loc main_arg0) : FVec Ideal S33792x4x128 .f32) (ix3 n h x)
def aQr (n : Fin 33792) (h : Fin 4) (x : Fin 64) : EReal := (m ((c.tc : Thread nD τ).loc main_arg1) : FVec Ideal S33792x4x64 .f32) (ix3 n h x)
def aKn (n : Fin 33792) (h : Fin 4) (x : Fin 128) : EReal := (m ((c.tc : Thread nD τ).loc main_arg2) : FVec Ideal S33792x4x128 .f32) (ix3 n h x)
def aKr (n : Fin 33792) (x : Fin 64) : EReal := (m ((c.tc : Thread nD τ).loc main_arg3) : FVec Ideal S33792x64 .f32) (ix2 n x)
def aV (n : Fin 33792) (h : Fin 4) (x : Fin 128) : EReal := (m ((c.tc : Thread nD τ).loc main_arg4) : FVec Ideal S33792x4x128 .f32) (ix3 n h x)

/-! ## The packed arrays -/

theorem V_q (h : Fin 4) (x : Fin 256) (n : Fin 33792) :
    (V m c main_v4 : FVec Ideal S4x256x33792 .bf16) (ix3 h x n) = pack (aQn m c n h) (aQr m c n h) x := by
  entry_read
  pointwise
  rfl
theorem V_k (h : Fin 4) (x : Fin 256) (n : Fin 33792) :
    (V m c main_v10 : FVec Ideal S4x33792x256 .bf16) (ix3 h n x) = pack (aKn m c n h) (aKr m c n) x := by
  entry_read
  pointwise
  rfl
theorem V_v (h : Fin 4) (x : Fin 144) (n : Fin 33792) :
    (V m c main_v18 : FVec Ideal S4x144x33792 .bf16) (ix3 h x n)
      = if hx : x.val < 128 then aV m c n h ⟨x.val, hx⟩ else FloatOps.uitofp (F := Ideal) .bf16 (IntOp.cmpi .eq (BitVec.ofNat 32 (x.val - 128)) 0#32) := by
  entry_read
  pointwise
  rfl
theorem V_v_val (h : Fin 4) (x : Fin 128) (n : Fin 33792) :
    (V m c main_v18 : FVec Ideal S4x144x33792 .bf16) (ix3 h ⟨x.val, by omega⟩ n) = aV m c n h x := by
  rw [V_v, dif_pos x.isLt]
theorem V_v_one (h : Fin 4) (n : Fin 33792) :
    (V m c main_v18 : FVec Ideal S4x144x33792 .bf16) (ix3 h 128 n) = (1 : EReal) := by
  rw [V_v, dif_neg (by decide)]
  show (((1#1 : BitVec 1).toNat : ℝ) : EReal) = (1 : EReal)
  norm_num

/-! ## The blocks -/

theorem idx : ∀ t : Fin cfg0.N,
    win0_0.index t = ![t.val % 4, 0, 128 + t.val / 4] ∧ win0_1.index t = ![t.val % 4, 128 + t.val / 4, 0]
    ∧ win0_2.index t = ![t.val % 4, 0, 128 + t.val / 4] ∧ win0_3.index t = ![t.val % 4, t.val / 4] :=
  (by decide +kernel : ∀ t : Fin grid0.N, _)

theorem blk_q (t : Fin cfg0.N) (x u : Fin 256) (h b : Fin 4) (hh : h.val = t.val % 4) (hb : b.val = t.val / 4) :
    (iblk m c 0 t : Vec Ideal S1x256x256 .bf16) (ix3 0 x u) = pack (aQn m c (ctxPos b u) h) (aQr m c (ctxPos b u) h) x := by
  have ht : t.val < 16 := lt_of_lt_of_eq t.isLt N_0
  unfold ctxPos
  rw [← V_q]
  blk_ext [iblk, idx t]
theorem blk_k (t : Fin cfg0.N) (r x : Fin 256) (h b : Fin 4) (hh : h.val = t.val % 4) (hb : b.val = t.val / 4) :
    (iblk m c 1 t : Vec Ideal S1x256x256 .bf16) (ix3 0 r x) = pack (aKn m c (ctxPos b r) h) (aKr m c (ctxPos b r)) x := by
  have ht : t.val < 16 := lt_of_lt_of_eq t.isLt N_0
  unfold ctxPos
  rw [← V_k]
  blk_ext [iblk, idx t]
theorem blk_v (t : Fin cfg0.N) (x : Fin 144) (r : Fin 256) (h b : Fin 4) (hh : h.val = t.val % 4) (hb : b.val = t.val / 4) :
    (iblk m c 2 t : Vec Ideal S1x144x256 .bf16) (ix3 0 x r) = (V m c main_v18 : FVec Ideal S4x144x33792 .bf16) (ix3 h x (ctxPos b r)) := by
  have ht : t.val < 16 := lt_of_lt_of_eq t.isLt N_0
  unfold ctxPos
  blk_ext [iblk, idx t]

/-! ## The result -/

/-- Every entry of the queries and of the keys is a real number. -/
structure Finite : Prop where
  qn : ∀ n h x, ∃ r : ℝ, aQn m c n h x = (r : EReal)
  qr : ∀ n h x, ∃ r : ℝ, aQr m c n h x = (r : EReal)
  kn : ∀ n h x, ∃ r : ℝ, aKn m c n h x = (r : EReal)
  kr : ∀ n x, ∃ r : ℝ, aKr m c n x = (r : EReal)

/-- A point's scores, as logits over `log 2`. -/
theorem score_eq (hf : Finite m c) (t : Fin cfg0.N) (h b : Fin 4) (hh : h.val = t.val % 4) (hb : b.val = t.val / 4) (n u : Fin 256) :
    score (iblk m c 0 t) (iblk m c 1 t) n u
      = logit (aQn m c) (aQr m c) (aKn m c) (aKr m c) h (ctxPos b u) (ctxPos b n) * (((Real.log 2)⁻¹ : ℝ) : EReal) := by
  rw [← Cert.Softmax.sum_pack_logit (aQn m c) (aQr m c) (aKn m c) (aKr m c) hf.qn hf.qr hf.kn hf.kr]
  unfold score
  refine Finset.sum_congr rfl fun x _ => ?_
  rw [blk_k m c t n x h b hh hb, blk_q m c t x u h b hh hb]

theorem top_real (hf : Finite m c) (t : Fin cfg0.N) (h b : Fin 4) (hh : h.val = t.val % 4) (hb : b.val = t.val / 4) (u : Fin 256) :
    ∃ r : ℝ, top (iblk m c 0 t) (iblk m c 1 t) u = (r : EReal) := by
  unfold top
  refine Cert.Softmax.fold_max_real (by norm_num) _ fun n => ?_
  obtain ⟨r, hr⟩ := Cert.Softmax.logit_real (aQn m c) (aQr m c) (aKn m c) (aKr m c) hf.qn hf.qr hf.kn hf.kr h (ctxPos b u) (ctxPos b n)
  exact ⟨r * (Real.log 2)⁻¹, by rw [score_eq m c hf t h b hh hb, hr, EReal.coe_mul]⟩

/-- What a point leaves in the result's block. -/
theorem point (hf : Finite m c) (t : Fin cfg0.N) (h b : Fin 4) (hh : h.val = t.val % 4) (hb : b.val = t.val / 4) (d : Fin 128) (u : Fin 256) :
    outsAt0 m c t (ix2 d u) = attnC (aQn m c) (aQr m c) (aKn m c) (aKr m c) (aV m c) h d b u := by
  rw [out_apply, pay3_apply _ _ _ _ (pay2_apply _ _)]
  unfold attnC
  rw [← Cert.Softmax.dotSoftC_exp2 (fun k => aV m c (ctxPos b k) h d)
    (fun k => logit (aQn m c) (aQr m c) (aKn m c) (aKr m c) h (ctxPos b u) (ctxPos b k))
    (fun k => Cert.Softmax.logit_real (aQn m c) (aQr m c) (aKn m c) (aKr m c) hf.qn hf.qr hf.kn hf.kr h (ctxPos b u) (ctxPos b k)) _
    (top_real m c hf t h b hh hb u)]
  refine congrArg₂ Ideal.div (Finset.sum_congr rfl fun k _ => ?_) (Finset.sum_congr rfl fun k _ => ?_)
  · rw [blk_v m c t _ k h b hh hb, V_v_val, score_eq m c hf t h b hh hb]
  · rw [blk_v m c t _ k h b hh hb, V_v_one, score_eq m c hf t h b hh hb]

theorem final (hf : Finite m c) : (dats m 0 c).arrAt 3 cfg0.N
    = fun i : S512x1024.Idx => attnC (aQn m c) (aQr m c) (aKn m c) (aKr m c) (aV m c)
        ⟨(i 0).val / 128, by have h : (i 0).val < 512 := (i 0).isLt; omega⟩ ⟨(i 0).val % 128, by omega⟩
        ⟨(i 1).val / 256, by have h : (i 1).val < 1024 := (i 1).isLt; omega⟩ ⟨(i 1).val % 256, by omega⟩ := by
  refine (dats m 0 c).arrAt_eq_of_covers 3 _ (by decide +kernel) fun t hfl y => ?_
  have ht : t.val < 16 := lt_of_lt_of_eq t.isLt N_0
  idx_vars y
  blk_simp [idx t]
  rw [after0_3]
  have hy0 := y0.isLt
  have hy1 := y1.isLt
  refine (point m c hf t ⟨t.val % 4, by omega⟩ ⟨t.val / 4, by omega⟩ rfl rfl ⟨y0.val, hy0⟩ ⟨y1.val, hy1⟩).trans ?_
  have e1 : (t.val % 4 * 128 + y0.val) / 128 = t.val % 4 := by omega
  have e2 : (t.val % 4 * 128 + y0.val) % 128 = y0.val := by omega
  have e3 : (t.val / 4 * 256 + y1.val) / 256 = t.val / 4 := by omega
  have e4 : (t.val / 4 * 256 + y1.val) % 256 = y1.val := by omega
  congr 1
  · exact Fin.ext e1.symm
  · exact Fin.ext e2.symm
  · exact Fin.ext e3.symm
  · exact Fin.ext e4.symm

end Cert.ContextIdeal.Attn

end
-- ==== Proof.Ctx.Finite.lean ====
/-
  The precondition, read at the context's attention: the queries and the keys are real numbers.
-/
module

public import proofs.«01_k».proof.Defs
public import proofs.«01_k».proof.Proof.Gen.ContextIdeal
public import proofs.«01_k».proof.Proof.Attn.Finite
public import proofs.«01_k».proof.Proof.Ctx.Kernel

@[expose] public section

noncomputable section

namespace Cert.ContextIdeal.Attn

open Cert.ContextIdeal Cert.ContextIdeal.Gen
open Idealize.ShloMosaic Idealize.ShloMosaic.TcCoe Idealize.SL.Sem

open Cert.KernelIdeal.Attn (real_of_lt)

theorem finite_of_pre (m : (ℓ : Loc nD τ sig) → Buf (Elt Ideal) ℓ) (h : Cert.Pre_ContextIdeal_finite_scores m) (c : Dev nD) : Finite m c where
  qn n j x := real_of_lt _ _ (ix3 n j x) (h c).1
  qr n j x := real_of_lt _ _ (ix3 n j x) (h c).2.1
  kn n j x := real_of_lt _ _ (ix3 n j x) (h c).2.2.1
  kr n x := real_of_lt _ _ (ix2 n x) (h c).2.2.2

end Cert.ContextIdeal.Attn

end
-- ==== Proof.Ctx.Ref.lean ====
/-
  The reference's context attention, entry by entry, over the ideal numbers.
-/
module

public import proofs.«01_k».proof.Proof.Gen.ContextRefIdeal.Read
public import proofs.«01_k».proof.Proof.Ctx.Math
public import Idealize.ShloMosaic.Lib.Pointwise
public import Idealize.ShloMosaic.Lib.Claim

@[expose] public section

set_option maxRecDepth 16384

noncomputable section

namespace Cert.ContextRefIdeal.Attn

open Cert.ContextRefIdeal Cert.ContextRefIdeal.Read Cert.ContextRefIdeal.Gen
open Idealize.ShloMosaic Idealize.ShloMosaic.TcCoe Idealize.SL.Sem

open Cert.Softmax (attnC logit ctxPos)

theorem rsqrt192 : Ideal.rsqrt (Ideal.ofBits .f32 1128267776#32) = (((Real.sqrt 192)⁻¹ : ℝ) : EReal) := by
  have e : Ideal.ofBits .f32 1128267776#32 = ((192 : ℝ) : EReal) := by
    simp [Ideal.ofBits, Ideal.ieee]
    rw [← EReal.coe_mul]
    norm_num
  rw [e]
  show (if (192 : ℝ) < 0 then (⊥ : EReal) else if (192 : ℝ) = 0 then ⊤ else (((Real.sqrt 192)⁻¹ : ℝ) : EReal)) = _
  rw [if_neg (by norm_num), if_neg (by norm_num)]

theorem bot_bits : Ideal.ofBits .f32 4286578688#32 = (⊥ : EReal) := by simp [Ideal.ofBits, Ideal.ieee]

variable (x0 : FVec Ideal S33792x4x128 .f32) (x1 : FVec Ideal S33792x4x64 .f32) (x2 : FVec Ideal S33792x4x128 .f32) (x3 : FVec Ideal S33792x64 .f32)
  (x4 : FVec Ideal S33792x4x128 .f32)

theorem max_apply (y : FVec Ideal S4x4x256x256 .f32) (b h : Fin 4) (q : Fin 256) :
    (Host.reduce FloatOps.maximumf y (val_main_cst_0 (F := Ideal)) reducesTo_S4x4x256x256_S4x4x256_d3 h_S_ : FVec Ideal S4x4x256 .f32) (ix3 b h q)
      = Finset.univ.fold max (⊥ : EReal) fun x => y (ix4 b h q x) := by
  pointwise [val_main_cst_0]
  rw [bot_bits]

/-- The arguments' entries. -/
def eQn (n : Fin 33792) (h : Fin 4) (x : Fin 128) : EReal := x0 (ix3 n h x)
def eQr (n : Fin 33792) (h : Fin 4) (x : Fin 64) : EReal := x1 (ix3 n h x)
def eKn (n : Fin 33792) (h : Fin 4) (x : Fin 128) : EReal := x2 (ix3 n h x)
def eKr (n : Fin 33792) (x : Fin 64) : EReal := x3 (ix2 n x)
def eV (n : Fin 33792) (h : Fin 4) (x : Fin 128) : EReal := x4 (ix3 n h x)

theorem s_apply (b h : Fin 4) (q k : Fin 256) : val_main_v14 (F := Ideal) x0 x1 x2 x3 (ix4 b h q k)
    = logit (eQn x0) (eQr x1) (eKn x2) (eKr x3) h (ctxPos b q) (ctxPos b k) := by
  pointwise [val_main_v0, val_main_v1, val_main_v2, val_main_v3, val_main_v4, val_main_v5, val_main_v6, val_main_v7, val_main_v8, val_main_v9,
    val_main_v10, val_main_v11, val_main_v12, val_main_v13, val_main_v14, val_main_cst]
  rw [rsqrt192]
  unfold logit
  congr 1
  exact congrArg (_ + ·) (Finset.sum_congr rfl fun x _ => mul_comm _ _)

theorem p_apply (b h : Fin 4) (q k : Fin 256) : val_main_v25 (F := Ideal) x0 x1 x2 x3 (ix4 b h q k)
    = Ideal.div (Ideal.exp ((val_main_v14 (F := Ideal) x0 x1 x2 x3 (ix4 b h q k) : EReal) - val_main_v17 (F := Ideal) x0 x1 x2 x3 (ix3 b h q)))
      (∑ x : Fin 256, Ideal.exp ((val_main_v14 (F := Ideal) x0 x1 x2 x3 (ix4 b h q x) : EReal) - val_main_v17 (F := Ideal) x0 x1 x2 x3 (ix3 b h q))) := by
  pointwise [val_main_v18, val_main_v19, val_main_v20, val_main_v21, val_main_v22, val_main_v23, val_main_v24, val_main_v25, val_main_cst_2]

theorem o_apply (r : Fin 512) (n : Fin 1024) : val_main_v32 (F := Ideal) x0 x1 x2 x3 x4 (ix2 r n)
    = ∑ x : Fin 256, (x4 (ix3 (ctxPos ⟨n.val / 256, by omega⟩ x) ⟨r.val / 128, by omega⟩ ⟨r.val % 128, by omega⟩) : EReal)
          * val_main_v25 (F := Ideal) x0 x1 x2 x3 (ix4 ⟨n.val / 256, by omega⟩ ⟨r.val / 128, by omega⟩ ⟨n.val % 256, by omega⟩ x) := by
  unfold ctxPos
  pointwise [val_main_v26, val_main_v27, val_main_v28, val_main_v29, val_main_v30, val_main_v31, val_main_v32]

theorem m_real (b h : Fin 4) (q : Fin 256) (hs : ∀ k, ∃ r : ℝ, val_main_v14 (F := Ideal) x0 x1 x2 x3 (ix4 b h q k) = (r : EReal)) :
    ∃ r : ℝ, val_main_v17 (F := Ideal) x0 x1 x2 x3 (ix3 b h q) = (r : EReal) := by
  obtain ⟨r, hr⟩ := Cert.Softmax.fold_max_real (by decide) (fun k : Fin 256 => val_main_v14 (F := Ideal) x0 x1 x2 x3 (ix4 b h q k)) hs
  refine ⟨r, ?_⟩
  rw [val_main_v17_apply]
  have e : (val_main_v15 (F := Ideal) x0 x1 x2 x3 (ix3 b h q) : EReal) = (r : EReal) := by
    unfold val_main_v15
    exact (max_apply _ b h q).trans hr
  have e' : (val_main_v16 (F := Ideal) (ix3 b h q) : EReal) = ⊥ := bot_bits
  rw [e, e']
  exact max_eq_right bot_le

theorem value (hqn : ∀ n h x, ∃ r : ℝ, eQn x0 n h x = r) (hqr : ∀ n h x, ∃ r : ℝ, eQr x1 n h x = r)
    (hkn : ∀ n h x, ∃ r : ℝ, eKn x2 n h x = r) (hkr : ∀ n x, ∃ r : ℝ, eKr x3 n x = r) (r : Fin 512) (n : Fin 1024) :
    val_main_v32 (F := Ideal) x0 x1 x2 x3 x4 (ix2 r n)
      = attnC (eQn x0) (eQr x1) (eKn x2) (eKr x3) (eV x4) ⟨r.val / 128, by omega⟩ ⟨r.val % 128, by omega⟩ ⟨n.val / 256, by omega⟩ ⟨n.val % 256, by omega⟩ := by
  have hL : ∀ h a k, ∃ y : ℝ, logit (eQn x0) (eQr x1) (eKn x2) (eKr x3) h a k = (y : EReal) := fun h a k =>
    Cert.Softmax.logit_real _ _ _ _ hqn hqr hkn hkr h a _
  obtain ⟨M, hM⟩ := m_real x0 x1 x2 x3 ⟨n.val / 256, by omega⟩ ⟨r.val / 128, by omega⟩ ⟨n.val % 256, by omega⟩ fun k => by
    rw [s_apply]; exact hL _ _ _
  unfold attnC
  rw [← Cert.Softmax.dotSoftC_exp _ _ (fun k => hL _ _ _) (M : EReal) ⟨M, rfl⟩, o_apply]
  refine Finset.sum_congr rfl fun x _ => ?_
  rw [p_apply, hM]
  simp only [s_apply]
  rfl

end Cert.ContextRefIdeal.Attn

end
-- ==== Proof.MergeLast.Math.lean ====
/-
  The mixers' merge without context rows over the extended reals: the result's rows.
-/
module

public import proofs.«01_k».proof.Proof.Merge.Math

@[expose] public section

noncomputable section

namespace Cert.OutProj

open Idealize.ShloMosaic Cert.Ffn

/-- The result at latent row `n`, channel `d`; the residual, the projection and the gates have rows behind the latent ones. -/
def lastResult (x : Fin 33792 → Fin 1024 → EReal) (md : Fin 8 → Fin 9 → Fin 1024 → EReal) (of ob : Fin 32768 → Fin 512 → EReal) (p : Fin 33792 → Fin 4608 → EReal)
    (g : Fin 33792 → Fin 3072 → EReal) (b : Fin 4 → Fin 4 → Fin 8192 → Fin 128 → EReal) (a : Fin 512 → Fin 32768 → EReal) (gain : Fin 128 → EReal)
    (wa wb wc : Fin 512 → Fin 1024 → EReal) (wo : Fin 1024 → Fin 1024 → EReal) (n : Fin 32768) (d : Fin 1024) : EReal :=
  mergedRow (x ⟨n.val, by omega⟩) (md ⟨n.val / 8192, by omega⟩ 5)
    (mixed (readout (fun j => of n j + ob n j) (fun j => p ⟨n.val, by omega⟩ ⟨2048 + j.val, by omega⟩) gain)
      (fun j => b ⟨n.val / 8192, by omega⟩ ⟨j.val / 128, by omega⟩ ⟨n.val % 128 * 64 + n.val % 8192 / 128, by omega⟩ ⟨j.val % 128, by omega⟩)
      (fun j => a j n) (fun k => g ⟨n.val, by omega⟩ ⟨k.val, by omega⟩) (fun k => g ⟨n.val, by omega⟩ ⟨1024 + k.val, by omega⟩)
      (fun k => g ⟨n.val, by omega⟩ ⟨2048 + k.val, by omega⟩) wa wb wc) wo d

end Cert.OutProj

end
-- ==== Proof.MergeLast.Body.lean ====
/-
  The body of the mixers' merge without context rows, entry by entry, over the ideal numbers: the block that a point leaves, from the blocks it reads.
-/
module

public import proofs.«01_k».proof.Proof.Gen.MergeLastIdeal.Value
public import proofs.«01_k».proof.Proof.MergeLast.Math
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.MergeLastIdeal.OutProj

open Cert.MergeLastIdeal Cert.MergeLastIdeal.Gen Cert.OutProj
open Idealize.ShloMosaic Idealize.ShloMosaic.TcCoe Idealize.SL.Sem

theorem zero2 : (![0, 0] : Fin 2 → ℕ) = fun _ => 0 := by decide
theorem zero3 : (![0, 0, 0] : Fin 3 → ℕ) = fun _ => 0 := by decide
theorem ld_512x512 {e : EltTy} (x : Vec Ideal S512x512 e) : View.ld x (Rect.unit (s := S512x512) ![0, 0] ![512, 512] inb_S512x512_S512x512_0_0) = x := View.ld_unit_zero zero2 _ _
theorem ld_1x128 {e : EltTy} (x : Vec Ideal S1x128 e) : View.ld x (Rect.unit (s := S1x128) ![0, 0] ![1, 128] inb_S1x128_S1x128_0_0) = x := View.ld_unit_zero zero2 _ _
theorem ld_512x1024 {e : EltTy} (x : Vec Ideal S512x1024 e) : View.ld x (Rect.unit (s := S512x1024) ![0, 0] ![512, 1024] inb_S512x1024_S512x1024_0_0) = x := View.ld_unit_zero zero2 _ _
theorem ld_1024x1024 {e : EltTy} (x : Vec Ideal S1024x1024 e) : View.ld x (Rect.unit (s := S1024x1024) ![0, 0] ![1024, 1024] inb_S1024x1024_S1024x1024_0_0) = x := View.ld_unit_zero zero2 _ _
theorem ld_1x9x1024 {e : EltTy} (x : Vec Ideal S1x9x1024 e) : View.ld x (Rect.unit (s := S1x9x1024) ![0, 0, 0] ![1, 9, 1024] inb_S1x9x1024_S1x9x1024_0_0_0) = x :=
  View.ld_unit_zero zero3 _ _

/-- The slab of 128 channels and 128 tokens that the body reads at each of its offsets. -/
def slab1 (i : grid0.Coords) (q : Fin 4) (x : Vec Ideal S1x4x128x8x128 .f32) : Vec Ideal S1x1x128x1x128 .f32 :=
  View.ld x (Rect.unit (s := S1x4x128x8x128) (k0_off1 i (BitVec.ofNat 32 q.val)) S1x1x128x1x128.size (k0_off1_inb i q))
def slab2 (i : grid0.Coords) (q : Fin 4) (x : Vec Ideal S1x4x128x8x128 .f32) : Vec Ideal S1x1x128x1x128 .f32 :=
  View.ld x (Rect.unit (s := S1x4x128x8x128) (k0_off2 i (BitVec.ofNat 32 q.val)) S1x1x128x1x128.size (k0_off2_inb i q))
def slab3 (i : grid0.Coords) (q : Fin 4) (x : Vec Ideal S1x4x128x8x128 .f32) : Vec Ideal S1x1x128x1x128 .f32 :=
  View.ld x (Rect.unit (s := S1x4x128x8x128) (k0_off3 i (BitVec.ofNat 32 q.val)) S1x1x128x1x128.size (k0_off3_inb i q))
def slab4 (i : grid0.Coords) (q : Fin 4) (x : Vec Ideal S1x4x128x8x128 .f32) : Vec Ideal S1x1x128x1x128 .f32 :=
  View.ld x (Rect.unit (s := S1x4x128x8x128) (k0_off4 i (BitVec.ofNat 32 q.val)) S1x1x128x1x128.size (k0_off4_inb i q))

/-- The rows of the convolution's result: four groups of 128 tokens, four slabs of channels in each. -/
def conv (i : grid0.Coords) (x5 : Vec Ideal S1x4x128x8x128 .f32) : Vec Ideal S512x512 .f32 :=
  k0_pay16 (F := Ideal) (k0_pay10 (slab1 i 0 x5) (slab2 i 0 x5) (slab3 i 0 x5) (slab4 i 0 x5)) (k0_pay13 (k0_pay11 (slab1 i 1 x5)) (k0_pay12 (slab2 i 1 x5)) (slab3 i 1 x5) (slab4 i 1 x5))
    (k0_pay14 (slab1 i 2 x5) (slab2 i 2 x5) (slab3 i 2 x5) (slab4 i 2 x5)) (k0_pay15 (slab1 i 3 x5)) (slab2 i 3 x5) (slab3 i 3 x5) (slab4 i 3 x5)

/-- The readout's block. -/
def ya (x2 x3 : Vec Ideal S512x512 .bf16) (x10 : Vec Ideal S1x128 .f32) (x4 : Vec Ideal S512x512 .f32) : FVec Ideal S512x512 .bf16 :=
  k0_pay9 (F := Ideal) (k0_pay3 x2 x3) (k0_pay4 x10) (k0_pay5 x2 x3 x10) (k0_pay6 x2 x3 x10) (k0_pay7 x2 x3) (k0_pay8 x2 x3) (Scalar.ofBits .f32 0x358637BD#32) x4

theorem out_eq (c : Dev nD) (i : grid0.Coords) (arg1 : Memref sig .tc .vmem S512x1024 .f32) (harg1 : arg1.IsWhole) (arg2 : Memref sig .tc .vmem S1x9x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .f32) (harg5 : arg5.IsWhole) (arg6 : Memref sig .tc .vmem S1x4x128x8x128 .f32) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1x128 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S512x1024 .f32) (harg16 : arg16.IsWhole)
    (x0 : Vec Ideal S512x1024 .f32) (x1 : Vec Ideal S1x9x1024 .f32) (x2 : Vec Ideal S512x512 .bf16) (x3 : Vec Ideal S512x512 .bf16) (x4 : Vec Ideal S512x512 .f32) (x5 : Vec Ideal S1x4x128x8x128 .f32) (x6 : Vec Ideal S512x512 .bf16) (x7 : Vec Ideal S512x1024 .bf16) (x8 : Vec Ideal S512x1024 .bf16) (x9 : Vec Ideal S512x1024 .bf16) (x10 : Vec Ideal S1x128 .f32) (x11 : Vec Ideal S512x1024 .bf16) (x12 : Vec Ideal S512x1024 .bf16) (x13 : Vec Ideal S512x1024 .bf16) (x14 : Vec Ideal S1024x1024 .bf16)
    : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14
      = k0_pay1 (k0_pay2 x1) (conv i x5) x6 (k0_pay17 (ya x2 x3 x10 x4) x7 x11) (k0_pay18 x8) k0_pay19 x12 x9 x13 x0 x14 := by
  unfold out0_A_15 kernelRun0_A
  dsimp only
  rw [View.read_writes_full]
  unfold kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, Memref.IsWhole.read_unread, ld_512x512, ld_1x128, ld_512x1024, ld_1024x1024, ld_1x9x1024]
  rfl

/-! ### The payloads' entries -/

theorem pay1_apply (x1 : Vec Ideal S1x9x1024 .f32) (yb : Vec Ideal S512x512 .f32) (yc : Vec Ideal S512x512 .bf16) (ya : FVec Ideal S512x512 .bf16)
    (ga gb gc wa wb wc : Vec Ideal S512x1024 .bf16) (x : Vec Ideal S512x1024 .f32) (wo : Vec Ideal S1024x1024 .bf16) (r : Fin 512) (d : Fin 1024) :
    k0_pay1 (F := Ideal) (k0_pay2 x1) yb yc (k0_pay17 ya ga wa) (k0_pay18 gb) k0_pay19 wb gc wc x wo (ix2 r d)
    = mergedRow (fun k => x (ix2 r k)) (fun k => x1 (ix3 0 5 k))
        (mixed (fun j => ya (ix2 r j)) (fun j => yb (ix2 r j)) (fun j => yc (ix2 j r)) (fun k => ga (ix2 r k)) (fun k => gb (ix2 r k)) (fun k => gc (ix2 r k))
          (fun j k => wa (ix2 j k)) (fun j k => wb (ix2 j k)) (fun j k => wc (ix2 j k))) (fun e k => wo (ix2 e k)) d := by
  unfold mergedRow mixed sigm
  pointwise [k0_pay1, k0_pay2, k0_pay17, k0_pay18, k0_pay19]
  simp only [zero_sub]

set_option maxHeartbeats 2000000 in
theorem ya_apply (x2 x3 : Vec Ideal S512x512 .bf16) (x10 : Vec Ideal S1x128 .f32) (x4 : Vec Ideal S512x512 .f32) (r : Fin 512) (j : Fin 512) :
    ya x2 x3 x10 x4 (ix2 r j) = readout (fun k => k0_pay3 (F := Ideal) x2 x3 (ix2 r k)) (fun k => x4 (ix2 r k)) (fun d => x10 (ix2 0 d)) j := by
  unfold ya readout sigm k0_pay5 k0_pay6 k0_pay8 k0_pay7
  generalize k0_pay3 (F := Ideal) x2 x3 = o
  pointwise [k0_pay9, k0_pay4]
  have hj := j.isLt
  simp only [zero_sub]
  split_ifs <;> refine congrArg (· * _) (Eq.symm ?_) <;>
    first
    | exact headed_at _ _ (fun d => ⟨d.val, by omega⟩) 0 (fun d => by show d.val = 0 * 128 + d.val; omega) j ⟨j.val, by omega⟩ (by show j.val = 0 * 128 + j.val; omega)
    | exact headed_at _ _ (fun d => ⟨128 + d.val, by omega⟩) 1 (fun d => by show 128 + d.val = 1 * 128 + d.val; omega) j ⟨j.val - 128, by omega⟩
        (by show j.val = 1 * 128 + (j.val - 128); omega)
    | exact headed_at _ _ (fun d => ⟨256 + d.val, by omega⟩) 2 (fun d => by show 256 + d.val = 2 * 128 + d.val; omega) j ⟨j.val - 128 - 128, by omega⟩
        (by show j.val = 2 * 128 + (j.val - 128 - 128); omega)
    | exact headed_at _ _ (fun d => ⟨384 + d.val, by omega⟩) 3 (fun d => by show 384 + d.val = 3 * 128 + d.val; omega) j ⟨j.val - 128 - 128 - 128, by omega⟩
        (by show j.val = 3 * 128 + (j.val - 128 - 128 - 128); omega)

theorem cols_apply (a0 a1 a2 a3 : FVec Ideal S128x128 .f32) (w : Fin 4 → Fin 128 → Fin 128 → EReal) (h0 : ∀ r d, a0 (ix2 r d) = w 0 r d)
    (h1 : ∀ r d, a1 (ix2 r d) = w 1 r d) (h2 : ∀ r d, a2 (ix2 r d) = w 2 r d) (h3 : ∀ r d, a3 (ix2 r d) = w 3 r d) (r : Fin 128) (j : Fin 512) :
    (concatenate S128x512 1 [⟨S128x128, a0⟩, ⟨S128x128, a1⟩, ⟨S128x128, a2⟩, ⟨S128x128, a3⟩] concatenates_S128x128_S128x128_S128x128_S128x128_S128x512_d1 : FVec Ideal S128x512 .f32)
      (ix2 r j) = w ⟨j.val / 128, by omega⟩ r ⟨j.val % 128, by omega⟩ := by
  pointwise
  have hj := j.isLt
  have key : ∀ (k : Fin 4) (d : Fin 128), j.val = k.val * 128 + d.val → w k r d = w ⟨j.val / 128, by omega⟩ r ⟨j.val % 128, by omega⟩ := by
    intro k d e
    have e1 : k = ⟨j.val / 128, by omega⟩ := Fin.ext (by simp only []; omega)
    have e2 : d = ⟨j.val % 128, by omega⟩ := Fin.ext (by simp only []; omega)
    rw [← e1, ← e2]
  split_ifs <;>
    first
    | exact (h0 _ _).trans (key 0 _ (by show j.val = 0 * 128 + j.val; omega))
    | exact (h1 _ _).trans (key 1 _ (by show j.val = 1 * 128 + (j.val - 128); omega))
    | exact (h2 _ _).trans (key 2 _ (by show j.val = 2 * 128 + (j.val - 128 - 128); omega))
    | exact (h3 _ _).trans (key 3 _ (by show j.val = 3 * 128 + (j.val - 128 - 128 - 128); omega))

theorem rows_apply (a0 a1 a2 a3 : FVec Ideal S128x512 .f32) (w : Fin 4 → Fin 128 → Fin 512 → EReal) (h0 : ∀ r d, a0 (ix2 r d) = w 0 r d)
    (h1 : ∀ r d, a1 (ix2 r d) = w 1 r d) (h2 : ∀ r d, a2 (ix2 r d) = w 2 r d) (h3 : ∀ r d, a3 (ix2 r d) = w 3 r d) (r : Fin 512) (j : Fin 512) :
    (concatenate S512x512 0 [⟨S128x512, a0⟩, ⟨S128x512, a1⟩, ⟨S128x512, a2⟩, ⟨S128x512, a3⟩] concatenates_S128x512_S128x512_S128x512_S128x512_S512x512_d0 : FVec Ideal S512x512 .f32)
      (ix2 r j) = w ⟨r.val / 128, by omega⟩ ⟨r.val % 128, by omega⟩ j := by
  pointwise
  have hr := r.isLt
  have key : ∀ (k : Fin 4) (d : Fin 128), r.val = k.val * 128 + d.val → w k d j = w ⟨r.val / 128, by omega⟩ ⟨r.val % 128, by omega⟩ j := by
    intro k d e
    have e1 : k = ⟨r.val / 128, by omega⟩ := Fin.ext (by simp only []; omega)
    have e2 : d = ⟨r.val % 128, by omega⟩ := Fin.ext (by simp only []; omega)
    rw [← e1, ← e2]
  split_ifs <;>
    first
    | exact (h0 _ _).trans (key 0 _ (by show r.val = 0 * 128 + r.val; omega))
    | exact (h1 _ _).trans (key 1 _ (by show r.val = 1 * 128 + (r.val - 128); omega))
    | exact (h2 _ _).trans (key 2 _ (by show r.val = 2 * 128 + (r.val - 128 - 128); omega))
    | exact (h3 _ _).trans (key 3 _ (by show r.val = 3 * 128 + (r.val - 128 - 128 - 128); omega))

theorem cast_slab (x : Vec Ideal S1x1x128x1x128 .f32) (r d : Fin 128) :
    (shapeCast S128x128 x shapeCasts_S1x1x128x1x128_S128x128 : FVec Ideal S128x128 .f32) (ix2 r d) = x (ix5 0 0 r 0 d) := by
  pointwise

/-! ### The offsets, by points -/

theorem off1 : ∀ (t : Fin cfg0.N) (q : Fin 4), k0_off1 (grid0.coords t) (BitVec.ofNat 32 q.val) = ![0, 0, 0, t.val % 2 * 4 + q.val, 0] :=
  (by decide +kernel : ∀ (t : Fin grid0.N) (q : Fin 4), _)
theorem off2 : ∀ (t : Fin cfg0.N) (q : Fin 4), k0_off2 (grid0.coords t) (BitVec.ofNat 32 q.val) = ![0, 1, 0, t.val % 2 * 4 + q.val, 0] :=
  (by decide +kernel : ∀ (t : Fin grid0.N) (q : Fin 4), _)
theorem off3 : ∀ (t : Fin cfg0.N) (q : Fin 4), k0_off3 (grid0.coords t) (BitVec.ofNat 32 q.val) = ![0, 2, 0, t.val % 2 * 4 + q.val, 0] :=
  (by decide +kernel : ∀ (t : Fin grid0.N) (q : Fin 4), _)
theorem off4 : ∀ (t : Fin cfg0.N) (q : Fin 4), k0_off4 (grid0.coords t) (BitVec.ofNat 32 q.val) = ![0, 3, 0, t.val % 2 * 4 + q.val, 0] :=
  (by decide +kernel : ∀ (t : Fin grid0.N) (q : Fin 4), _)

theorem slab1_apply (t : Fin cfg0.N) (q : Fin 4) (x : Vec Ideal S1x4x128x8x128 .f32) (r d : Fin 128) :
    slab1 (grid0.coords t) q x (ix5 0 0 r 0 d) = x (ix5 0 0 r ⟨t.val % 2 * 4 + q.val, by omega⟩ d) := by
  unfold slab1
  refine View.ld_unit_apply_of x _ _ _ _ _ fun a => ?_
  refine Eq.trans ?_ (congrArg (· + _) (congrFun (off1 t q) a).symm)
  fin_cases a <;> simp [ix5]
theorem slab2_apply (t : Fin cfg0.N) (q : Fin 4) (x : Vec Ideal S1x4x128x8x128 .f32) (r d : Fin 128) :
    slab2 (grid0.coords t) q x (ix5 0 0 r 0 d) = x (ix5 0 1 r ⟨t.val % 2 * 4 + q.val, by omega⟩ d) := by
  unfold slab2
  refine View.ld_unit_apply_of x _ _ _ _ _ fun a => ?_
  refine Eq.trans ?_ (congrArg (· + _) (congrFun (off2 t q) a).symm)
  fin_cases a <;> simp [ix5]
theorem slab3_apply (t : Fin cfg0.N) (q : Fin 4) (x : Vec Ideal S1x4x128x8x128 .f32) (r d : Fin 128) :
    slab3 (grid0.coords t) q x (ix5 0 0 r 0 d) = x (ix5 0 2 r ⟨t.val % 2 * 4 + q.val, by omega⟩ d) := by
  unfold slab3
  refine View.ld_unit_apply_of x _ _ _ _ _ fun a => ?_
  refine Eq.trans ?_ (congrArg (· + _) (congrFun (off3 t q) a).symm)
  fin_cases a <;> simp [ix5]
theorem slab4_apply (t : Fin cfg0.N) (q : Fin 4) (x : Vec Ideal S1x4x128x8x128 .f32) (r d : Fin 128) :
    slab4 (grid0.coords t) q x (ix5 0 0 r 0 d) = x (ix5 0 3 r ⟨t.val % 2 * 4 + q.val, by omega⟩ d) := by
  unfold slab4
  refine View.ld_unit_apply_of x _ _ _ _ _ fun a => ?_
  refine Eq.trans ?_ (congrArg (· + _) (congrFun (off4 t q) a).symm)
  fin_cases a <;> simp [ix5]
/-- The convolution's rows at a point: token `r` of the block is token `r % 128` of the group `r / 128`. -/
theorem conv_apply (t : Fin cfg0.N) (x : Vec Ideal S1x4x128x8x128 .f32) (r j : Fin 512) :
    conv (grid0.coords t) x (ix2 r j)
    = x (ix5 0 ⟨j.val / 128, by omega⟩ ⟨r.val % 128, by omega⟩ ⟨t.val % 2 * 4 + r.val / 128, by omega⟩ ⟨j.val % 128, by omega⟩) := by
  unfold conv k0_pay16
  refine rows_apply _ _ _ _ (fun q a j => x (ix5 0 ⟨j.val / 128, by omega⟩ a ⟨t.val % 2 * 4 + q.val, by omega⟩ ⟨j.val % 128, by omega⟩)) ?_ ?_ ?_ ?_ r j <;> intro a b
  · exact cols_apply _ _ _ _ (fun k a d => x (ix5 0 k a ⟨t.val % 2 * 4 + (0 : Fin 4).val, by omega⟩ d))
      (fun a d => (cast_slab _ a d).trans (slab1_apply t 0 x a d)) (fun a d => (cast_slab _ a d).trans (slab2_apply t 0 x a d))
      (fun a d => (cast_slab _ a d).trans (slab3_apply t 0 x a d)) (fun a d => (cast_slab _ a d).trans (slab4_apply t 0 x a d)) a b
  · exact cols_apply _ _ _ _ (fun k a d => x (ix5 0 k a ⟨t.val % 2 * 4 + (1 : Fin 4).val, by omega⟩ d))
      (fun a d => (cast_slab _ a d).trans (slab1_apply t 1 x a d)) (fun a d => (cast_slab _ a d).trans (slab2_apply t 1 x a d))
      (fun a d => (cast_slab _ a d).trans (slab3_apply t 1 x a d)) (fun a d => (cast_slab _ a d).trans (slab4_apply t 1 x a d)) a b
  · exact cols_apply _ _ _ _ (fun k a d => x (ix5 0 k a ⟨t.val % 2 * 4 + (2 : Fin 4).val, by omega⟩ d))
      (fun a d => (cast_slab _ a d).trans (slab1_apply t 2 x a d)) (fun a d => (cast_slab _ a d).trans (slab2_apply t 2 x a d))
      (fun a d => (cast_slab _ a d).trans (slab3_apply t 2 x a d)) (fun a d => (cast_slab _ a d).trans (slab4_apply t 2 x a d)) a b
  · exact cols_apply _ _ _ _ (fun k a d => x (ix5 0 k a ⟨t.val % 2 * 4 + (3 : Fin 4).val, by omega⟩ d))
      (fun a d => (cast_slab _ a d).trans (slab1_apply t 3 x a d)) (fun a d => (cast_slab _ a d).trans (slab2_apply t 3 x a d))
      (fun a d => (cast_slab _ a d).trans (slab3_apply t 3 x a d)) (fun a d => (cast_slab _ a d).trans (slab4_apply t 3 x a d)) a b

theorem state_apply (a b : Vec Ideal S512x512 .bf16) (r j : Fin 512) : k0_pay3 (F := Ideal) a b (ix2 r j) = a (ix2 r j) + b (ix2 r j) := rfl

end Cert.MergeLastIdeal.OutProj

end
-- ==== Proof.MergeLast.Kernel.lean ====
/-
  The mixers' merge without context rows, entry by entry, over the ideal numbers: the blocks that a point reads, and the result's rows.
-/
module

public import proofs.«01_k».proof.Proof.MergeLast.Body
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.MergeLastIdeal.OutProj

open Cert.MergeLastIdeal Cert.MergeLastIdeal.Gen Cert.OutProj Cert.Ffn
open Idealize.ShloMosaic Idealize.ShloMosaic.TcCoe Idealize.SL.Sem

variable (m : (ℓ : Loc nD τ sig) → Buf (Elt Ideal) ℓ) (c : Dev nD)

/-- The arguments' entries. -/
def aX (n : Fin 33792) (k : Fin 1024) : EReal := (m ((c.tc : Thread nD τ).loc main_arg0) : FVec Ideal S33792x1024 .f32) (ix2 n k)
def aMod (g : Fin 8) (j : Fin 9) (k : Fin 1024) : EReal := (m ((c.tc : Thread nD τ).loc main_arg1) : FVec Ideal S8x9x1024 .f32) (ix3 g j k)
def aOf (n : Fin 32768) (j : Fin 512) : EReal := (m ((c.tc : Thread nD τ).loc main_arg2) : FVec Ideal S32768x512 .bf16) (ix2 n j)
def aOb (n : Fin 32768) (j : Fin 512) : EReal := (m ((c.tc : Thread nD τ).loc main_arg3) : FVec Ideal S32768x512 .bf16) (ix2 n j)
def aP (n : Fin 33792) (f : Fin 4608) : EReal := (m ((c.tc : Thread nD τ).loc main_arg4) : FVec Ideal S33792x4608 .f32) (ix2 n f)
def aG (n : Fin 33792) (f : Fin 3072) : EReal := (m ((c.tc : Thread nD τ).loc main_arg5) : FVec Ideal S33792x3072 .bf16) (ix2 n f)
def aB (b : Fin 4) (k : Fin 4) (s : Fin 8192) (d : Fin 128) : EReal := (m ((c.tc : Thread nD τ).loc main_arg6) : FVec Ideal S4x4x8192x128 .f32) (ix4 b k s d)
def aC (j : Fin 512) (n : Fin 32768) : EReal := (m ((c.tc : Thread nD τ).loc main_arg7) : FVec Ideal S512x32768 .bf16) (ix2 j n)
def aGain (d : Fin 128) : EReal := (m ((c.tc : Thread nD τ).loc main_arg8) : FVec Ideal S128 .f32) (ix1 d)
def aWa (j : Fin 512) (e : Fin 1024) : EReal := (m ((c.tc : Thread nD τ).loc main_arg9) : FVec Ideal S512x1024 .f32) (ix2 j e)
def aWb (j : Fin 512) (e : Fin 1024) : EReal := (m ((c.tc : Thread nD τ).loc main_arg10) : FVec Ideal S512x1024 .f32) (ix2 j e)
def aWc (j : Fin 512) (e : Fin 1024) : EReal := (m ((c.tc : Thread nD τ).loc main_arg11) : FVec Ideal S512x1024 .f32) (ix2 j e)
def aWo (e : Fin 1024) (d : Fin 1024) : EReal := (m ((c.tc : Thread nD τ).loc main_arg12) : FVec Ideal S1024x1024 .f32) (ix2 e d)

theorem V_b (b k : Fin 4) (a : Fin 128) (e : Fin 64) (d : Fin 128) : (V m c main_v0 : FVec Ideal S4x4x128x64x128 .f32) (ix5 b k a e d)
    = aB m c b k ⟨a.val * 64 + e.val, by omega⟩ d := by
  entry_read
  pointwise
  rfl
theorem V_gain (d : Fin 128) : (V m c main_v1 : FVec Ideal S1x128 .f32) (ix2 0 d) = aGain m c d := by
  entry_read
  pointwise
  rfl
theorem V_wa (j : Fin 512) (e : Fin 1024) : (V m c main_v2 : FVec Ideal S512x1024 .bf16) (ix2 j e) = aWa m c j e := by
  entry_read; pointwise; rfl
theorem V_wb (j : Fin 512) (e : Fin 1024) : (V m c main_v3 : FVec Ideal S512x1024 .bf16) (ix2 j e) = aWb m c j e := by
  entry_read; pointwise; rfl
theorem V_wc (j : Fin 512) (e : Fin 1024) : (V m c main_v4 : FVec Ideal S512x1024 .bf16) (ix2 j e) = aWc m c j e := by
  entry_read; pointwise; rfl
theorem V_wo (e d : Fin 1024) : (V m c main_v5 : FVec Ideal S1024x1024 .bf16) (ix2 e d) = aWo m c e d := by
  entry_read; pointwise; rfl

/-! ### The blocks -/

theorem idx : ∀ t : Fin cfg0.N, win0_0.index t = ![t.val, 0] ∧ win0_1.index t = ![t.val / 16, 0, 0] ∧ win0_2.index t = ![t.val, 0]
    ∧ win0_3.index t = ![t.val, 0] ∧ win0_4.index t = ![t.val, 4] ∧ win0_5.index t = ![t.val / 16, 0, 0, t.val % 16 / 2, 0]
    ∧ win0_6.index t = ![0, t.val] ∧ win0_7.index t = ![t.val, 0] ∧ win0_8.index t = ![t.val, 1] ∧ win0_9.index t = ![t.val, 2]
    ∧ win0_10.index t = ![0, 0] ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, _)

theorem batch_lt (t : Fin cfg0.N) : t.val / 16 < 4 := by
  have ht : t.val < 64 := lt_of_lt_of_eq t.isLt N_0
  omega

theorem blk_x (t : Fin cfg0.N) (r : Fin 512) (k : Fin 1024) (n : Fin 33792) (hn : n.val = t.val * 512 + r.val) :
    (iblk m c 0 t : Vec Ideal S512x1024 .f32) (ix2 r k) = aX m c n k := by
  have ht : t.val < 64 := lt_of_lt_of_eq t.isLt N_0
  have e : (V m c main_arg0 : FVec Ideal S33792x1024 .f32) (ix2 n k) = aX m c n k := by rw [V_main_arg0]; rfl
  rw [← e]
  blk_ext [iblk, idx t]
theorem blk_mod (t : Fin cfg0.N) (j : Fin 9) (k : Fin 1024) (g : Fin 8) (hg : g.val = t.val / 16) :
    (iblk m c 1 t : Vec Ideal S1x9x1024 .f32) (ix3 0 j k) = aMod m c g j k := by
  have ht : t.val < 64 := lt_of_lt_of_eq t.isLt N_0
  have e : (V m c main_arg1 : FVec Ideal S8x9x1024 .f32) (ix3 g j k) = aMod m c g j k := by rw [V_main_arg1]; rfl
  rw [← e]
  blk_ext [iblk, idx t]
theorem blk_of (t : Fin cfg0.N) (r j : Fin 512) (n : Fin 32768) (hn : n.val = t.val * 512 + r.val) :
    (iblk m c 2 t : Vec Ideal S512x512 .bf16) (ix2 r j) = aOf m c n j := by
  have ht : t.val < 64 := lt_of_lt_of_eq t.isLt N_0
  have e : (V m c main_arg2 : FVec Ideal S32768x512 .bf16) (ix2 n j) = aOf m c n j := by rw [V_main_arg2]; rfl
  rw [← e]
  blk_ext [iblk, idx t]
theorem blk_ob (t : Fin cfg0.N) (r j : Fin 512) (n : Fin 32768) (hn : n.val = t.val * 512 + r.val) :
    (iblk m c 3 t : Vec Ideal S512x512 .bf16) (ix2 r j) = aOb m c n j := by
  have ht : t.val < 64 := lt_of_lt_of_eq t.isLt N_0
  have e : (V m c main_arg3 : FVec Ideal S32768x512 .bf16) (ix2 n j) = aOb m c n j := by rw [V_main_arg3]; rfl
  rw [← e]
  blk_ext [iblk, idx t]
theorem blk_p (t : Fin cfg0.N) (r j : Fin 512) (n : Fin 33792) (hn : n.val = t.val * 512 + r.val) :
    (iblk m c 4 t : Vec Ideal S512x512 .f32) (ix2 r j) = aP m c n ⟨2048 + j.val, by omega⟩ := by
  have ht : t.val < 64 := lt_of_lt_of_eq t.isLt N_0
  have e : (V m c main_arg4 : FVec Ideal S33792x4608 .f32) (ix2 n ⟨2048 + j.val, by omega⟩) = aP m c n ⟨2048 + j.val, by omega⟩ := by rw [V_main_arg4]; rfl
  rw [← e]
  blk_ext [iblk, idx t]
theorem blk_b (t : Fin cfg0.N) (k : Fin 4) (a : Fin 128) (q : Fin 8) (d : Fin 128) :
    (iblk m c 5 t : Vec Ideal S1x4x128x8x128 .f32) (ix5 0 k a q d) = aB m c ⟨t.val / 16, batch_lt t⟩ k ⟨a.val * 64 + (t.val % 16 / 2 * 8 + q.val), by omega⟩ d := by
  have ht : t.val < 64 := lt_of_lt_of_eq t.isLt N_0
  have e := V_b m c ⟨t.val / 16, by omega⟩ k a ⟨t.val % 16 / 2 * 8 + q.val, by omega⟩ d
  rw [← e]
  blk_ext [iblk, idx t]
theorem blk_c (t : Fin cfg0.N) (r j : Fin 512) (n : Fin 32768) (hn : n.val = t.val * 512 + r.val) :
    (iblk m c 6 t : Vec Ideal S512x512 .bf16) (ix2 j r) = aC m c j n := by
  have ht : t.val < 64 := lt_of_lt_of_eq t.isLt N_0
  have e : (V m c main_arg7 : FVec Ideal S512x32768 .bf16) (ix2 j n) = aC m c j n := by rw [V_main_arg7]; rfl
  rw [← e]
  blk_ext [iblk, idx t]
theorem blk_ga (t : Fin cfg0.N) (r : Fin 512) (k : Fin 1024) (n : Fin 33792) (hn : n.val = t.val * 512 + r.val) :
    (iblk m c 7 t : Vec Ideal S512x1024 .bf16) (ix2 r k) = aG m c n ⟨k.val, by omega⟩ := by
  have ht : t.val < 64 := lt_of_lt_of_eq t.isLt N_0
  have e : (V m c main_arg5 : FVec Ideal S33792x3072 .bf16) (ix2 n ⟨k.val, by omega⟩) = aG m c n ⟨k.val, by omega⟩ := by rw [V_main_arg5]; rfl
  rw [← e]
  blk_ext [iblk, idx t]
theorem blk_gb (t : Fin cfg0.N) (r : Fin 512) (k : Fin 1024) (n : Fin 33792) (hn : n.val = t.val * 512 + r.val) :
    (iblk m c 8 t : Vec Ideal S512x1024 .bf16) (ix2 r k) = aG m c n ⟨1024 + k.val, by omega⟩ := by
  have ht : t.val < 64 := lt_of_lt_of_eq t.isLt N_0
  have e : (V m c main_arg5 : FVec Ideal S33792x3072 .bf16) (ix2 n ⟨1024 + k.val, by omega⟩) = aG m c n ⟨1024 + k.val, by omega⟩ := by rw [V_main_arg5]; rfl
  rw [← e]
  blk_ext [iblk, idx t]
theorem blk_gc (t : Fin cfg0.N) (r : Fin 512) (k : Fin 1024) (n : Fin 33792) (hn : n.val = t.val * 512 + r.val) :
    (iblk m c 9 t : Vec Ideal S512x1024 .bf16) (ix2 r k) = aG m c n ⟨2048 + k.val, by omega⟩ := by
  have ht : t.val < 64 := lt_of_lt_of_eq t.isLt N_0
  have e : (V m c main_arg5 : FVec Ideal S33792x3072 .bf16) (ix2 n ⟨2048 + k.val, by omega⟩) = aG m c n ⟨2048 + k.val, by omega⟩ := by rw [V_main_arg5]; rfl
  rw [← e]
  blk_ext [iblk, idx t]
theorem blk_gain (t : Fin cfg0.N) (d : Fin 128) :
    (iblk m c 10 t : Vec Ideal S1x128 .f32) (ix2 0 d) = aGain m c d := by
  have ht : t.val < 64 := lt_of_lt_of_eq t.isLt N_0
  have e := V_gain m c d
  rw [← e]
  blk_ext [iblk, idx t]
theorem blk_wa (t : Fin cfg0.N) (j : Fin 512) (e : Fin 1024) :
    (iblk m c 11 t : Vec Ideal S512x1024 .bf16) (ix2 j e) = aWa m c j e := by
  have ht : t.val < 64 := lt_of_lt_of_eq t.isLt N_0
  have e0 := V_wa m c j e
  rw [← e0]
  blk_ext [iblk, idx t]
theorem blk_wb (t : Fin cfg0.N) (j : Fin 512) (e : Fin 1024) :
    (iblk m c 12 t : Vec Ideal S512x1024 .bf16) (ix2 j e) = aWb m c j e := by
  have ht : t.val < 64 := lt_of_lt_of_eq t.isLt N_0
  have e0 := V_wb m c j e
  rw [← e0]
  blk_ext [iblk, idx t]
theorem blk_wc (t : Fin cfg0.N) (j : Fin 512) (e : Fin 1024) :
    (iblk m c 13 t : Vec Ideal S512x1024 .bf16) (ix2 j e) = aWc m c j e := by
  have ht : t.val < 64 := lt_of_lt_of_eq t.isLt N_0
  have e0 := V_wc m c j e
  rw [← e0]
  blk_ext [iblk, idx t]
theorem blk_wo (t : Fin cfg0.N) (e d : Fin 1024) :
    (iblk m c 14 t : Vec Ideal S1024x1024 .bf16) (ix2 e d) = aWo m c e d := by
  have ht : t.val < 64 := lt_of_lt_of_eq t.isLt N_0
  have e0 := V_wo m c e d
  rw [← e0]
  blk_ext [iblk, idx t]
/-! ### The result -/

/-- The merge's result at row `n`, channel `d`, of the arguments. -/
def value (n : Fin 32768) (d : Fin 1024) : EReal :=
  lastResult (aX m c) (aMod m c) (aOf m c) (aOb m c) (aP m c) (aG m c) (aB m c) (aC m c) (aGain m c) (aWa m c) (aWb m c) (aWc m c) (aWo m c) n d

theorem conv_at (t : Fin cfg0.N) (r j : Fin 512) (n : Fin 32768) (hn : n.val = t.val * 512 + r.val) :
    conv (grid0.coords t) (iblk m c 5 t) (ix2 r j)
    = aB m c ⟨n.val / 8192, by omega⟩ ⟨j.val / 128, by omega⟩ ⟨n.val % 128 * 64 + n.val % 8192 / 128, by omega⟩ ⟨j.val % 128, by omega⟩ := by
  have hr := r.isLt
  refine (conv_apply t _ r j).trans ?_
  refine (blk_b m c t _ _ _ _).trans ?_
  have e1 : (⟨t.val / 16, batch_lt t⟩ : Fin 4) = ⟨n.val / 8192, by omega⟩ := Fin.ext (by simp only []; omega)
  have e2 : (⟨r.val % 128 * 64 + (t.val % 16 / 2 * 8 + (t.val % 2 * 4 + r.val / 128)), by omega⟩ : Fin 8192) = ⟨n.val % 128 * 64 + n.val % 8192 / 128, by omega⟩ :=
    Fin.ext (by simp only []; omega)
  exact congrArg₂ (fun b s => aB m c b _ s _) e1 e2

theorem point (t : Fin cfg0.N) (r : Fin 512) (d : Fin 1024) (n : Fin 32768) (hn : n.val = t.val * 512 + r.val) : outsAt0 m c t (ix2 r d) = value m c n d := by
  have hr := r.isLt
  have hn' : (⟨n.val, by omega⟩ : Fin 33792).val = t.val * 512 + r.val := hn
  have hg : (⟨n.val / 8192, by omega⟩ : Fin 8).val = t.val / 16 := by show n.val / 8192 = _; omega
  unfold outsAt0 value lastResult
  rw [out_eq, pay1_apply]
  simp only [ya_apply, state_apply]
  simp only [blk_x m c t r _ _ hn', blk_mod m c t _ _ _ hg, blk_p m c t r _ _ hn', blk_ga m c t r _ _ hn', blk_gb m c t r _ _ hn', blk_gc m c t r _ _ hn', blk_gain m c t,
    blk_wa m c t, blk_wb m c t, blk_wc m c t, blk_wo m c t, blk_of m c t r _ n hn, blk_ob m c t r _ n hn, conv_at m c t r _ n hn, blk_c m c t r _ n hn]

theorem final : (dats m 0 c).arrAt 15 cfg0.N = fun i : S32768x1024.Idx => value m c ⟨(i 0).val, (i 0).isLt⟩ ⟨(i 1).val, (i 1).isLt⟩ := by
  refine (dats m 0 c).arrAt_eq_of_covers 15 _ (by decide +kernel) fun t hfl y => ?_
  have ht : t.val < 64 := lt_of_lt_of_eq t.isLt N_0
  idx_vars y
  blk_simp [idx t]
  rw [after0_15]
  have hy0 := y0.isLt
  exact point m c t ⟨y0.val, y0.isLt⟩ ⟨y1.val, y1.isLt⟩ ⟨t.val * 512 + y0.val, by omega⟩ rfl

end Cert.MergeLastIdeal.OutProj

end
-- ==== Proof.MergeLast.Ref.lean ====
/-
  The reference of the mixers' merge without context rows, entry by entry, over the ideal numbers.
-/
module

public import proofs.«01_k».proof.Proof.Gen.MergeLastRefIdeal.Read
public import proofs.«01_k».proof.Proof.MergeLast.Math
public import Idealize.ShloMosaic.Lib.Pointwise
public import Idealize.ShloMosaic.Lib.Claim

@[expose] public section

set_option maxRecDepth 16384

noncomputable section

namespace Cert.MergeLastRefIdeal.OutProj

open Cert.MergeLastRefIdeal Cert.MergeLastRefIdeal.Read Cert.MergeLastRefIdeal.Gen Cert.Ffn Cert.OutProj
open Idealize.ShloMosaic Idealize.ShloMosaic.TcCoe Idealize.SL.Sem

variable (x0 : FVec Ideal S33792x1024 .f32) (x1 : FVec Ideal S8x9x1024 .f32) (x2 : FVec Ideal S32768x512 .bf16) (x3 : FVec Ideal S32768x512 .bf16) (x4 : FVec Ideal S33792x4608 .f32) (x5 : FVec Ideal S33792x3072 .bf16) (x6 : FVec Ideal S4x4x8192x128 .f32) (x7 : FVec Ideal S512x32768 .bf16) (x8 : FVec Ideal S128 .f32) (x9 : FVec Ideal S512x1024 .f32) (x10 : FVec Ideal S512x1024 .f32) (x11 : FVec Ideal S512x1024 .f32) (x12 : FVec Ideal S1024x1024 .f32)

/-- The state's sum over both directions. -/
theorem state (b : Fin 4) (t : Fin 8192) (h : Fin 4) (d : Fin 128) : val_main_v3 (F := Ideal) x2 x3 (ix4 b t h d)
    = x2 (ix2 ⟨b.val * 8192 + t.val, by omega⟩ ⟨h.val * 128 + d.val, by omega⟩) + x3 (ix2 ⟨b.val * 8192 + t.val, by omega⟩ ⟨h.val * 128 + d.val, by omega⟩) := by
  pointwise [val_main_v3, val_main_v2, val_main_v1, val_main_v0]

/-- The state's readout. -/
theorem readout_apply (b : Fin 4) (t : Fin 8192) (j : Fin 512) : val_main_v34 (F := Ideal) x2 x3 x4 x8 (ix3 b t j)
    = readout (fun k => x2 (ix2 ⟨b.val * 8192 + t.val, by omega⟩ k) + x3 (ix2 ⟨b.val * 8192 + t.val, by omega⟩ k)) (fun k => x4 (ix2 ⟨b.val * 8192 + t.val, by omega⟩ ⟨2048 + k.val, by omega⟩)) (fun d => x8 (ix1 d)) j := by
  unfold readout sigm
  rw [headed_at _ _ (fun d => ⟨j.val / 128 * 128 + d.val, by omega⟩) (j.val / 128) (fun d => rfl) j ⟨j.val % 128, by omega⟩ (by simp only []; omega)]
  simp only [← state x2 x3 b t ⟨j.val / 128, by omega⟩]
  pointwise [val_main_v34, val_main_v33, val_main_call0_v5, val_main_call0_v4, val_main_call0_v3, val_main_call0_v2, val_main_call0_v1, val_main_call0_v0, val_main_call0_cst, val_main_call0_cst_0, val_main_v32, val_main_v31, val_main_v30, val_main_v29, val_main_v28, val_main_v27, val_main_v26, val_main_v25, val_main_v24, val_main_v23, val_main_v22, val_main_v21, val_main_v20, val_main_v19, val_main_cst, val_main_cst_0, val_main_cst_1, val_main_v12, val_main_v11, val_main_v4]
  rw [state x2 x3 b t ⟨j.val / 128, by omega⟩ ⟨j.val % 128, by omega⟩]
  rfl

/-- The convolution's output. -/
theorem conv (b : Fin 4) (t : Fin 8192) (j : Fin 512) : val_main_v7 (F := Ideal) x6 (ix3 b t j)
    = x6 (ix4 b ⟨j.val / 128, by omega⟩ ⟨t.val % 128 * 64 + t.val / 128, by omega⟩ ⟨j.val % 128, by omega⟩) := by
  pointwise [val_main_v7, val_main_v6, val_main_v5]

/-- The attention's output. -/
theorem att (b : Fin 4) (t : Fin 8192) (j : Fin 512) : val_main_v15 (F := Ideal) x7 (ix3 b t j)
    = x7 (ix2 j ⟨b.val * 8192 + t.val, by omega⟩) := by
  pointwise [val_main_v15, val_main_v14, val_main_v13]

/-- A mixer's gate. -/
theorem gate_a (b : Fin 4) (t : Fin 8192) (k : Fin 1024) : val_main_v43 (F := Ideal) x5 (ix3 b t k)
    = sigm (x5 (ix2 ⟨b.val * 8192 + t.val, by omega⟩ ⟨k.val, by omega⟩)) := by
  unfold sigm
  pointwise [val_main_v43, val_main_v42, val_main_v41, val_main_v40, val_main_v39, val_main_v38, val_main_v35, val_main_v18, val_main_v17, val_main_v16, val_main_cst_2, val_main_cst_3]

/-- A mixer's gate. -/
theorem gate_b (b : Fin 4) (t : Fin 8192) (k : Fin 1024) : val_main_v51 (F := Ideal) x5 (ix3 b t k)
    = sigm (x5 (ix2 ⟨b.val * 8192 + t.val, by omega⟩ ⟨1024 + k.val, by omega⟩)) := by
  unfold sigm
  pointwise [val_main_v51, val_main_v50, val_main_v49, val_main_v48, val_main_v47, val_main_v46, val_main_v36, val_main_v18, val_main_v17, val_main_v16, val_main_cst_4, val_main_cst_5]

/-- A mixer's gate. -/
theorem gate_c (b : Fin 4) (t : Fin 8192) (k : Fin 1024) : val_main_v60 (F := Ideal) x5 (ix3 b t k)
    = sigm (x5 (ix2 ⟨b.val * 8192 + t.val, by omega⟩ ⟨2048 + k.val, by omega⟩)) := by
  unfold sigm
  pointwise [val_main_v60, val_main_v59, val_main_v58, val_main_v57, val_main_v56, val_main_v55, val_main_v37, val_main_v18, val_main_v17, val_main_v16, val_main_cst_6, val_main_cst_7]

/-- The three mixers' gated products. -/
theorem mixed_apply (b : Fin 4) (t : Fin 8192) (e : Fin 1024) : val_main_v63 (F := Ideal) x2 x3 x4 x5 x6 x7 x8 x9 x10 x11 (ix3 b t e)
    = mixed (fun j => val_main_v34 (F := Ideal) x2 x3 x4 x8 (ix3 b t j)) (fun j => val_main_v7 (F := Ideal) x6 (ix3 b t j)) (fun j => val_main_v15 (F := Ideal) x7 (ix3 b t j)) (fun k => x5 (ix2 ⟨b.val * 8192 + t.val, by omega⟩ ⟨k.val, by omega⟩))
        (fun k => x5 (ix2 ⟨b.val * 8192 + t.val, by omega⟩ ⟨1024 + k.val, by omega⟩)) (fun k => x5 (ix2 ⟨b.val * 8192 + t.val, by omega⟩ ⟨2048 + k.val, by omega⟩)) (fun k e => x9 (ix2 k e)) (fun k e => x10 (ix2 k e))
        (fun k e => x11 (ix2 k e)) e := by
  unfold mixed
  simp only [← gate_a x5 b t, ← gate_b x5 b t, ← gate_c x5 b t]
  pointwise [val_main_v63, val_main_v62, val_main_v61, val_main_v54, val_main_v53, val_main_v52, val_main_v45, val_main_v44]

/-- The merged row. -/
theorem row (b : Fin 4) (t : Fin 8192) (d : Fin 1024) : val_main_v67 (F := Ideal) x0 x1 x2 x3 x4 x5 x6 x7 x8 x9 x10 x11 x12 (ix3 b t d)
    = mergedRow (fun k => x0 (ix2 ⟨b.val * 8192 + t.val, by omega⟩ k)) (fun k => x1 (ix3 ⟨b.val, by omega⟩ 5 k)) (fun e => val_main_v63 (F := Ideal) x2 x3 x4 x5 x6 x7 x8 x9 x10 x11 (ix3 b t e)) (fun e k => x12 (ix2 e k)) d := by
  unfold mergedRow
  pointwise [val_main_v67, val_main_v66, val_main_v65, val_main_v64, val_main_v10, val_main_v9, val_main_v8]

theorem rows (n : Fin 32768) (d : Fin 1024) : val_main_v68 (F := Ideal) x0 x1 x2 x3 x4 x5 x6 x7 x8 x9 x10 x11 x12 (ix2 n d)
    = val_main_v67 (F := Ideal) x0 x1 x2 x3 x4 x5 x6 x7 x8 x9 x10 x11 x12 (ix3 ⟨n.val / 8192, by omega⟩ ⟨n.val % 8192, by omega⟩ d) := by
  pointwise [val_main_v68]

/-- The reference's result at row `n`, channel `d`. -/
theorem value (n : Fin 32768) (d : Fin 1024) : val_main_v68 (F := Ideal) x0 x1 x2 x3 x4 x5 x6 x7 x8 x9 x10 x11 x12 (ix2 n d)
    = lastResult (fun n k => x0 (ix2 n k)) (fun g j k => x1 (ix3 g j k)) (fun n j => x2 (ix2 n j)) (fun n j => x3 (ix2 n j)) (fun n f => x4 (ix2 n f))
        (fun n f => x5 (ix2 n f)) (fun b k s d => x6 (ix4 b k s d)) (fun j n => x7 (ix2 j n)) (fun d => x8 (ix1 d)) (fun j e => x9 (ix2 j e)) (fun j e => x10 (ix2 j e))
        (fun j e => x11 (ix2 j e)) (fun e d => x12 (ix2 e d)) n d := by
  have hn := n.isLt
  have em : n.val % 8192 % 128 = n.val % 128 := by omega
  unfold lastResult
  rw [rows, row]
  simp only [mixed_apply, readout_apply, conv, att, Nat.div_add_mod', em]

end Cert.MergeLastRefIdeal.OutProj

end
-- ==== Proof.Ffn.Next.lean ====
/-
  The first half-step's kernel over one array, as every layer but the first has it, entry by
  entry, over the ideal numbers: each row's `Ffn.half` with its group's modulation.
-/
module

public import proofs.«01_k».proof.Proof.Gen.FfnNextIdeal.Value
public import proofs.«01_k».proof.Proof.Ffn.Math
public import Idealize.ShloMosaic.Lib.Pipeline.ValueKit
public import Idealize.ShloMosaic.Lib.Pointwise
public import Idealize.ShloMosaic.Lib.Claim

@[expose] public section

set_option maxRecDepth 16384

noncomputable section

namespace Cert.FfnNextIdeal.Ffn

open Cert.FfnNextIdeal Cert.FfnNextIdeal.Gen Cert.Ffn
open Idealize.ShloMosaic Idealize.ShloMosaic.TcCoe Idealize.SL.Sem

section Body

variable (x0 : Vec Ideal S512x1024 .f32) (x1 : Vec Ideal S1x9x1024 .f32) (x2 : Vec Ideal S1x1024 .f32) (x3 : Vec Ideal S1024x5632 .bf16)
  (x4 : Vec Ideal S2816x1024 .bf16)

theorem zero2 : (![0, 0] : Fin 2 → ℕ) = fun _ => 0 := by decide
theorem zero3 : (![0, 0, 0] : Fin 3 → ℕ) = fun _ => 0 := by decide

/-- The modulated norm of a row of the block. -/
theorem h_apply (r : Fin 512) (k : Fin 1024) : k0_pay2 (F := Ideal) x0 x1 x2 (ix2 r k)
    = normed (fun j => x0 (ix2 r j)) (fun j => x2 (ix2 0 j)) (fun j => x1 (ix3 0 0 j)) (fun j => x1 (ix3 0 1 j)) k := by
  pointwise [k0_pay2, k0_pay1]
  rfl

/-- The block that a point leaves, row by row. -/
theorem out_apply (r : Fin 512) (d : Fin 1024) : out0_5 (F := Ideal) x0 x1 x2 x3 x4 (ix2 r d)
    = half (fun j => x0 (ix2 r j)) (fun j => x2 (ix2 0 j)) (fun j => x1 (ix3 0 0 j)) (fun j => x1 (ix3 0 1 j)) (fun j => x1 (ix3 0 2 j))
        (fun k f => x3 (ix2 k f)) (fun f j => x4 (ix2 f j)) d := by
  unfold half
  rw [← chunks]
  rw [show normed (fun j => x0 (ix2 r j)) (fun j => x2 (ix2 0 j)) (fun j => x1 (ix3 0 0 j)) (fun j => x1 (ix3 0 1 j))
    = fun k => k0_pay2 (F := Ideal) x0 x1 x2 (ix2 r k) from funext fun k => (h_apply x0 x1 x2 r k).symm]
  unfold out0_5 k0_pay15 k0_pay6 k0_pay5 k0_pay4
  rw [show (View.ld x0 r0_0 : Vec Ideal S512x1024 .f32) = x0 from View.ld_unit_zero zero2 _ _,
    show (View.ld x1 r0_1 : Vec Ideal S1x9x1024 .f32) = x1 from View.ld_unit_zero zero3 _ _,
    show (View.ld x2 r0_2 : Vec Ideal S1x1024 .f32) = x2 from View.ld_unit_zero zero2 _ _]
  generalize k0_pay2 (F := Ideal) x0 x1 x2 = hv
  rw [View.canon_unit_zero zero2]
  pointwise [k0_pay14, k0_pay13, k0_pay12, k0_pay11, k0_pay10, k0_pay9, k0_pay8, k0_pay7, k0_pay3, k0_pay1]
  rfl

end Body

variable (m : (ℓ : Loc nD τ sig) → Buf (Elt Ideal) ℓ) (c : Dev nD)

/-- The arguments' entries. -/
def aX (n : Fin 33792) (k : Fin 1024) : EReal := (m ((c.tc : Thread nD τ).loc main_arg0) : FVec Ideal S33792x1024 .f32) (ix2 n k)
def aMod (g : Fin 8) (j : Fin 9) (k : Fin 1024) : EReal := (m ((c.tc : Thread nD τ).loc main_arg1) : FVec Ideal S8x9x1024 .f32) (ix3 g j k)
def aGain (k : Fin 1024) : EReal := (m ((c.tc : Thread nD τ).loc main_arg2) : FVec Ideal S1024 .f32) (ix1 k)
def aW13 (k : Fin 1024) (f : Fin 5632) : EReal := (m ((c.tc : Thread nD τ).loc main_arg3) : FVec Ideal S1024x5632 .f32) (ix2 k f)
def aW2 (f : Fin 2816) (k : Fin 1024) : EReal := (m ((c.tc : Thread nD τ).loc main_arg4) : FVec Ideal S2816x1024 .f32) (ix2 f k)

theorem V_gain (k : Fin 1024) : (V m c main_v0 : FVec Ideal S1x1024 .f32) (ix2 0 k) = aGain m c k := by
  entry_read
  pointwise
  rfl
theorem V_w13 (k : Fin 1024) (f : Fin 5632) : (V m c main_v1 : FVec Ideal S1024x5632 .bf16) (ix2 k f) = aW13 m c k f := by
  entry_read
  pointwise
  rfl
theorem V_w2 (f : Fin 2816) (k : Fin 1024) : (V m c main_v2 : FVec Ideal S2816x1024 .bf16) (ix2 f k) = aW2 m c f k := by
  entry_read
  pointwise
  rfl

theorem idx : ∀ t : Fin cfg0.N, win0_0.index t = ![min t.val 65, 0] ∧ win0_1.index t = ![min (t.val / 16) 4, 0, 0] ∧ win0_2.index t = ![0, 0]
    ∧ win0_3.index t = ![0, 0] ∧ win0_4.index t = ![0, 0] ∧ win0_5.index t = ![t.val, 0] :=
  (by decide +kernel : ∀ t : Fin grid0.N, _)

theorem blk_x (t : Fin cfg0.N) (r : Fin 512) (k : Fin 1024) (n : Fin 33792) (hn : n.val = t.val * 512 + r.val) :
    (iblk m c 0 t : Vec Ideal S512x1024 .f32) (ix2 r k) = aX m c n k := by
  have ht : t.val < 66 := lt_of_lt_of_eq t.isLt N_0
  have e : (V m c main_arg0 : FVec Ideal S33792x1024 .f32) (ix2 n k) = aX m c n k := by rw [V_main_arg0]; rfl
  rw [← e]
  blk_ext [iblk, idx t]
theorem blk_mod (t : Fin cfg0.N) (j : Fin 9) (k : Fin 1024) (g : Fin 8) (hg : g.val = min (t.val / 16) 4) :
    (iblk m c 1 t : Vec Ideal S1x9x1024 .f32) (ix3 0 j k) = aMod m c g j k := by
  have ht : t.val < 66 := lt_of_lt_of_eq t.isLt N_0
  have e : (V m c main_arg1 : FVec Ideal S8x9x1024 .f32) (ix3 g j k) = aMod m c g j k := by rw [V_main_arg1]; rfl
  rw [← e]
  blk_ext [iblk, idx t]
theorem blk_gain (t : Fin cfg0.N) (k : Fin 1024) : (iblk m c 2 t : Vec Ideal S1x1024 .f32) (ix2 0 k) = aGain m c k := by
  rw [← V_gain]
  blk_ext [iblk, idx t]
theorem blk_w13 (t : Fin cfg0.N) (k : Fin 1024) (f : Fin 5632) : (iblk m c 3 t : Vec Ideal S1024x5632 .bf16) (ix2 k f) = aW13 m c k f := by
  rw [← V_w13]
  blk_ext [iblk, idx t]
theorem blk_w2 (t : Fin cfg0.N) (f : Fin 2816) (k : Fin 1024) : (iblk m c 4 t : Vec Ideal S2816x1024 .bf16) (ix2 f k) = aW2 m c f k := by
  rw [← V_w2]
  blk_ext [iblk, idx t]

/-- The half-step's result at row `n`, channel `d`. -/
def result (n : Fin 33792) (d : Fin 1024) : EReal :=
  half (aX m c n) (aGain m c) (aMod m c (group n) 0) (aMod m c (group n) 1) (aMod m c (group n) 2) (aW13 m c) (aW2 m c) d

theorem point (t : Fin cfg0.N) (r : Fin 512) (d : Fin 1024) (n : Fin 33792) (hn : n.val = t.val * 512 + r.val) :
    out0_5 (F := Ideal) (iblk m c 0 t) (iblk m c 1 t) (iblk m c 2 t) (iblk m c 3 t) (iblk m c 4 t) (ix2 r d) = result m c n d := by
  have ht : t.val < 66 := lt_of_lt_of_eq t.isLt N_0
  have hr := r.isLt
  have hg : (group n).val = min (t.val / 16) 4 := by show min (n.val / 8192) 4 = _; omega
  have h0 : (fun j => (iblk m c 0 t : Vec Ideal S512x1024 .f32) (ix2 r j)) = aX m c n := funext fun j => blk_x m c t r j n hn
  have h1 : ∀ i, (fun j => (iblk m c 1 t : Vec Ideal S1x9x1024 .f32) (ix3 0 i j)) = aMod m c (group n) i := fun i => funext fun j => blk_mod m c t i j _ hg
  have h2 : (fun j => (iblk m c 2 t : Vec Ideal S1x1024 .f32) (ix2 0 j)) = aGain m c := funext fun j => blk_gain m c t j
  have h3 : (fun k f => (iblk m c 3 t : Vec Ideal S1024x5632 .bf16) (ix2 k f)) = aW13 m c := funext fun k => funext fun f => blk_w13 m c t k f
  have h4 : (fun f k => (iblk m c 4 t : Vec Ideal S2816x1024 .bf16) (ix2 f k)) = aW2 m c := funext fun f => funext fun k => blk_w2 m c t f k
  refine (out_apply _ _ _ _ _ r d).trans ?_
  unfold result
  rw [← h0, ← h1, ← h1, ← h1, ← h2, ← h3, ← h4]

theorem final : (dats m 0 c).arrAt 5 cfg0.N = fun i : S33792x1024.Idx => result m c ⟨(i 0).val, (i 0).isLt⟩ ⟨(i 1).val, (i 1).isLt⟩ := by
  refine (dats m 0 c).arrAt_eq_of_covers 5 _ (by decide +kernel) fun t hfl y => ?_
  have ht : t.val < 66 := lt_of_lt_of_eq t.isLt N_0
  idx_vars y
  blk_simp [idx t]
  rw [after0_5]
  have hy0 := y0.isLt
  exact point m c t ⟨y0.val, y0.isLt⟩ ⟨y1.val, y1.isLt⟩ ⟨t.val * 512 + y0.val, by omega⟩ rfl

end Cert.FfnNextIdeal.Ffn

end
-- ==== Proof.Ffn.NextRef.lean ====
/-
  The first half-step's reference over one array, entry by entry, over the ideal numbers.
-/
module

public import proofs.«01_k».proof.Proof.Gen.FfnNextRefIdeal.Read
public import proofs.«01_k».proof.Proof.Ffn.Math
public import Idealize.ShloMosaic.Lib.Pointwise
public import Idealize.ShloMosaic.Lib.Claim

@[expose] public section

set_option maxRecDepth 16384

noncomputable section

namespace Cert.FfnNextRefIdeal.Ffn

open Cert.FfnNextRefIdeal Cert.FfnNextRefIdeal.Read Cert.FfnNextRefIdeal.Gen Cert.Ffn
open Idealize.ShloMosaic Idealize.ShloMosaic.TcCoe Idealize.SL.Sem

variable (x0 : FVec Ideal S33792x1024 .f32) (x1 : FVec Ideal S8x9x1024 .f32) (x2 : FVec Ideal S1024 .f32) (x3 : FVec Ideal S1024x5632 .f32)
  (x4 : FVec Ideal S2816x1024 .f32)

/-- The modulated norm of a latent row. -/
theorem lat_h (b : Fin 4) (t : Fin 8192) (k : Fin 1024) : val_main_v25 (F := Ideal) x0 x1 x2 (ix3 b t k)
    = normed (fun j => x0 (ix2 ⟨b.val * 8192 + t.val, by omega⟩ j)) (fun j => x2 (ix1 j)) (fun j => x1 (ix3 ⟨b.val, by omega⟩ 0 j))
      (fun j => x1 (ix3 ⟨b.val, by omega⟩ 1 j)) k := by
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v0, val_main_cst, val_main_cst_0, val_main_cst_1, val_main_cst_2]
  rfl

/-- A latent row's half-step. -/
theorem lat_apply (b : Fin 4) (t : Fin 8192) (d : Fin 1024) : val_main_v36 (F := Ideal) x0 x1 x2 x3 x4 (ix3 b t d)
    = half (fun j => x0 (ix2 ⟨b.val * 8192 + t.val, by omega⟩ j)) (fun j => x2 (ix1 j)) (fun j => x1 (ix3 ⟨b.val, by omega⟩ 0 j))
        (fun j => x1 (ix3 ⟨b.val, by omega⟩ 1 j)) (fun j => x1 (ix3 ⟨b.val, by omega⟩ 2 j)) (fun k f => x3 (ix2 k f)) (fun f j => x4 (ix2 f j)) d := by
  unfold half
  rw [show normed (fun j => x0 (ix2 ⟨b.val * 8192 + t.val, by omega⟩ j)) (fun j => x2 (ix1 j)) (fun j => x1 (ix3 ⟨b.val, by omega⟩ 0 j))
      (fun j => x1 (ix3 ⟨b.val, by omega⟩ 1 j))
    = fun k => val_main_v25 (F := Ideal) x0 x1 x2 (ix3 b t k) from funext fun k => (lat_h x0 x1 x2 b t k).symm]
  unfold gated col
  pointwise [val_main_v36, val_main_v35, val_main_v34, val_main_v33, val_main_v32, val_main_v31, val_main_call0_v5, val_main_call0_v4, val_main_call0_v3,
    val_main_call0_v2, val_main_call0_v1, val_main_call0_v0, val_main_call0_cst, val_main_call0_cst_0, val_main_v30, val_main_v29, val_main_v28,
    val_main_v27, val_main_v26, val_main_cst_3, val_main_v6, val_main_v3, val_main_v2, val_main_v0]
  rfl

/-- The modulated norm of a context row. -/
theorem ctx_h (b : Fin 4) (t : Fin 256) (k : Fin 1024) : val_main_v60 (F := Ideal) x0 x1 x2 (ix3 b t k)
    = normed (fun j => x0 (ix2 ⟨32768 + (b.val * 256 + t.val), by omega⟩ j)) (fun j => x2 (ix1 j)) (fun j => x1 (ix3 4 0 j))
      (fun j => x1 (ix3 4 1 j)) k := by
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41,
    val_main_v40, val_main_v39, val_main_v38, val_main_v37, val_main_v1, val_main_cst_4, val_main_cst_5, val_main_cst_6, val_main_cst_7]
  rfl

/-- A context row's half-step. -/
theorem ctx_apply (b : Fin 4) (t : Fin 256) (d : Fin 1024) : val_main_v71 (F := Ideal) x0 x1 x2 x3 x4 (ix3 b t d)
    = half (fun j => x0 (ix2 ⟨32768 + (b.val * 256 + t.val), by omega⟩ j)) (fun j => x2 (ix1 j)) (fun j => x1 (ix3 4 0 j))
        (fun j => x1 (ix3 4 1 j)) (fun j => x1 (ix3 4 2 j)) (fun k f => x3 (ix2 k f)) (fun f j => x4 (ix2 f j)) d := by
  unfold half
  rw [show normed (fun j => x0 (ix2 ⟨32768 + (b.val * 256 + t.val), by omega⟩ j)) (fun j => x2 (ix1 j)) (fun j => x1 (ix3 4 0 j))
      (fun j => x1 (ix3 4 1 j))
    = fun k => val_main_v60 (F := Ideal) x0 x1 x2 (ix3 b t k) from funext fun k => (ctx_h x0 x1 x2 b t k).symm]
  unfold gated col
  pointwise [val_main_v71, val_main_v70, val_main_v69, val_main_v68, val_main_v67, val_main_v66, val_main_call1_v5, val_main_call1_v4, val_main_call1_v3,
    val_main_call1_v2, val_main_call1_v1, val_main_call1_v0, val_main_call1_cst, val_main_call1_cst_0, val_main_v65, val_main_v64, val_main_v63,
    val_main_v62, val_main_v61, val_main_cst_8, val_main_v41, val_main_v38, val_main_v37, val_main_v1]
  rfl

theorem rows_lat (n : Fin 32768) (d : Fin 1024) : val_main_v72 (F := Ideal) x0 x1 x2 x3 x4 (ix2 n d)
    = val_main_v36 (F := Ideal) x0 x1 x2 x3 x4 (ix3 ⟨n.val / 8192, by omega⟩ ⟨n.val % 8192, by omega⟩ d) := by
  pointwise [val_main_v72]

theorem rows_ctx (n : Fin 1024) (d : Fin 1024) : val_main_v73 (F := Ideal) x0 x1 x2 x3 x4 (ix2 n d)
    = val_main_v71 (F := Ideal) x0 x1 x2 x3 x4 (ix3 ⟨n.val / 256, by omega⟩ ⟨n.val % 256, by omega⟩ d) := by
  pointwise [val_main_v73]

theorem joined (n : Fin 33792) (d : Fin 1024) : val_main_v74 (F := Ideal) x0 x1 x2 x3 x4 (ix2 n d)
    = if h : n.val < 32768 then val_main_v72 (F := Ideal) x0 x1 x2 x3 x4 (ix2 ⟨n.val, h⟩ d) else val_main_v73 (F := Ideal) x0 x1 x2 x3 x4 (ix2 ⟨n.val - 32768, by omega⟩ d) := by
  pointwise [val_main_v74]

/-- The reference's result at row `n`, channel `d`. -/
theorem value (n : Fin 33792) (d : Fin 1024) : val_main_v74 (F := Ideal) x0 x1 x2 x3 x4 (ix2 n d)
    = half (fun j => x0 (ix2 n j)) (fun j => x2 (ix1 j)) (fun j => x1 (ix3 (group n) 0 j)) (fun j => x1 (ix3 (group n) 1 j))
        (fun j => x1 (ix3 (group n) 2 j)) (fun k f => x3 (ix2 k f)) (fun f j => x4 (ix2 f j)) d := by
  have hn := n.isLt
  rw [joined]
  by_cases h : n.val < 32768
  · have eg : group n = ⟨n.val / 8192, by omega⟩ := Fin.ext (by show min (n.val / 8192) 4 = n.val / 8192; omega)
    rw [dif_pos h, rows_lat, lat_apply, eg]
    simp only [Nat.div_add_mod']
  · have eg : group n = 4 := Fin.ext (by show min (n.val / 8192) 4 = 4; omega)
    rw [dif_neg h, rows_ctx, ctx_apply, eg]
    have en : (⟨32768 + (n.val - 32768), by omega⟩ : Fin 33792) = n := Fin.ext (by show 32768 + (n.val - 32768) = n.val; omega)
    simp only [Nat.div_add_mod', en]

end Cert.FfnNextRefIdeal.Ffn

end
-- ==== Proof.Ffn.Last.lean ====
/-
  The second half-step's kernel in the last layer, over the latent rows alone, entry by entry, over the
  ideal numbers: each row's `Ffn.half` with its group's modulation.
-/
module

public import proofs.«01_k».proof.Proof.Gen.FfnLastIdeal.Value
public import proofs.«01_k».proof.Proof.Ffn.Math
public import Idealize.ShloMosaic.Lib.Pipeline.ValueKit
public import Idealize.ShloMosaic.Lib.Pointwise
public import Idealize.ShloMosaic.Lib.Claim

@[expose] public section

set_option maxRecDepth 16384

noncomputable section

namespace Cert.FfnLastIdeal.Ffn

open Cert.FfnLastIdeal Cert.FfnLastIdeal.Gen Cert.Ffn
open Idealize.ShloMosaic Idealize.ShloMosaic.TcCoe Idealize.SL.Sem

section Body

variable (x0 : Vec Ideal S512x1024 .f32) (x1 : Vec Ideal S1x9x1024 .f32) (x2 : Vec Ideal S1x1024 .f32) (x3 : Vec Ideal S1024x5632 .bf16)
  (x4 : Vec Ideal S2816x1024 .bf16)

theorem zero2 : (![0, 0] : Fin 2 → ℕ) = fun _ => 0 := by decide
theorem zero3 : (![0, 0, 0] : Fin 3 → ℕ) = fun _ => 0 := by decide

/-- The modulated norm of a row of the block. -/
theorem h_apply (r : Fin 512) (k : Fin 1024) : k0_pay2 (F := Ideal) x0 x1 x2 (ix2 r k)
    = normed (fun j => x0 (ix2 r j)) (fun j => x2 (ix2 0 j)) (fun j => x1 (ix3 0 6 j)) (fun j => x1 (ix3 0 7 j)) k := by
  pointwise [k0_pay2, k0_pay1]
  rfl

/-- The block that a point leaves, row by row. -/
theorem out_apply (r : Fin 512) (d : Fin 1024) : out0_5 (F := Ideal) x0 x1 x2 x3 x4 (ix2 r d)
    = half (fun j => x0 (ix2 r j)) (fun j => x2 (ix2 0 j)) (fun j => x1 (ix3 0 6 j)) (fun j => x1 (ix3 0 7 j)) (fun j => x1 (ix3 0 8 j))
        (fun k f => x3 (ix2 k f)) (fun f j => x4 (ix2 f j)) d := by
  unfold half
  rw [← chunks]
  rw [show normed (fun j => x0 (ix2 r j)) (fun j => x2 (ix2 0 j)) (fun j => x1 (ix3 0 6 j)) (fun j => x1 (ix3 0 7 j))
    = fun k => k0_pay2 (F := Ideal) x0 x1 x2 (ix2 r k) from funext fun k => (h_apply x0 x1 x2 r k).symm]
  unfold out0_5 k0_pay15 k0_pay6 k0_pay5 k0_pay4
  rw [show (View.ld x0 r0_0 : Vec Ideal S512x1024 .f32) = x0 from View.ld_unit_zero zero2 _ _,
    show (View.ld x1 r0_1 : Vec Ideal S1x9x1024 .f32) = x1 from View.ld_unit_zero zero3 _ _,
    show (View.ld x2 r0_2 : Vec Ideal S1x1024 .f32) = x2 from View.ld_unit_zero zero2 _ _]
  generalize k0_pay2 (F := Ideal) x0 x1 x2 = hv
  rw [View.canon_unit_zero zero2]
  pointwise [k0_pay14, k0_pay13, k0_pay12, k0_pay11, k0_pay10, k0_pay9, k0_pay8, k0_pay7, k0_pay3, k0_pay1]
  rfl

end Body

variable (m : (ℓ : Loc nD τ sig) → Buf (Elt Ideal) ℓ) (c : Dev nD)

/-- The arguments' entries. -/
def aX (n : Fin 32768) (k : Fin 1024) : EReal := (m ((c.tc : Thread nD τ).loc main_arg0) : FVec Ideal S32768x1024 .f32) (ix2 n k)
def aMod (g : Fin 8) (j : Fin 9) (k : Fin 1024) : EReal := (m ((c.tc : Thread nD τ).loc main_arg1) : FVec Ideal S8x9x1024 .f32) (ix3 g j k)
def aGain (k : Fin 1024) : EReal := (m ((c.tc : Thread nD τ).loc main_arg2) : FVec Ideal S1024 .f32) (ix1 k)
def aW13 (k : Fin 1024) (f : Fin 5632) : EReal := (m ((c.tc : Thread nD τ).loc main_arg3) : FVec Ideal S1024x5632 .f32) (ix2 k f)
def aW2 (f : Fin 2816) (k : Fin 1024) : EReal := (m ((c.tc : Thread nD τ).loc main_arg4) : FVec Ideal S2816x1024 .f32) (ix2 f k)

theorem V_gain (k : Fin 1024) : (V m c main_v0 : FVec Ideal S1x1024 .f32) (ix2 0 k) = aGain m c k := by
  entry_read
  pointwise
  rfl
theorem V_w13 (k : Fin 1024) (f : Fin 5632) : (V m c main_v1 : FVec Ideal S1024x5632 .bf16) (ix2 k f) = aW13 m c k f := by
  entry_read
  pointwise
  rfl
theorem V_w2 (f : Fin 2816) (k : Fin 1024) : (V m c main_v2 : FVec Ideal S2816x1024 .bf16) (ix2 f k) = aW2 m c f k := by
  entry_read
  pointwise
  rfl

/-- The modulation's group of a latent row: its batch of 8192 rows. -/
def batch (n : Fin 32768) : Fin 8 := ⟨n.val / 8192, by omega⟩

theorem idx : ∀ t : Fin cfg0.N, win0_0.index t = ![min t.val 63, 0] ∧ win0_1.index t = ![min (t.val / 16) 4, 0, 0] ∧ win0_2.index t = ![0, 0]
    ∧ win0_3.index t = ![0, 0] ∧ win0_4.index t = ![0, 0] ∧ win0_5.index t = ![t.val, 0] :=
  (by decide +kernel : ∀ t : Fin grid0.N, _)

theorem blk_x (t : Fin cfg0.N) (r : Fin 512) (k : Fin 1024) (n : Fin 32768) (hn : n.val = t.val * 512 + r.val) :
    (iblk m c 0 t : Vec Ideal S512x1024 .f32) (ix2 r k) = aX m c n k := by
  have ht : t.val < 64 := lt_of_lt_of_eq t.isLt N_0
  have e : (V m c main_arg0 : FVec Ideal S32768x1024 .f32) (ix2 n k) = aX m c n k := by rw [V_main_arg0]; rfl
  rw [← e]
  blk_ext [iblk, idx t]
theorem blk_mod (t : Fin cfg0.N) (j : Fin 9) (k : Fin 1024) (g : Fin 8) (hg : g.val = min (t.val / 16) 4) :
    (iblk m c 1 t : Vec Ideal S1x9x1024 .f32) (ix3 0 j k) = aMod m c g j k := by
  have ht : t.val < 64 := lt_of_lt_of_eq t.isLt N_0
  have e : (V m c main_arg1 : FVec Ideal S8x9x1024 .f32) (ix3 g j k) = aMod m c g j k := by rw [V_main_arg1]; rfl
  rw [← e]
  blk_ext [iblk, idx t]
theorem blk_gain (t : Fin cfg0.N) (k : Fin 1024) : (iblk m c 2 t : Vec Ideal S1x1024 .f32) (ix2 0 k) = aGain m c k := by
  rw [← V_gain]
  blk_ext [iblk, idx t]
theorem blk_w13 (t : Fin cfg0.N) (k : Fin 1024) (f : Fin 5632) : (iblk m c 3 t : Vec Ideal S1024x5632 .bf16) (ix2 k f) = aW13 m c k f := by
  rw [← V_w13]
  blk_ext [iblk, idx t]
theorem blk_w2 (t : Fin cfg0.N) (f : Fin 2816) (k : Fin 1024) : (iblk m c 4 t : Vec Ideal S2816x1024 .bf16) (ix2 f k) = aW2 m c f k := by
  rw [← V_w2]
  blk_ext [iblk, idx t]

/-- The half-step's result at row `n`, channel `d`. -/
def result (n : Fin 32768) (d : Fin 1024) : EReal :=
  half (aX m c n) (aGain m c) (aMod m c (batch n) 6) (aMod m c (batch n) 7) (aMod m c (batch n) 8) (aW13 m c) (aW2 m c) d

theorem point (t : Fin cfg0.N) (r : Fin 512) (d : Fin 1024) (n : Fin 32768) (hn : n.val = t.val * 512 + r.val) :
    out0_5 (F := Ideal) (iblk m c 0 t) (iblk m c 1 t) (iblk m c 2 t) (iblk m c 3 t) (iblk m c 4 t) (ix2 r d) = result m c n d := by
  have ht : t.val < 64 := lt_of_lt_of_eq t.isLt N_0
  have hr := r.isLt
  have hg : (batch n).val = min (t.val / 16) 4 := by show n.val / 8192 = _; omega
  have h0 : (fun j => (iblk m c 0 t : Vec Ideal S512x1024 .f32) (ix2 r j)) = aX m c n := funext fun j => blk_x m c t r j n hn
  have h1 : ∀ i, (fun j => (iblk m c 1 t : Vec Ideal S1x9x1024 .f32) (ix3 0 i j)) = aMod m c (batch n) i := fun i => funext fun j => blk_mod m c t i j _ hg
  have h2 : (fun j => (iblk m c 2 t : Vec Ideal S1x1024 .f32) (ix2 0 j)) = aGain m c := funext fun j => blk_gain m c t j
  have h3 : (fun k f => (iblk m c 3 t : Vec Ideal S1024x5632 .bf16) (ix2 k f)) = aW13 m c := funext fun k => funext fun f => blk_w13 m c t k f
  have h4 : (fun f k => (iblk m c 4 t : Vec Ideal S2816x1024 .bf16) (ix2 f k)) = aW2 m c := funext fun f => funext fun k => blk_w2 m c t f k
  refine (out_apply _ _ _ _ _ r d).trans ?_
  unfold result
  rw [← h0, ← h1, ← h1, ← h1, ← h2, ← h3, ← h4]

theorem final : (dats m 0 c).arrAt 5 cfg0.N = fun i : S32768x1024.Idx => result m c ⟨(i 0).val, (i 0).isLt⟩ ⟨(i 1).val, (i 1).isLt⟩ := by
  refine (dats m 0 c).arrAt_eq_of_covers 5 _ (by decide +kernel) fun t hfl y => ?_
  have ht : t.val < 64 := lt_of_lt_of_eq t.isLt N_0
  idx_vars y
  blk_simp [idx t]
  rw [after0_5]
  have hy0 := y0.isLt
  exact point m c t ⟨y0.val, y0.isLt⟩ ⟨y1.val, y1.isLt⟩ ⟨t.val * 512 + y0.val, by omega⟩ rfl

end Cert.FfnLastIdeal.Ffn

end
-- ==== Proof.Ffn.LastRef.lean ====
/-
  The second half-step's reference over the latent rows alone, entry by entry, over the ideal numbers.
-/
module

public import proofs.«01_k».proof.Proof.Gen.FfnLastRefIdeal.Read
public import proofs.«01_k».proof.Proof.Ffn.Math
public import Idealize.ShloMosaic.Lib.Pointwise
public import Idealize.ShloMosaic.Lib.Claim

@[expose] public section

set_option maxRecDepth 16384

noncomputable section

namespace Cert.FfnLastRefIdeal.Ffn

open Cert.FfnLastRefIdeal Cert.FfnLastRefIdeal.Read Cert.FfnLastRefIdeal.Gen Cert.Ffn
open Idealize.ShloMosaic Idealize.ShloMosaic.TcCoe Idealize.SL.Sem

variable (x0 : FVec Ideal S32768x1024 .f32) (x1 : FVec Ideal S8x9x1024 .f32) (x2 : FVec Ideal S1024 .f32) (x3 : FVec Ideal S1024x5632 .f32)
  (x4 : FVec Ideal S2816x1024 .f32)

/-- The modulated norm of a latent row. -/
theorem lat_h (b : Fin 4) (t : Fin 8192) (k : Fin 1024) : val_main_v23 (F := Ideal) x0 x1 x2 (ix3 b t k)
    = normed (fun j => x0 (ix2 ⟨b.val * 8192 + t.val, by omega⟩ j)) (fun j => x2 (ix1 j)) (fun j => x1 (ix3 ⟨b.val, by omega⟩ 6 j))
      (fun j => x1 (ix3 ⟨b.val, by omega⟩ 7 j)) k := by
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

/-- A latent row's half-step. -/
theorem lat_apply (b : Fin 4) (t : Fin 8192) (d : Fin 1024) : val_main_v34 (F := Ideal) x0 x1 x2 x3 x4 (ix3 b t d)
    = half (fun j => x0 (ix2 ⟨b.val * 8192 + t.val, by omega⟩ j)) (fun j => x2 (ix1 j)) (fun j => x1 (ix3 ⟨b.val, by omega⟩ 6 j))
        (fun j => x1 (ix3 ⟨b.val, by omega⟩ 7 j)) (fun j => x1 (ix3 ⟨b.val, by omega⟩ 8 j)) (fun k f => x3 (ix2 k f)) (fun f j => x4 (ix2 f j)) d := by
  unfold half
  rw [show normed (fun j => x0 (ix2 ⟨b.val * 8192 + t.val, by omega⟩ j)) (fun j => x2 (ix1 j)) (fun j => x1 (ix3 ⟨b.val, by omega⟩ 6 j))
      (fun j => x1 (ix3 ⟨b.val, by omega⟩ 7 j))
    = fun k => val_main_v23 (F := Ideal) x0 x1 x2 (ix3 b t k) from funext fun k => (lat_h x0 x1 x2 b t k).symm]
  unfold gated col
  pointwise [val_main_v34, val_main_v33, val_main_v32, val_main_v31, val_main_v30, val_main_v29, val_main_call0_v5, val_main_call0_v4, val_main_call0_v3,
    val_main_call0_v2, val_main_call0_v1, val_main_call0_v0, val_main_call0_cst, val_main_call0_cst_0, val_main_v28, val_main_v27, val_main_v26,
    val_main_v25, val_main_v24, val_main_cst_3, val_main_v4, val_main_v1, val_main_v0]
  rfl

theorem rows_lat (n : Fin 32768) (d : Fin 1024) : val_main_v35 (F := Ideal) x0 x1 x2 x3 x4 (ix2 n d)
    = val_main_v34 (F := Ideal) x0 x1 x2 x3 x4 (ix3 ⟨n.val / 8192, by omega⟩ ⟨n.val % 8192, by omega⟩ d) := by
  pointwise [val_main_v35]

/-- The reference's result at row `n`, channel `d`. -/
theorem value (n : Fin 32768) (d : Fin 1024) : val_main_v35 (F := Ideal) x0 x1 x2 x3 x4 (ix2 n d)
    = half (fun j => x0 (ix2 n j)) (fun j => x2 (ix1 j)) (fun j => x1 (ix3 ⟨n.val / 8192, by omega⟩ 6 j)) (fun j => x1 (ix3 ⟨n.val / 8192, by omega⟩ 7 j))
        (fun j => x1 (ix3 ⟨n.val / 8192, by omega⟩ 8 j)) (fun k f => x3 (ix2 k f)) (fun f j => x4 (ix2 f j)) d := by
  rw [rows_lat, lat_apply]
  simp only [Nat.div_add_mod']

end Cert.FfnLastRefIdeal.Ffn

end
-- ==== Proof.Attn.RefValue.lean ====
/-
  The reference's result, entry by entry, over the ideal numbers.
-/
module

public import proofs.«01_k».proof.Proof.Gen.ReferenceIdeal.Read
public import proofs.«01_k».proof.Proof.Attn.Math
public import Idealize.ShloMosaic.Lib.Pointwise
public import Idealize.ShloMosaic.Lib.Claim

@[expose] public section

set_option maxRecDepth 16384

noncomputable section

namespace Cert.ReferenceIdeal.Attn

open Cert.ReferenceIdeal Cert.ReferenceIdeal.Read Cert.ReferenceIdeal.Gen
open Idealize.ShloMosaic Idealize.ShloMosaic.TcCoe Idealize.SL.Sem

open Cert.Softmax (attn logit keyPos qPos batch)

/-- The same terms summed with the latent keys first and with the context keys first. -/
theorem sum_rot {M : Type} [AddCommMonoid M] (g f : Fin 8448 → M) (hl : ∀ x : Fin 8192, g ⟨x.val, by omega⟩ = f ⟨256 + x.val, by omega⟩)
    (hc : ∀ x : Fin 256, g ⟨8192 + x.val, by omega⟩ = f ⟨x.val, by omega⟩) : ∑ k, g k = ∑ k, f k := by
  refine (Fin.sum_univ_add (a := 8192) (b := 256) g).trans (Eq.trans ?_ (Fin.sum_univ_add (a := 256) (b := 8192) f).symm)
  rw [add_comm]
  exact congrArg₂ (· + ·) (Finset.sum_congr rfl fun x _ => hc x) (Finset.sum_congr rfl fun x _ => hl x)

theorem rsqrt192 : Ideal.rsqrt (Ideal.ofBits .f32 1128267776#32) = (((Real.sqrt 192)⁻¹ : ℝ) : EReal) := by
  have e : Ideal.ofBits .f32 1128267776#32 = ((192 : ℝ) : EReal) := by
    simp [Ideal.ofBits, Ideal.ieee]
    rw [← EReal.coe_mul]
    norm_num
  rw [e]
  show (if (192 : ℝ) < 0 then (⊥ : EReal) else if (192 : ℝ) = 0 then ⊤ else (((Real.sqrt 192)⁻¹ : ℝ) : EReal)) = _
  rw [if_neg (by norm_num), if_neg (by norm_num)]

theorem bot_bits : Ideal.ofBits .f32 4286578688#32 = (⊥ : EReal) := by simp [Ideal.ofBits, Ideal.ieee]

variable (x0 : FVec Ideal S33792x4x128 .f32) (x1 : FVec Ideal S33792x4x64 .f32) (x2 : FVec Ideal S33792x4x128 .f32) (x3 : FVec Ideal S33792x64 .f32)
  (x4 : FVec Ideal S33792x4x128 .f32)

/-- Row of the arrays that holds the reference's key `k` of batch `b`: the batch's own 8192 keys first. -/
def refPos (b : Fin 4) (k : Fin 8448) : Fin 33792 :=
  if h : k.val < 8192 then ⟨b.val * 8192 + k.val, by omega⟩ else ⟨32768 + (b.val * 256 + (k.val - 8192)), by omega⟩

theorem max_apply (y : FVec Ideal S4x4x8192x8448 .f32) (b h : Fin 4) (q : Fin 8192) :
    (Host.reduce FloatOps.maximumf y (val_main_cst_0 (F := Ideal)) reducesTo_S4x4x8192x8448_S4x4x8192_d3 h_S_ : FVec Ideal S4x4x8192 .f32)  (ix3 b h q)
      = Finset.univ.fold max (⊥ : EReal) fun x => y (ix4 b h q x) := by
  pointwise [val_main_cst_0]
  rw [bot_bits]

/-- The arguments' entries. -/
def eQn (n : Fin 33792) (h : Fin 4) (x : Fin 128) : EReal := x0 (ix3 n h x)
def eQr (n : Fin 33792) (h : Fin 4) (x : Fin 64) : EReal := x1 (ix3 n h x)
def eKn (n : Fin 33792) (h : Fin 4) (x : Fin 128) : EReal := x2 (ix3 n h x)
def eKr (n : Fin 33792) (x : Fin 64) : EReal := x3 (ix2 n x)
def eV (n : Fin 33792) (h : Fin 4) (x : Fin 128) : EReal := x4 (ix3 n h x)

theorem s_apply (b h : Fin 4) (q : Fin 8192) (k : Fin 8448) : val_main_v27 (F := Ideal) x0 x1 x2 x3 (ix4 b h q k)
    = logit (eQn x0) (eQr x1) (eKn x2) (eKr x3) h ⟨b.val * 8192 + q.val, by omega⟩ (refPos b k) := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18, val_main_v19,
    val_main_v20, val_main_v21, val_main_v22, val_main_v23, val_main_v24, val_main_v25, val_main_v26, val_main_v27, val_main_cst]
  rw [rsqrt192]
  unfold logit refPos
  congr 1
  by_cases hk : k.val < 8192
  · rw [dif_pos hk, dif_pos hk]
    exact congrArg (_ + ·) (Finset.sum_congr rfl fun x _ => mul_comm _ _)
  · rw [dif_neg hk, dif_neg hk]
    exact congrArg (_ + ·) (Finset.sum_congr rfl fun x _ => mul_comm _ _)

theorem p_apply (b h : Fin 4) (q : Fin 8192) (k : Fin 8448) : val_main_v38 (F := Ideal) x0 x1 x2 x3 (ix4 b h q k)
    = Ideal.div (Ideal.exp ((val_main_v27 (F := Ideal) x0 x1 x2 x3 (ix4 b h q k) : EReal) - val_main_v30 (F := Ideal) x0 x1 x2 x3 (ix3 b h q)))
      (∑ x : Fin 8448, Ideal.exp ((val_main_v27 (F := Ideal) x0 x1 x2 x3 (ix4 b h q x) : EReal) - val_main_v30 (F := Ideal) x0 x1 x2 x3 (ix3 b h q))) := by
  pointwise [val_main_v31, val_main_v32, val_main_v33, val_main_v34, val_main_v35, val_main_v36, val_main_v37, val_main_v38, val_main_cst_2]

theorem o_apply (r : Fin 512) (n : Fin 32768) : val_main_v52 (F := Ideal) x0 x1 x2 x3 x4 (ix2 r n)
    = (∑ x : Fin 8192, (x4 (ix3 ⟨n.val / 8192 * 8192 + x.val, by omega⟩ ⟨r.val / 128, by omega⟩ ⟨r.val % 128, by omega⟩) : EReal)
          * val_main_v38 (F := Ideal) x0 x1 x2 x3 (ix4 ⟨n.val / 8192, by omega⟩ ⟨r.val / 128, by omega⟩ ⟨n.val % 8192, by omega⟩ ⟨x.val, by omega⟩))
      + ∑ x : Fin 256, (x4 (ix3 ⟨32768 + (n.val / 8192 * 256 + x.val), by omega⟩ ⟨r.val / 128, by omega⟩ ⟨r.val % 128, by omega⟩) : EReal)
          * val_main_v38 (F := Ideal) x0 x1 x2 x3 (ix4 ⟨n.val / 8192, by omega⟩ ⟨r.val / 128, by omega⟩ ⟨n.val % 8192, by omega⟩ ⟨8192 + x.val, by omega⟩) := by
  pointwise [val_main_v39, val_main_v40, val_main_v41, val_main_v42, val_main_v43, val_main_v44, val_main_v45, val_main_v46, val_main_v47, val_main_v48,
    val_main_v49, val_main_v50, val_main_v51, val_main_v52]

theorem m_real (b h : Fin 4) (q : Fin 8192) (hs : ∀ k, ∃ r : ℝ, val_main_v27 (F := Ideal) x0 x1 x2 x3 (ix4 b h q k) = (r : EReal)) :
    ∃ r : ℝ, val_main_v30 (F := Ideal) x0 x1 x2 x3 (ix3 b h q) = (r : EReal) := by
  obtain ⟨r, hr⟩ := Cert.Softmax.fold_max_real (by decide) (fun k : Fin 8448 => val_main_v27 (F := Ideal) x0 x1 x2 x3 (ix4 b h q k)) hs
  refine ⟨r, ?_⟩
  rw [val_main_v30_apply]
  have e : (val_main_v28 (F := Ideal) x0 x1 x2 x3 (ix3 b h q) : EReal) = (r : EReal) := by
    unfold val_main_v28
    exact (max_apply _ b h q).trans hr
  have e' : (val_main_v29 (F := Ideal) (ix3 b h q) : EReal) = ⊥ := bot_bits
  rw [e, e']
  exact max_eq_right bot_le

/-- The key of the context-first order at the place of the latent-first order's key. -/
def rot (k : Fin 8448) : Fin 8448 := if h : k.val < 256 then ⟨8192 + k.val, by omega⟩ else ⟨k.val - 256, by omega⟩

theorem refPos_rot (b : Fin 4) (k : Fin 8448) : refPos b (rot k) = keyPos b k := by
  have hk := k.isLt
  apply Fin.ext
  unfold refPos rot keyPos
  by_cases h : k.val < 256
  · simp only [h, dif_pos]
    rw [dif_neg (by show ¬ 8192 + k.val < 8192; omega)]
    show 32768 + (b.val * 256 + (8192 + k.val - 8192)) = 32768 + 256 * b.val + k.val
    omega
  · simp only [h, dif_neg, not_false_eq_true]
    rw [dif_pos (by show k.val - 256 < 8192; omega)]
    show b.val * 8192 + (k.val - 256) = 8192 * b.val + (k.val - 256)
    omega

theorem refPos_lat (b : Fin 4) (x : Fin 8192) : refPos b ⟨x.val, by omega⟩ = ⟨b.val * 8192 + x.val, by omega⟩ := by
  unfold refPos; rw [dif_pos x.isLt]
theorem refPos_ctx (b : Fin 4) (x : Fin 256) : refPos b ⟨8192 + x.val, by omega⟩ = ⟨32768 + (b.val * 256 + x.val), by omega⟩ := by
  unfold refPos; rw [dif_neg (by show ¬ 8192 + x.val < 8192; omega)]; apply Fin.ext; show 32768 + (b.val * 256 + (8192 + x.val - 8192)) = _; simp only [Nat.add_sub_cancel_left]

theorem rot_lat (x : Fin 8192) : rot ⟨256 + x.val, by omega⟩ = ⟨x.val, by omega⟩ := by
  unfold rot; rw [dif_neg (by show ¬ 256 + x.val < 256; omega)]; apply Fin.ext; show 256 + x.val - 256 = x.val; omega
theorem rot_ctx (x : Fin 256) : rot ⟨x.val, by omega⟩ = ⟨8192 + x.val, by omega⟩ := by
  unfold rot; rw [dif_pos x.isLt]

/-- The two orders' sums. -/
theorem sum_rot_eq {M : Type} [AddCommMonoid M] (g : Fin 8448 → M) : ∑ k, g k = ∑ k, g (rot k) :=
  sum_rot g (fun k => g (rot k)) (fun x => congrArg g (rot_lat x).symm) (fun x => congrArg g (rot_ctx x).symm)

theorem value (hqn : ∀ n h x, ∃ r : ℝ, eQn x0 n h x = r) (hqr : ∀ n h x, ∃ r : ℝ, eQr x1 n h x = r)
    (hkn : ∀ n h x, ∃ r : ℝ, eKn x2 n h x = r) (hkr : ∀ n x, ∃ r : ℝ, eKr x3 n x = r) (r : Fin 512) (n : Fin 32768) :
    val_main_v52 (F := Ideal) x0 x1 x2 x3 x4 (ix2 r n)
      = attn (eQn x0) (eQr x1) (eKn x2) (eKr x3) (eV x4) ⟨r.val / 128, by omega⟩ ⟨r.val % 128, by omega⟩ n := by
  have hL : ∀ b h n k, ∃ y : ℝ, logit (eQn x0) (eQr x1) (eKn x2) (eKr x3) h n (refPos b k) = (y : EReal) := fun b h n k =>
    Cert.Softmax.logit_real _ _ _ _ hqn hqr hkn hkr h n _
  obtain ⟨M, hM⟩ := m_real x0 x1 x2 x3 (batch n) ⟨r.val / 128, by omega⟩ ⟨n.val % 8192, by omega⟩ fun k => by
    rw [s_apply]; exact hL _ _ _ _
  have hq : (⟨(batch n).val * 8192 + n.val % 8192, by have := (batch n).isLt; omega⟩ : Fin 33792) = qPos n := by
    apply Fin.ext; show n.val / 8192 * 8192 + n.val % 8192 = n.val; omega
  have hp : ∀ k, val_main_v38 (F := Ideal) x0 x1 x2 x3 (ix4 (batch n) ⟨r.val / 128, by omega⟩ ⟨n.val % 8192, by omega⟩ k)
      = Ideal.div (Ideal.exp (logit (eQn x0) (eQr x1) (eKn x2) (eKr x3) ⟨r.val / 128, by omega⟩ (qPos n) (refPos (batch n) k) - (M : EReal)))
        (∑ j, Ideal.exp (logit (eQn x0) (eQr x1) (eKn x2) (eKr x3) ⟨r.val / 128, by omega⟩ (qPos n) (keyPos (batch n) j) - (M : EReal))) := fun k => by
    rw [p_apply, hM]
    simp only [s_apply, hq]
    rw [sum_rot_eq]
    simp only [refPos_rot]
  unfold attn
  rw [← Cert.Softmax.dotSoft_exp _ _ (fun k => by rw [← refPos_rot]; exact hL _ _ _ _) (M : EReal) ⟨M, rfl⟩, o_apply]
  refine Eq.trans ?_ (sum_rot (fun k => eV x4 (refPos (batch n) k) ⟨r.val / 128, by omega⟩ ⟨r.val % 128, by omega⟩
    * Ideal.div (Ideal.exp (logit (eQn x0) (eQr x1) (eKn x2) (eKr x3) ⟨r.val / 128, by omega⟩ (qPos n) (refPos (batch n) k) - (M : EReal)))
        (∑ j, Ideal.exp (logit (eQn x0) (eQr x1) (eKn x2) (eKr x3) ⟨r.val / 128, by omega⟩ (qPos n) (keyPos (batch n) j) - (M : EReal)))) _
    (fun x => by rw [← refPos_rot, rot_lat]) (fun x => by rw [← refPos_rot, rot_ctx]))
  refine Eq.trans ?_ (Fin.sum_univ_add (a := 8192) (b := 256) _).symm
  refine congrArg₂ (· + ·) (Finset.sum_congr rfl fun x _ => ?_) (Finset.sum_congr rfl fun x _ => ?_)
  · exact congrArg₂ (· * ·) (congrArg (fun p => eV x4 p _ _) (refPos_lat (batch n) x)).symm (hp ⟨x.val, by omega⟩)
  · exact congrArg₂ (· * ·) (congrArg (fun p => eV x4 p _ _) (refPos_ctx (batch n) x)).symm (hp ⟨8192 + x.val, by omega⟩)

end Cert.ReferenceIdeal.Attn

end
-- ==== Proof.lean ====
/-
  The certificate's claims, of the two attentions, the feed-forward half-steps in every form that a layer has them, the two
  input projections, the mixers' merge with and without context rows and the modulation:
  the kernel runs and keeps its arguments, its ideal form is the sanctioned one, and over the ideal numbers it ends at what the
  reference ends at.
-/
module

public import proofs.«01_k».proof.Defs
public import proofs.«01_k».proof.Proof.Gen.ReferenceIdeal.Run
public import proofs.«01_k».proof.Proof.Gen.ReferenceIdeal.Read
public import proofs.«01_k».proof.Proof.Gen.Ffn1.Frame
public import proofs.«01_k».proof.Proof.Gen.Ffn2.Frame
public import proofs.«01_k».proof.Proof.Gen.Ffn1RefIdeal.Run
public import proofs.«01_k».proof.Proof.Gen.Ffn2RefIdeal.Run
public import proofs.«01_k».proof.Proof.Ffn.First
public import proofs.«01_k».proof.Proof.Ffn.FirstRef
public import proofs.«01_k».proof.Proof.Ffn.Second
public import proofs.«01_k».proof.Proof.Ffn.SecondRef
public import proofs.«01_k».proof.Proof.InProj.Proj
public import proofs.«01_k».proof.Proof.InProj.ProjRef
public import proofs.«01_k».proof.Proof.InProj.Gates
public import proofs.«01_k».proof.Proof.InProj.GatesRef
public import proofs.«01_k».proof.Proof.Merge.Kernel
public import proofs.«01_k».proof.Proof.Merge.Ref
public import proofs.«01_k».proof.Proof.Mod.Kernel
public import proofs.«01_k».proof.Proof.Mod.Ref
public import proofs.«01_k».proof.Proof.Ctx.Finite
public import proofs.«01_k».proof.Proof.Ctx.Ref
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Modulation.Frame
public import proofs.«01_k».proof.Proof.Gen.ModulationIdeal.Value
public import proofs.«01_k».proof.Proof.Gen.ModulationRefIdeal.Run
public import proofs.«01_k».proof.Proof.Gen.ModulationRefIdeal.Read
public import proofs.«01_k».proof.Proof.Gen.Context.Frame
public import proofs.«01_k».proof.Proof.Gen.ContextIdeal.Value
public import proofs.«01_k».proof.Proof.Gen.ContextRefIdeal.Run
public import proofs.«01_k».proof.Proof.Gen.ContextRefIdeal.Read
public import proofs.«01_k».proof.Proof.MergeLast.Kernel
public import proofs.«01_k».proof.Proof.MergeLast.Ref
public import proofs.«01_k».proof.Proof.Gen.MergeLast.Frame
public import proofs.«01_k».proof.Proof.Gen.MergeLastIdeal.Value
public import proofs.«01_k».proof.Proof.Gen.MergeLastRefIdeal.Run
public import proofs.«01_k».proof.Proof.Gen.MergeLastRefIdeal.Read
public import proofs.«01_k».proof.Proof.Ffn.Next
public import proofs.«01_k».proof.Proof.Ffn.NextRef
public import proofs.«01_k».proof.Proof.Ffn.Last
public import proofs.«01_k».proof.Proof.Ffn.LastRef
public import proofs.«01_k».proof.Proof.Gen.FfnNext.Frame
public import proofs.«01_k».proof.Proof.Gen.FfnNextRefIdeal.Run
public import proofs.«01_k».proof.Proof.Gen.FfnLast.Frame
public import proofs.«01_k».proof.Proof.Gen.FfnLastRefIdeal.Run
public import proofs.«01_k».proof.Proof.Attn.Frame
public import proofs.«01_k».proof.Proof.Attn.FrameK
public import proofs.«01_k».proof.Proof.Attn.Finite
public import proofs.«01_k».proof.Proof.Attn.RefValue
public import Idealize.ShloMosaic.Lib.Claim

@[expose] public section

namespace Cert.Proof

open Idealize.ShloMosaic Idealize.ShloMosaic.TcCoe Idealize.SL.Sem

theorem quiescent_ReferenceIdeal : Cert.quiescent_ReferenceIdeal := by
  intro m g _
  exact (θ_run ReferenceIdeal.defs _ _).mono (fun r h => ⟨fun c => (h c).2, Idealize.ShloMosaic.sem_eq_zero_of_no_sems (by decide) r.2⟩)
    (ReferenceIdeal.Value.run (F := Ideal) m g)

/-- The two programs' results, entry by entry the same sums. -/
theorem same (m : (ℓ : Loc KernelIdeal.nD KernelIdeal.τ KernelIdeal.sig) → Buf (Elt Ideal) ℓ)
    (h : Cert.Pre_KernelIdeal_finite_scores m) (c : Dev KernelIdeal.nD) :
    ReferenceIdeal.Read.val_main_v52 (F := Ideal) (m ((c.tc : Thread KernelIdeal.nD KernelIdeal.τ).loc KernelIdeal.main_arg0))
        (m ((c.tc : Thread KernelIdeal.nD KernelIdeal.τ).loc KernelIdeal.main_arg1)) (m ((c.tc : Thread KernelIdeal.nD KernelIdeal.τ).loc KernelIdeal.main_arg2))
        (m ((c.tc : Thread KernelIdeal.nD KernelIdeal.τ).loc KernelIdeal.main_arg3)) (m ((c.tc : Thread KernelIdeal.nD KernelIdeal.τ).loc KernelIdeal.main_arg4))
      = (KernelIdeal.Attn.dats m 0 c).arrAt 5 (KernelIdeal.cfgs 0).N := by
  have hf := KernelIdeal.Attn.finite_of_pre m h c
  rw [KernelIdeal.Attn.final m c hf]
  funext i
  idx_vars i
  exact ReferenceIdeal.Attn.value _ _ _ _ _ hf.qn hf.qr hf.kn hf.kr i0 i1

theorem algebraic : Cert.algebraic_KernelIdeal_ReferenceIdeal_pre_finite_scores := by
  intro m g m' g' hpre hagree
  refine ⟨fun c => (KernelIdeal.Attn.dats m 0 c).arrAt 5 (KernelIdeal.cfgs 0).N, ?_, ?_⟩
  · exact θ_run_and (KernelIdeal.Attn.run_main m g) (KernelIdeal.Attn.frame m g) |> (θ_run KernelIdeal.defs _ _).mono fun r h c =>
      ⟨(h.1.1 c).1 5, h.2.1 c⟩
  · refine (θ_run ReferenceIdeal.defs _ _).mono (fun r h c => ⟨(h c).1.trans ?_, (h c).2⟩) (ReferenceIdeal.Value.run (F := Ideal) m' g')
    have e := hagree c
    rw [ReferenceIdeal.Read.val_main_v52_eq, e.1, e.2.1, e.2.2.1, e.2.2.2.1, e.2.2.2.2]
    exact same m hpre c

theorem quiescent_Ffn1RefIdeal : Cert.quiescent_Ffn1RefIdeal := by
  intro m g _
  exact (θ_run Ffn1RefIdeal.defs _ _).mono (fun r h => ⟨fun c => (h c).2, Idealize.ShloMosaic.sem_eq_zero_of_no_sems (by decide) r.2⟩)
    (Ffn1RefIdeal.Value.run (F := Ideal) m g)

/-- The first half-step's two results, entry by entry the same. -/
theorem same_Ffn1Ideal (m : (ℓ : Loc Ffn1Ideal.nD Ffn1Ideal.τ Ffn1Ideal.sig) → Buf (Elt Ideal) ℓ) (c : Dev Ffn1Ideal.nD) :
    Ffn1RefIdeal.Read.val_main_v72 (F := Ideal)
        (m ((c.tc : Thread Ffn1Ideal.nD Ffn1Ideal.τ).loc Ffn1Ideal.main_arg0))
        (m ((c.tc : Thread Ffn1Ideal.nD Ffn1Ideal.τ).loc Ffn1Ideal.main_arg1))
        (m ((c.tc : Thread Ffn1Ideal.nD Ffn1Ideal.τ).loc Ffn1Ideal.main_arg2))
        (m ((c.tc : Thread Ffn1Ideal.nD Ffn1Ideal.τ).loc Ffn1Ideal.main_arg3))
        (m ((c.tc : Thread Ffn1Ideal.nD Ffn1Ideal.τ).loc Ffn1Ideal.main_arg4))
        (m ((c.tc : Thread Ffn1Ideal.nD Ffn1Ideal.τ).loc Ffn1Ideal.main_arg5))
      = (Ffn1Ideal.Gen.dats m 0 c).arrAt 6 Ffn1Ideal.cfg0.N := by
  rw [Ffn1Ideal.Ffn.final m c]
  funext i
  idx_vars i
  exact Ffn1RefIdeal.Ffn.value _ _ _ _ _ _ i0 i1

theorem algebraic_Ffn1Ideal : Cert.algebraic_Ffn1Ideal_Ffn1RefIdeal := by
  intro m g m' g' _ hagree
  refine ⟨fun c => (Ffn1Ideal.Gen.dats m 0 c).arrAt 6 Ffn1Ideal.cfg0.N, ?_, ?_⟩
  · exact Ffn1Ideal.Value.run_blocks m g
  · refine (θ_run Ffn1RefIdeal.defs _ _).mono (fun r h c => ⟨(h c).1.trans ?_, (h c).2⟩) (Ffn1RefIdeal.Value.run (F := Ideal) m' g')
    have e := hagree c
    rw [Ffn1RefIdeal.Read.val_main_v72_eq, e.1, e.2.1, e.2.2.1, e.2.2.2.1, e.2.2.2.2.1, e.2.2.2.2.2]
    exact same_Ffn1Ideal m c

theorem quiescent_Ffn2RefIdeal : Cert.quiescent_Ffn2RefIdeal := by
  intro m g _
  exact (θ_run Ffn2RefIdeal.defs _ _).mono (fun r h => ⟨fun c => (h c).2, Idealize.ShloMosaic.sem_eq_zero_of_no_sems (by decide) r.2⟩)
    (Ffn2RefIdeal.Value.run (F := Ideal) m g)

/-- The second half-step's two results, entry by entry the same. -/
theorem same_Ffn2Ideal (m : (ℓ : Loc Ffn2Ideal.nD Ffn2Ideal.τ Ffn2Ideal.sig) → Buf (Elt Ideal) ℓ) (c : Dev Ffn2Ideal.nD) :
    Ffn2RefIdeal.Read.val_main_v74 (F := Ideal)
        (m ((c.tc : Thread Ffn2Ideal.nD Ffn2Ideal.τ).loc Ffn2Ideal.main_arg0))
        (m ((c.tc : Thread Ffn2Ideal.nD Ffn2Ideal.τ).loc Ffn2Ideal.main_arg1))
        (m ((c.tc : Thread Ffn2Ideal.nD Ffn2Ideal.τ).loc Ffn2Ideal.main_arg2))
        (m ((c.tc : Thread Ffn2Ideal.nD Ffn2Ideal.τ).loc Ffn2Ideal.main_arg3))
        (m ((c.tc : Thread Ffn2Ideal.nD Ffn2Ideal.τ).loc Ffn2Ideal.main_arg4))
      = (Ffn2Ideal.Gen.dats m 0 c).arrAt 5 Ffn2Ideal.cfg0.N := by
  rw [Ffn2Ideal.Ffn.final m c]
  funext i
  idx_vars i
  exact Ffn2RefIdeal.Ffn.value _ _ _ _ _ i0 i1

theorem algebraic_Ffn2Ideal : Cert.algebraic_Ffn2Ideal_Ffn2RefIdeal := by
  intro m g m' g' _ hagree
  refine ⟨fun c => (Ffn2Ideal.Gen.dats m 0 c).arrAt 5 Ffn2Ideal.cfg0.N, ?_, ?_⟩
  · exact Ffn2Ideal.Value.run_blocks m g
  · refine (θ_run Ffn2RefIdeal.defs _ _).mono (fun r h c => ⟨(h c).1.trans ?_, (h c).2⟩) (Ffn2RefIdeal.Value.run (F := Ideal) m' g')
    have e := hagree c
    rw [Ffn2RefIdeal.Read.val_main_v74_eq, e.1, e.2.1, e.2.2.1, e.2.2.2.1, e.2.2.2.2]
    exact same_Ffn2Ideal m c

theorem quiescent_ProjRefIdeal : Cert.quiescent_ProjRefIdeal := by
  intro m g _
  exact (θ_run ProjRefIdeal.defs _ _).mono (fun r h => ⟨fun c => (h c).2, Idealize.ShloMosaic.sem_eq_zero_of_no_sems (by decide) r.2⟩)
    (ProjRefIdeal.Value.run (F := Ideal) m g)

/-- The reference's mixer columns are the call's. -/
theorem same_ProjIdeal (m : (ℓ : Loc ProjIdeal.nD ProjIdeal.τ ProjIdeal.sig) → Buf (Elt Ideal) ℓ) (c : Dev ProjIdeal.nD) :
    ProjRefIdeal.Read.val_main_v62 (F := Ideal)
        (m ((c.tc : Thread ProjIdeal.nD ProjIdeal.τ).loc ProjIdeal.main_arg0))
        (m ((c.tc : Thread ProjIdeal.nD ProjIdeal.τ).loc ProjIdeal.main_arg1))
        (m ((c.tc : Thread ProjIdeal.nD ProjIdeal.τ).loc ProjIdeal.main_arg2))
        (m ((c.tc : Thread ProjIdeal.nD ProjIdeal.τ).loc ProjIdeal.main_arg3))
      = (ProjIdeal.Gen.dats m 0 c).arrAt 4 ProjIdeal.cfg0.N := by
  rw [ProjIdeal.InProj.final m c]
  funext i
  idx_vars i
  exact ProjRefIdeal.InProj.value _ _ _ _ i0 i1

theorem algebraic_ProjIdeal : Cert.algebraic_ProjIdeal_ProjRefIdeal := by
  intro m g m' g' _ hagree
  refine ⟨fun c => (ProjIdeal.Gen.dats m 0 c).arrAt 4 ProjIdeal.cfg0.N, ?_, ?_⟩
  · exact ProjIdeal.Value.run_blocks m g
  · refine (θ_run ProjRefIdeal.defs _ _).mono (fun r h c => ⟨(h c).1.trans ?_, (h c).2⟩) (ProjRefIdeal.Value.run (F := Ideal) m' g')
    have e := hagree c
    rw [ProjRefIdeal.Read.val_main_v62_eq, e.1, e.2.1, e.2.2.1, e.2.2.2]
    exact same_ProjIdeal m c

theorem quiescent_GatesRefIdeal : Cert.quiescent_GatesRefIdeal := by
  intro m g _
  exact (θ_run GatesRefIdeal.defs _ _).mono (fun r h => ⟨fun c => (h c).2, Idealize.ShloMosaic.sem_eq_zero_of_no_sems (by decide) r.2⟩)
    (GatesRefIdeal.Value.run (F := Ideal) m g)

/-- The reference's gate columns are the call's. -/
theorem same_GatesIdeal (m : (ℓ : Loc GatesIdeal.nD GatesIdeal.τ GatesIdeal.sig) → Buf (Elt Ideal) ℓ) (c : Dev GatesIdeal.nD) :
    GatesRefIdeal.Read.val_main_v54 (F := Ideal)
        (m ((c.tc : Thread GatesIdeal.nD GatesIdeal.τ).loc GatesIdeal.main_arg0))
        (m ((c.tc : Thread GatesIdeal.nD GatesIdeal.τ).loc GatesIdeal.main_arg1))
        (m ((c.tc : Thread GatesIdeal.nD GatesIdeal.τ).loc GatesIdeal.main_arg2))
        (m ((c.tc : Thread GatesIdeal.nD GatesIdeal.τ).loc GatesIdeal.main_arg3))
      = (GatesIdeal.Gen.dats m 0 c).arrAt 4 GatesIdeal.cfg0.N := by
  rw [GatesIdeal.InProj.final m c]
  funext i
  idx_vars i
  exact GatesRefIdeal.InProj.value _ _ _ _ i0 i1

theorem algebraic_GatesIdeal : Cert.algebraic_GatesIdeal_GatesRefIdeal := by
  intro m g m' g' _ hagree
  refine ⟨fun c => (GatesIdeal.Gen.dats m 0 c).arrAt 4 GatesIdeal.cfg0.N, ?_, ?_⟩
  · exact GatesIdeal.Value.run_blocks m g
  · refine (θ_run GatesRefIdeal.defs _ _).mono (fun r h c => ⟨(h c).1.trans ?_, (h c).2⟩) (GatesRefIdeal.Value.run (F := Ideal) m' g')
    have e := hagree c
    rw [GatesRefIdeal.Read.val_main_v54_eq, e.1, e.2.1, e.2.2.1, e.2.2.2]
    exact same_GatesIdeal m c

theorem quiescent_MergeRefIdeal : Cert.quiescent_MergeRefIdeal := by
  intro m g _
  exact (θ_run MergeRefIdeal.defs _ _).mono (fun r h => ⟨fun c => (h c).2, Idealize.ShloMosaic.sem_eq_zero_of_no_sems (by decide) r.2⟩)
    (MergeRefIdeal.Value.run (F := Ideal) m g)

/-- The reference's merged rows are the call's. -/
theorem same_MergeIdeal (m : (ℓ : Loc MergeIdeal.nD MergeIdeal.τ MergeIdeal.sig) → Buf (Elt Ideal) ℓ) (c : Dev MergeIdeal.nD) :
    MergeRefIdeal.Read.val_main_v135 (F := Ideal)
        (m ((c.tc : Thread MergeIdeal.nD MergeIdeal.τ).loc MergeIdeal.main_arg0))
        (m ((c.tc : Thread MergeIdeal.nD MergeIdeal.τ).loc MergeIdeal.main_arg1))
        (m ((c.tc : Thread MergeIdeal.nD MergeIdeal.τ).loc MergeIdeal.main_arg2))
        (m ((c.tc : Thread MergeIdeal.nD MergeIdeal.τ).loc MergeIdeal.main_arg3))
        (m ((c.tc : Thread MergeIdeal.nD MergeIdeal.τ).loc MergeIdeal.main_arg4))
        (m ((c.tc : Thread MergeIdeal.nD MergeIdeal.τ).loc MergeIdeal.main_arg5))
        (m ((c.tc : Thread MergeIdeal.nD MergeIdeal.τ).loc MergeIdeal.main_arg6))
        (m ((c.tc : Thread MergeIdeal.nD MergeIdeal.τ).loc MergeIdeal.main_arg7))
        (m ((c.tc : Thread MergeIdeal.nD MergeIdeal.τ).loc MergeIdeal.main_arg8))
        (m ((c.tc : Thread MergeIdeal.nD MergeIdeal.τ).loc MergeIdeal.main_arg9))
        (m ((c.tc : Thread MergeIdeal.nD MergeIdeal.τ).loc MergeIdeal.main_arg10))
        (m ((c.tc : Thread MergeIdeal.nD MergeIdeal.τ).loc MergeIdeal.main_arg11))
        (m ((c.tc : Thread MergeIdeal.nD MergeIdeal.τ).loc MergeIdeal.main_arg12))
        (m ((c.tc : Thread MergeIdeal.nD MergeIdeal.τ).loc MergeIdeal.main_arg13))
        (m ((c.tc : Thread MergeIdeal.nD MergeIdeal.τ).loc MergeIdeal.main_arg14))
        (m ((c.tc : Thread MergeIdeal.nD MergeIdeal.τ).loc MergeIdeal.main_arg15))
        (m ((c.tc : Thread MergeIdeal.nD MergeIdeal.τ).loc MergeIdeal.main_arg16))
      = (MergeIdeal.Gen.dats m 0 c).arrAt 19 MergeIdeal.cfg0.N := by
  rw [MergeIdeal.OutProj.final m c]
  funext i
  idx_vars i
  exact MergeRefIdeal.OutProj.value _ _ _ _ _ _ _ _ _ _ _ _ _ _ _ _ _ i0 i1

theorem algebraic_MergeIdeal : Cert.algebraic_MergeIdeal_MergeRefIdeal := by
  intro m g m' g' _ hagree
  refine ⟨fun c => (MergeIdeal.Gen.dats m 0 c).arrAt 19 MergeIdeal.cfg0.N, ?_, ?_⟩
  · exact MergeIdeal.Value.run_blocks m g
  · refine (θ_run MergeRefIdeal.defs _ _).mono (fun r h c => ⟨(h c).1.trans ?_, (h c).2⟩) (MergeRefIdeal.Value.run (F := Ideal) m' g')
    have e := hagree c
    rw [MergeRefIdeal.Read.val_main_v135_eq, e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2.1, e.2.2.2.2.2.2.2.2.2.2.2.2.1, e.2.2.2.2.2.2.2.2.2.2.2.2.2.1, e.2.2.2.2.2.2.2.2.2.2.2.2.2.2.1, e.2.2.2.2.2.2.2.2.2.2.2.2.2.2.2.1, e.2.2.2.2.2.2.2.2.2.2.2.2.2.2.2.2]
    exact same_MergeIdeal m c

theorem quiescent_ModulationRefIdeal : Cert.quiescent_ModulationRefIdeal := by
  intro m g _
  exact (θ_run ModulationRefIdeal.defs _ _).mono (fun r h => ⟨fun c => (h c).2, Idealize.ShloMosaic.sem_eq_zero_of_no_sems (by decide) r.2⟩)
    (ModulationRefIdeal.Value.run (F := Ideal) m g)

/-- The reference's modulation is the call's. -/
theorem same_ModulationIdeal (m : (ℓ : Loc ModulationIdeal.nD ModulationIdeal.τ ModulationIdeal.sig) → Buf (Elt Ideal) ℓ) (c : Dev ModulationIdeal.nD) :
    ModulationRefIdeal.Read.val_main_v11 (F := Ideal)
        (m ((c.tc : Thread ModulationIdeal.nD ModulationIdeal.τ).loc ModulationIdeal.main_arg0))
        (m ((c.tc : Thread ModulationIdeal.nD ModulationIdeal.τ).loc ModulationIdeal.main_arg1))
        (m ((c.tc : Thread ModulationIdeal.nD ModulationIdeal.τ).loc ModulationIdeal.main_arg2))
        (m ((c.tc : Thread ModulationIdeal.nD ModulationIdeal.τ).loc ModulationIdeal.main_arg3))
      = (ModulationIdeal.Gen.dats m 0 c).arrAt 3 ModulationIdeal.cfg0.N := by
  rw [ModulationIdeal.Mod.final m c]
  funext i
  idx_vars i
  exact ModulationRefIdeal.Mod.value _ _ _ _ i0 i1

theorem algebraic_ModulationIdeal : Cert.algebraic_ModulationIdeal_ModulationRefIdeal := by
  intro m g m' g' _ hagree
  refine ⟨fun c => (ModulationIdeal.Gen.dats m 0 c).arrAt 3 ModulationIdeal.cfg0.N, ?_, ?_⟩
  · exact ModulationIdeal.Value.run_blocks m g
  · refine (θ_run ModulationRefIdeal.defs _ _).mono (fun r h c => ⟨(h c).1.trans ?_, (h c).2⟩) (ModulationRefIdeal.Value.run (F := Ideal) m' g')
    have e := hagree c
    rw [ModulationRefIdeal.Read.val_main_v11_eq, e.1, e.2.1, e.2.2.1, e.2.2.2]
    exact same_ModulationIdeal m c

theorem quiescent_ContextRefIdeal : Cert.quiescent_ContextRefIdeal := by
  intro m g _
  exact (θ_run ContextRefIdeal.defs _ _).mono (fun r h => ⟨fun c => (h c).2, Idealize.ShloMosaic.sem_eq_zero_of_no_sems (by decide) r.2⟩)
    (ContextRefIdeal.Value.run (F := Ideal) m g)

/-- The context's two attentions, entry by entry the same. -/
theorem same_ContextIdeal (m : (ℓ : Loc ContextIdeal.nD ContextIdeal.τ ContextIdeal.sig) → Buf (Elt Ideal) ℓ)
    (h : Cert.Pre_ContextIdeal_finite_scores m) (c : Dev ContextIdeal.nD) :
    ContextRefIdeal.Read.val_main_v32 (F := Ideal)
        (m ((c.tc : Thread ContextIdeal.nD ContextIdeal.τ).loc ContextIdeal.main_arg0))
        (m ((c.tc : Thread ContextIdeal.nD ContextIdeal.τ).loc ContextIdeal.main_arg1))
        (m ((c.tc : Thread ContextIdeal.nD ContextIdeal.τ).loc ContextIdeal.main_arg2))
        (m ((c.tc : Thread ContextIdeal.nD ContextIdeal.τ).loc ContextIdeal.main_arg3))
        (m ((c.tc : Thread ContextIdeal.nD ContextIdeal.τ).loc ContextIdeal.main_arg4))
      = (ContextIdeal.Gen.dats m 0 c).arrAt 3 ContextIdeal.cfg0.N := by
  have hf := ContextIdeal.Attn.finite_of_pre m h c
  rw [ContextIdeal.Attn.final m c hf]
  funext i
  idx_vars i
  exact ContextRefIdeal.Attn.value _ _ _ _ _ hf.qn hf.qr hf.kn hf.kr i0 i1

theorem algebraic_ContextIdeal : Cert.algebraic_ContextIdeal_ContextRefIdeal_pre_finite_scores := by
  intro m g m' g' hpre hagree
  refine ⟨fun c => (ContextIdeal.Gen.dats m 0 c).arrAt 3 ContextIdeal.cfg0.N, ?_, ?_⟩
  · exact ContextIdeal.Value.run_blocks m g
  · refine (θ_run ContextRefIdeal.defs _ _).mono (fun r h c => ⟨(h c).1.trans ?_, (h c).2⟩) (ContextRefIdeal.Value.run (F := Ideal) m' g')
    have e := hagree c
    rw [ContextRefIdeal.Read.val_main_v32_eq, e.1, e.2.1, e.2.2.1, e.2.2.2.1, e.2.2.2.2]
    exact same_ContextIdeal m hpre c

theorem quiescent_MergeLastRefIdeal : Cert.quiescent_MergeLastRefIdeal := by
  intro m g _
  exact (θ_run MergeLastRefIdeal.defs _ _).mono (fun r h => ⟨fun c => (h c).2, Idealize.ShloMosaic.sem_eq_zero_of_no_sems (by decide) r.2⟩)
    (MergeLastRefIdeal.Value.run (F := Ideal) m g)

/-- The reference's merged rows are the call's. -/
theorem same_MergeLastIdeal (m : (ℓ : Loc MergeLastIdeal.nD MergeLastIdeal.τ MergeLastIdeal.sig) → Buf (Elt Ideal) ℓ) (c : Dev MergeLastIdeal.nD) :
    MergeLastRefIdeal.Read.val_main_v68 (F := Ideal)
        (m ((c.tc : Thread MergeLastIdeal.nD MergeLastIdeal.τ).loc MergeLastIdeal.main_arg0))
        (m ((c.tc : Thread MergeLastIdeal.nD MergeLastIdeal.τ).loc MergeLastIdeal.main_arg1))
        (m ((c.tc : Thread MergeLastIdeal.nD MergeLastIdeal.τ).loc MergeLastIdeal.main_arg2))
        (m ((c.tc : Thread MergeLastIdeal.nD MergeLastIdeal.τ).loc MergeLastIdeal.main_arg3))
        (m ((c.tc : Thread MergeLastIdeal.nD MergeLastIdeal.τ).loc MergeLastIdeal.main_arg4))
        (m ((c.tc : Thread MergeLastIdeal.nD MergeLastIdeal.τ).loc MergeLastIdeal.main_arg5))
        (m ((c.tc : Thread MergeLastIdeal.nD MergeLastIdeal.τ).loc MergeLastIdeal.main_arg6))
        (m ((c.tc : Thread MergeLastIdeal.nD MergeLastIdeal.τ).loc MergeLastIdeal.main_arg7))
        (m ((c.tc : Thread MergeLastIdeal.nD MergeLastIdeal.τ).loc MergeLastIdeal.main_arg8))
        (m ((c.tc : Thread MergeLastIdeal.nD MergeLastIdeal.τ).loc MergeLastIdeal.main_arg9))
        (m ((c.tc : Thread MergeLastIdeal.nD MergeLastIdeal.τ).loc MergeLastIdeal.main_arg10))
        (m ((c.tc : Thread MergeLastIdeal.nD MergeLastIdeal.τ).loc MergeLastIdeal.main_arg11))
        (m ((c.tc : Thread MergeLastIdeal.nD MergeLastIdeal.τ).loc MergeLastIdeal.main_arg12))
      = (MergeLastIdeal.Gen.dats m 0 c).arrAt 15 MergeLastIdeal.cfg0.N := by
  rw [MergeLastIdeal.OutProj.final m c]
  funext i
  idx_vars i
  exact MergeLastRefIdeal.OutProj.value _ _ _ _ _ _ _ _ _ _ _ _ _ i0 i1

theorem algebraic_MergeLastIdeal : Cert.algebraic_MergeLastIdeal_MergeLastRefIdeal := by
  intro m g m' g' _ hagree
  refine ⟨fun c => (MergeLastIdeal.Gen.dats m 0 c).arrAt 15 MergeLastIdeal.cfg0.N, ?_, ?_⟩
  · exact MergeLastIdeal.Value.run_blocks m g
  · refine (θ_run MergeLastRefIdeal.defs _ _).mono (fun r h c => ⟨(h c).1.trans ?_, (h c).2⟩) (MergeLastRefIdeal.Value.run (F := Ideal) m' g')
    have e := hagree c
    rw [MergeLastRefIdeal.Read.val_main_v68_eq, e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2.1, e.2.2.2.2.2.2.2.2.2.2.2.2]
    exact same_MergeLastIdeal m c

theorem quiescent_FfnNextRefIdeal : Cert.quiescent_FfnNextRefIdeal := by
  intro m g _
  exact (θ_run FfnNextRefIdeal.defs _ _).mono (fun r h => ⟨fun c => (h c).2, Idealize.ShloMosaic.sem_eq_zero_of_no_sems (by decide) r.2⟩)
    (FfnNextRefIdeal.Value.run (F := Ideal) m g)

/-- The two results of the first half-step over one array, entry by entry the same. -/
theorem same_FfnNextIdeal (m : (ℓ : Loc FfnNextIdeal.nD FfnNextIdeal.τ FfnNextIdeal.sig) → Buf (Elt Ideal) ℓ) (c : Dev FfnNextIdeal.nD) :
    FfnNextRefIdeal.Read.val_main_v74 (F := Ideal)
        (m ((c.tc : Thread FfnNextIdeal.nD FfnNextIdeal.τ).loc FfnNextIdeal.main_arg0))
        (m ((c.tc : Thread FfnNextIdeal.nD FfnNextIdeal.τ).loc FfnNextIdeal.main_arg1))
        (m ((c.tc : Thread FfnNextIdeal.nD FfnNextIdeal.τ).loc FfnNextIdeal.main_arg2))
        (m ((c.tc : Thread FfnNextIdeal.nD FfnNextIdeal.τ).loc FfnNextIdeal.main_arg3))
        (m ((c.tc : Thread FfnNextIdeal.nD FfnNextIdeal.τ).loc FfnNextIdeal.main_arg4))
      = (FfnNextIdeal.Gen.dats m 0 c).arrAt 5 FfnNextIdeal.cfg0.N := by
  rw [FfnNextIdeal.Ffn.final m c]
  funext i
  idx_vars i
  exact FfnNextRefIdeal.Ffn.value _ _ _ _ _ i0 i1

theorem algebraic_FfnNextIdeal : Cert.algebraic_FfnNextIdeal_FfnNextRefIdeal := by
  intro m g m' g' _ hagree
  refine ⟨fun c => (FfnNextIdeal.Gen.dats m 0 c).arrAt 5 FfnNextIdeal.cfg0.N, ?_, ?_⟩
  · exact FfnNextIdeal.Value.run_blocks m g
  · refine (θ_run FfnNextRefIdeal.defs _ _).mono (fun r h c => ⟨(h c).1.trans ?_, (h c).2⟩) (FfnNextRefIdeal.Value.run (F := Ideal) m' g')
    have e := hagree c
    rw [FfnNextRefIdeal.Read.val_main_v74_eq, e.1, e.2.1, e.2.2.1, e.2.2.2.1, e.2.2.2.2]
    exact same_FfnNextIdeal m c

theorem quiescent_FfnLastRefIdeal : Cert.quiescent_FfnLastRefIdeal := by
  intro m g _
  exact (θ_run FfnLastRefIdeal.defs _ _).mono (fun r h => ⟨fun c => (h c).2, Idealize.ShloMosaic.sem_eq_zero_of_no_sems (by decide) r.2⟩)
    (FfnLastRefIdeal.Value.run (F := Ideal) m g)

/-- The two results of the last layer's second half-step, entry by entry the same. -/
theorem same_FfnLastIdeal (m : (ℓ : Loc FfnLastIdeal.nD FfnLastIdeal.τ FfnLastIdeal.sig) → Buf (Elt Ideal) ℓ) (c : Dev FfnLastIdeal.nD) :
    FfnLastRefIdeal.Read.val_main_v35 (F := Ideal)
        (m ((c.tc : Thread FfnLastIdeal.nD FfnLastIdeal.τ).loc FfnLastIdeal.main_arg0))
        (m ((c.tc : Thread FfnLastIdeal.nD FfnLastIdeal.τ).loc FfnLastIdeal.main_arg1))
        (m ((c.tc : Thread FfnLastIdeal.nD FfnLastIdeal.τ).loc FfnLastIdeal.main_arg2))
        (m ((c.tc : Thread FfnLastIdeal.nD FfnLastIdeal.τ).loc FfnLastIdeal.main_arg3))
        (m ((c.tc : Thread FfnLastIdeal.nD FfnLastIdeal.τ).loc FfnLastIdeal.main_arg4))
      = (FfnLastIdeal.Gen.dats m 0 c).arrAt 5 FfnLastIdeal.cfg0.N := by
  rw [FfnLastIdeal.Ffn.final m c]
  funext i
  idx_vars i
  exact FfnLastRefIdeal.Ffn.value _ _ _ _ _ i0 i1

theorem algebraic_FfnLastIdeal : Cert.algebraic_FfnLastIdeal_FfnLastRefIdeal := by
  intro m g m' g' _ hagree
  refine ⟨fun c => (FfnLastIdeal.Gen.dats m 0 c).arrAt 5 FfnLastIdeal.cfg0.N, ?_, ?_⟩
  · exact FfnLastIdeal.Value.run_blocks m g
  · refine (θ_run FfnLastRefIdeal.defs _ _).mono (fun r h c => ⟨(h c).1.trans ?_, (h c).2⟩) (FfnLastRefIdeal.Value.run (F := Ideal) m' g')
    have e := hagree c
    rw [FfnLastRefIdeal.Read.val_main_v35_eq, e.1, e.2.1, e.2.2.1, e.2.2.2.1, e.2.2.2.2]
    exact same_FfnLastIdeal m c

theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, inferInstance, inferInstance, inferInstance, inferInstance,
    inferInstance, inferInstance, inferInstance, inferInstance, inferInstance, inferInstance,
    inferInstance, inferInstance, inferInstance, inferInstance, inferInstance, inferInstance,
    fun m g _ => Cert.Kernel.Attn.frame m g, fun m g _ => Cert.KernelIdeal.Attn.frame m g, fun m g _ => Cert.KernelIdeal.Attn.frame m g,
    quiescent_ReferenceIdeal, fun m g _ => quiescent_ReferenceIdeal m g trivial,
    fun m g _ => Cert.Ffn1.Gen.frame m g, fun m g _ => Cert.Ffn1Ideal.Gen.frame m g, quiescent_Ffn1RefIdeal,
    fun m g _ => Cert.Ffn2.Gen.frame m g, fun m g _ => Cert.Ffn2Ideal.Gen.frame m g, quiescent_Ffn2RefIdeal,
    fun m g _ => Cert.Proj.Gen.frame m g, fun m g _ => Cert.ProjIdeal.Gen.frame m g, quiescent_ProjRefIdeal,
    fun m g _ => Cert.Gates.Gen.frame m g, fun m g _ => Cert.GatesIdeal.Gen.frame m g, quiescent_GatesRefIdeal,
    fun m g _ => Cert.Merge.Gen.frame m g, fun m g _ => Cert.MergeIdeal.Gen.frame m g, quiescent_MergeRefIdeal,
    fun m g _ => Cert.Modulation.Gen.frame m g, fun m g _ => Cert.ModulationIdeal.Gen.frame m g, quiescent_ModulationRefIdeal,
    fun m g _ => Cert.Context.Gen.frame m g, fun m g _ => Cert.ContextIdeal.Gen.frame m g, fun m g _ => Cert.ContextIdeal.Gen.frame m g,
    quiescent_ContextRefIdeal, fun m g _ => quiescent_ContextRefIdeal m g trivial,
    fun m g _ => Cert.MergeLast.Gen.frame m g, fun m g _ => Cert.MergeLastIdeal.Gen.frame m g, quiescent_MergeLastRefIdeal,
    fun m g _ => Cert.FfnNext.Gen.frame m g, fun m g _ => Cert.FfnNextIdeal.Gen.frame m g, quiescent_FfnNextRefIdeal,
    fun m g _ => Cert.FfnLast.Gen.frame m g, fun m g _ => Cert.FfnLastIdeal.Gen.frame m g, quiescent_FfnLastRefIdeal,
    IdealRules.named_const.statement Cert.KernelIdeal.κ "qscale" .f32 0x3DD53B95#32 _ rfl, algebraic, trivial, algebraic_Ffn1Ideal, trivial, algebraic_Ffn2Ideal,
    trivial, algebraic_ProjIdeal, trivial, algebraic_GatesIdeal, trivial, algebraic_MergeIdeal, trivial, algebraic_ModulationIdeal,
    IdealRules.named_const.statement Cert.ContextIdeal.κ "qscale" .f32 0x3DD53B95#32 _ rfl, algebraic_ContextIdeal,
    trivial, algebraic_MergeLastIdeal, trivial, algebraic_FfnNextIdeal, trivial, algebraic_FfnLastIdeal⟩

end Cert.Proof

end
